-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite [hPre_finite : Cert.Pre_finite.Facts] (m : (ℓ : Loc Cert.FlashIdeal.nD Cert.FlashIdeal.τ Cert.FlashIdeal.sig) → Buf (Elt Ideal) ℓ) : Prop :=
  ∀ c : Dev Cert.FlashIdeal.nD,
    (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_RetMixFfn (m : (ℓ : Loc Cert.RetMixFfn.nD Cert.RetMixFfn.τ Cert.RetMixFfn.sig) → Buf (Elt Bits) ℓ) : Prop :=
  True

def Pre_RetMixFfnIdeal (m : (ℓ : Loc Cert.RetMixFfnIdeal.nD Cert.RetMixFfnIdeal.τ Cert.RetMixFfnIdeal.sig) → Buf (Elt Ideal) ℓ) : Prop :=
  True

def Pre_RetMixFfnRefIdeal (m : (ℓ : Loc Cert.RetMixFfnRefIdeal.nD Cert.RetMixFfnRefIdeal.τ Cert.RetMixFfnRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQRefIdeal (m : (ℓ : Loc Cert.MlaQRefIdeal.nD Cert.MlaQRefIdeal.τ Cert.MlaQRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite [hFlashIdeal : Cert.FlashIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_RetMixFfn [hRetMixFfn : Cert.RetMixFfn.Facts] : Prop :=
  ∀ (m : (ℓ : Loc Cert.RetMixFfn.nD Cert.RetMixFfn.τ Cert.RetMixFfn.sig) → Buf (Elt Bits) ℓ) (g : Dev Cert.RetMixFfn.nD → PrngReg), Pre_RetMixFfn m →
    θ_run (Cert.RetMixFfn.defs (F := Bits)) (onTc (τ := Cert.RetMixFfn.τ) (Cert.RetMixFfn.main (F := Bits))) ⟨m, fun _ => 0, g⟩ (fun r => (∀ c : Dev Cert.RetMixFfn.nD,
      r.2.mem ((c.tc : Thread Cert.RetMixFfn.nD Cert.RetMixFfn.τ).loc Cert.RetMixFfn.main_arg0) = m ((c.tc : Thread Cert.RetMixFfn.nD Cert.RetMixFfn.τ).loc Cert.RetMixFfn.main_arg0)
      ∧ r.2.mem ((c.tc : Thread Cert.RetMixFfn.nD Cert.RetMixFfn.τ).loc Cert.RetMixFfn.main_arg1) = m ((c.tc : Thread Cert.RetMixFfn.nD Cert.RetMixFfn.τ).loc Cert.RetMixFfn.main_arg1)
      ∧ r.2.mem ((c.tc : Thread Cert.RetMixFfn.nD Cert.RetMixFfn.τ).loc Cert.RetMixFfn.main_arg2) = m ((c.tc : Thread Cert.RetMixFfn.nD Cert.RetMixFfn.τ).loc Cert.RetMixFfn.main_arg2)
      ∧ r.2.mem ((c.tc : Thread Cert.RetMixFfn.nD Cert.RetMixFfn.τ).loc Cert.RetMixFfn.main_arg3) = m ((c.tc : Thread Cert.RetMixFfn.nD Cert.RetMixFfn.τ).loc Cert.RetMixFfn.main_arg3)
      ∧ r.2.mem ((c.tc : Thread Cert.RetMixFfn.nD Cert.RetMixFfn.τ).loc Cert.RetMixFfn.main_arg4) = m ((c.tc : Thread Cert.RetMixFfn.nD Cert.RetMixFfn.τ).loc Cert.RetMixFfn.main_arg4)
      ∧ r.2.mem ((c.tc : Thread Cert.RetMixFfn.nD Cert.RetMixFfn.τ).loc Cert.RetMixFfn.main_arg5) = m ((c.tc : Thread Cert.RetMixFfn.nD Cert.RetMixFfn.τ).loc Cert.RetMixFfn.main_arg5)
      ∧ r.2.mem ((c.tc : Thread Cert.RetMixFfn.nD Cert.RetMixFfn.τ).loc Cert.RetMixFfn.main_arg6) = m ((c.tc : Thread Cert.RetMixFfn.nD Cert.RetMixFfn.τ).loc Cert.RetMixFfn.main_arg6)
      ∧ r.2.mem ((c.tc : Thread Cert.RetMixFfn.nD Cert.RetMixFfn.τ).loc Cert.RetMixFfn.main_arg7) = m ((c.tc : Thread Cert.RetMixFfn.nD Cert.RetMixFfn.τ).loc Cert.RetMixFfn.main_arg7)
      ∧ r.2.mem ((c.tc : Thread Cert.RetMixFfn.nD Cert.RetMixFfn.τ).loc Cert.RetMixFfn.main_arg8) = m ((c.tc : Thread Cert.RetMixFfn.nD Cert.RetMixFfn.τ).loc Cert.RetMixFfn.main_arg8)
      ∧ r.2.mem ((c.tc : Thread Cert.RetMixFfn.nD Cert.RetMixFfn.τ).loc Cert.RetMixFfn.main_arg9) = m ((c.tc : Thread Cert.RetMixFfn.nD Cert.RetMixFfn.τ).loc Cert.RetMixFfn.main_arg9))
      ∧ r.2.sem = fun _ => 0)

def quiescent_RetMixFfnIdeal [hRetMixFfnIdeal : Cert.RetMixFfnIdeal.Facts] : Prop :=
  ∀ (m : (ℓ : Loc Cert.RetMixFfnIdeal.nD Cert.RetMixFfnIdeal.τ Cert.RetMixFfnIdeal.sig) → Buf (Elt Ideal) ℓ) (g : Dev Cert.RetMixFfnIdeal.nD → PrngReg), Pre_RetMixFfnIdeal m →
    θ_run (Cert.RetMixFfnIdeal.defs (F := Ideal)) (onTc (τ := Cert.RetMixFfnIdeal.τ) (Cert.RetMixFfnIdeal.main (F := Ideal))) ⟨m, fun _ => 0, g⟩ (fun r => (∀ c : Dev Cert.RetMixFfnIdeal.nD,
      r.2.mem ((c.tc : Thread Cert.RetMixFfnIdeal.nD Cert.RetMixFfnIdeal.τ).loc Cert.RetMixFfnIdeal.main_arg0) = m ((c.tc : Thread Cert.RetMixFfnIdeal.nD Cert.RetMixFfnIdeal.τ).loc Cert.RetMixFfnIdeal.main_arg0)
      ∧ r.2.mem ((c.tc : Thread Cert.RetMixFfnIdeal.nD Cert.RetMixFfnIdeal.τ).loc Cert.RetMixFfnIdeal.main_arg1) = m ((c.tc : Thread Cert.RetMixFfnIdeal.nD Cert.RetMixFfnIdeal.τ).loc Cert.RetMixFfnIdeal.main_arg1)
      ∧ r.2.mem ((c.tc : Thread Cert.RetMixFfnIdeal.nD Cert.RetMixFfnIdeal.τ).loc Cert.RetMixFfnIdeal.main_arg2) = m ((c.tc : Thread Cert.RetMixFfnIdeal.nD Cert.RetMixFfnIdeal.τ).loc Cert.RetMixFfnIdeal.main_arg2)
      ∧ r.2.mem ((c.tc : Thread Cert.RetMixFfnIdeal.nD Cert.RetMixFfnIdeal.τ).loc Cert.RetMixFfnIdeal.main_arg3) = m ((c.tc : Thread Cert.RetMixFfnIdeal.nD Cert.RetMixFfnIdeal.τ).loc Cert.RetMixFfnIdeal.main_arg3)
      ∧ r.2.mem ((c.tc : Thread Cert.RetMixFfnIdeal.nD Cert.RetMixFfnIdeal.τ).loc Cert.RetMixFfnIdeal.main_arg4) = m ((c.tc : Thread Cert.RetMixFfnIdeal.nD Cert.RetMixFfnIdeal.τ).loc Cert.RetMixFfnIdeal.main_arg4)
      ∧ r.2.mem ((c.tc : Thread Cert.RetMixFfnIdeal.nD Cert.RetMixFfnIdeal.τ).loc Cert.RetMixFfnIdeal.main_arg5) = m ((c.tc : Thread Cert.RetMixFfnIdeal.nD Cert.RetMixFfnIdeal.τ).loc Cert.RetMixFfnIdeal.main_arg5)
      ∧ r.2.mem ((c.tc : Thread Cert.RetMixFfnIdeal.nD Cert.RetMixFfnIdeal.τ).loc Cert.RetMixFfnIdeal.main_arg6) = m ((c.tc : Thread Cert.RetMixFfnIdeal.nD Cert.RetMixFfnIdeal.τ).loc Cert.RetMixFfnIdeal.main_arg6)
      ∧ r.2.mem ((c.tc : Thread Cert.RetMixFfnIdeal.nD Cert.RetMixFfnIdeal.τ).loc Cert.RetMixFfnIdeal.main_arg7) = m ((c.tc : Thread Cert.RetMixFfnIdeal.nD Cert.RetMixFfnIdeal.τ).loc Cert.RetMixFfnIdeal.main_arg7)
      ∧ r.2.mem ((c.tc : Thread Cert.RetMixFfnIdeal.nD Cert.RetMixFfnIdeal.τ).loc Cert.RetMixFfnIdeal.main_arg8) = m ((c.tc : Thread Cert.RetMixFfnIdeal.nD Cert.RetMixFfnIdeal.τ).loc Cert.RetMixFfnIdeal.main_arg8)
      ∧ r.2.mem ((c.tc : Thread Cert.RetMixFfnIdeal.nD Cert.RetMixFfnIdeal.τ).loc Cert.RetMixFfnIdeal.main_arg9) = m ((c.tc : Thread Cert.RetMixFfnIdeal.nD Cert.RetMixFfnIdeal.τ).loc Cert.RetMixFfnIdeal.main_arg9))
      ∧ r.2.sem = fun _ => 0)

def quiescent_RetMixFfnRefIdeal [hRetMixFfnRefIdeal : Cert.RetMixFfnRefIdeal.Facts] : Prop :=
  ∀ (m : (ℓ : Loc Cert.RetMixFfnRefIdeal.nD Cert.RetMixFfnRefIdeal.τ Cert.RetMixFfnRefIdeal.sig) → Buf (Elt Ideal) ℓ) (g : Dev Cert.RetMixFfnRefIdeal.nD → PrngReg), Pre_RetMixFfnRefIdeal m →
    θ_run (Cert.RetMixFfnRefIdeal.defs (F := Ideal)) (onTc (τ := Cert.RetMixFfnRefIdeal.τ) (Cert.RetMixFfnRefIdeal.main (F := Ideal))) ⟨m, fun _ => 0, g⟩ (fun r => (∀ c : Dev Cert.RetMixFfnRefIdeal.nD,
      r.2.mem ((c.tc : Thread Cert.RetMixFfnRefIdeal.nD Cert.RetMixFfnRefIdeal.τ).loc Cert.RetMixFfnRefIdeal.main_arg0) = m ((c.tc : Thread Cert.RetMixFfnRefIdeal.nD Cert.RetMixFfnRefIdeal.τ).loc Cert.RetMixFfnRefIdeal.main_arg0)
      ∧ r.2.mem ((c.tc : Thread Cert.RetMixFfnRefIdeal.nD Cert.RetMixFfnRefIdeal.τ).loc Cert.RetMixFfnRefIdeal.main_arg1) = m ((c.tc : Thread Cert.RetMixFfnRefIdeal.nD Cert.RetMixFfnRefIdeal.τ).loc Cert.RetMixFfnRefIdeal.main_arg1)
      ∧ r.2.mem ((c.tc : Thread Cert.RetMixFfnRefIdeal.nD Cert.RetMixFfnRefIdeal.τ).loc Cert.RetMixFfnRefIdeal.main_arg2) = m ((c.tc : Thread Cert.RetMixFfnRefIdeal.nD Cert.RetMixFfnRefIdeal.τ).loc Cert.RetMixFfnRefIdeal.main_arg2)
      ∧ r.2.mem ((c.tc : Thread Cert.RetMixFfnRefIdeal.nD Cert.RetMixFfnRefIdeal.τ).loc Cert.RetMixFfnRefIdeal.main_arg3) = m ((c.tc : Thread Cert.RetMixFfnRefIdeal.nD Cert.RetMixFfnRefIdeal.τ).loc Cert.RetMixFfnRefIdeal.main_arg3)
      ∧ r.2.mem ((c.tc : Thread Cert.RetMixFfnRefIdeal.nD Cert.RetMixFfnRefIdeal.τ).loc Cert.RetMixFfnRefIdeal.main_arg4) = m ((c.tc : Thread Cert.RetMixFfnRefIdeal.nD Cert.RetMixFfnRefIdeal.τ).loc Cert.RetMixFfnRefIdeal.main_arg4)
      ∧ r.2.mem ((c.tc : Thread Cert.RetMixFfnRefIdeal.nD Cert.RetMixFfnRefIdeal.τ).loc Cert.RetMixFfnRefIdeal.main_arg5) = m ((c.tc : Thread Cert.RetMixFfnRefIdeal.nD Cert.RetMixFfnRefIdeal.τ).loc Cert.RetMixFfnRefIdeal.main_arg5)
      ∧ r.2.mem ((c.tc : Thread Cert.RetMixFfnRefIdeal.nD Cert.RetMixFfnRefIdeal.τ).loc Cert.RetMixFfnRefIdeal.main_arg6) = m ((c.tc : Thread Cert.RetMixFfnRefIdeal.nD Cert.RetMixFfnRefIdeal.τ).loc Cert.RetMixFfnRefIdeal.main_arg6)
      ∧ r.2.mem ((c.tc : Thread Cert.RetMixFfnRefIdeal.nD Cert.RetMixFfnRefIdeal.τ).loc Cert.RetMixFfnRefIdeal.main_arg7) = m ((c.tc : Thread Cert.RetMixFfnRefIdeal.nD Cert.RetMixFfnRefIdeal.τ).loc Cert.RetMixFfnRefIdeal.main_arg7)
      ∧ r.2.mem ((c.tc : Thread Cert.RetMixFfnRefIdeal.nD Cert.RetMixFfnRefIdeal.τ).loc Cert.RetMixFfnRefIdeal.main_arg8) = m ((c.tc : Thread Cert.RetMixFfnRefIdeal.nD Cert.RetMixFfnRefIdeal.τ).loc Cert.RetMixFfnRefIdeal.main_arg8)
      ∧ r.2.mem ((c.tc : Thread Cert.RetMixFfnRefIdeal.nD Cert.RetMixFfnRefIdeal.τ).loc Cert.RetMixFfnRefIdeal.main_arg9) = m ((c.tc : Thread Cert.RetMixFfnRefIdeal.nD Cert.RetMixFfnRefIdeal.τ).loc Cert.RetMixFfnRefIdeal.main_arg9))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2)
      ∧ r.2.mem ((c.tc : Thread Cert.RetProj.nD Cert.RetProj.τ).loc Cert.RetProj.main_arg3) = m ((c.tc : Thread Cert.RetProj.nD Cert.RetProj.τ).loc Cert.RetProj.main_arg3))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
      ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1)
      ∧ r.2.mem ((c.tc : Thread Cert.RetProjRefIdeal.nD Cert.RetProjRefIdeal.τ).loc Cert.RetProjRefIdeal.main_arg2) = m ((c.tc : Thread Cert.RetProjRefIdeal.nD Cert.RetProjRefIdeal.τ).loc Cert.RetProjRefIdeal.main_arg2)
      ∧ r.2.mem ((c.tc : Thread Cert.RetProjRefIdeal.nD Cert.RetProjRefIdeal.τ).loc Cert.RetProjRefIdeal.main_arg3) = m ((c.tc : Thread Cert.RetProjRefIdeal.nD Cert.RetProjRefIdeal.τ).loc Cert.RetProjRefIdeal.main_arg3))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2)
      ∧ r.2.mem ((c.tc : Thread Cert.MlaQ.nD Cert.MlaQ.τ).loc Cert.MlaQ.main_arg3) = m ((c.tc : Thread Cert.MlaQ.nD Cert.MlaQ.τ).loc Cert.MlaQ.main_arg3)
      ∧ r.2.mem ((c.tc : Thread Cert.MlaQ.nD Cert.MlaQ.τ).loc Cert.MlaQ.main_arg4) = m ((c.tc : Thread Cert.MlaQ.nD Cert.MlaQ.τ).loc Cert.MlaQ.main_arg4)
      ∧ r.2.mem ((c.tc : Thread Cert.MlaQ.nD Cert.MlaQ.τ).loc Cert.MlaQ.main_arg5) = m ((c.tc : Thread Cert.MlaQ.nD Cert.MlaQ.τ).loc Cert.MlaQ.main_arg5)
      ∧ r.2.mem ((c.tc : Thread Cert.MlaQ.nD Cert.MlaQ.τ).loc Cert.MlaQ.main_arg6) = m ((c.tc : Thread Cert.MlaQ.nD Cert.MlaQ.τ).loc Cert.MlaQ.main_arg6)
      ∧ r.2.mem ((c.tc : Thread Cert.MlaQ.nD Cert.MlaQ.τ).loc Cert.MlaQ.main_arg7) = m ((c.tc : Thread Cert.MlaQ.nD Cert.MlaQ.τ).loc Cert.MlaQ.main_arg7))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
      ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4)
      ∧ r.2.mem ((c.tc : Thread Cert.MlaQIdeal.nD Cert.MlaQIdeal.τ).loc Cert.MlaQIdeal.main_arg5) = m ((c.tc : Thread Cert.MlaQIdeal.nD Cert.MlaQIdeal.τ).loc Cert.MlaQIdeal.main_arg5)
      ∧ r.2.mem ((c.tc : Thread Cert.MlaQIdeal.nD Cert.MlaQIdeal.τ).loc Cert.MlaQIdeal.main_arg6) = m ((c.tc : Thread Cert.MlaQIdeal.nD Cert.MlaQIdeal.τ).loc Cert.MlaQIdeal.main_arg6)
      ∧ r.2.mem ((c.tc : Thread Cert.MlaQIdeal.nD Cert.MlaQIdeal.τ).loc Cert.MlaQIdeal.main_arg7) = m ((c.tc : Thread Cert.MlaQIdeal.nD Cert.MlaQIdeal.τ).loc Cert.MlaQIdeal.main_arg7))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2)
      ∧ r.2.mem ((c.tc : Thread Cert.MlaQRefIdeal.nD Cert.MlaQRefIdeal.τ).loc Cert.MlaQRefIdeal.main_arg3) = m ((c.tc : Thread Cert.MlaQRefIdeal.nD Cert.MlaQRefIdeal.τ).loc Cert.MlaQRefIdeal.main_arg3)
      ∧ r.2.mem ((c.tc : Thread Cert.MlaQRefIdeal.nD Cert.MlaQRefIdeal.τ).loc Cert.MlaQRefIdeal.main_arg4) = m ((c.tc : Thread Cert.MlaQRefIdeal.nD Cert.MlaQRefIdeal.τ).loc Cert.MlaQRefIdeal.main_arg4)
      ∧ r.2.mem ((c.tc : Thread Cert.MlaQRefIdeal.nD Cert.MlaQRefIdeal.τ).loc Cert.MlaQRefIdeal.main_arg5) = m ((c.tc : Thread Cert.MlaQRefIdeal.nD Cert.MlaQRefIdeal.τ).loc Cert.MlaQRefIdeal.main_arg5)
      ∧ r.2.mem ((c.tc : Thread Cert.MlaQRefIdeal.nD Cert.MlaQRefIdeal.τ).loc Cert.MlaQRefIdeal.main_arg6) = m ((c.tc : Thread Cert.MlaQRefIdeal.nD Cert.MlaQRefIdeal.τ).loc Cert.MlaQRefIdeal.main_arg6)
      ∧ r.2.mem ((c.tc : Thread Cert.MlaQRefIdeal.nD Cert.MlaQRefIdeal.τ).loc Cert.MlaQRefIdeal.main_arg7) = m ((c.tc : Thread Cert.MlaQRefIdeal.nD Cert.MlaQRefIdeal.τ).loc Cert.MlaQRefIdeal.main_arg7))
      ∧ r.2.sem = fun _ => 0)

def preserves_Flash_FlashIdeal : Prop :=
  IdealRules.named_const.Statement Cert.FlashIdeal.κ "mask" .f32 0xF149F2CA#32 ⊥

def algebraic_FlashIdeal_AttentionIdeal_pre_finite [hFlashIdeal : Cert.FlashIdeal.Facts] [hAttentionIdeal : Cert.AttentionIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_FlashIdeal_finite m →
    (∀ c : Dev Cert.FlashIdeal.nD,
      m' ((c.tc : Thread Cert.AttentionIdeal.nD Cert.AttentionIdeal.τ).loc Cert.AttentionIdeal.main_arg0) = m ((c.tc : Thread Cert.FlashIdeal.nD Cert.FlashIdeal.τ).loc Cert.FlashIdeal.main_arg0)
      ∧ m' ((c.tc : Thread Cert.AttentionIdeal.nD Cert.AttentionIdeal.τ).loc Cert.AttentionIdeal.main_arg1) = m ((c.tc : Thread Cert.FlashIdeal.nD Cert.FlashIdeal.τ).loc Cert.FlashIdeal.main_arg1)
      ∧ m' ((c.tc : Thread Cert.AttentionIdeal.nD Cert.AttentionIdeal.τ).loc Cert.AttentionIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v32)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v32) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v26) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2))

def preserves_MixFfn_MixFfnIdeal : Prop :=
  IdealRules.named_const.Statement Cert.MixFfnIdeal.κ "log2e" .f32 0xBFB8AA3B#32 ((-((Real.log 2)⁻¹) : ℝ) : EReal)

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)) →
    ∃ (v0 : (c : Dev Cert.MixFfnIdeal.nD) → Buf (Elt Ideal) ((c.tc : Thread Cert.MixFfnIdeal.nD Cert.MixFfnIdeal.τ).loc Cert.MixFfnIdeal.main_v11)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v11) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v23) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6))

def preserves_Ffn_FfnIdeal : Prop :=
  IdealRules.named_const.Statement Cert.FfnIdeal.κ "log2e" .f32 0xBFB8AA3B#32 ((-((Real.log 2)⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v16_0)) (v1 : (c : Dev Cert.FfnIdeal.nD) → Buf (Elt Ideal) ((c.tc : Thread Cert.FfnIdeal.nD Cert.FfnIdeal.τ).loc Cert.FfnIdeal.main_v16_1)) (v2 : (c : Dev Cert.FfnIdeal.nD) → Buf (Elt Ideal) ((c.tc : Thread Cert.FfnIdeal.nD Cert.FfnIdeal.τ).loc Cert.FfnIdeal.main_v16_2)) (v3 : (c : Dev Cert.FfnIdeal.nD) → Buf (Elt Ideal) ((c.tc : Thread Cert.FfnIdeal.nD Cert.FfnIdeal.τ).loc Cert.FfnIdeal.main_v16_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16_0) = v0 c
          ∧ r.2.mem ((c.tc : Thread Cert.FfnIdeal.nD Cert.FfnIdeal.τ).loc Cert.FfnIdeal.main_v16_1) = v1 c
          ∧ r.2.mem ((c.tc : Thread Cert.FfnIdeal.nD Cert.FfnIdeal.τ).loc Cert.FfnIdeal.main_v16_2) = v2 c
          ∧ r.2.mem ((c.tc : Thread Cert.FfnIdeal.nD Cert.FfnIdeal.τ).loc Cert.FfnIdeal.main_v16_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_v32) = v1 c
          ∧ r.2.mem ((c.tc : Thread Cert.FfnRefIdeal.nD Cert.FfnRefIdeal.τ).loc Cert.FfnRefIdeal.main_v35) = v2 c
          ∧ r.2.mem ((c.tc : Thread Cert.FfnRefIdeal.nD Cert.FfnRefIdeal.τ).loc Cert.FfnRefIdeal.main_v38) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_RetMixFfn_RetMixFfnIdeal : Prop :=
  IdealRules.named_const.Statement Cert.RetMixFfnIdeal.κ "log2e" .f32 0xBFB8AA3B#32 ((-((Real.log 2)⁻¹) : ℝ) : EReal)

def algebraic_RetMixFfnIdeal_RetMixFfnRefIdeal [hRetMixFfnIdeal : Cert.RetMixFfnIdeal.Facts] [hRetMixFfnRefIdeal : Cert.RetMixFfnRefIdeal.Facts] : Prop :=
  ∀ (m : (ℓ : Loc Cert.RetMixFfnIdeal.nD Cert.RetMixFfnIdeal.τ Cert.RetMixFfnIdeal.sig) → Buf (Elt Ideal) ℓ) (g : Dev Cert.RetMixFfnIdeal.nD → PrngReg)
    (m' : (ℓ : Loc Cert.RetMixFfnRefIdeal.nD Cert.RetMixFfnRefIdeal.τ Cert.RetMixFfnRefIdeal.sig) → Buf (Elt Ideal) ℓ) (g' : Dev Cert.RetMixFfnRefIdeal.nD → PrngReg), Pre_RetMixFfnIdeal m →
    (∀ c : Dev Cert.RetMixFfnIdeal.nD,
      m' ((c.tc : Thread Cert.RetMixFfnRefIdeal.nD Cert.RetMixFfnRefIdeal.τ).loc Cert.RetMixFfnRefIdeal.main_arg0) = m ((c.tc : Thread Cert.RetMixFfnIdeal.nD Cert.RetMixFfnIdeal.τ).loc Cert.RetMixFfnIdeal.main_arg0)
      ∧ m' ((c.tc : Thread Cert.RetMixFfnRefIdeal.nD Cert.RetMixFfnRefIdeal.τ).loc Cert.RetMixFfnRefIdeal.main_arg1) = m ((c.tc : Thread Cert.RetMixFfnIdeal.nD Cert.RetMixFfnIdeal.τ).loc Cert.RetMixFfnIdeal.main_arg1)
      ∧ m' ((c.tc : Thread Cert.RetMixFfnRefIdeal.nD Cert.RetMixFfnRefIdeal.τ).loc Cert.RetMixFfnRefIdeal.main_arg2) = m ((c.tc : Thread Cert.RetMixFfnIdeal.nD Cert.RetMixFfnIdeal.τ).loc Cert.RetMixFfnIdeal.main_arg2)
      ∧ m' ((c.tc : Thread Cert.RetMixFfnRefIdeal.nD Cert.RetMixFfnRefIdeal.τ).loc Cert.RetMixFfnRefIdeal.main_arg3) = m ((c.tc : Thread Cert.RetMixFfnIdeal.nD Cert.RetMixFfnIdeal.τ).loc Cert.RetMixFfnIdeal.main_arg3)
      ∧ m' ((c.tc : Thread Cert.RetMixFfnRefIdeal.nD Cert.RetMixFfnRefIdeal.τ).loc Cert.RetMixFfnRefIdeal.main_arg4) = m ((c.tc : Thread Cert.RetMixFfnIdeal.nD Cert.RetMixFfnIdeal.τ).loc Cert.RetMixFfnIdeal.main_arg4)
      ∧ m' ((c.tc : Thread Cert.RetMixFfnRefIdeal.nD Cert.RetMixFfnRefIdeal.τ).loc Cert.RetMixFfnRefIdeal.main_arg5) = m ((c.tc : Thread Cert.RetMixFfnIdeal.nD Cert.RetMixFfnIdeal.τ).loc Cert.RetMixFfnIdeal.main_arg5)
      ∧ m' ((c.tc : Thread Cert.RetMixFfnRefIdeal.nD Cert.RetMixFfnRefIdeal.τ).loc Cert.RetMixFfnRefIdeal.main_arg6) = m ((c.tc : Thread Cert.RetMixFfnIdeal.nD Cert.RetMixFfnIdeal.τ).loc Cert.RetMixFfnIdeal.main_arg6)
      ∧ m' ((c.tc : Thread Cert.RetMixFfnRefIdeal.nD Cert.RetMixFfnRefIdeal.τ).loc Cert.RetMixFfnRefIdeal.main_arg7) = m ((c.tc : Thread Cert.RetMixFfnIdeal.nD Cert.RetMixFfnIdeal.τ).loc Cert.RetMixFfnIdeal.main_arg7)
      ∧ m' ((c.tc : Thread Cert.RetMixFfnRefIdeal.nD Cert.RetMixFfnRefIdeal.τ).loc Cert.RetMixFfnRefIdeal.main_arg8) = m ((c.tc : Thread Cert.RetMixFfnIdeal.nD Cert.RetMixFfnIdeal.τ).loc Cert.RetMixFfnIdeal.main_arg8)
      ∧ m' ((c.tc : Thread Cert.RetMixFfnRefIdeal.nD Cert.RetMixFfnRefIdeal.τ).loc Cert.RetMixFfnRefIdeal.main_arg9) = m ((c.tc : Thread Cert.RetMixFfnIdeal.nD Cert.RetMixFfnIdeal.τ).loc Cert.RetMixFfnIdeal.main_arg9)) →
    ∃ (v0 : (c : Dev Cert.RetMixFfnIdeal.nD) → Buf (Elt Ideal) ((c.tc : Thread Cert.RetMixFfnIdeal.nD Cert.RetMixFfnIdeal.τ).loc Cert.RetMixFfnIdeal.main_v29_0)) (v1 : (c : Dev Cert.RetMixFfnIdeal.nD) → Buf (Elt Ideal) ((c.tc : Thread Cert.RetMixFfnIdeal.nD Cert.RetMixFfnIdeal.τ).loc Cert.RetMixFfnIdeal.main_v29_1)) (v2 : (c : Dev Cert.RetMixFfnIdeal.nD) → Buf (Elt Ideal) ((c.tc : Thread Cert.RetMixFfnIdeal.nD Cert.RetMixFfnIdeal.τ).loc Cert.RetMixFfnIdeal.main_v29_2)) (v3 : (c : Dev Cert.RetMixFfnIdeal.nD) → Buf (Elt Ideal) ((c.tc : Thread Cert.RetMixFfnIdeal.nD Cert.RetMixFfnIdeal.τ).loc Cert.RetMixFfnIdeal.main_v29_3)) (v4 : (c : Dev Cert.RetMixFfnIdeal.nD) → Buf (Elt Ideal) ((c.tc : Thread Cert.RetMixFfnIdeal.nD Cert.RetMixFfnIdeal.τ).loc Cert.RetMixFfnIdeal.main_v29_4)) (v5 : (c : Dev Cert.RetMixFfnIdeal.nD) → Buf (Elt Ideal) ((c.tc : Thread Cert.RetMixFfnIdeal.nD Cert.RetMixFfnIdeal.τ).loc Cert.RetMixFfnIdeal.main_v29_5)),
      θ_run (Cert.RetMixFfnIdeal.defs (F := Ideal)) (onTc (τ := Cert.RetMixFfnIdeal.τ) (Cert.RetMixFfnIdeal.main (F := Ideal))) ⟨m, fun _ => 0, g⟩ (fun r => ∀ c : Dev Cert.RetMixFfnIdeal.nD,
          r.2.mem ((c.tc : Thread Cert.RetMixFfnIdeal.nD Cert.RetMixFfnIdeal.τ).loc Cert.RetMixFfnIdeal.main_v29_0) = v0 c
          ∧ r.2.mem ((c.tc : Thread Cert.RetMixFfnIdeal.nD Cert.RetMixFfnIdeal.τ).loc Cert.RetMixFfnIdeal.main_v29_1) = v1 c
          ∧ r.2.mem ((c.tc : Thread Cert.RetMixFfnIdeal.nD Cert.RetMixFfnIdeal.τ).loc Cert.RetMixFfnIdeal.main_v29_2) = v2 c
          ∧ r.2.mem ((c.tc : Thread Cert.RetMixFfnIdeal.nD Cert.RetMixFfnIdeal.τ).loc Cert.RetMixFfnIdeal.main_v29_3) = v3 c
          ∧ r.2.mem ((c.tc : Thread Cert.RetMixFfnIdeal.nD Cert.RetMixFfnIdeal.τ).loc Cert.RetMixFfnIdeal.main_v29_4) = v4 c
          ∧ r.2.mem ((c.tc : Thread Cert.RetMixFfnIdeal.nD Cert.RetMixFfnIdeal.τ).loc Cert.RetMixFfnIdeal.main_v29_5) = v5 c
          ∧ r.2.mem ((c.tc : Thread Cert.RetMixFfnIdeal.nD Cert.RetMixFfnIdeal.τ).loc Cert.RetMixFfnIdeal.main_arg0) = m ((c.tc : Thread Cert.RetMixFfnIdeal.nD Cert.RetMixFfnIdeal.τ).loc Cert.RetMixFfnIdeal.main_arg0)
          ∧ r.2.mem ((c.tc : Thread Cert.RetMixFfnIdeal.nD Cert.RetMixFfnIdeal.τ).loc Cert.RetMixFfnIdeal.main_arg1) = m ((c.tc : Thread Cert.RetMixFfnIdeal.nD Cert.RetMixFfnIdeal.τ).loc Cert.RetMixFfnIdeal.main_arg1)
          ∧ r.2.mem ((c.tc : Thread Cert.RetMixFfnIdeal.nD Cert.RetMixFfnIdeal.τ).loc Cert.RetMixFfnIdeal.main_arg2) = m ((c.tc : Thread Cert.RetMixFfnIdeal.nD Cert.RetMixFfnIdeal.τ).loc Cert.RetMixFfnIdeal.main_arg2)
          ∧ r.2.mem ((c.tc : Thread Cert.RetMixFfnIdeal.nD Cert.RetMixFfnIdeal.τ).loc Cert.RetMixFfnIdeal.main_arg3) = m ((c.tc : Thread Cert.RetMixFfnIdeal.nD Cert.RetMixFfnIdeal.τ).loc Cert.RetMixFfnIdeal.main_arg3)
          ∧ r.2.mem ((c.tc : Thread Cert.RetMixFfnIdeal.nD Cert.RetMixFfnIdeal.τ).loc Cert.RetMixFfnIdeal.main_arg4) = m ((c.tc : Thread Cert.RetMixFfnIdeal.nD Cert.RetMixFfnIdeal.τ).loc Cert.RetMixFfnIdeal.main_arg4)
          ∧ r.2.mem ((c.tc : Thread Cert.RetMixFfnIdeal.nD Cert.RetMixFfnIdeal.τ).loc Cert.RetMixFfnIdeal.main_arg5) = m ((c.tc : Thread Cert.RetMixFfnIdeal.nD Cert.RetMixFfnIdeal.τ).loc Cert.RetMixFfnIdeal.main_arg5)
          ∧ r.2.mem ((c.tc : Thread Cert.RetMixFfnIdeal.nD Cert.RetMixFfnIdeal.τ).loc Cert.RetMixFfnIdeal.main_arg6) = m ((c.tc : Thread Cert.RetMixFfnIdeal.nD Cert.RetMixFfnIdeal.τ).loc Cert.RetMixFfnIdeal.main_arg6)
          ∧ r.2.mem ((c.tc : Thread Cert.RetMixFfnIdeal.nD Cert.RetMixFfnIdeal.τ).loc Cert.RetMixFfnIdeal.main_arg7) = m ((c.tc : Thread Cert.RetMixFfnIdeal.nD Cert.RetMixFfnIdeal.τ).loc Cert.RetMixFfnIdeal.main_arg7)
          ∧ r.2.mem ((c.tc : Thread Cert.RetMixFfnIdeal.nD Cert.RetMixFfnIdeal.τ).loc Cert.RetMixFfnIdeal.main_arg8) = m ((c.tc : Thread Cert.RetMixFfnIdeal.nD Cert.RetMixFfnIdeal.τ).loc Cert.RetMixFfnIdeal.main_arg8)
          ∧ r.2.mem ((c.tc : Thread Cert.RetMixFfnIdeal.nD Cert.RetMixFfnIdeal.τ).loc Cert.RetMixFfnIdeal.main_arg9) = m ((c.tc : Thread Cert.RetMixFfnIdeal.nD Cert.RetMixFfnIdeal.τ).loc Cert.RetMixFfnIdeal.main_arg9))
      ∧ θ_run (Cert.RetMixFfnRefIdeal.defs (F := Ideal)) (onTc (τ := Cert.RetMixFfnRefIdeal.τ) (Cert.RetMixFfnRefIdeal.main (F := Ideal))) ⟨m', fun _ => 0, g'⟩ (fun r => ∀ c : Dev Cert.RetMixFfnRefIdeal.nD,
          r.2.mem ((c.tc : Thread Cert.RetMixFfnRefIdeal.nD Cert.RetMixFfnRefIdeal.τ).loc Cert.RetMixFfnRefIdeal.main_v60) = v0 c
          ∧ r.2.mem ((c.tc : Thread Cert.RetMixFfnRefIdeal.nD Cert.RetMixFfnRefIdeal.τ).loc Cert.RetMixFfnRefIdeal.main_v63) = v1 c
          ∧ r.2.mem ((c.tc : Thread Cert.RetMixFfnRefIdeal.nD Cert.RetMixFfnRefIdeal.τ).loc Cert.RetMixFfnRefIdeal.main_v66) = v2 c
          ∧ r.2.mem ((c.tc : Thread Cert.RetMixFfnRefIdeal.nD Cert.RetMixFfnRefIdeal.τ).loc Cert.RetMixFfnRefIdeal.main_v69) = v3 c
          ∧ r.2.mem ((c.tc : Thread Cert.RetMixFfnRefIdeal.nD Cert.RetMixFfnRefIdeal.τ).loc Cert.RetMixFfnRefIdeal.main_v72) = v4 c
          ∧ r.2.mem ((c.tc : Thread Cert.RetMixFfnRefIdeal.nD Cert.RetMixFfnRefIdeal.τ).loc Cert.RetMixFfnRefIdeal.main_v75) = v5 c
          ∧ r.2.mem ((c.tc : Thread Cert.RetMixFfnRefIdeal.nD Cert.RetMixFfnRefIdeal.τ).loc Cert.RetMixFfnRefIdeal.main_arg0) = m' ((c.tc : Thread Cert.RetMixFfnRefIdeal.nD Cert.RetMixFfnRefIdeal.τ).loc Cert.RetMixFfnRefIdeal.main_arg0)
          ∧ r.2.mem ((c.tc : Thread Cert.RetMixFfnRefIdeal.nD Cert.RetMixFfnRefIdeal.τ).loc Cert.RetMixFfnRefIdeal.main_arg1) = m' ((c.tc : Thread Cert.RetMixFfnRefIdeal.nD Cert.RetMixFfnRefIdeal.τ).loc Cert.RetMixFfnRefIdeal.main_arg1)
          ∧ r.2.mem ((c.tc : Thread Cert.RetMixFfnRefIdeal.nD Cert.RetMixFfnRefIdeal.τ).loc Cert.RetMixFfnRefIdeal.main_arg2) = m' ((c.tc : Thread Cert.RetMixFfnRefIdeal.nD Cert.RetMixFfnRefIdeal.τ).loc Cert.RetMixFfnRefIdeal.main_arg2)
          ∧ r.2.mem ((c.tc : Thread Cert.RetMixFfnRefIdeal.nD Cert.RetMixFfnRefIdeal.τ).loc Cert.RetMixFfnRefIdeal.main_arg3) = m' ((c.tc : Thread Cert.RetMixFfnRefIdeal.nD Cert.RetMixFfnRefIdeal.τ).loc Cert.RetMixFfnRefIdeal.main_arg3)
          ∧ r.2.mem ((c.tc : Thread Cert.RetMixFfnRefIdeal.nD Cert.RetMixFfnRefIdeal.τ).loc Cert.RetMixFfnRefIdeal.main_arg4) = m' ((c.tc : Thread Cert.RetMixFfnRefIdeal.nD Cert.RetMixFfnRefIdeal.τ).loc Cert.RetMixFfnRefIdeal.main_arg4)
          ∧ r.2.mem ((c.tc : Thread Cert.RetMixFfnRefIdeal.nD Cert.RetMixFfnRefIdeal.τ).loc Cert.RetMixFfnRefIdeal.main_arg5) = m' ((c.tc : Thread Cert.RetMixFfnRefIdeal.nD Cert.RetMixFfnRefIdeal.τ).loc Cert.RetMixFfnRefIdeal.main_arg5)
          ∧ r.2.mem ((c.tc : Thread Cert.RetMixFfnRefIdeal.nD Cert.RetMixFfnRefIdeal.τ).loc Cert.RetMixFfnRefIdeal.main_arg6) = m' ((c.tc : Thread Cert.RetMixFfnRefIdeal.nD Cert.RetMixFfnRefIdeal.τ).loc Cert.RetMixFfnRefIdeal.main_arg6)
          ∧ r.2.mem ((c.tc : Thread Cert.RetMixFfnRefIdeal.nD Cert.RetMixFfnRefIdeal.τ).loc Cert.RetMixFfnRefIdeal.main_arg7) = m' ((c.tc : Thread Cert.RetMixFfnRefIdeal.nD Cert.RetMixFfnRefIdeal.τ).loc Cert.RetMixFfnRefIdeal.main_arg7)
          ∧ r.2.mem ((c.tc : Thread Cert.RetMixFfnRefIdeal.nD Cert.RetMixFfnRefIdeal.τ).loc Cert.RetMixFfnRefIdeal.main_arg8) = m' ((c.tc : Thread Cert.RetMixFfnRefIdeal.nD Cert.RetMixFfnRefIdeal.τ).loc Cert.RetMixFfnRefIdeal.main_arg8)
          ∧ r.2.mem ((c.tc : Thread Cert.RetMixFfnRefIdeal.nD Cert.RetMixFfnRefIdeal.τ).loc Cert.RetMixFfnRefIdeal.main_arg9) = m' ((c.tc : Thread Cert.RetMixFfnRefIdeal.nD Cert.RetMixFfnRefIdeal.τ).loc Cert.RetMixFfnRefIdeal.main_arg9))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)
      ∧ m' ((c.tc : Thread Cert.RetProjRefIdeal.nD Cert.RetProjRefIdeal.τ).loc Cert.RetProjRefIdeal.main_arg2) = m ((c.tc : Thread Cert.RetProjIdeal.nD Cert.RetProjIdeal.τ).loc Cert.RetProjIdeal.main_arg2)
      ∧ m' ((c.tc : Thread Cert.RetProjRefIdeal.nD Cert.RetProjRefIdeal.τ).loc Cert.RetProjRefIdeal.main_arg3) = m ((c.tc : Thread Cert.RetProjIdeal.nD Cert.RetProjIdeal.τ).loc Cert.RetProjIdeal.main_arg3)) →
    ∃ (v0 : (c : Dev Cert.RetProjIdeal.nD) → Buf (Elt Ideal) ((c.tc : Thread Cert.RetProjIdeal.nD Cert.RetProjIdeal.τ).loc Cert.RetProjIdeal.main_v33_0)) (v1 : (c : Dev Cert.RetProjIdeal.nD) → Buf (Elt Ideal) ((c.tc : Thread Cert.RetProjIdeal.nD Cert.RetProjIdeal.τ).loc Cert.RetProjIdeal.main_v33_1)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v33_0) = v0 c
          ∧ r.2.mem ((c.tc : Thread Cert.RetProjIdeal.nD Cert.RetProjIdeal.τ).loc Cert.RetProjIdeal.main_v33_1) = v1 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
          ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v97) = v0 c
          ∧ r.2.mem ((c.tc : Thread Cert.RetProjRefIdeal.nD Cert.RetProjRefIdeal.τ).loc Cert.RetProjRefIdeal.main_v98) = v1 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1)
          ∧ r.2.mem ((c.tc : Thread Cert.RetProjRefIdeal.nD Cert.RetProjRefIdeal.τ).loc Cert.RetProjRefIdeal.main_arg2) = m' ((c.tc : Thread Cert.RetProjRefIdeal.nD Cert.RetProjRefIdeal.τ).loc Cert.RetProjRefIdeal.main_arg2)
          ∧ r.2.mem ((c.tc : Thread Cert.RetProjRefIdeal.nD Cert.RetProjRefIdeal.τ).loc Cert.RetProjRefIdeal.main_arg3) = m' ((c.tc : Thread Cert.RetProjRefIdeal.nD Cert.RetProjRefIdeal.τ).loc Cert.RetProjRefIdeal.main_arg3))

def preserves_MlaQ_MlaQIdeal : Prop :=
  IdealRules.named_const.Statement Cert.MlaQIdeal.κ "mean384" .f32 0x3B2AAAAB#32 ((384⁻¹ : ℝ) : EReal)

def algebraic_MlaQIdeal_MlaQRefIdeal [hMlaQIdeal : Cert.MlaQIdeal.Facts] [hMlaQRefIdeal : Cert.MlaQRefIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)
      ∧ m' ((c.tc : Thread Cert.MlaQRefIdeal.nD Cert.MlaQRefIdeal.τ).loc Cert.MlaQRefIdeal.main_arg2) = m ((c.tc : Thread Cert.MlaQIdeal.nD Cert.MlaQIdeal.τ).loc Cert.MlaQIdeal.main_arg2)
      ∧ m' ((c.tc : Thread Cert.MlaQRefIdeal.nD Cert.MlaQRefIdeal.τ).loc Cert.MlaQRefIdeal.main_arg3) = m ((c.tc : Thread Cert.MlaQIdeal.nD Cert.MlaQIdeal.τ).loc Cert.MlaQIdeal.main_arg3)
      ∧ m' ((c.tc : Thread Cert.MlaQRefIdeal.nD Cert.MlaQRefIdeal.τ).loc Cert.MlaQRefIdeal.main_arg4) = m ((c.tc : Thread Cert.MlaQIdeal.nD Cert.MlaQIdeal.τ).loc Cert.MlaQIdeal.main_arg4)
      ∧ m' ((c.tc : Thread Cert.MlaQRefIdeal.nD Cert.MlaQRefIdeal.τ).loc Cert.MlaQRefIdeal.main_arg5) = m ((c.tc : Thread Cert.MlaQIdeal.nD Cert.MlaQIdeal.τ).loc Cert.MlaQIdeal.main_arg5)
      ∧ m' ((c.tc : Thread Cert.MlaQRefIdeal.nD Cert.MlaQRefIdeal.τ).loc Cert.MlaQRefIdeal.main_arg6) = m ((c.tc : Thread Cert.MlaQIdeal.nD Cert.MlaQIdeal.τ).loc Cert.MlaQIdeal.main_arg6)
      ∧ m' ((c.tc : Thread Cert.MlaQRefIdeal.nD Cert.MlaQRefIdeal.τ).loc Cert.MlaQRefIdeal.main_arg7) = m ((c.tc : Thread Cert.MlaQIdeal.nD Cert.MlaQIdeal.τ).loc Cert.MlaQIdeal.main_arg7)) →
    ∃ (v0 : (c : Dev Cert.MlaQIdeal.nD) → Buf (Elt Ideal) ((c.tc : Thread Cert.MlaQIdeal.nD Cert.MlaQIdeal.τ).loc Cert.MlaQIdeal.main_v64)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v64) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
          ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
          ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4)
          ∧ r.2.mem ((c.tc : Thread Cert.MlaQIdeal.nD Cert.MlaQIdeal.τ).loc Cert.MlaQIdeal.main_arg5) = m ((c.tc : Thread Cert.MlaQIdeal.nD Cert.MlaQIdeal.τ).loc Cert.MlaQIdeal.main_arg5)
          ∧ r.2.mem ((c.tc : Thread Cert.MlaQIdeal.nD Cert.MlaQIdeal.τ).loc Cert.MlaQIdeal.main_arg6) = m ((c.tc : Thread Cert.MlaQIdeal.nD Cert.MlaQIdeal.τ).loc Cert.MlaQIdeal.main_arg6)
          ∧ r.2.mem ((c.tc : Thread Cert.MlaQIdeal.nD Cert.MlaQIdeal.τ).loc Cert.MlaQIdeal.main_arg7) = m ((c.tc : Thread Cert.MlaQIdeal.nD Cert.MlaQIdeal.τ).loc Cert.MlaQIdeal.main_arg7))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v115) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1)
          ∧ r.2.mem ((c.tc : Thread Cert.MlaQRefIdeal.nD Cert.MlaQRefIdeal.τ).loc Cert.MlaQRefIdeal.main_arg2) = m' ((c.tc : Thread Cert.MlaQRefIdeal.nD Cert.MlaQRefIdeal.τ).loc Cert.MlaQRefIdeal.main_arg2)
          ∧ r.2.mem ((c.tc : Thread Cert.MlaQRefIdeal.nD Cert.MlaQRefIdeal.τ).loc Cert.MlaQRefIdeal.main_arg3) = m' ((c.tc : Thread Cert.MlaQRefIdeal.nD Cert.MlaQRefIdeal.τ).loc Cert.MlaQRefIdeal.main_arg3)
          ∧ r.2.mem ((c.tc : Thread Cert.MlaQRefIdeal.nD Cert.MlaQRefIdeal.τ).loc Cert.MlaQRefIdeal.main_arg4) = m' ((c.tc : Thread Cert.MlaQRefIdeal.nD Cert.MlaQRefIdeal.τ).loc Cert.MlaQRefIdeal.main_arg4)
          ∧ r.2.mem ((c.tc : Thread Cert.MlaQRefIdeal.nD Cert.MlaQRefIdeal.τ).loc Cert.MlaQRefIdeal.main_arg5) = m' ((c.tc : Thread Cert.MlaQRefIdeal.nD Cert.MlaQRefIdeal.τ).loc Cert.MlaQRefIdeal.main_arg5)
          ∧ r.2.mem ((c.tc : Thread Cert.MlaQRefIdeal.nD Cert.MlaQRefIdeal.τ).loc Cert.MlaQRefIdeal.main_arg6) = m' ((c.tc : Thread Cert.MlaQRefIdeal.nD Cert.MlaQRefIdeal.τ).loc Cert.MlaQRefIdeal.main_arg6)
          ∧ r.2.mem ((c.tc : Thread Cert.MlaQRefIdeal.nD Cert.MlaQRefIdeal.τ).loc Cert.MlaQRefIdeal.main_arg7) = m' ((c.tc : Thread Cert.MlaQRefIdeal.nD Cert.MlaQRefIdeal.τ).loc Cert.MlaQRefIdeal.main_arg7))

def Claim : Prop :=
  ∃ (hFlash : Cert.Flash.Facts) (hFlashIdeal : Cert.FlashIdeal.Facts) (hAttentionIdeal : Cert.AttentionIdeal.Facts) (hMixFfn : Cert.MixFfn.Facts) (hMixFfnIdeal : Cert.MixFfnIdeal.Facts) (hMixFfnRefIdeal : Cert.MixFfnRefIdeal.Facts) (hFfn : Cert.Ffn.Facts) (hFfnIdeal : Cert.FfnIdeal.Facts) (hFfnRefIdeal : Cert.FfnRefIdeal.Facts) (hRetMixFfn : Cert.RetMixFfn.Facts) (hRetMixFfnIdeal : Cert.RetMixFfnIdeal.Facts) (hRetMixFfnRefIdeal : Cert.RetMixFfnRefIdeal.Facts) (hRetProj : Cert.RetProj.Facts) (hRetProjIdeal : Cert.RetProjIdeal.Facts) (hRetProjRefIdeal : Cert.RetProjRefIdeal.Facts) (hMlaQ : Cert.MlaQ.Facts) (hMlaQIdeal : Cert.MlaQIdeal.Facts) (hMlaQRefIdeal : Cert.MlaQRefIdeal.Facts) (hPre_finite : Cert.Pre_finite.Facts),
    quiescent_Flash (hFlash := hFlash)
    ∧ quiescent_FlashIdeal (hFlashIdeal := hFlashIdeal)
    ∧ quiescent_FlashIdeal_pre_finite (hFlashIdeal := hFlashIdeal) (hPre_finite := hPre_finite)
    ∧ quiescent_AttentionIdeal (hAttentionIdeal := hAttentionIdeal)
    ∧ quiescent_AttentionIdeal_pre_finite (hAttentionIdeal := hAttentionIdeal) (hPre_finite := hPre_finite)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_RetMixFfn (hRetMixFfn := hRetMixFfn)
    ∧ quiescent_RetMixFfnIdeal (hRetMixFfnIdeal := hRetMixFfnIdeal)
    ∧ quiescent_RetMixFfnRefIdeal (hRetMixFfnRefIdeal := hRetMixFfnRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_MlaQ (hMlaQ := hMlaQ)
    ∧ quiescent_MlaQIdeal (hMlaQIdeal := hMlaQIdeal)
    ∧ quiescent_MlaQRefIdeal (hMlaQRefIdeal := hMlaQRefIdeal)
    ∧ preserves_Flash_FlashIdeal
    ∧ algebraic_FlashIdeal_AttentionIdeal_pre_finite (hFlashIdeal := hFlashIdeal) (hAttentionIdeal := hAttentionIdeal) (hPre_finite := hPre_finite)
    ∧ preserves_MixFfn_MixFfnIdeal
    ∧ algebraic_MixFfnIdeal_MixFfnRefIdeal (hMixFfnIdeal := hMixFfnIdeal) (hMixFfnRefIdeal := hMixFfnRefIdeal)
    ∧ preserves_Ffn_FfnIdeal
    ∧ algebraic_FfnIdeal_FfnRefIdeal (hFfnIdeal := hFfnIdeal) (hFfnRefIdeal := hFfnRefIdeal)
    ∧ preserves_RetMixFfn_RetMixFfnIdeal
    ∧ algebraic_RetMixFfnIdeal_RetMixFfnRefIdeal (hRetMixFfnIdeal := hRetMixFfnIdeal) (hRetMixFfnRefIdeal := hRetMixFfnRefIdeal)
    ∧ preserves_RetProj_RetProjIdeal
    ∧ algebraic_RetProjIdeal_RetProjRefIdeal (hRetProjIdeal := hRetProjIdeal) (hRetProjRefIdeal := hRetProjRefIdeal)
    ∧ preserves_MlaQ_MlaQIdeal
    ∧ algebraic_MlaQIdeal_MlaQRefIdeal (hMlaQIdeal := hMlaQIdeal) (hMlaQRefIdeal := hMlaQRefIdeal)
-- ==== Pre_finite.lean ====
abbrev S8x4096x8x192 : Shape := ⟨4, ![8, 4096, 8, 192]⟩
abbrev S8x4096x8x128 : Shape := ⟨4, ![8, 4096, 8, 128]⟩
abbrev S_ : Shape := ⟨0, ![]⟩

class Facts : Prop where
  bcast_S_S8x4096x8x192 : S_.BroadcastsInDim S8x4096x8x192 (![] : Fin 0 → Fin S8x4096x8x192.rank)

variable [Facts]

def fn {F : FTy → Type} [FloatOps F] (main_arg0 : FVec F S8x4096x8x192 .f32) (main_arg1 : FVec F S8x4096x8x192 .f32) (main_arg2 : FVec F S8x4096x8x128 .f32) : IVec S8x4096x8x192 1 :=
  let main_v0 : FVec F S8x4096x8x192 .f32 := Host.absf main_arg0
  let main_cst : FVec F S_ .f32 := constant S_ .f32 0x7F800000#32
  let main_v1 : FVec F S8x4096x8x192 .f32 := broadcastInDim S8x4096x8x192 ![] bcast_S_S8x4096x8x192 main_cst
  let main_v2 : IVec S8x4096x8x192 1 := cmpf .olt main_v0 main_v1
  let main_v3 : FVec F S8x4096x8x192 .f32 := Host.absf main_arg1
  let main_cst_0 : FVec F S_ .f32 := constant S_ .f32 0x7F800000#32
  let main_v4 : FVec F S8x4096x8x192 .f32 := broadcastInDim S8x4096x8x192 ![] bcast_S_S8x4096x8x192 main_cst_0
  let main_v5 : IVec S8x4096x8x192 1 := cmpf .olt main_v3 main_v4
  let main_v6 : IVec S8x4096x8x192 1 := andi main_v2 main_v5
  main_v6
-- ==== Flash.lean ====
abbrev S8x4096x8x192 : Shape := ⟨4, ![8, 4096, 8, 192]⟩
abbrev S8x4096x8x128 : Shape := ⟨4, ![8, 4096, 8, 128]⟩
abbrev S_ : Shape := ⟨0, ![]⟩
abbrev S8x4096x8x64 : Shape := ⟨4, ![8, 4096, 8, 64]⟩
abbrev S8x4096x8x256 : Shape := ⟨4, ![8, 4096, 8, 256]⟩
abbrev S32768x2048 : Shape := ⟨2, ![32768, 2048]⟩
abbrev S32768x1024 : Shape := ⟨2, ![32768, 1024]⟩
abbrev S4096x512 : Shape := ⟨2, ![4096, 512]⟩
abbrev S4096x256 : Shape := ⟨2, ![4096, 256]⟩
abbrev S2x2x512x128 : Shape := ⟨4, ![2, 2, 512, 128]⟩
abbrev S2x2x512x256 : Shape := ⟨4, ![2, 2, 512, 256]⟩
abbrev S512x256 : Shape := ⟨2, ![512, 256]⟩
abbrev S512x512 : Shape := ⟨2, ![512, 512]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x512x256 : Shape := ⟨4, ![1, 1, 512, 256]⟩
abbrev S256x256 : Shape := ⟨2, ![256, 256]⟩
abbrev S256x512 : Shape := ⟨2, ![256, 512]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 44
  | .vmem => 10
  | .smem => 0
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x8x192, .f32⟩
  | .hbm, ⟨8, _⟩ => ⟨S8x4096x8x192, .f32⟩
  | .hbm, ⟨9, _⟩ => ⟨S8x4096x8x128, .f32⟩
  | .hbm, ⟨10, _⟩ => ⟨S8x4096x8x64, .f32⟩
  | .hbm, ⟨11, _⟩ => ⟨S_, .f32⟩
  | .hbm, ⟨12, _⟩ => ⟨S8x4096x8x64, .f32⟩
  | .hbm, ⟨13, _⟩ => ⟨S8x4096x8x256, .i32⟩
  | .hbm, ⟨14, _⟩ => ⟨S_, .i32⟩
  | .hbm, ⟨15, _⟩ => ⟨S8x4096x8x256, .i32⟩
  | .hbm, ⟨16, _⟩ => ⟨S8x4096x8x256, .i32⟩
  | .hbm, ⟨17, _⟩ => ⟨S_, .i32⟩
  | .hbm, ⟨18, _⟩ => ⟨S8x4096x8x256, .i32⟩
  | .hbm, ⟨19, _⟩ => ⟨S8x4096x8x256, .i1⟩
  | .hbm, ⟨20, _⟩ => ⟨S8x4096x8x256, .f32⟩
  | .hbm, ⟨21, _⟩ => ⟨S8x4096x8x256, .f32⟩
  | .hbm, ⟨22, _⟩ => ⟨S8x4096x8x256, .f32⟩
  | .hbm, ⟨23, _⟩ => ⟨S8x4096x8x256, .bf16⟩
  | .hbm, ⟨24, _⟩ => ⟨S32768x2048, .bf16⟩
  | .hbm, ⟨25, _⟩ => ⟨S8x4096x8x128, .f32⟩
  | .hbm, ⟨26, _⟩ => ⟨S8x4096x8x64, .f32⟩
  | .hbm, ⟨27, _⟩ => ⟨S_, .f32⟩
  | .hbm, ⟨28, _⟩ => ⟨S8x4096x8x64, .f32⟩
  | .hbm, ⟨29, _⟩ => ⟨S8x4096x8x256, .i32⟩
  | .hbm, ⟨30, _⟩ => ⟨S_, .i32⟩
  | .hbm, ⟨31, _⟩ => ⟨S8x4096x8x256, .i32⟩
  | .hbm, ⟨32, _⟩ => ⟨S8x4096x8x256, .i32⟩
  | .hbm, ⟨33, _⟩ => ⟨S_, .i32⟩
  | .hbm, ⟨34, _⟩ => ⟨S8x4096x8x256, .i32⟩
  | .hbm, ⟨35, _⟩ => ⟨S8x4096x8x256, .i1⟩
  | .hbm, ⟨36, _⟩ => ⟨S8x4096x8x256, .f32⟩
  | .hbm, ⟨37, _⟩ => ⟨S8x4096x8x256, .f32⟩
  | .hbm, ⟨38, _⟩ => ⟨S8x4096x8x256, .f32⟩
  | .hbm, ⟨39, _⟩ => ⟨S8x4096x8x256, .bf16⟩
  | .hbm, ⟨40, _⟩ => ⟨S32768x2048, .bf16⟩
  | .hbm, ⟨41, _⟩ => ⟨S8x4096x8x128, .bf16⟩
  | .hbm, ⟨42, _⟩ => ⟨S32768x1024, .bf16⟩
  | .hbm, ⟨43, _⟩ => ⟨S32768x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S2x2x512x128, .f32⟩
  | .local _ .vmem, ⟨9, _⟩ => ⟨S2x2x512x256, .f32⟩
  | _, _ => ⟨S8x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c0_i32 : BitVec 32 := 0#32
  let v9 : BitVec 1 := Scalar.cmpi .sle arg2 c0_i32
  let c7_i32 : BitVec 32 := 7#32
  let v0 : BitVec 32 := Scalar.subi c7_i32 arg2
  let v11 : BitVec 32 := Scalar.select v9 v0 arg2
  let c512_i32 : BitVec 32 := 512#32
  let v44 : BitVec 32 := Scalar.muli v11 c512_i32
  let c0_i32_36 : BitVec 32 := 0#32
  let v45 : BitVec 32 := Scalar.addi v44 c0_i32_36
  v45
def k0_mult2 (i : grid0.Coords) : BitVec 32 :=
  let arg2 : BitVec 32 := BitVec.ofNat 32 (i 2).val
  let c0_i32 : BitVec 32 := 0#32
  let v9 : BitVec 1 := Scalar.cmpi .sle arg2 c0_i32
  let c0_i32_9 : BitVec 32 := 0#32
  let v12 : BitVec 32 := Scalar.subi c0_i32_9 arg2
  let c0_i32_10 : BitVec 32 := 0#32
  let v13 : BitVec 32 := Scalar.select v9 v12 c0_i32_10
  let c512_i32_37 : BitVec 32 := 512#32
  let v47 : BitVec 32 := Scalar.muli v13 c512_i32_37
  v47
def k0_off1 (i : grid0.Coords) (c0_i32 : BitVec 32) : Fin 2 → Nat :=
  let arg2 : BitVec 32 := BitVec.ofNat 32 (i 2).val
  let v9 : BitVec 1 := Scalar.cmpi .sle arg2 c0_i32
  let c7_i32 : BitVec 32 := 7#32
  let v0 : BitVec 32 := Scalar.subi c7_i32 arg2
  let v11 : BitVec 32 := Scalar.select v9 v0 arg2
  let c512_i32 : BitVec 32 := 512#32
  let v44 : BitVec 32 := Scalar.muli v11 c512_i32
  let c0_i32_36 : BitVec 32 := 0#32
  let v45 : BitVec 32 := Scalar.addi v44 c0_i32_36
  let v46 : BitVec 32 := v45
  let v49 : Index := Scalar.indexCast v46
  let c0_38 : Index := 0#32
  ![v49.toNat, 0]
def k0_off2 (i : grid0.Coords) (c0_i32 : BitVec 32) (c0_i32_9 : BitVec 32) (c0_i32_10 : BitVec 32) : Fin 2 → Nat :=
  let arg2 : BitVec 32 := BitVec.ofNat 32 (i 2).val
  let v9 : BitVec 1 := Scalar.cmpi .sle arg2 c0_i32
  let v12 : BitVec 32 := Scalar.subi c0_i32_9 arg2
  let v13 : BitVec 32 := Scalar.select v9 v12 c0_i32_10
  let c512_i32_37 : BitVec 32 := 512#32
  let v47 : BitVec 32 := Scalar.muli v13 c512_i32_37
  let v48 : BitVec 32 := v47
  let v52 : Index := Scalar.indexCast v48
  let c0_39 : Index := 0#32
  ![v52.toNat, 0]
def k0_off2_at (r : Fin 7) : BitVec 32 × BitVec 32 × BitVec 32 :=
  if r.val < 3 then
    if r.val < 1 then
      (0#32, 0#32, 0#32)
    else
      if r.val < 2 then
        (1#32, 1#32, 1#32)
      else
        (2#32, 2#32, 2#32)
  else
    if r.val < 5 then
      if r.val < 4 then
        (3#32, 3#32, 3#32)
      else
        (4#32, 4#32, 4#32)
    else
      if r.val < 6 then
        (5#32, 5#32, 5#32)
      else
        (6#32, 6#32, 6#32)
def k0_off3 (i : grid0.Coords) (c0_i32 : BitVec 32) : Fin 2 → Nat :=
  let arg2 : BitVec 32 := BitVec.ofNat 32 (i 2).val
  let v9 : BitVec 1 := Scalar.cmpi .sle arg2 c0_i32
  let c7_i32 : BitVec 32 := 7#32
  let v0 : BitVec 32 := Scalar.subi c7_i32 arg2
  let v11 : BitVec 32 := Scalar.select v9 v0 arg2
  let c512_i32 : BitVec 32 := 512#32
  let v44 : BitVec 32 := Scalar.muli v11 c512_i32
  let c0_i32_36 : BitVec 32 := 0#32
  let v45 : BitVec 32 := Scalar.addi v44 c0_i32_36
  let v46 : BitVec 32 := v45
  let v56 : Index := Scalar.indexCast v46
  let c256 : Index := 256#32
  ![v56.toNat, 256]
def k0_off4 (i : grid0.Coords) (c0_i32 : BitVec 32) (c0_i32_9 : BitVec 32) (c0_i32_10 : BitVec 32) : Fin 2 → Nat :=
  let arg2 : BitVec 32 := BitVec.ofNat 32 (i 2).val
  let v9 : BitVec 1 := Scalar.cmpi .sle arg2 c0_i32
  let v12 : BitVec 32 := Scalar.subi c0_i32_9 arg2
  let v13 : BitVec 32 := Scalar.select v9 v12 c0_i32_10
  let c512_i32_37 : BitVec 32 := 512#32
  let v47 : BitVec 32 := Scalar.muli v13 c512_i32_37
  let v48 : BitVec 32 := v47
  let v59 : Index := Scalar.indexCast v48
  let c256_41 : Index := 256#32
  ![v59.toNat, 256]
def k0_off4_at (r : Fin 7) : BitVec 32 × BitVec 32 × BitVec 32 :=
  if r.val < 3 then
    if r.val < 1 then
      (0#32, 0#32, 0#32)
    else
      if r.val < 2 then
        (1#32, 1#32, 1#32)
      else
        (2#32, 2#32, 2#32)
  else
    if r.val < 5 then
      if r.val < 4 then
        (3#32, 3#32, 3#32)
      else
        (4#32, 4#32, 4#32)
    else
      if r.val < 6 then
        (5#32, 5#32, 5#32)
      else
        (6#32, 6#32, 6#32)
def k0_mult3 (i : grid0.Coords) : BitVec 32 :=
  let arg2 : BitVec 32 := BitVec.ofNat 32 (i 2).val
  let c1_i32_11 : BitVec 32 := 1#32
  let v14 : BitVec 1 := Scalar.cmpi .sle arg2 c1_i32_11
  let c7_i32 : BitVec 32 := 7#32
  let v0 : BitVec 32 := Scalar.subi c7_i32 arg2
  let v16 : BitVec 32 := Scalar.select v14 v0 arg2
  let c512_i32_43 : BitVec 32 := 512#32
  let v63 : BitVec 32 := Scalar.muli v16 c512_i32_43
  let c0_i32_44 : BitVec 32 := 0#32
  let v64 : BitVec 32 := Scalar.addi v63 c0_i32_44
  v64
def k0_mult4 (i : grid0.Coords) : BitVec 32 :=
  let arg2 : BitVec 32 := BitVec.ofNat 32 (i 2).val
  let c1_i32_11 : BitVec 32 := 1#32
  let v14 : BitVec 1 := Scalar.cmpi .sle arg2 c1_i32_11
  let c1_i32_14 : BitVec 32 := 1#32
  let v17 : BitVec 32 := Scalar.subi c1_i32_14 arg2
  let c1_i32_15 : BitVec 32 := 1#32
  let v18 : BitVec 32 := Scalar.select v14 v17 c1_i32_15
  let c512_i32_45 : BitVec 32 := 512#32
  let v66 : BitVec 32 := Scalar.muli v18 c512_i32_45
  v66
def k0_mult5 (i : grid0.Coords) : BitVec 32 :=
  let arg2 : BitVec 32 := BitVec.ofNat 32 (i 2).val
  let c2_i32 : BitVec 32 := 2#32
  let v19 : BitVec 1 := Scalar.cmpi .sle arg2 c2_i32
  let c7_i32 : BitVec 32 := 7#32
  let v0 : BitVec 32 := Scalar.subi c7_i32 arg2
  let v21 : BitVec 32 := Scalar.select v19 v0 arg2
  let c512_i32_52 : BitVec 32 := 512#32
  let v82 : BitVec 32 := Scalar.muli v21 c512_i32_52
  let c0_i32_53 : BitVec 32 := 0#32
  let v83 : BitVec 32 := Scalar.addi v82 c0_i32_53
  v83
def k0_mult6 (i : grid0.Coords) : BitVec 32 :=
  let arg2 : BitVec 32 := BitVec.ofNat 32 (i 2).val
  let c2_i32 : BitVec 32 := 2#32
  let v19 : BitVec 1 := Scalar.cmpi .sle arg2 c2_i32
  let c2_i32_18 : BitVec 32 := 2#32
  let v22 : BitVec 32 := Scalar.subi c2_i32_18 arg2
  let c2_i32_19 : BitVec 32 := 2#32
  let v23 : BitVec 32 := Scalar.select v19 v22 c2_i32_19
  let c512_i32_54 : BitVec 32 := 512#32
  let v85 : BitVec 32 := Scalar.muli v23 c512_i32_54
  v85
def k0_mult7 (i : grid0.Coords) : BitVec 32 :=
  let arg2 : BitVec 32 := BitVec.ofNat 32 (i 2).val
  let c0_i32 : BitVec 32 := 0#32
  let v9 : BitVec 1 := Scalar.cmpi .sle arg2 c0_i32
  let c0_i32_9 : BitVec 32 := 0#32
  let v12 : BitVec 32 := Scalar.subi c0_i32_9 arg2
  let c0_i32_10 : BitVec 32 := 0#32
  let v13 : BitVec 32 := Scalar.select v9 v12 c0_i32_10
  let c512_i32_61 : BitVec 32 := 512#32
  let v101 : BitVec 32 := Scalar.muli v13 c512_i32_61
  v101
def k0_off5 (i : grid0.Coords) (c0_i32 : BitVec 32) : Fin 4 → Nat :=
  let arg2 : BitVec 32 := BitVec.ofNat 32 (i 2).val
  let v9 : BitVec 1 := Scalar.cmpi .sle arg2 c0_i32
  let c1_i32 : BitVec 32 := 1#32
  let c0_i32_8 : BitVec 32 := 0#32
  let v10 : BitVec 32 := Scalar.select v9 c1_i32 c0_i32_8
  let v103 : Index := Scalar.indexCast v10
  let c0_62 : Index := 0#32
  let c0_63 : Index := 0#32
  let c0_64 : Index := 0#32
  ![v103.toNat, 0, 0, 0]
def k0_off6 (i : grid0.Coords) (c0_i32 : BitVec 32) (c0_i32_9 : BitVec 32) (c0_i32_10 : BitVec 32) : Fin 2 → Nat :=
  let arg2 : BitVec 32 := BitVec.ofNat 32 (i 2).val
  let v9 : BitVec 1 := Scalar.cmpi .sle arg2 c0_i32
  let v12 : BitVec 32 := Scalar.subi c0_i32_9 arg2
  let v13 : BitVec 32 := Scalar.select v9 v12 c0_i32_10
  let c512_i32_61 : BitVec 32 := 512#32
  let v101 : BitVec 32 := Scalar.muli v13 c512_i32_61
  let v102 : BitVec 32 := v101
  let v115 : Index := Scalar.indexCast v102
  let c0_66 : Index := 0#32
  ![v115.toNat, 0]
def k0_off6_at (r : Fin 7) : BitVec 32 × BitVec 32 × BitVec 32 :=
  if r.val < 3 then
    if r.val < 1 then
      (0#32, 0#32, 0#32)
    else
      if r.val < 2 then
        (1#32, 1#32, 1#32)
      else
        (2#32, 2#32, 2#32)
  else
    if r.val < 5 then
      if r.val < 4 then
        (3#32, 3#32, 3#32)
      else
        (4#32, 4#32, 4#32)
    else
      if r.val < 6 then
        (5#32, 5#32, 5#32)
      else
        (6#32, 6#32, 6#32)
def k0_off7 (i : grid0.Coords) (c0_i32 : BitVec 32) : Fin 4 → Nat :=
  let arg2 : BitVec 32 := BitVec.ofNat 32 (i 2).val
  let v9 : BitVec 1 := Scalar.cmpi .sle arg2 c0_i32
  let c1_i32 : BitVec 32 := 1#32
  let c0_i32_8 : BitVec 32 := 0#32
  let v10 : BitVec 32 := Scalar.select v9 c1_i32 c0_i32_8
  let v123 : Index := Scalar.indexCast v10
  let c0_69 : Index := 0#32
  let c0_70 : Index := 0#32
  let c0_71 : Index := 0#32
  ![v123.toNat, 0, 0, 0]
def k0_off8 (i : grid0.Coords) (c0_i32 : BitVec 32) : Fin 4 → Nat :=
  let arg2 : BitVec 32 := BitVec.ofNat 32 (i 2).val
  let v9 : BitVec 1 := Scalar.cmpi .sle arg2 c0_i32
  let c1_i32 : BitVec 32 := 1#32
  let c0_i32_8 : BitVec 32 := 0#32
  let v10 : BitVec 32 := Scalar.select v9 c1_i32 c0_i32_8
  let v136 : Index := Scalar.indexCast v10
  let c1 : Index := 1#32
  let c0_78 : Index := 0#32
  let c0_79 : Index := 0#32
  ![v136.toNat, 1, 0, 0]
def k0_off9 (i : grid0.Coords) (c0_i32 : BitVec 32) (c0_i32_9 : BitVec 32) (c0_i32_10 : BitVec 32) : Fin 2 → Nat :=
  let arg2 : BitVec 32 := BitVec.ofNat 32 (i 2).val
  let v9 : BitVec 1 := Scalar.cmpi .sle arg2 c0_i32
  let v12 : BitVec 32 := Scalar.subi c0_i32_9 arg2
  let v13 : BitVec 32 := Scalar.select v9 v12 c0_i32_10
  let c512_i32_61 : BitVec 32 := 512#32
  let v101 : BitVec 32 := Scalar.muli v13 c512_i32_61
  let v102 : BitVec 32 := v101
  let v148 : Index := Scalar.indexCast v102
  let c128 : Index := 128#32
  ![v148.toNat, 128]
def k0_off9_at (r : Fin 7) : BitVec 32 × BitVec 32 × BitVec 32 :=
  if r.val < 3 then
    if r.val < 1 then
      (0#32, 0#32, 0#32)
    else
      if r.val < 2 then
        (1#32, 1#32, 1#32)
      else
        (2#32, 2#32, 2#32)
  else
    if r.val < 5 then
      if r.val < 4 then
        (3#32, 3#32, 3#32)
      else
        (4#32, 4#32, 4#32)
    else
      if r.val < 6 then
        (5#32, 5#32, 5#32)
      else
        (6#32, 6#32, 6#32)
def k0_off10 (i : grid0.Coords) (c0_i32 : BitVec 32) : Fin 4 → Nat :=
  let arg2 : BitVec 32 := BitVec.ofNat 32 (i 2).val
  let v9 : BitVec 1 := Scalar.cmpi .sle arg2 c0_i32
  let c1_i32 : BitVec 32 := 1#32
  let c0_i32_8 : BitVec 32 := 0#32
  let v10 : BitVec 32 := Scalar.select v9 c1_i32 c0_i32_8
  let v156 : Index := Scalar.indexCast v10
  let c1_83 : Index := 1#32
  let c0_84 : Index := 0#32
  let c0_85 : Index := 0#32
  ![v156.toNat, 1, 0, 0]
def k0_mult8 (i : grid0.Coords) : BitVec 32 :=
  let arg2 : BitVec 32 := BitVec.ofNat 32 (i 2).val
  let c3_i32 : BitVec 32 := 3#32
  let v24 : BitVec 1 := Scalar.cmpi .sle arg2 c3_i32
  let c7_i32 : BitVec 32 := 7#32
  let v0 : BitVec 32 := Scalar.subi c7_i32 arg2
  let v26 : BitVec 32 := Scalar.select v24 v0 arg2
  let c512_i32_92 : BitVec 32 := 512#32
  let v169 : BitVec 32 := Scalar.muli v26 c512_i32_92
  let c0_i32_93 : BitVec 32 := 0#32
  let v170 : BitVec 32 := Scalar.addi v169 c0_i32_93
  v170
def k0_mult9 (i : grid0.Coords) : BitVec 32 :=
  let arg2 : BitVec 32 := BitVec.ofNat 32 (i 2).val
  let c3_i32 : BitVec 32 := 3#32
  let v24 : BitVec 1 := Scalar.cmpi .sle arg2 c3_i32
  let c3_i32_22 : BitVec 32 := 3#32
  let v27 : BitVec 32 := Scalar.subi c3_i32_22 arg2
  let c3_i32_23 : BitVec 32 := 3#32
  let v28 : BitVec 32 := Scalar.select v24 v27 c3_i32_23
  let c512_i32_94 : BitVec 32 := 512#32
  let v172 : BitVec 32 := Scalar.muli v28 c512_i32_94
  v172
def k0_mult10 (i : grid0.Coords) : BitVec 32 :=
  let arg2 : BitVec 32 := BitVec.ofNat 32 (i 2).val
  let c1_i32_11 : BitVec 32 := 1#32
  let v14 : BitVec 1 := Scalar.cmpi .sle arg2 c1_i32_11
  let c1_i32_14 : BitVec 32 := 1#32
  let v17 : BitVec 32 := Scalar.subi c1_i32_14 arg2
  let c1_i32_15 : BitVec 32 := 1#32
  let v18 : BitVec 32 := Scalar.select v14 v17 c1_i32_15
  let c512_i32_101 : BitVec 32 := 512#32
  let v188 : BitVec 32 := Scalar.muli v18 c512_i32_101
  v188
def k0_mult11 (i : grid0.Coords) : BitVec 32 :=
  let arg2 : BitVec 32 := BitVec.ofNat 32 (i 2).val
  let c4_i32 : BitVec 32 := 4#32
  let v29 : BitVec 1 := Scalar.cmpi .sle arg2 c4_i32
  let c7_i32 : BitVec 32 := 7#32
  let v0 : BitVec 32 := Scalar.subi c7_i32 arg2
  let v31 : BitVec 32 := Scalar.select v29 v0 arg2
  let c512_i32_134 : BitVec 32 := 512#32
  let v256 : BitVec 32 := Scalar.muli v31 c512_i32_134
  let c0_i32_135 : BitVec 32 := 0#32
  let v257 : BitVec 32 := Scalar.addi v256 c0_i32_135
  v257
def k0_mult12 (i : grid0.Coords) : BitVec 32 :=
  let arg2 : BitVec 32 := BitVec.ofNat 32 (i 2).val
  let c4_i32 : BitVec 32 := 4#32
  let v29 : BitVec 1 := Scalar.cmpi .sle arg2 c4_i32
  let c4_i32_26 : BitVec 32 := 4#32
  let v32 : BitVec 32 := Scalar.subi c4_i32_26 arg2
  let c4_i32_27 : BitVec 32 := 4#32
  let v33 : BitVec 32 := Scalar.select v29 v32 c4_i32_27
  let c512_i32_136 : BitVec 32 := 512#32
  let v259 : BitVec 32 := Scalar.muli v33 c512_i32_136
  v259
def k0_mult13 (i : grid0.Coords) : BitVec 32 :=
  let arg2 : BitVec 32 := BitVec.ofNat 32 (i 2).val
  let c2_i32 : BitVec 32 := 2#32
  let v19 : BitVec 1 := Scalar.cmpi .sle arg2 c2_i32
  let c2_i32_18 : BitVec 32 := 2#32
  let v22 : BitVec 32 := Scalar.subi c2_i32_18 arg2
  let c2_i32_19 : BitVec 32 := 2#32
  let v23 : BitVec 32 := Scalar.select v19 v22 c2_i32_19
  let c512_i32_143 : BitVec 32 := 512#32
  let v275 : BitVec 32 := Scalar.muli v23 c512_i32_143
  v275
def k0_mult14 (i : grid0.Coords) : BitVec 32 :=
  let arg2 : BitVec 32 := BitVec.ofNat 32 (i 2).val
  let c5_i32 : BitVec 32 := 5#32
  let v34 : BitVec 1 := Scalar.cmpi .sle arg2 c5_i32
  let c7_i32 : BitVec 32 := 7#32
  let v0 : BitVec 32 := Scalar.subi c7_i32 arg2
  let v36 : BitVec 32 := Scalar.select v34 v0 arg2
  let c512_i32_176 : BitVec 32 := 512#32
  let v343 : BitVec 32 := Scalar.muli v36 c512_i32_176
  let c0_i32_177 : BitVec 32 := 0#32
  let v344 : BitVec 32 := Scalar.addi v343 c0_i32_177
  v344
def k0_mult15 (i : grid0.Coords) : BitVec 32 :=
  let arg2 : BitVec 32 := BitVec.ofNat 32 (i 2).val
  let c5_i32 : BitVec 32 := 5#32
  let v34 : BitVec 1 := Scalar.cmpi .sle arg2 c5_i32
  let c5_i32_30 : BitVec 32 := 5#32
  let v37 : BitVec 32 := Scalar.subi c5_i32_30 arg2
  let c5_i32_31 : BitVec 32 := 5#32
  let v38 : BitVec 32 := Scalar.select v34 v37 c5_i32_31
  let c512_i32_178 : BitVec 32 := 512#32
  let v346 : BitVec 32 := Scalar.muli v38 c512_i32_178
  v346
def k0_mult16 (i : grid0.Coords) : BitVec 32 :=
  let arg2 : BitVec 32 := BitVec.ofNat 32 (i 2).val
  let c3_i32 : BitVec 32 := 3#32
  let v24 : BitVec 1 := Scalar.cmpi .sle arg2 c3_i32
  let c3_i32_22 : BitVec 32 := 3#32
  let v27 : BitVec 32 := Scalar.subi c3_i32_22 arg2
  let c3_i32_23 : BitVec 32 := 3#32
  let v28 : BitVec 32 := Scalar.select v24 v27 c3_i32_23
  let c512_i32_185 : BitVec 32 := 512#32
  let v362 : BitVec 32 := Scalar.muli v28 c512_i32_185
  v362
def k0_mult17 (i : grid0.Coords) : BitVec 32 :=
  let arg2 : BitVec 32 := BitVec.ofNat 32 (i 2).val
  let c6_i32 : BitVec 32 := 6#32
  let v39 : BitVec 1 := Scalar.cmpi .sle arg2 c6_i32
  let c7_i32 : BitVec 32 := 7#32
  let v0 : BitVec 32 := Scalar.subi c7_i32 arg2
  let v41 : BitVec 32 := Scalar.select v39 v0 arg2
  let c512_i32_218 : BitVec 32 := 512#32
  let v430 : BitVec 32 := Scalar.muli v41 c512_i32_218
  let c0_i32_219 : BitVec 32 := 0#32
  let v431 : BitVec 32 := Scalar.addi v430 c0_i32_219
  v431
def k0_mult18 (i : grid0.Coords) : BitVec 32 :=
  let arg2 : BitVec 32 := BitVec.ofNat 32 (i 2).val
  let c6_i32 : BitVec 32 := 6#32
  let v39 : BitVec 1 := Scalar.cmpi .sle arg2 c6_i32
  let c6_i32_34 : BitVec 32 := 6#32
  let v42 : BitVec 32 := Scalar.subi c6_i32_34 arg2
  let c6_i32_35 : BitVec 32 := 6#32
  let v43 : BitVec 32 := Scalar.select v39 v42 c6_i32_35
  let c512_i32_220 : BitVec 32 := 512#32
  let v433 : BitVec 32 := Scalar.muli v43 c512_i32_220
  v433
def k0_mult19 (i : grid0.Coords) : BitVec 32 :=
  let arg2 : BitVec 32 := BitVec.ofNat 32 (i 2).val
  let c4_i32 : BitVec 32 := 4#32
  let v29 : BitVec 1 := Scalar.cmpi .sle arg2 c4_i32
  let c4_i32_26 : BitVec 32 := 4#32
  let v32 : BitVec 32 := Scalar.subi c4_i32_26 arg2
  let c4_i32_27 : BitVec 32 := 4#32
  let v33 : BitVec 32 := Scalar.select v29 v32 c4_i32_27
  let c512_i32_227 : BitVec 32 := 512#32
  let v449 : BitVec 32 := Scalar.muli v33 c512_i32_227
  v449
def k0_mult20 (i : grid0.Coords) : BitVec 32 :=
  let arg2 : BitVec 32 := BitVec.ofNat 32 (i 2).val
  let c512_i32_260 : BitVec 32 := 512#32
  let v517 : BitVec 32 := Scalar.muli arg2 c512_i32_260
  let c0_i32_261 : BitVec 32 := 0#32
  let v518 : BitVec 32 := Scalar.addi v517 c0_i32_261
  v518
def k0_mult21 (i : grid0.Coords) : BitVec 32 :=
  let arg2 : BitVec 32 := BitVec.ofNat 32 (i 2).val
  let c512_i32_262 : BitVec 32 := 512#32
  let v520 : BitVec 32 := Scalar.muli arg2 c512_i32_262
  v520
def k0_off11 (i : grid0.Coords) (c0_i32_261 : BitVec 32) : Fin 2 → Nat :=
  let arg2 : BitVec 32 := BitVec.ofNat 32 (i 2).val
  let c512_i32_260 : BitVec 32 := 512#32
  let v517 : BitVec 32 := Scalar.muli arg2 c512_i32_260
  let v518 : BitVec 32 := Scalar.addi v517 c0_i32_261
  let v519 : BitVec 32 := v518
  let v522 : Index := Scalar.indexCast v519
  let c0_263 : Index := 0#32
  ![v522.toNat, 0]
def k0_off12 (i : grid0.Coords) : Fin 2 → Nat :=
  let arg2 : BitVec 32 := BitVec.ofNat 32 (i 2).val
  let c512_i32_262 : BitVec 32 := 512#32
  let v520 : BitVec 32 := Scalar.muli arg2 c512_i32_262
  let v521 : BitVec 32 := v520
  let v525 : Index := Scalar.indexCast v521
  let c0_264 : Index := 0#32
  ![v525.toNat, 0]
def k0_off13 (i : grid0.Coords) (c0_i32_261 : BitVec 32) : Fin 2 → Nat :=
  let arg2 : BitVec 32 := BitVec.ofNat 32 (i 2).val
  let c512_i32_260 : BitVec 32 := 512#32
  let v517 : BitVec 32 := Scalar.muli arg2 c512_i32_260
  let v518 : BitVec 32 := Scalar.addi v517 c0_i32_261
  let v519 : BitVec 32 := v518
  let v529 : Index := Scalar.indexCast v519
  let c256_266 : Index := 256#32
  ![v529.toNat, 256]
def k0_off14 (i : grid0.Coords) : Fin 2 → Nat :=
  let arg2 : BitVec 32 := BitVec.ofNat 32 (i 2).val
  let c512_i32_262 : BitVec 32 := 512#32
  let v520 : BitVec 32 := Scalar.muli arg2 c512_i32_262
  let v521 : BitVec 32 := v520
  let v532 : Index := Scalar.indexCast v521
  let c256_267 : Index := 256#32
  ![v532.toNat, 256]
def k0_mult22 (i : grid0.Coords) : BitVec 32 :=
  let arg2 : BitVec 32 := BitVec.ofNat 32 (i 2).val
  let c5_i32 : BitVec 32 := 5#32
  let v34 : BitVec 1 := Scalar.cmpi .sle arg2 c5_i32
  let c5_i32_30 : BitVec 32 := 5#32
  let v37 : BitVec 32 := Scalar.subi c5_i32_30 arg2
  let c5_i32_31 : BitVec 32 := 5#32
  let v38 : BitVec 32 := Scalar.select v34 v37 c5_i32_31
  let c512_i32_269 : BitVec 32 := 512#32
  let v536 : BitVec 32 := Scalar.muli v38 c512_i32_269
  v536
def k0_mult23 (i : grid0.Coords) : BitVec 32 :=
  let arg2 : BitVec 32 := BitVec.ofNat 32 (i 2).val
  let c512_i32_302 : BitVec 32 := 512#32
  let v604 : BitVec 32 := Scalar.muli arg2 c512_i32_302
  let c256_i32 : BitVec 32 := 256#32
  let v605 : BitVec 32 := Scalar.addi v604 c256_i32
  v605
def k0_mult24 (i : grid0.Coords) : BitVec 32 :=
  let arg2 : BitVec 32 := BitVec.ofNat 32 (i 2).val
  let c512_i32_303 : BitVec 32 := 512#32
  let v607 : BitVec 32 := Scalar.muli arg2 c512_i32_303
  v607
def k0_off15 (i : grid0.Coords) : Fin 2 → Nat :=
  let arg2 : BitVec 32 := BitVec.ofNat 32 (i 2).val
  let c512_i32_303 : BitVec 32 := 512#32
  let v607 : BitVec 32 := Scalar.muli arg2 c512_i32_303
  let v608 : BitVec 32 := v607
  let v612 : Index := Scalar.indexCast v608
  let c0_305 : Index := 0#32
  ![v612.toNat, 0]
def k0_off16 (i : grid0.Coords) : Fin 2 → Nat :=
  let arg2 : BitVec 32 := BitVec.ofNat 32 (i 2).val
  let c512_i32_303 : BitVec 32 := 512#32
  let v607 : BitVec 32 := Scalar.muli arg2 c512_i32_303
  let v608 : BitVec 32 := v607
  let v619 : Index := Scalar.indexCast v608
  let c256_308 : Index := 256#32
  ![v619.toNat, 256]
def k0_mult25 (i : grid0.Coords) : BitVec 32 :=
  let arg2 : BitVec 32 := BitVec.ofNat 32 (i 2).val
  let c6_i32 : BitVec 32 := 6#32
  let v39 : BitVec 1 := Scalar.cmpi .sle arg2 c6_i32
  let c6_i32_34 : BitVec 32 := 6#32
  let v42 : BitVec 32 := Scalar.subi c6_i32_34 arg2
  let c6_i32_35 : BitVec 32 := 6#32
  let v43 : BitVec 32 := Scalar.select v39 v42 c6_i32_35
  let c512_i32_310 : BitVec 32 := 512#32
  let v623 : BitVec 32 := Scalar.muli v43 c512_i32_310
  v623
def k0_mult26 (i : grid0.Coords) : BitVec 32 :=
  let c7_i32 : BitVec 32 := 7#32
  let arg2 : BitVec 32 := BitVec.ofNat 32 (i 2).val
  let v0 : BitVec 32 := Scalar.subi c7_i32 arg2
  let c512_i32_343 : BitVec 32 := 512#32
  let v691 : BitVec 32 := Scalar.muli v0 c512_i32_343
  let c0_i32_344 : BitVec 32 := 0#32
  let v692 : BitVec 32 := Scalar.addi v691 c0_i32_344
  v692
def k0_mult27 (i : grid0.Coords) : BitVec 32 :=
  let c7_i32 : BitVec 32 := 7#32
  let arg2 : BitVec 32 := BitVec.ofNat 32 (i 2).val
  let v0 : BitVec 32 := Scalar.subi c7_i32 arg2
  let c512_i32_345 : BitVec 32 := 512#32
  let v694 : BitVec 32 := Scalar.muli v0 c512_i32_345
  v694
def k0_off17 (i : grid0.Coords) (c0_i32_344 : BitVec 32) : Fin 2 → Nat :=
  let c7_i32 : BitVec 32 := 7#32
  let arg2 : BitVec 32 := BitVec.ofNat 32 (i 2).val
  let v0 : BitVec 32 := Scalar.subi c7_i32 arg2
  let c512_i32_343 : BitVec 32 := 512#32
  let v691 : BitVec 32 := Scalar.muli v0 c512_i32_343
  let v692 : BitVec 32 := Scalar.addi v691 c0_i32_344
  let v693 : BitVec 32 := v692
  let v696 : Index := Scalar.indexCast v693
  let c0_346 : Index := 0#32
  ![v696.toNat, 0]
def k0_off18 (i : grid0.Coords) : Fin 2 → Nat :=
  let c7_i32 : BitVec 32 := 7#32
  let arg2 : BitVec 32 := BitVec.ofNat 32 (i 2).val
  let v0 : BitVec 32 := Scalar.subi c7_i32 arg2
  let c512_i32_345 : BitVec 32 := 512#32
  let v694 : BitVec 32 := Scalar.muli v0 c512_i32_345
  let v695 : BitVec 32 := v694
  let v699 : Index := Scalar.indexCast v695
  let c0_347 : Index := 0#32
  ![v699.toNat, 0]
def k0_off19 (i : grid0.Coords) (c0_i32_344 : BitVec 32) : Fin 2 → Nat :=
  let c7_i32 : BitVec 32 := 7#32
  let arg2 : BitVec 32 := BitVec.ofNat 32 (i 2).val
  let v0 : BitVec 32 := Scalar.subi c7_i32 arg2
  let c512_i32_343 : BitVec 32 := 512#32
  let v691 : BitVec 32 := Scalar.muli v0 c512_i32_343
  let v692 : BitVec 32 := Scalar.addi v691 c0_i32_344
  let v693 : BitVec 32 := v692
  let v703 : Index := Scalar.indexCast v693
  let c256_349 : Index := 256#32
  ![v703.toNat, 256]
def k0_off20 (i : grid0.Coords) : Fin 2 → Nat :=
  let c7_i32 : BitVec 32 := 7#32
  let arg2 : BitVec 32 := BitVec.ofNat 32 (i 2).val
  let v0 : BitVec 32 := Scalar.subi c7_i32 arg2
  let c512_i32_345 : BitVec 32 := 512#32
  let v694 : BitVec 32 := Scalar.muli v0 c512_i32_345
  let v695 : BitVec 32 := v694
  let v706 : Index := Scalar.indexCast v695
  let c256_350 : Index := 256#32
  ![v706.toNat, 256]
def k0_mult28 (i : grid0.Coords) : BitVec 32 :=
  let arg2 : BitVec 32 := BitVec.ofNat 32 (i 2).val
  let c512_i32_352 : BitVec 32 := 512#32
  let v710 : BitVec 32 := Scalar.muli arg2 c512_i32_352
  v710
def k0_off21 (i : grid0.Coords) : Fin 2 → Nat :=
  let arg2 : BitVec 32 := BitVec.ofNat 32 (i 2).val
  let c512_i32_352 : BitVec 32 := 512#32
  let v710 : BitVec 32 := Scalar.muli arg2 c512_i32_352
  let v711 : BitVec 32 := v710
  let v730 : Index := Scalar.indexCast v711
  let c0_360 : Index := 0#32
  ![v730.toNat, 0]
def k0_off22 (i : grid0.Coords) : Fin 2 → Nat :=
  let arg2 : BitVec 32 := BitVec.ofNat 32 (i 2).val
  let c512_i32_352 : BitVec 32 := 512#32
  let v710 : BitVec 32 := Scalar.muli arg2 c512_i32_352
  let v711 : BitVec 32 := v710
  let v766 : Index := Scalar.indexCast v711
  let c128_382 : Index := 128#32
  ![v766.toNat, 128]
def k0_mult29 (i : grid0.Coords) : BitVec 32 :=
  let c7_i32 : BitVec 32 := 7#32
  let arg2 : BitVec 32 := BitVec.ofNat 32 (i 2).val
  let v0 : BitVec 32 := Scalar.subi c7_i32 arg2
  let c512_i32_397 : BitVec 32 := 512#32
  let v784 : BitVec 32 := Scalar.muli v0 c512_i32_397
  let c256_i32_398 : BitVec 32 := 256#32
  let v785 : BitVec 32 := Scalar.addi v784 c256_i32_398
  v785
def k0_mult30 (i : grid0.Coords) : BitVec 32 :=
  let c7_i32 : BitVec 32 := 7#32
  let arg2 : BitVec 32 := BitVec.ofNat 32 (i 2).val
  let v0 : BitVec 32 := Scalar.subi c7_i32 arg2
  let c512_i32_399 : BitVec 32 := 512#32
  let v787 : BitVec 32 := Scalar.muli v0 c512_i32_399
  v787
def k0_off23 (i : grid0.Coords) : Fin 2 → Nat :=
  let c7_i32 : BitVec 32 := 7#32
  let arg2 : BitVec 32 := BitVec.ofNat 32 (i 2).val
  let v0 : BitVec 32 := Scalar.subi c7_i32 arg2
  let c512_i32_399 : BitVec 32 := 512#32
  let v787 : BitVec 32 := Scalar.muli v0 c512_i32_399
  let v788 : BitVec 32 := v787
  let v792 : Index := Scalar.indexCast v788
  let c0_401 : Index := 0#32
  ![v792.toNat, 0]
def k0_off24 (i : grid0.Coords) : Fin 2 → Nat :=
  let c7_i32 : BitVec 32 := 7#32
  let arg2 : BitVec 32 := BitVec.ofNat 32 (i 2).val
  let v0 : BitVec 32 := Scalar.subi c7_i32 arg2
  let c512_i32_399 : BitVec 32 := 512#32
  let v787 : BitVec 32 := Scalar.muli v0 c512_i32_399
  let v788 : BitVec 32 := v787
  let v799 : Index := Scalar.indexCast v788
  let c256_404 : Index := 256#32
  ![v799.toNat, 256]
def k0_mult31 (i : grid0.Coords) : BitVec 32 :=
  let arg2 : BitVec 32 := BitVec.ofNat 32 (i 2).val
  let c512_i32_406 : BitVec 32 := 512#32
  let v803 : BitVec 32 := Scalar.muli arg2 c512_i32_406
  v803
def k0_off25 (i : grid0.Coords) : Fin 2 → Nat :=
  let arg2 : BitVec 32 := BitVec.ofNat 32 (i 2).val
  let c512_i32_406 : BitVec 32 := 512#32
  let v803 : BitVec 32 := Scalar.muli arg2 c512_i32_406
  let v804 : BitVec 32 := v803
  let v823 : Index := Scalar.indexCast v804
  let c0_414 : Index := 0#32
  ![v823.toNat, 0]
def k0_off26 (i : grid0.Coords) : Fin 2 → Nat :=
  let arg2 : BitVec 32 := BitVec.ofNat 32 (i 2).val
  let c512_i32_406 : BitVec 32 := 512#32
  let v803 : BitVec 32 := Scalar.muli arg2 c512_i32_406
  let v804 : BitVec 32 := v803
  let v859 : Index := Scalar.indexCast v804
  let c128_436 : Index := 128#32
  ![v859.toNat, 128]
def k0_mult32 (i : grid0.Coords) : BitVec 32 :=
  let c7_i32 : BitVec 32 := 7#32
  let arg2 : BitVec 32 := BitVec.ofNat 32 (i 2).val
  let v0 : BitVec 32 := Scalar.subi c7_i32 arg2
  let c512_i32_451 : BitVec 32 := 512#32
  let v877 : BitVec 32 := Scalar.muli v0 c512_i32_451
  v877
def k0_off27 (i : grid0.Coords) : Fin 2 → Nat :=
  let c7_i32 : BitVec 32 := 7#32
  let arg2 : BitVec 32 := BitVec.ofNat 32 (i 2).val
  let v0 : BitVec 32 := Scalar.subi c7_i32 arg2
  let c512_i32_451 : BitVec 32 := 512#32
  let v877 : BitVec 32 := Scalar.muli v0 c512_i32_451
  let v878 : BitVec 32 := v877
  let v897 : Index := Scalar.indexCast v878
  let c0_459 : Index := 0#32
  ![v897.toNat, 0]
def k0_off28 (i : grid0.Coords) : Fin 2 → Nat :=
  let c7_i32 : BitVec 32 := 7#32
  let arg2 : BitVec 32 := BitVec.ofNat 32 (i 2).val
  let v0 : BitVec 32 := Scalar.subi c7_i32 arg2
  let c512_i32_451 : BitVec 32 := 512#32
  let v877 : BitVec 32 := Scalar.muli v0 c512_i32_451
  let v878 : BitVec 32 := v877
  let v933 : Index := Scalar.indexCast v878
  let c128_481 : Index := 128#32
  ![v933.toNat, 128]
def k0_mult33 (i : grid0.Coords) : BitVec 32 :=
  let c7_i32 : BitVec 32 := 7#32
  let arg2 : BitVec 32 := BitVec.ofNat 32 (i 2).val
  let v0 : BitVec 32 := Scalar.subi c7_i32 arg2
  let c512_i32_496 : BitVec 32 := 512#32
  let v951 : BitVec 32 := Scalar.muli v0 c512_i32_496
  v951
def k0_off29 (i : grid0.Coords) : Fin 2 → Nat :=
  let c7_i32 : BitVec 32 := 7#32
  let arg2 : BitVec 32 := BitVec.ofNat 32 (i 2).val
  let v0 : BitVec 32 := Scalar.subi c7_i32 arg2
  let c512_i32_496 : BitVec 32 := 512#32
  let v951 : BitVec 32 := Scalar.muli v0 c512_i32_496
  let v952 : BitVec 32 := v951
  let v971 : Index := Scalar.indexCast v952
  let c0_504 : Index := 0#32
  ![v971.toNat, 0]
def k0_off30 (i : grid0.Coords) : Fin 2 → Nat :=
  let c7_i32 : BitVec 32 := 7#32
  let arg2 : BitVec 32 := BitVec.ofNat 32 (i 2).val
  let v0 : BitVec 32 := Scalar.subi c7_i32 arg2
  let c512_i32_496 : BitVec 32 := 512#32
  let v951 : BitVec 32 := Scalar.muli v0 c512_i32_496
  let v952 : BitVec 32 := v951
  let v1007 : Index := Scalar.indexCast v952
  let c128_526 : Index := 128#32
  ![v1007.toNat, 128]
def k0_mult34 (i : grid0.Coords) : BitVec 32 :=
  let arg2 : BitVec 32 := BitVec.ofNat 32 (i 2).val
  let c512_i32_541 : BitVec 32 := 512#32
  let v1025 : BitVec 32 := Scalar.muli arg2 c512_i32_541
  v1025
def k0_mult35 (i : grid0.Coords) : BitVec 32 :=
  let c7_i32 : BitVec 32 := 7#32
  let arg2 : BitVec 32 := BitVec.ofNat 32 (i 2).val
  let v0 : BitVec 32 := Scalar.subi c7_i32 arg2
  let c512_i32_552 : BitVec 32 := 512#32
  let v1043 : BitVec 32 := Scalar.muli v0 c512_i32_552
  v1043
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FlashIdeal.lean ====
variable {F : FTy → Type} [FloatOps F] [Named F]
def κ : String → Option EReal := fun
  | "mask" => some ⊥
  | _ => none
-- ==== AttentionIdeal.lean ====
abbrev S8x4096x8x192 : Shape := ⟨4, ![8, 4096, 8, 192]⟩
abbrev S8x4096x8x128 : Shape := ⟨4, ![8, 4096, 8, 128]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S4096, .i32⟩
  | .hbm, ⟨4, _⟩ => ⟨S8x8x4096x4096, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x1x4096x4096, .i1⟩
  | .hbm, ⟨15, _⟩ => ⟨S_, .f32⟩
  | .hbm, ⟨16, _⟩ => ⟨S_, .f32⟩
  | .hbm, ⟨17, _⟩ => ⟨S8x8x4096x4096, .i1⟩
  | .hbm, ⟨18, _⟩ => ⟨S8x8x4096x4096, .f32⟩
  | .hbm, ⟨19, _⟩ => ⟨S8x8x4096x4096, .f32⟩
  | .hbm, ⟨20, _⟩ => ⟨S_, .f32⟩
  | .hbm, ⟨21, _⟩ => ⟨S8x8x4096, .f32⟩
  | .hbm, ⟨22, _⟩ => ⟨S_, .f32⟩
  | .hbm, ⟨23, _⟩ => ⟨S8x8x4096, .f32⟩
  | .hbm, ⟨24, _⟩ => ⟨S8x8x4096, .f32⟩
  | .hbm, ⟨25, _⟩ => ⟨S8x8x4096x1, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S8x8x4096, .f32⟩
  | .hbm, ⟨31, _⟩ => ⟨S8x8x4096x1, .f32⟩
  | .hbm, ⟨32, _⟩ => ⟨S8x8x4096x4096, .f32⟩
  | .hbm, ⟨33, _⟩ => ⟨S8x8x4096x4096, .f32⟩
  | .hbm, ⟨34, _⟩ => ⟨S8x8x128x4096, .f32⟩
  | .hbm, ⟨35, _⟩ => ⟨S8x4096x8x128, .f32⟩
  | .hbm, ⟨36, _⟩ => ⟨S32768x1024, .f32⟩
  | .hbm, ⟨37, _⟩ => ⟨S32768x1024, .bf16⟩
  | _, _ => ⟨S8x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MixFfn.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S32768x1024 : Shape := ⟨2, ![32768, 1024]⟩
abbrev S1x1024 : Shape := ⟨2, ![1, 1024]⟩
abbrev S1x1x1x1024 : Shape := ⟨4, ![1, 1, 1, 1024]⟩
abbrev S1024x1 : Shape := ⟨2, ![1024, 1]⟩
abbrev S1024x256 : Shape := ⟨2, ![1024, 256]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1024, .f32⟩
  | .hbm, ⟨7, _⟩ => ⟨S32768x1024, .f32⟩
  | .hbm, ⟨8, _⟩ => ⟨S8x4096x1024, .bf16⟩
  | .hbm, ⟨9, _⟩ => ⟨S32768x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1024x1024, .bf16⟩
  | .hbm, ⟨14, _⟩ => ⟨S1x1024, .f32⟩
  | .hbm, ⟨15, _⟩ => ⟨S1x1x1x1024, .f32⟩
  | .hbm, ⟨16, _⟩ => ⟨S1x1x1x1024, .f32⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFfnIdeal.lean ====
variable {F : FTy → Type} [FloatOps F] [Named F]
def κ : String → Option EReal := fun
  | "log2e" => some ((-((Real.log 2)⁻¹) : ℝ) : EReal)
  | _ => none
-- ==== MixFfnRefIdeal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Ffn.lean ====
abbrev S8x4096x1024 : Shape := ⟨3, ![8, 4096, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S32768x1024 : Shape := ⟨2, ![32768, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S1x1x1x1024 : Shape := ⟨4, ![1, 1, 1, 1024]⟩
abbrev S1024x1024 : Shape := ⟨2, ![1024, 1024]⟩
abbrev S1x1x32x2816 : Shape := ⟨4, ![1, 1, 32, 2816]⟩
abbrev S1x1x128x1024 : Shape := ⟨4, ![1, 1, 128, 1024]⟩
abbrev S32x2816 : Shape := ⟨2, ![32, 2816]⟩
abbrev S128x1024 : Shape := ⟨2, ![128, 1024]⟩
abbrev S1024x1 : Shape := ⟨2, ![1024, 1]⟩
abbrev S1024x256 : Shape := ⟨2, ![1024, 256]⟩

abbrev nBuf : Space → Nat
  | .hbm => 25
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S4x3x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S32768x1024, .f32⟩
  | .hbm, ⟨6, _⟩ => ⟨S1x1x1024x2816, .f32⟩
  | .hbm, ⟨7, _⟩ => ⟨S1024x2816, .f32⟩
  | .hbm, ⟨8, _⟩ => ⟨S1024x2816, .bf16⟩
  | .hbm, ⟨9, _⟩ => ⟨S1x1x1024x2816, .f32⟩
  | .hbm, ⟨10, _⟩ => ⟨S1024x2816, .f32⟩
  | .hbm, ⟨11, _⟩ => ⟨S1024x2816, .bf16⟩
  | .hbm, ⟨12, _⟩ => ⟨S1x1x2816x1024, .f32⟩
  | .hbm, ⟨13, _⟩ => ⟨S2816x1024, .f32⟩
  | .hbm, ⟨14, _⟩ => ⟨S2816x1024, .bf16⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1x1024, .f32⟩
  | .hbm, ⟨19, _⟩ => ⟨S1x1x1x1024, .f32⟩
  | .hbm, ⟨20, _⟩ => ⟨S1x1024, .f32⟩
  | .hbm, ⟨21, _⟩ => ⟨S32768x1024, .f32⟩
  | .hbm, ⟨22, _⟩ => ⟨S1024x2816, .bf16⟩
  | .hbm, ⟨23, _⟩ => ⟨S1024x2816, .bf16⟩
  | .hbm, ⟨24, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1x32x2816, .f32⟩
  | .local _ .vmem, ⟨7, _⟩ => ⟨S1x1x32x2816, .f32⟩
  | .local _ .vmem, ⟨8, _⟩ => ⟨S1x1x32x2816, .f32⟩
  | .local _ .vmem, ⟨9, _⟩ => ⟨S1x1x32x2816, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1024x1024, .f32⟩
  | .local _ .vmem, ⟨13, _⟩ => ⟨S1024x1024, .f32⟩
  | .local _ .vmem, ⟨14, _⟩ => ⟨S32x2816, .bf16⟩
  | .local _ .vmem, ⟨15, _⟩ => ⟨S32x2816, .bf16⟩
  | .local _ .vmem, ⟨16, _⟩ => ⟨S32x2816, .bf16⟩
  | .local _ .vmem, ⟨17, _⟩ => ⟨S32x2816, .bf16⟩
  | .local _ .vmem, ⟨18, _⟩ => ⟨S128x1024, .bf16⟩
  | .local _ .vmem, ⟨19, _⟩ => ⟨S128x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_7 (i : grid0.Coords) : Fin 4 → Nat :=
  let arg0 : BitVec 32 := BitVec.ofNat 32 (i 0).val
  let c21_i32 : BitVec 32 := 21#32
  let v0 : BitVec 32 := Scalar.minsi arg0 c21_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x32x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnIdeal.lean ====
variable {F : FTy → Type} [FloatOps F] [Named F]
def κ : String → Option EReal := fun
  | "log2e" => some ((-((Real.log 2)⁻¹) : ℝ) : EReal)
  | _ => none
-- ==== FfnRefIdeal.lean ====
abbrev S8x4096x1024 : Shape := ⟨3, ![8, 4096, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x3x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1x1024x2816, .f32⟩
  | .hbm, ⟨24, _⟩ => ⟨S1024x2816, .f32⟩
  | .hbm, ⟨25, _⟩ => ⟨S1x1x1024x2816, .f32⟩
  | .hbm, ⟨26, _⟩ => ⟨S1024x2816, .f32⟩
  | .hbm, ⟨27, _⟩ => ⟨S1x1x2816x1024, .f32⟩
  | .hbm, ⟨28, _⟩ => ⟨S2816x1024, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S32768x1024, .f32⟩
  | .hbm, ⟨47, _⟩ => ⟨S1x1x1024x2816, .f32⟩
  | .hbm, ⟨48, _⟩ => ⟨S1024x2816, .f32⟩
  | .hbm, ⟨49, _⟩ => ⟨S1024x2816, .bf16⟩
  | .hbm, ⟨50, _⟩ => ⟨S1x1x1024x2816, .f32⟩
  | .hbm, ⟨51, _⟩ => ⟨S1024x2816, .f32⟩
  | .hbm, ⟨52, _⟩ => ⟨S1024x2816, .bf16⟩
  | .hbm, ⟨53, _⟩ => ⟨S1x1x2816x1024, .f32⟩
  | .hbm, ⟨54, _⟩ => ⟨S2816x1024, .f32⟩
  | .hbm, ⟨55, _⟩ => ⟨S2816x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== RetMixFfn.lean ====
abbrev S8x4096x1024 : Shape := ⟨3, ![8, 4096, 1024]⟩
abbrev S8x4096x8x256 : Shape := ⟨4, ![8, 4096, 8, 256]⟩
abbrev S8x4096x5120 : Shape := ⟨3, ![8, 4096, 5120]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S2x1024x6144 : Shape := ⟨3, ![2, 1024, 6144]⟩
abbrev S2x8x256 : Shape := ⟨3, ![2, 8, 256]⟩
abbrev S2x2048x1024 : Shape := ⟨3, ![2, 2048, 1024]⟩
abbrev S32768x1024 : Shape := ⟨2, ![32768, 1024]⟩
abbrev S32768x2048 : Shape := ⟨2, ![32768, 2048]⟩
abbrev S32768x5120 : Shape := ⟨2, ![32768, 5120]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x8x256 : Shape := ⟨3, ![1, 8, 256]⟩
abbrev S8x256 : Shape := ⟨2, ![8, 256]⟩
abbrev S1x2048 : Shape := ⟨2, ![1, 2048]⟩
abbrev S1x1x1x2048 : Shape := ⟨4, ![1, 1, 1, 2048]⟩
abbrev S1x2048x1024 : Shape := ⟨3, ![1, 2048, 1024]⟩
abbrev S2048x1024 : Shape := ⟨2, ![2048, 1024]⟩
abbrev S1x1x1024 : Shape := ⟨3, ![1, 1, 1024]⟩
abbrev S1024 : Shape := ⟨1, ![1024]⟩
abbrev S1x1024 : Shape := ⟨2, ![1, 1024]⟩
abbrev S1x1x1x1024 : Shape := ⟨4, ![1, 1, 1, 1024]⟩
abbrev S1024x6144 : Shape := ⟨2, ![1024, 6144]⟩
abbrev S512x1024 : Shape := ⟨2, ![512, 1024]⟩
abbrev S512x2048 : Shape := ⟨2, ![512, 2048]⟩
abbrev S1x1x16x2816 : Shape := ⟨4, ![1, 1, 16, 2816]⟩
abbrev S1x1x64x1024 : Shape := ⟨4, ![1, 1, 64, 1024]⟩
abbrev S1x16x6144 : Shape := ⟨3, ![1, 16, 6144]⟩
abbrev S1x32x1024 : Shape := ⟨3, ![1, 32, 1024]⟩
abbrev S16x2816 : Shape := ⟨2, ![16, 2816]⟩
abbrev S64x1024 : Shape := ⟨2, ![64, 1024]⟩
abbrev S16x6144 : Shape := ⟨2, ![16, 6144]⟩
abbrev S32x1024 : Shape := ⟨2, ![32, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1024x256 : Shape := ⟨2, ![1024, 256]⟩
abbrev S512x2816 : Shape := ⟨2, ![512, 2816]⟩

abbrev nBuf : Space → Nat
  | .hbm => 45
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x256, .f32⟩
  | .hbm, ⟨2, _⟩ => ⟨S8x4096x5120, .f32⟩
  | .hbm, ⟨3, _⟩ => ⟨S4x3x1024, .f32⟩
  | .hbm, ⟨4, _⟩ => ⟨S4x2x1024x2816, .f32⟩
  | .hbm, ⟨5, _⟩ => ⟨S4x2x1024x2816, .f32⟩
  | .hbm, ⟨6, _⟩ => ⟨S4x2x2816x1024, .f32⟩
  | .hbm, ⟨7, _⟩ => ⟨S2x1024x6144, .f32⟩
  | .hbm, ⟨8, _⟩ => ⟨S2x8x256, .f32⟩
  | .hbm, ⟨9, _⟩ => ⟨S2x2048x1024, .f32⟩
  | .hbm, ⟨10, _⟩ => ⟨S32768x1024, .f32⟩
  | .hbm, ⟨11, _⟩ => ⟨S8x4096x8x256, .bf16⟩
  | .hbm, ⟨12, _⟩ => ⟨S32768x2048, .bf16⟩
  | .hbm, ⟨13, _⟩ => ⟨S8x4096x5120, .bf16⟩
  | .hbm, ⟨14, _⟩ => ⟨S32768x5120, .bf16⟩
  | .hbm, ⟨15, _⟩ => ⟨S1x1x1024x2816, .f32⟩
  | .hbm, ⟨16, _⟩ => ⟨S1024x2816, .f32⟩
  | .hbm, ⟨17, _⟩ => ⟨S1024x2816, .bf16⟩
  | .hbm, ⟨18, _⟩ => ⟨S1x1x1024x2816, .f32⟩
  | .hbm, ⟨19, _⟩ => ⟨S1024x2816, .f32⟩
  | .hbm, ⟨20, _⟩ => ⟨S1024x2816, .bf16⟩
  | .hbm, ⟨21, _⟩ => ⟨S1x1x2816x1024, .f32⟩
  | .hbm, ⟨22, _⟩ => ⟨S2816x1024, .f32⟩
  | .hbm, ⟨23, _⟩ => ⟨S2816x1024, .bf16⟩
  | .hbm, ⟨24, _⟩ => ⟨S1x8x256, .f32⟩
  | .hbm, ⟨25, _⟩ => ⟨S8x256, .f32⟩
  | .hbm, ⟨26, _⟩ => ⟨S1x2048, .f32⟩
  | .hbm, ⟨27, _⟩ => ⟨S1x1x1x2048, .f32⟩
  | .hbm, ⟨28, _⟩ => ⟨S1x1x1x2048, .f32⟩
  | .hbm, ⟨29, _⟩ => ⟨S1x2048, .f32⟩
  | .hbm, ⟨30, _⟩ => ⟨S1x2048x1024, .f32⟩
  | .hbm, ⟨31, _⟩ => ⟨S2048x1024, .f32⟩
  | .hbm, ⟨32, _⟩ => ⟨S2048x1024, .bf16⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S1x1x1x1024, .f32⟩
  | .hbm, ⟨37, _⟩ => ⟨S1x1x1x1024, .f32⟩
  | .hbm, ⟨38, _⟩ => ⟨S1x1024, .f32⟩
  | .hbm, ⟨39, _⟩ => ⟨S32768x1024, .f32⟩
  | .hbm, ⟨40, _⟩ => ⟨S1024x2816, .bf16⟩
  | .hbm, ⟨41, _⟩ => ⟨S1024x2816, .bf16⟩
  | .hbm, ⟨42, _⟩ => ⟨S2816x1024, .bf16⟩
  | .hbm, ⟨43, _⟩ => ⟨S1024x6144, .bf16⟩
  | .hbm, ⟨44, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1x16x2816, .f32⟩
  | .local _ .vmem, ⟨13, _⟩ => ⟨S1x1x16x2816, .f32⟩
  | .local _ .vmem, ⟨14, _⟩ => ⟨S1x1x16x2816, .f32⟩
  | .local _ .vmem, ⟨15, _⟩ => ⟨S1x1x16x2816, .f32⟩
  | .local _ .vmem, ⟨16, _⟩ => ⟨S1x1x64x1024, .f32⟩
  | .local _ .vmem, ⟨17, _⟩ => ⟨S1x1x64x1024, .f32⟩
  | .local _ .vmem, ⟨18, _⟩ => ⟨S1x16x6144, .f32⟩
  | .local _ .vmem, ⟨19, _⟩ => ⟨S1x16x6144, .f32⟩
  | .local _ .vmem, ⟨20, _⟩ => ⟨S1x32x1024, .f32⟩
  | .local _ .vmem, ⟨21, _⟩ => ⟨S1x32x1024, .f32⟩
  | .local _ .vmem, ⟨22, _⟩ => ⟨S512x1024, .f32⟩
  | .local _ .vmem, ⟨23, _⟩ => ⟨S512x1024, .f32⟩
  | .local _ .vmem, ⟨24, _⟩ => ⟨S16x2816, .bf16⟩
  | .local _ .vmem, ⟨25, _⟩ => ⟨S16x2816, .bf16⟩
  | .local _ .vmem, ⟨26, _⟩ => ⟨S16x2816, .bf16⟩
  | .local _ .vmem, ⟨27, _⟩ => ⟨S16x2816, .bf16⟩
  | .local _ .vmem, ⟨28, _⟩ => ⟨S64x1024, .bf16⟩
  | .local _ .vmem, ⟨29, _⟩ => ⟨S64x1024, .bf16⟩
  | .local _ .vmem, ⟨30, _⟩ => ⟨S16x6144, .bf16⟩
  | .local _ .vmem, ⟨31, _⟩ => ⟨S16x6144, .bf16⟩
  | .local _ .vmem, ⟨32, _⟩ => ⟨S32x1024, .bf16⟩
  | .local _ .vmem, ⟨33, _⟩ => ⟨S32x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_10 (i : grid0.Coords) : Fin 4 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_11 (i : grid0.Coords) : Fin 4 → Nat :=
  let arg0 : BitVec 32 := BitVec.ofNat 32 (i 0).val
  let c43_i32 : BitVec 32 := 43#32
  let v0 : BitVec 32 := Scalar.minsi arg0 c43_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  ![c1_i32.toNat, v0.toNat, c0_i32.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  ![c1_i32.toNat, v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x16x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x16x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x6144 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x6144 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RetMixFfnIdeal.lean ====
variable {F : FTy → Type} [FloatOps F] [Named F]
def κ : String → Option EReal := fun
  | "log2e" => some ((-((Real.log 2)⁻¹) : ℝ) : EReal)
  | _ => none
-- ==== RetMixFfnRefIdeal.lean ====
abbrev S8x4096x1024 : Shape := ⟨3, ![8, 4096, 1024]⟩
abbrev S8x4096x8x256 : Shape := ⟨4, ![8, 4096, 8, 256]⟩
abbrev S8x4096x5120 : Shape := ⟨3, ![8, 4096, 5120]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S2x1024x6144 : Shape := ⟨3, ![2, 1024, 6144]⟩
abbrev S2x8x256 : Shape := ⟨3, ![2, 8, 256]⟩
abbrev S2x2048x1024 : Shape := ⟨3, ![2, 2048, 1024]⟩
abbrev S8x4096x2048 : Shape := ⟨3, ![8, 4096, 2048]⟩
abbrev S1x8x256 : Shape := ⟨3, ![1, 8, 256]⟩
abbrev S8x256 : Shape := ⟨2, ![8, 256]⟩
abbrev S_ : Shape := ⟨0, ![]⟩
abbrev S8x4096x8 : Shape := ⟨3, ![8, 4096, 8]⟩
abbrev S8x4096x8x1 : Shape := ⟨4, ![8, 4096, 8, 1]⟩
abbrev S1x1x8x256 : Shape := ⟨4, ![1, 1, 8, 256]⟩
abbrev S1x2048x1024 : Shape := ⟨3, ![1, 2048, 1024]⟩
abbrev S2048x1024 : Shape := ⟨2, ![2048, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x4096x2816 : Shape := ⟨3, ![8, 4096, 2816]⟩
abbrev S32768x1024 : Shape := ⟨2, ![32768, 1024]⟩
abbrev S1x1024x6144 : Shape := ⟨3, ![1, 1024, 6144]⟩
abbrev S1024x6144 : Shape := ⟨2, ![1024, 6144]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x256, .f32⟩
  | .hbm, ⟨2, _⟩ => ⟨S8x4096x5120, .f32⟩
  | .hbm, ⟨3, _⟩ => ⟨S4x3x1024, .f32⟩
  | .hbm, ⟨4, _⟩ => ⟨S4x2x1024x2816, .f32⟩
  | .hbm, ⟨5, _⟩ => ⟨S4x2x1024x2816, .f32⟩
  | .hbm, ⟨6, _⟩ => ⟨S4x2x2816x1024, .f32⟩
  | .hbm, ⟨7, _⟩ => ⟨S2x1024x6144, .f32⟩
  | .hbm, ⟨8, _⟩ => ⟨S2x8x256, .f32⟩
  | .hbm, ⟨9, _⟩ => ⟨S2x2048x1024, .f32⟩
  | .hbm, ⟨10, _⟩ => ⟨S8x4096x2048, .f32⟩
  | .hbm, ⟨11, _⟩ => ⟨S1x8x256, .f32⟩
  | .hbm, ⟨12, _⟩ => ⟨S8x256, .f32⟩
  | .hbm, ⟨13, _⟩ => ⟨S_, .f32⟩
  | .hbm, ⟨14, _⟩ => ⟨S8x4096x8, .f32⟩
  | .hbm, ⟨15, _⟩ => ⟨S8x4096x8x1, .f32⟩
  | .hbm, ⟨16, _⟩ => ⟨S_, .f32⟩
  | .hbm, ⟨17, _⟩ => ⟨S8x4096x8x1, .f32⟩
  | .hbm, ⟨18, _⟩ => ⟨S8x4096x8x1, .f32⟩
  | .hbm, ⟨19, _⟩ => ⟨S8x4096x8x256, .f32⟩
  | .hbm, ⟨20, _⟩ => ⟨S8x4096x8x256, .f32⟩
  | .hbm, ⟨21, _⟩ => ⟨S8x4096x8x256, .f32⟩
  | .hbm, ⟨22, _⟩ => ⟨S_, .f32⟩
  | .hbm, ⟨23, _⟩ => ⟨S8x4096x8, .f32⟩
  | .hbm, ⟨24, _⟩ => ⟨S8x4096x8x1, .f32⟩
  | .hbm, ⟨25, _⟩ => ⟨S_, .f32⟩
  | .hbm, ⟨26, _⟩ => ⟨S8x4096x8x1, .f32⟩
  | .hbm, ⟨27, _⟩ => ⟨S8x4096x8x1, .f32⟩
  | .hbm, ⟨28, _⟩ => ⟨S8x4096x8x256, .f32⟩
  | .hbm, ⟨29, _⟩ => ⟨S8x4096x8x256, .f32⟩
  | .hbm, ⟨30, _⟩ => ⟨S_, .f32⟩
  | .hbm, ⟨31, _⟩ => ⟨S8x4096x8x1, .f32⟩
  | .hbm, ⟨32, _⟩ => ⟨S8x4096x8x1, .f32⟩
  | .hbm, ⟨33, _⟩ => ⟨S8x4096x8x1, .f32⟩
  | .hbm, ⟨34, _⟩ => ⟨S8x4096x8x256, .f32⟩
  | .hbm, ⟨35, _⟩ => ⟨S8x4096x8x256, .f32⟩
  | .hbm, ⟨36, _⟩ => ⟨S1x1x8x256, .f32⟩
  | .hbm, ⟨37, _⟩ => ⟨S8x4096x8x256, .f32⟩
  | .hbm, ⟨38, _⟩ => ⟨S8x4096x8x256, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S1x2048x1024, .f32⟩
  | .hbm, ⟨51, _⟩ => ⟨S2048x1024, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S1x1x1024x2816, .f32⟩
  | .hbm, ⟨73, _⟩ => ⟨S1024x2816, .f32⟩
  | .hbm, ⟨74, _⟩ => ⟨S1x1x1024x2816, .f32⟩
  | .hbm, ⟨75, _⟩ => ⟨S1024x2816, .f32⟩
  | .hbm, ⟨76, _⟩ => ⟨S1x1x2816x1024, .f32⟩
  | .hbm, ⟨77, _⟩ => ⟨S2816x1024, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S_, .f32⟩
  | .hbm, ⟨82, _⟩ => ⟨S8x4096x2816, .f32⟩
  | .hbm, ⟨83, _⟩ => ⟨S8x4096x2816, .f32⟩
  | .hbm, ⟨84, _⟩ => ⟨S_, .f32⟩
  | .hbm, ⟨85, _⟩ => ⟨S8x4096x2816, .f32⟩
  | .hbm, ⟨86, _⟩ => ⟨S8x4096x2816, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S8x4096x1024, .f32⟩
  | .hbm, ⟨91, _⟩ => ⟨S_, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S32768x1024, .f32⟩
  | .hbm, ⟨96, _⟩ => ⟨S1x1x1024x2816, .f32⟩
  | .hbm, ⟨97, _⟩ => ⟨S1024x2816, .f32⟩
  | .hbm, ⟨98, _⟩ => ⟨S1024x2816, .bf16⟩
  | .hbm, ⟨99, _⟩ => ⟨S1x1x1024x2816, .f32⟩
  | .hbm, ⟨100, _⟩ => ⟨S1024x2816, .f32⟩
  | .hbm, ⟨101, _⟩ => ⟨S1024x2816, .bf16⟩
  | .hbm, ⟨102, _⟩ => ⟨S1x1x2816x1024, .f32⟩
  | .hbm, ⟨103, _⟩ => ⟨S2816x1024, .f32⟩
  | .hbm, ⟨104, _⟩ => ⟨S2816x1024, .bf16⟩
  | .hbm, ⟨105, _⟩ => ⟨S1x1024x6144, .f32⟩
  | .hbm, ⟨106, _⟩ => ⟨S1024x6144, .f32⟩
  | .hbm, ⟨107, _⟩ => ⟨S1024x6144, .bf16⟩
  | .hbm, ⟨108, _⟩ => ⟨S1x2048x1024, .f32⟩
  | .hbm, ⟨109, _⟩ => ⟨S2048x1024, .f32⟩
  | .hbm, ⟨110, _⟩ => ⟨S2048x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== RetProj.lean ====
abbrev S8x4096x1024 : Shape := ⟨3, ![8, 4096, 1024]⟩
abbrev S8x4096 : Shape := ⟨2, ![8, 4096]⟩
abbrev S4x3x1024 : Shape := ⟨3, ![4, 3, 1024]⟩
abbrev S2x1024x6144 : Shape := ⟨3, ![2, 1024, 6144]⟩
abbrev S32768x1024 : Shape := ⟨2, ![32768, 1024]⟩
abbrev S64 : Shape := ⟨1, ![64]⟩
abbrev S_ : Shape := ⟨0, ![]⟩
abbrev S8x4096x1 : Shape := ⟨3, ![8, 4096, 1]⟩
abbrev S1x1x64 : Shape := ⟨3, ![1, 1, 64]⟩
abbrev S8x4096x64 : Shape := ⟨3, ![8, 4096, 64]⟩
abbrev S8x4096x128 : Shape := ⟨3, ![8, 4096, 128]⟩
abbrev S32768x128 : Shape := ⟨2, ![32768, 128]⟩
abbrev S1x1x1024 : Shape := ⟨3, ![1, 1, 1024]⟩
abbrev S1024 : Shape := ⟨1, ![1024]⟩
abbrev S1x1024 : Shape := ⟨2, ![1, 1024]⟩
abbrev S1x1x1x1024 : Shape := ⟨4, ![1, 1, 1, 1024]⟩
abbrev S1x1024x6144 : Shape := ⟨3, ![1, 1024, 6144]⟩
abbrev S1024x6144 : Shape := ⟨2, ![1024, 6144]⟩
abbrev S32768x5120 : Shape := ⟨2, ![32768, 5120]⟩
abbrev S128x1024x256 : Shape := ⟨3, ![128, 1024, 256]⟩
abbrev S512x1024 : Shape := ⟨2, ![512, 1024]⟩
abbrev S512x128 : Shape := ⟨2, ![512, 128]⟩
abbrev S512x5120 : Shape := ⟨2, ![512, 5120]⟩
abbrev S2x1024x256 : Shape := ⟨3, ![2, 1024, 256]⟩
abbrev S512 : Shape := ⟨1, ![512]⟩
abbrev S512x1 : Shape := ⟨2, ![512, 1]⟩
abbrev S1024x1024 : Shape := ⟨2, ![1024, 1024]⟩
abbrev S256x128 : Shape := ⟨2, ![256, 128]⟩
abbrev S128x256 : Shape := ⟨2, ![128, 256]⟩
abbrev S1x128x256 : Shape := ⟨3, ![1, 128, 256]⟩
abbrev S1024x2048 : Shape := ⟨2, ![1024, 2048]⟩
abbrev S512x2048 : Shape := ⟨2, ![512, 2048]⟩

abbrev nBuf : Space → Nat
  | .hbm => 43
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4x3x1024, .f32⟩
  | .hbm, ⟨3, _⟩ => ⟨S2x1024x6144, .f32⟩
  | .hbm, ⟨4, _⟩ => ⟨S32768x1024, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8x4096, .f32⟩
  | .hbm, ⟨20, _⟩ => ⟨S8x4096x1, .f32⟩
  | .hbm, ⟨21, _⟩ => ⟨S1x1x64, .f32⟩
  | .hbm, ⟨22, _⟩ => ⟨S8x4096x64, .f32⟩
  | .hbm, ⟨23, _⟩ => ⟨S8x4096x64, .f32⟩
  | .hbm, ⟨24, _⟩ => ⟨S8x4096x64, .f32⟩
  | .hbm, ⟨25, _⟩ => ⟨S8x4096x64, .f32⟩
  | .hbm, ⟨26, _⟩ => ⟨S8x4096x64, .f32⟩
  | .hbm, ⟨27, _⟩ => ⟨S8x4096x128, .f32⟩
  | .hbm, ⟨28, _⟩ => ⟨S32768x128, .f32⟩
  | .hbm, ⟨29, _⟩ => ⟨S8x4096x64, .f32⟩
  | .hbm, ⟨30, _⟩ => ⟨S8x4096x128, .f32⟩
  | .hbm, ⟨31, _⟩ => ⟨S32768x128, .f32⟩
  | .hbm, ⟨32, _⟩ => ⟨S1x1x1024, .f32⟩
  | .hbm, ⟨33, _⟩ => ⟨S1024, .f32⟩
  | .hbm, ⟨34, _⟩ => ⟨S1x1024, .f32⟩
  | .hbm, ⟨35, _⟩ => ⟨S1x1x1x1024, .f32⟩
  | .hbm, ⟨36, _⟩ => ⟨S1x1x1x1024, .f32⟩
  | .hbm, ⟨37, _⟩ => ⟨S1x1024, .f32⟩
  | .hbm, ⟨38, _⟩ => ⟨S1x1024x6144, .f32⟩
  | .hbm, ⟨39, _⟩ => ⟨S1024x6144, .f32⟩
  | .hbm, ⟨40, _⟩ => ⟨S1024x6144, .bf16⟩
  | .hbm, ⟨41, _⟩ => ⟨S32768x5120, .bf16⟩
  | .hbm, ⟨42, _⟩ => ⟨S128x1024x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x5120, .bf16⟩
  | .local _ .vmem, ⟨9, _⟩ => ⟨S512x5120, .bf16⟩
  | .local _ .vmem, ⟨10, _⟩ => ⟨S2x1024x256, .bf16⟩
  | .local _ .vmem, ⟨11, _⟩ => ⟨S2x1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetProjRefIdeal.lean ====
abbrev S8x4096x1024 : Shape := ⟨3, ![8, 4096, 1024]⟩
abbrev S8x4096 : Shape := ⟨2, ![8, 4096]⟩
abbrev S4x3x1024 : Shape := ⟨3, ![4, 3, 1024]⟩
abbrev S2x1024x6144 : Shape := ⟨3, ![2, 1024, 6144]⟩
abbrev S1x1x1024 : Shape := ⟨3, ![1, 1, 1024]⟩
abbrev S1024 : Shape := ⟨1, ![1024]⟩
abbrev S_ : Shape := ⟨0, ![]⟩
abbrev S8x4096x1 : Shape := ⟨3, ![8, 4096, 1]⟩
abbrev S1x1024x6144 : Shape := ⟨3, ![1, 1024, 6144]⟩
abbrev S1024x6144 : Shape := ⟨2, ![1024, 6144]⟩
abbrev S8x4096x6144 : Shape := ⟨3, ![8, 4096, 6144]⟩
abbrev S8x4096x2048 : Shape := ⟨3, ![8, 4096, 2048]⟩
abbrev S8x4096x8x128 : Shape := ⟨4, ![8, 4096, 8, 128]⟩
abbrev S64 : Shape := ⟨1, ![64]⟩
abbrev S1x1x64 : Shape := ⟨3, ![1, 1, 64]⟩
abbrev S8x4096x64 : Shape := ⟨3, ![8, 4096, 64]⟩
abbrev S8x4096x1x64 : Shape := ⟨4, ![8, 4096, 1, 64]⟩
abbrev S8x4096x8x64 : Shape := ⟨4, ![8, 4096, 8, 64]⟩
abbrev S8x4096x5120 : Shape := ⟨3, ![8, 4096, 5120]⟩
abbrev S32768x5120 : Shape := ⟨2, ![32768, 5120]⟩
abbrev S128x256x1024 : Shape := ⟨3, ![128, 256, 1024]⟩
abbrev S128x1024x256 : Shape := ⟨3, ![128, 1024, 256]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4x3x1024, .f32⟩
  | .hbm, ⟨3, _⟩ => ⟨S2x1024x6144, .f32⟩
  | .hbm, ⟨4, _⟩ => ⟨S1x1x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1x1024x6144, .f32⟩
  | .hbm, ⟨23, _⟩ => ⟨S1024x6144, .f32⟩
  | .hbm, ⟨24, _⟩ => ⟨S8x4096x6144, .f32⟩
  | .hbm, ⟨25, _⟩ => ⟨S8x4096x1024, .f32⟩
  | .hbm, ⟨26, _⟩ => ⟨S8x4096x1024, .f32⟩
  | .hbm, ⟨27, _⟩ => ⟨S8x4096x2048, .f32⟩
  | .hbm, ⟨28, _⟩ => ⟨S8x4096x2048, .f32⟩
  | .hbm, ⟨29, _⟩ => ⟨S8x4096x8x128, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S8x4096, .f32⟩
  | .hbm, ⟨45, _⟩ => ⟨S8x4096x1, .f32⟩
  | .hbm, ⟨46, _⟩ => ⟨S1x1x64, .f32⟩
  | .hbm, ⟨47, _⟩ => ⟨S8x4096x64, .f32⟩
  | .hbm, ⟨48, _⟩ => ⟨S8x4096x64, .f32⟩
  | .hbm, ⟨49, _⟩ => ⟨S8x4096x64, .f32⟩
  | .hbm, ⟨50, _⟩ => ⟨S8x4096x64, .f32⟩
  | .hbm, ⟨51, _⟩ => ⟨S8x4096x1x64, .f32⟩
  | .hbm, ⟨52, _⟩ => ⟨S8x4096x64, .f32⟩
  | .hbm, ⟨53, _⟩ => ⟨S8x4096x1x64, .f32⟩
  | .hbm, ⟨54, _⟩ => ⟨S8x4096x8x64, .f32⟩
  | .hbm, ⟨55, _⟩ => ⟨S8x4096x8x64, .f32⟩
  | .hbm, ⟨56, _⟩ => ⟨S8x4096x8x64, .f32⟩
  | .hbm, ⟨57, _⟩ => ⟨S8x4096x8x64, .f32⟩
  | .hbm, ⟨58, _⟩ => ⟨S8x4096x8x64, .f32⟩
  | .hbm, ⟨59, _⟩ => ⟨S8x4096x8x64, .f32⟩
  | .hbm, ⟨60, _⟩ => ⟨S8x4096x8x64, .f32⟩
  | .hbm, ⟨61, _⟩ => ⟨S8x4096x8x64, .f32⟩
  | .hbm, ⟨62, _⟩ => ⟨S8x4096x8x64, .f32⟩
  | .hbm, ⟨63, _⟩ => ⟨S8x4096x8x64, .f32⟩
  | .hbm, ⟨64, _⟩ => ⟨S8x4096x8x64, .f32⟩
  | .hbm, ⟨65, _⟩ => ⟨S8x4096x8x64, .f32⟩
  | .hbm, ⟨66, _⟩ => ⟨S8x4096x8x128, .f32⟩
  | .hbm, ⟨67, _⟩ => ⟨S8x4096x8x128, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S8x4096, .f32⟩
  | .hbm, ⟨83, _⟩ => ⟨S8x4096x1, .f32⟩
  | .hbm, ⟨84, _⟩ => ⟨S1x1x64, .f32⟩
  | .hbm, ⟨85, _⟩ => ⟨S8x4096x64, .f32⟩
  | .hbm, ⟨86, _⟩ => ⟨S8x4096x64, .f32⟩
  | .hbm, ⟨87, _⟩ => ⟨S8x4096x64, .f32⟩
  | .hbm, ⟨88, _⟩ => ⟨S8x4096x64, .f32⟩
  | .hbm, ⟨89, _⟩ => ⟨S8x4096x1x64, .f32⟩
  | .hbm, ⟨90, _⟩ => ⟨S8x4096x64, .f32⟩
  | .hbm, ⟨91, _⟩ => ⟨S8x4096x1x64, .f32⟩
  | .hbm, ⟨92, _⟩ => ⟨S8x4096x8x64, .f32⟩
  | .hbm, ⟨93, _⟩ => ⟨S8x4096x8x64, .f32⟩
  | .hbm, ⟨94, _⟩ => ⟨S8x4096x8x64, .f32⟩
  | .hbm, ⟨95, _⟩ => ⟨S8x4096x8x64, .f32⟩
  | .hbm, ⟨96, _⟩ => ⟨S8x4096x8x64, .f32⟩
  | .hbm, ⟨97, _⟩ => ⟨S8x4096x8x64, .f32⟩
  | .hbm, ⟨98, _⟩ => ⟨S8x4096x8x64, .f32⟩
  | .hbm, ⟨99, _⟩ => ⟨S8x4096x8x64, .f32⟩
  | .hbm, ⟨100, _⟩ => ⟨S8x4096x8x64, .f32⟩
  | .hbm, ⟨101, _⟩ => ⟨S8x4096x8x64, .f32⟩
  | .hbm, ⟨102, _⟩ => ⟨S8x4096x8x64, .f32⟩
  | .hbm, ⟨103, _⟩ => ⟨S8x4096x8x64, .f32⟩
  | .hbm, ⟨104, _⟩ => ⟨S8x4096x8x128, .f32⟩
  | .hbm, ⟨105, _⟩ => ⟨S_, .f32⟩
  | .hbm, ⟨106, _⟩ => ⟨S8x4096x8x128, .f32⟩
  | .hbm, ⟨107, _⟩ => ⟨S8x4096x8x128, .f32⟩
  | .hbm, ⟨108, _⟩ => ⟨S8x4096x1024, .f32⟩
  | .hbm, ⟨109, _⟩ => ⟨S8x4096x5120, .f32⟩
  | .hbm, ⟨110, _⟩ => ⟨S32768x5120, .f32⟩
  | .hbm, ⟨111, _⟩ => ⟨S128x256x1024, .f32⟩
  | .hbm, ⟨112, _⟩ => ⟨S128x1024x256, .f32⟩
  | .hbm, ⟨113, _⟩ => ⟨S32768x5120, .bf16⟩
  | .hbm, ⟨114, _⟩ => ⟨S128x1024x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩

abbrev nD : Nat := 1
abbrev τ : Topo := Topo.v7x

variable {F : FTy → Type} [FloatOps F]
-- ==== MlaQ.lean ====
abbrev S8x4096x1024 : Shape := ⟨3, ![8, 4096, 1024]⟩
abbrev S8x4096 : Shape := ⟨2, ![8, 4096]⟩
abbrev S4x3x1024 : Shape := ⟨3, ![4, 3, 1024]⟩
abbrev S2x1024x384 : Shape := ⟨3, ![2, 1024, 384]⟩
abbrev S2x384 : Shape := ⟨2, ![2, 384]⟩
abbrev S2x384x1536 : Shape := ⟨3, ![2, 384, 1536]⟩
abbrev S2x128 : Shape := ⟨2, ![2, 128]⟩
abbrev S2x64 : Shape := ⟨2, ![2, 64]⟩
abbrev S32768x1024 : Shape := ⟨2, ![32768, 1024]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x128 : Shape := ⟨3, ![8, 4096, 128]⟩
abbrev S32768x128 : Shape := ⟨2, ![32768, 128]⟩
abbrev S1x384x1536 : Shape := ⟨3, ![1, 384, 1536]⟩
abbrev S384x1536 : Shape := ⟨2, ![384, 1536]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S1x1x1024 : Shape := ⟨3, ![1, 1, 1024]⟩
abbrev S1024 : Shape := ⟨1, ![1024]⟩
abbrev S1x1024 : Shape := ⟨2, ![1, 1024]⟩
abbrev S1x1x1x1024 : Shape := ⟨4, ![1, 1, 1, 1024]⟩
abbrev S1x1024x384 : Shape := ⟨3, ![1, 1024, 384]⟩
abbrev S1024x384 : Shape := ⟨2, ![1024, 384]⟩
abbrev S1x384 : Shape := ⟨2, ![1, 384]⟩
abbrev S384 : Shape := ⟨1, ![384]⟩
abbrev S1x1x1x384 : Shape := ⟨4, ![1, 1, 1, 384]⟩
abbrev S1x128 : Shape := ⟨2, ![1, 128]⟩
abbrev S128 : Shape := ⟨1, ![128]⟩
abbrev S1x1x1x128 : Shape := ⟨4, ![1, 1, 1, 128]⟩
abbrev S1x1x2x128 : Shape := ⟨4, ![1, 1, 2, 128]⟩
abbrev S1x256 : Shape := ⟨2, ![1, 256]⟩
abbrev S1x64 : Shape := ⟨2, ![1, 64]⟩
abbrev S64 : Shape := ⟨1, ![64]⟩
abbrev S1x1x1x64 : Shape := ⟨4, ![1, 1, 1, 64]⟩
abbrev S1x1x4x64 : Shape := ⟨4, ![1, 1, 4, 64]⟩
abbrev S32768x2048 : Shape := ⟨2, ![32768, 2048]⟩
abbrev S1024x1024 : Shape := ⟨2, ![1024, 1024]⟩
abbrev S1024x128 : Shape := ⟨2, ![1024, 128]⟩
abbrev S1024x2048 : Shape := ⟨2, ![1024, 2048]⟩
abbrev S1024x1 : Shape := ⟨2, ![1024, 1]⟩
abbrev S1024x1536 : Shape := ⟨2, ![1024, 1536]⟩
abbrev S256x256 : Shape := ⟨2, ![256, 256]⟩
abbrev S1024x256 : Shape := ⟨2, ![1024, 256]⟩

abbrev nBuf : Space → Nat
  | .hbm => 78
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4x3x1024, .f32⟩
  | .hbm, ⟨3, _⟩ => ⟨S2x1024x384, .f32⟩
  | .hbm, ⟨4, _⟩ => ⟨S2x384, .f32⟩
  | .hbm, ⟨5, _⟩ => ⟨S2x384x1536, .f32⟩
  | .hbm, ⟨6, _⟩ => ⟨S2x128, .f32⟩
  | .hbm, ⟨7, _⟩ => ⟨S2x64, .f32⟩
  | .hbm, ⟨8, _⟩ => ⟨S32768x1024, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8x4096, .f32⟩
  | .hbm, ⟨24, _⟩ => ⟨S8x4096x1, .f32⟩
  | .hbm, ⟨25, _⟩ => ⟨S1x1x32, .f32⟩
  | .hbm, ⟨26, _⟩ => ⟨S8x4096x32, .f32⟩
  | .hbm, ⟨27, _⟩ => ⟨S8x4096x32, .f32⟩
  | .hbm, ⟨28, _⟩ => ⟨S8x4096x32, .f32⟩
  | .hbm, ⟨29, _⟩ => ⟨S8x4096x32, .f32⟩
  | .hbm, ⟨30, _⟩ => ⟨S8x4096x32, .f32⟩
  | .hbm, ⟨31, _⟩ => ⟨S_, .f32⟩
  | .hbm, ⟨32, _⟩ => ⟨S8x4096x32, .f32⟩
  | .hbm, ⟨33, _⟩ => ⟨S8x4096x32, .f32⟩
  | .hbm, ⟨34, _⟩ => ⟨S8x4096x32, .f32⟩
  | .hbm, ⟨35, _⟩ => ⟨S8x4096x128, .f32⟩
  | .hbm, ⟨36, _⟩ => ⟨S32768x128, .f32⟩
  | .hbm, ⟨37, _⟩ => ⟨S8x4096x128, .f32⟩
  | .hbm, ⟨38, _⟩ => ⟨S32768x128, .f32⟩
  | .hbm, ⟨39, _⟩ => ⟨S8x4096x128, .f32⟩
  | .hbm, ⟨40, _⟩ => ⟨S32768x128, .f32⟩
  | .hbm, ⟨41, _⟩ => ⟨S1x384x1536, .f32⟩
  | .hbm, ⟨42, _⟩ => ⟨S384x1536, .f32⟩
  | .hbm, ⟨43, _⟩ => ⟨S384x8x192, .f32⟩
  | .hbm, ⟨44, _⟩ => ⟨S384x8x128, .f32⟩
  | .hbm, ⟨45, _⟩ => ⟨S384x1024, .f32⟩
  | .hbm, ⟨46, _⟩ => ⟨S384x8x64, .f32⟩
  | .hbm, ⟨47, _⟩ => ⟨S384x512, .f32⟩
  | .hbm, ⟨48, _⟩ => ⟨S384x1536, .f32⟩
  | .hbm, ⟨49, _⟩ => ⟨S1x1x1024, .f32⟩
  | .hbm, ⟨50, _⟩ => ⟨S1024, .f32⟩
  | .hbm, ⟨51, _⟩ => ⟨S1x1024, .f32⟩
  | .hbm, ⟨52, _⟩ => ⟨S1x1x1x1024, .f32⟩
  | .hbm, ⟨53, _⟩ => ⟨S1x1x1x1024, .f32⟩
  | .hbm, ⟨54, _⟩ => ⟨S1x1024, .f32⟩
  | .hbm, ⟨55, _⟩ => ⟨S1x1024x384, .f32⟩
  | .hbm, ⟨56, _⟩ => ⟨S1024x384, .f32⟩
  | .hbm, ⟨57, _⟩ => ⟨S1024x384, .bf16⟩
  | .hbm, ⟨58, _⟩ => ⟨S1x384, .f32⟩
  | .hbm, ⟨59, _⟩ => ⟨S384, .f32⟩
  | .hbm, ⟨60, _⟩ => ⟨S1x384, .f32⟩
  | .hbm, ⟨61, _⟩ => ⟨S1x1x1x384, .f32⟩
  | .hbm, ⟨62, _⟩ => ⟨S1x1x1x384, .f32⟩
  | .hbm, ⟨63, _⟩ => ⟨S1x384, .f32⟩
  | .hbm, ⟨64, _⟩ => ⟨S384x1536, .bf16⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S1x1x1x128, .f32⟩
  | .hbm, ⟨69, _⟩ => ⟨S1x1x2x128, .f32⟩
  | .hbm, ⟨70, _⟩ => ⟨S1x256, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S1x1x1x64, .f32⟩
  | .hbm, ⟨75, _⟩ => ⟨S1x1x4x64, .f32⟩
  | .hbm, ⟨76, _⟩ => ⟨S1x256, .f32⟩
  | .hbm, ⟨77, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x384, .bf16⟩
  | .local _ .vmem, ⟨4, _⟩ => ⟨S1x384, .f32⟩
  | .local _ .vmem, ⟨5, _⟩ => ⟨S384x1536, .bf16⟩
  | .local _ .vmem, ⟨6, _⟩ => ⟨S1x256, .f32⟩
  | .local _ .vmem, ⟨7, _⟩ => ⟨S1x256, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlaQIdeal.lean ====
variable {F : FTy → Type} [FloatOps F] [Named F]
def κ : String → Option EReal := fun
  | "mean384" => some ((384⁻¹ : ℝ) : EReal)
  | _ => none
-- ==== MlaQRefIdeal.lean ====
abbrev S8x4096x1024 : Shape := ⟨3, ![8, 4096, 1024]⟩
abbrev S8x4096 : Shape := ⟨2, ![8, 4096]⟩
abbrev S4x3x1024 : Shape := ⟨3, ![4, 3, 1024]⟩
abbrev S2x1024x384 : Shape := ⟨3, ![2, 1024, 384]⟩
abbrev S2x384 : Shape := ⟨2, ![2, 384]⟩
abbrev S2x384x1536 : Shape := ⟨3, ![2, 384, 1536]⟩
abbrev S2x128 : Shape := ⟨2, ![2, 128]⟩
abbrev S2x64 : Shape := ⟨2, ![2, 64]⟩
abbrev S1x1x1024 : Shape := ⟨3, ![1, 1, 1024]⟩
abbrev S1024 : Shape := ⟨1, ![1024]⟩
abbrev S_ : Shape := ⟨0, ![]⟩
abbrev S8x4096x1 : Shape := ⟨3, ![8, 4096, 1]⟩
abbrev S1x1024x384 : Shape := ⟨3, ![1, 1024, 384]⟩
abbrev S1024x384 : Shape := ⟨2, ![1024, 384]⟩
abbrev S8x4096x384 : Shape := ⟨3, ![8, 4096, 384]⟩
abbrev S1x384 : Shape := ⟨2, ![1, 384]⟩
abbrev S384 : Shape := ⟨1, ![384]⟩
abbrev S1x1x384 : Shape := ⟨3, ![1, 1, 384]⟩
abbrev S1x384x1536 : Shape := ⟨3, ![1, 384, 1536]⟩
abbrev S384x1536 : Shape := ⟨2, ![384, 1536]⟩
abbrev S8x4096x1536 : Shape := ⟨3, ![8, 4096, 1536]⟩
abbrev S8x4096x8x192 : Shape := ⟨4, ![8, 4096, 8, 192]⟩
abbrev S8x4096x8x128 : Shape := ⟨4, ![8, 4096, 8, 128]⟩
abbrev S8x4096x8x64 : Shape := ⟨4, ![8, 4096, 8, 64]⟩
abbrev S1x128 : Shape := ⟨2, ![1, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S1x64 : Shape := ⟨2, ![1, 64]⟩
abbrev S64 : Shape := ⟨1, ![64]⟩
abbrev S1x1x1x64 : Shape := ⟨4, ![1, 1, 1, 64]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x8x32 : Shape := ⟨4, ![8, 4096, 8, 32]⟩
abbrev S8x4096x4x256 : Shape := ⟨4, ![8, 4096, 4, 256]⟩
abbrev S8x4096x4x128 : Shape := ⟨4, ![8, 4096, 4, 128]⟩
abbrev S8x4096x4x64 : Shape := ⟨4, ![8, 4096, 4, 64]⟩
abbrev S8x4096x4x512 : Shape := ⟨4, ![8, 4096, 4, 512]⟩
abbrev S32768x2048 : Shape := ⟨2, ![32768, 2048]⟩

abbrev nBuf : Space → Nat
  | .hbm => 143
  | .vmem => 0
  | .smem => 0
  | _ => 0

abbrev hbmTy0_0 (i : Nat) : BufTy := match i % 128 with
  | 0 => ⟨S8x4096x1024, .f32⟩
  | 1 => ⟨S8x4096, .i32⟩
  | 2 => ⟨S4x3x1024, .f32⟩
  | 3 => ⟨S2x1024x384, .f32⟩
  | 4 => ⟨S2x384, .f32⟩
  | 5 => ⟨S2x384x1536, .f32⟩
  | 6 => ⟨S2x128, .f32⟩
  | 7 => ⟨S2x64, .f32⟩
  | 8 => ⟨S1x1x1024, .f32⟩
  | 9 => ⟨S1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S1x1024x384, .f32⟩
  | 27 => ⟨S1024x384, .f32⟩
  | 28 => ⟨S8x4096x384, .f32⟩
  | 29 => ⟨S1x384, .f32⟩
  | 30 => ⟨S384, .f32⟩
  | 31 => ⟨S8x4096x384, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x384, .f32⟩
  | 43 => ⟨S8x4096x384, .f32⟩
  | 44 => ⟨S1x1x384, .f32⟩
  | 45 => ⟨S8x4096x384, .f32⟩
  | 46 => ⟨S8x4096x384, .f32⟩
  | 47 => ⟨S1x384x1536, .f32⟩
  | 48 => ⟨S384x1536, .f32⟩
  | 49 => ⟨S8x4096x1536, .f32⟩
  | 50 => ⟨S8x4096x8x192, .f32⟩
  | 51 => ⟨S8x4096x8x128, .f32⟩
  | 52 => ⟨S8x4096x8x64, .f32⟩
  | 53 => ⟨S1x128, .f32⟩
  | 54 => ⟨S128, .f32⟩
  | 55 => ⟨S8x4096x8x128, .f32⟩
  | 56 => ⟨S_, .f32⟩
  | 57 => ⟨S8x4096x8, .f32⟩
  | 58 => ⟨S8x4096x8x1, .f32⟩
  | 59 => ⟨S_, .f32⟩
  | 60 => ⟨S8x4096x8x1, .f32⟩
  | 61 => ⟨S8x4096x8x1, .f32⟩
  | 62 => ⟨S_, .f32⟩
  | 63 => ⟨S8x4096x8x1, .f32⟩
  | 64 => ⟨S8x4096x8x1, .f32⟩
  | 65 => ⟨S8x4096x8x1, .f32⟩
  | 66 => ⟨S8x4096x8x128, .f32⟩
  | 67 => ⟨S8x4096x8x128, .f32⟩
  | 68 => ⟨S1x1x1x128, .f32⟩
  | 69 => ⟨S8x4096x8x128, .f32⟩
  | 70 => ⟨S8x4096x8x128, .f32⟩
  | 71 => ⟨S_, .f32⟩
  | 72 => ⟨S8x4096x8x128, .f32⟩
  | 73 => ⟨S8x4096x8x128, .f32⟩
  | 74 => ⟨S1x64, .f32⟩
  | 75 => ⟨S64, .f32⟩
  | 76 => ⟨S8x4096x8x64, .f32⟩
  | 77 => ⟨S_, .f32⟩
  | 78 => ⟨S8x4096x8, .f32⟩
  | 79 => ⟨S8x4096x8x1, .f32⟩
  | 80 => ⟨S_, .f32⟩
  | 81 => ⟨S8x4096x8x1, .f32⟩
  | 82 => ⟨S8x4096x8x1, .f32⟩
  | 83 => ⟨S_, .f32⟩
  | 84 => ⟨S8x4096x8x1, .f32⟩
  | 85 => ⟨S8x4096x8x1, .f32⟩
  | 86 => ⟨S8x4096x8x1, .f32⟩
  | 87 => ⟨S8x4096x8x64, .f32⟩
  | 88 => ⟨S8x4096x8x64, .f32⟩
  | 89 => ⟨S1x1x1x64, .f32⟩
  | 90 => ⟨S8x4096x8x64, .f32⟩
  | 91 => ⟨S8x4096x8x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S8x4096, .f32⟩
  | 107 => ⟨S8x4096x1, .f32⟩
  | 108 => ⟨S1x1x32, .f32⟩
  | 109 => ⟨S8x4096x32, .f32⟩
  | 110 => ⟨S8x4096x32, .f32⟩
  | 111 => ⟨S8x4096x32, .f32⟩
  | 112 => ⟨S8x4096x32, .f32⟩
  | 113 => ⟨S8x4096x1x32, .f32⟩
  | 114 => ⟨S8x4096x32, .f32⟩
  | 115 => ⟨S8x4096x1x32, .f32⟩
  | 116 => ⟨S8x4096x8x32, .f32⟩
  | 117 => ⟨S8x4096x8x32, .f32⟩
  | 118 => ⟨S8x4096x8x32, .f32⟩
  | 119 => ⟨S8x4096x8x32, .f32⟩
  | 120 => ⟨S8x4096x8x32, .f32⟩
  | 121 => ⟨S8x4096x8x32, .f32⟩
  | 122 => ⟨S8x4096x8x32, .f32⟩
  | 123 => ⟨S8x4096x8x32, .f32⟩
  | 124 => ⟨S8x4096x8x32, .f32⟩
  | 125 => ⟨S8x4096x8x32, .f32⟩
  | 126 => ⟨S8x4096x8x32, .f32⟩
  | 127 => ⟨S8x4096x8x32, .f32⟩
  | _ => ⟨S8x4096x1024, .f32⟩

abbrev hbmTy0_1 (i : Nat) : BufTy := match i % 128 with
  | 0 => ⟨S8x4096x8x64, .f32⟩
  | 1 => ⟨S_, .f32⟩
  | 2 => ⟨S8x4096x8x64, .f32⟩
  | 3 => ⟨S8x4096x8x64, .f32⟩
  | 4 => ⟨S8x4096x4x256, .f32⟩
  | 5 => ⟨S8x4096x4x128, .f32⟩
  | 6 => ⟨S_, .f32⟩
  | 7 => ⟨S8x4096x4x64, .f32⟩
  | 8 => ⟨S8x4096x4x128, .f32⟩
  | 9 => ⟨S8x4096x4x64, .f32⟩
  | 10 => ⟨S8x4096x4x128, .f32⟩
  | 11 => ⟨S8x4096x4x64, .f32⟩
  | 12 => ⟨S8x4096x4x512, .f32⟩
  | 13 => ⟨S32768x2048, .f32⟩
  | 14 => ⟨S32768x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_16 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_17 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]
-- ==== Proof.FrameFlash.lean ====
/- The body of the attention kernel, before its mask constants are named: it runs, and its arguments and the semaphores end as they began. -/
module

public import proofs.«01_k».proof.Proof.Gen.Flash
public import proofs.«01_k».proof.Proof.Gen.Flash.Skeleton
public import proofs.«01_k».proof.Proof.Gen.Flash.Points
public import proofs.«01_k».proof.Proof.Gen.Flash.Frame
public import Idealize.ShloMosaic.Lib.Tactic
public import Idealize.ShloMosaic.Lib.Pipeline.FrameBody
public import Idealize.ShloMosaic.Lib.Pipeline.Frame

@[expose] public section

set_option maxRecDepth 16384

noncomputable section

namespace Cert.Flash.Frame

open Cert.Flash Cert.Flash.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's operands, each held at some contents, at the memrefs point `t` is called with. -/
abbrev held (c : Dev nD) (M3 M4 : Memref sig .tc .vmem S4096x512 .bf16) (M5 M6 : Memref sig .tc .vmem S4096x256 .bf16)
    (M7 : Memref sig .tc .vmem S2x2x512x128 .f32) (M8 : Memref sig .tc .vmem S2x2x512x256 .f32) : sProp 𝕄 :=
  iprop((∃ X, owns (c : Thread nD τ) M3 fullShare X) ∗ (∃ X, owns (c : Thread nD τ) M4 fullShare X)
    ∗ (∃ X, owns (c : Thread nD τ) M5 fullShare X) ∗ (∃ X, owns (c : Thread nD τ) M6 fullShare X)
    ∗ (∃ X, owns (c : Thread nD τ) M7 fullShare X) ∗ (∃ X, owns (c : Thread nD τ) M8 fullShare X))

/-- The body runs from its operands at any contents, and gives them back at some. -/
theorem body_runs (c : Dev nD) (i : grid0.Coords)
    (M3 : Memref sig .tc .vmem S4096x512 .bf16) (h3 : M3.IsWhole) (M4 : Memref sig .tc .vmem S4096x512 .bf16) (h4 : M4.IsWhole)
    (M5 : Memref sig .tc .vmem S4096x256 .bf16) (h5 : M5.IsWhole) (M6 : Memref sig .tc .vmem S4096x256 .bf16) (h6 : M6.IsWhole)
    (M7 : Memref sig .tc .vmem S2x2x512x128 .f32) (h7 : M7.IsWhole) (M8 : Memref sig .tc .vmem S2x2x512x256 .f32) (h8 : M8.IsWhole)
    (Q : PUnit → sProp 𝕄) :
    iprop(held c M3 M4 M5 M6 M7 M8 ∗ (held c M3 M4 M5 M6 M7 M8 -∗ Q ⟨⟩))
    ⊢ wp frame (wpE (defs₀ (F := F)) Variants.none c none) Set.univ
        (cc0_flash_attention i M3 h3 M4 h4 M5 h5 M6 h6 M7 h7 M8 h8) Q := by
  unfold held owns
  iintro ⟨⟨⟨%X3, %f3, -, H3⟩, ⟨%X4, %f4, -, H4⟩, ⟨%X5, %f5, -, H5⟩, ⟨%X6, %f6, -, H6⟩, ⟨%X7, %f7, -, H7⟩, ⟨%X8, %f8, -, H8⟩⟩, Hk⟩
  sl_exec
  sl_step
  iapply Hk
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  isplitl [H7]; · iexists _, _; isplitr; swap; · iexact H7
                  ipureintro; rfl
  iexists _, _; isplitr; swap; · iexact H8
  ipureintro; rfl

/-- The proof data: nothing is said of what the body leaves in a staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch buffers, each held at some contents. -/
theorem scratch_eq (c : Dev nD) :
    (Pipeline.scopedRest (Ix := Unit) (Name := ℕ) (U := UR sig nD τ) (Lvl := ℕ) (Val := Elt F) spec0 c : sProp 𝕄)
      = iprop((∃ X, owns (c : Thread nD τ) (Memref.whole cc0_scratch0) fullShare X)
          ∗ (∃ X, owns (c : Thread nD τ) (Memref.whole cc0_scratch1) fullShare X)) := by
  rw [scopedRest0_eq]; simp only [owns_whole]

theorem sound_body (c : Dev nD) (t : Fin cfg0.N) (Y3 Y4 : Vec F S4096x512 .bf16) (Y5 Y6 : Vec F S4096x256 .bf16) :
    iprop(Pipeline.ΦA spec0 c ∗ (rdat m c).owesAt () t.castSucc ∗ owns (c : Thread nD τ) (st0_0 t) fullShare Y3
        ∗ owns (c : Thread nD τ) (st0_1 t) fullShare Y4 ∗ owns (c : Thread nD τ) (st0_2 t) fullShare Y5
        ∗ owns (c : Thread nD τ) (st0_3 t) fullShare Y6)
      ⊢ wp frame (wpE (defs₀ (F := F)) Variants.none c none) Set.univ (bodyAt0 t) (fun _ =>
        iprop(Pipeline.ΦA spec0 c ∗ (rdat m c).owesAt () t.succ ∗ (∃ X, ⌜True⌝ ∗ owns (c : Thread nD τ) (st0_0 t) fullShare X)
        ∗ (∃ X, ⌜True⌝ ∗ owns (c : Thread nD τ) (st0_1 t) fullShare X) ∗ (∃ X, ⌜True⌝ ∗ owns (c : Thread nD τ) (st0_2 t) fullShare X)
        ∗ (∃ X, ⌜True⌝ ∗ owns (c : Thread nD τ) (st0_3 t) fullShare X))) := by
  unfold Pipeline.ΦA bodyAt0
  rw [scratch_eq, show (rdat m c).owesAt () t.succ = (rdat m c).owesAt () t.castSucc from rfl]
  iintro ⟨⟨⟨HA, HB⟩, HR⟩, Ho, H3, H4, H5, H6⟩
  iapply (body_runs c (grid0.coords t) (st0_0 t) _ (st0_1 t) _ (st0_2 t) _ (st0_3 t) _ (Memref.whole cc0_scratch0) _ (Memref.whole cc0_scratch1) _ _)
  unfold held
  isplitl [H3 H4 H5 H6 HA HB]
  · isplitl [H3]; · iexists _; iexact H3
    isplitl [H4]; · iexists _; iexact H4
    isplitl [H5]; · iexists _; iexact H5
    isplitl [H6]; · iexists _; iexact H6
    isplitl [HA]; · iexact HA
    iexact HB
  iintro ⟨⟨%X3, H3⟩, ⟨%X4, H4⟩, ⟨%X5, H5⟩, ⟨%X6, H6⟩, HA, HB⟩
  isplitl [HA HB HR]
  · isplitl [HA HB]
    · isplitl [HA]; · iexact HA
      iexact HB
    iexact HR
  isplitl [Ho]; · iexact Ho
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  iexists _; isplitr; swap; · iexact H6
  ipureintro; trivial

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y _ => by
  rw [bigSep_W0, bigSep_W0, defs₀_row]
  exact triple_restated (sound_body m c t (Y 0) (Y 1) (Y 2) (Y 3)) rfl .rfl fun _ => .rfl

set_option backward.isDefEq.respectTransparency.types false in
theorem run_main : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)
    (hQ' := fun _ h => h)

/-- The frame: the program ends with its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩, h.2⟩) (run_main m ρ)

end Cert.Flash.Frame

end
-- ==== Proof.Body.lean ====
/- The body of the attention kernel, run once at symbolic operands: what it leaves in its result's buffer. -/
module

public import proofs.«01_k».proof.Proof.Gen.FlashIdeal
public import proofs.«01_k».proof.Proof.Gen.FlashIdeal.Skeleton
public import proofs.«01_k».proof.Proof.Gen.FlashIdeal.Points
public import proofs.«01_k».proof.Proof.Gen.FlashIdeal.Frame
public import Idealize.ShloMosaic.Lib.Tactic
public import Idealize.ShloMosaic.Lib.VecWindow
public import Idealize.ShloMosaic.Lib.Pipeline.Kit

@[expose] public section

set_option maxRecDepth 16384

noncomputable section

namespace Cert.FlashIdeal.Body

open Cert.FlashIdeal Cert.FlashIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The body at grid coordinates `i`, its three inputs held at `f3`, `f4`, `f5`: the pieces it writes into its result's
    buffer, and the run that ends with them written over whatever the buffer held. The two scratch buffers it takes and
    gives back at any contents. -/
def kernelRun (c : Dev nD) (i : grid0.Coords)
    (M3 : Memref sig .tc .vmem S4096x512 .bf16) (h3 : M3.IsWhole) (M4 : Memref sig .tc .vmem S4096x512 .bf16) (h4 : M4.IsWhole)
    (M5 : Memref sig .tc .vmem S4096x256 .bf16) (h5 : M5.IsWhole)
    (M7 : Memref sig .tc .vmem S2x2x512x128 .f32) (h7 : M7.IsWhole) (M8 : Memref sig .tc .vmem S2x2x512x256 .f32) (h8 : M8.IsWhole)
    (f3 : Bf (F := F) c M3) (f4 : Bf (F := F) c M4) (f5 : Bf (F := F) c M5) :
    { L : List (View.Piece (Elt F) S4096x256 .bf16) //
      ∀ (M6 : Memref sig .tc .vmem S4096x256 .bf16) (h6 : M6.IsWhole) (f6 : Bf (F := F) c M6) (Q : PUnit → sProp 𝕄),
        iprop(pt c M3 f3 ∗ pt c M4 f4 ∗ pt c M5 f5 ∗ pt c M6 f6 ∗ (∃ f, pt c M7 f) ∗ (∃ f, pt c M8 f)
          ∗ (iprop(pt c M3 f3 ∗ pt c M4 f4 ∗ pt c M5 f5 ∗ pt c M6 (M6.view.writes (Elt F) f6 L) ∗ (∃ f, pt c M7 f) ∗ (∃ f, pt c M8 f)) -∗ Q ⟨⟩))
        ⊢ wp frame (wpE (defs₀ (F := F)) Variants.none c none) Set.univ
            (cc0_flash_attention i M3 h3 M4 h4 M5 h5 M6 h6 M7 h7 M8 h8) Q } := by
  refine ⟨?_, fun M6 h6 f6 Q => ?run⟩
  case run =>
    iintro ⟨H3, H4, H5, H6, ⟨%f7, H7⟩, ⟨%f8, H8⟩, Hk⟩
    sl_exec
    sl_step
    iapply Hk
    isplitl [H3]; · iexact H3
    isplitl [H4]; · iexact H4
    isplitl [H5]; · iexact H5
    isplitl [H6]; · iexact H6
    isplitl [H7]; · iexists _; iexact H7
    iexists _; iexact H8

end Cert.FlashIdeal.Body

end
-- ==== Proof.Run.lean ====
/- The attention kernel's launch: what its result's blocks may hold after each grid point, and the run of the whole program. -/
module

public import proofs.«01_k».proof.Proof.Body
public import Idealize.ShloMosaic.Lib.Pipeline.FrameBody
public import Idealize.ShloMosaic.Lib.Pipeline.Frame

@[expose] public section

set_option maxRecDepth 16384

noncomputable section

namespace Cert.FlashIdeal.Body

open Cert.FlashIdeal Cert.FlashIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces point `t` writes, its inputs' staging buffers at `f3`, `f4`, `f5`. -/
abbrev pieces (c : Dev nD) (t : Fin cfg0.N) (f3 : Bf (F := F) c (st0_0 t)) (f4 : Bf (F := F) c (st0_1 t)) (f5 : Bf (F := F) c (st0_2 t)) :
    List (View.Piece (Elt F) S4096x256 .bf16) :=
  (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.whole cc0_scratch0) (Memref.isWhole_whole _)
    (Memref.whole cc0_scratch1) (Memref.isWhole_whole _) f3 f4 f5).1

/-- The result's block may be `X` after point `t` that found it at `Y`, the inputs' blocks being `X3`, `X4`, `X5`:
    `X` is `Y` with the body's pieces written over it. -/
def Left (c : Dev nD) (t : Fin cfg0.N) (X3 X4 : Vec F S4096x512 .bf16) (X5 Y X : Vec F S4096x256 .bf16) : Prop :=
  ∃ (f3 : Bf (F := F) c (st0_0 t)) (f4 : Bf (F := F) c (st0_1 t)) (f5 : Bf (F := F) c (st0_2 t)) (f6 : Bf (F := F) c (st0_3 t)),
    (st0_0 t).view.read (Elt F) f3 = X3 ∧ (st0_1 t).view.read (Elt F) f4 = X4 ∧ (st0_2 t).view.read (Elt F) f5 = X5
      ∧ (st0_3 t).view.read (Elt F) f6 = Y
      ∧ X = (st0_3 t).view.read (Elt F) ((st0_3 t).view.writes (Elt F) f6 (pieces c t f3 f4 f5))

/-- What the body may leave in each window: an input as found, the result as `Left` says of the inputs' blocks. -/
def leaves (c : Dev nD) (w : Fin cfg0.W) (t : Fin cfg0.N) :
    ((cfg0.win w).block.Idx → Elt F (cfg0.win w).elt) → ((cfg0.win w).block.Idx → Elt F (cfg0.win w).elt) → Prop :=
  match w with
  | 0 => fun Y X => X = Y
  | 1 => fun Y X => X = Y
  | 2 => fun Y X => X = Y
  | 3 => fun Y X => Left c t (iblk m c 0 t) (iblk m c 1 t) (iblk m c 2 t) Y X
  | ⟨_ + 4, h⟩ => absurd h (Nat.not_lt.2 (Nat.le_add_left _ _))

/-- The proof data of the pipeline on core `c`. -/
def rdat (c : Dev nD) : RDat τ (Elt F) Unit ℕ (UR sig nD τ) ℕ cfg0 c where
  A w := V m c (Pipeline.arrRef spec0 w)
  after := leaves m c
  Φ _ := Pipeline.ΦA spec0 c
  q _ := fullShare
  owed _ := 0

theorem finds_0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  rfl

/-- The scratch buffers, each held at some contents. -/
theorem scratch_eq (c : Dev nD) :
    (Pipeline.scopedRest (Ix := Unit) (Name := ℕ) (U := UR sig nD τ) (Lvl := ℕ) (Val := Elt F) spec0 c : sProp 𝕄)
      = iprop((∃ f, pt c (Memref.whole cc0_scratch0) f) ∗ (∃ f, pt c (Memref.whole cc0_scratch1) f)) := by
  rw [scopedRest0_eq]; simp only [pt, Memref.view_whole, View.set_whole]

theorem sound_body (c : Dev nD) (t : Fin cfg0.N) (Y3 Y4 : Vec F S4096x512 .bf16) (Y5 Y6 : Vec F S4096x256 .bf16)
    (e3 : Y3 = iblk m c 0 t) (e4 : Y4 = iblk m c 1 t) (e5 : Y5 = iblk m c 2 t) :
    iprop(Pipeline.ΦA spec0 c ∗ (rdat m c).owesAt () t.castSucc ∗ owns (c : Thread nD τ) (st0_0 t) fullShare Y3
        ∗ owns (c : Thread nD τ) (st0_1 t) fullShare Y4 ∗ owns (c : Thread nD τ) (st0_2 t) fullShare Y5
        ∗ owns (c : Thread nD τ) (st0_3 t) fullShare Y6)
      ⊢ wp frame (wpE (defs₀ (F := F)) Variants.none c none) Set.univ (bodyAt0 t) (fun _ =>
        iprop(Pipeline.ΦA spec0 c ∗ (rdat m c).owesAt () t.succ ∗ (∃ X, ⌜X = Y3⌝ ∗ owns (c : Thread nD τ) (st0_0 t) fullShare X)
        ∗ (∃ X, ⌜X = Y4⌝ ∗ owns (c : Thread nD τ) (st0_1 t) fullShare X) ∗ (∃ X, ⌜X = Y5⌝ ∗ owns (c : Thread nD τ) (st0_2 t) fullShare X)
        ∗ (∃ X, ⌜Left c t (iblk m c 0 t) (iblk m c 1 t) (iblk m c 2 t) Y6 X⌝ ∗ owns (c : Thread nD τ) (st0_3 t) fullShare X))) := by
  unfold owns Pipeline.ΦA bodyAt0
  rw [scratch_eq, show (rdat m c).owesAt () t.succ = (rdat m c).owesAt () t.castSucc from rfl]
  iintro ⟨⟨⟨HA, HB⟩, HR⟩, Ho, ⟨%f3, %e3', H3⟩, ⟨%f4, %e4', H4⟩, ⟨%f5, %e5', H5⟩, ⟨%f6, %e6', H6⟩⟩
  iapply ((kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.whole cc0_scratch0) (Memref.isWhole_whole _)
    (Memref.whole cc0_scratch1) (Memref.isWhole_whole _) f3 f4 f5).2 (st0_3 t) (hstage0_3 ((cfg0.slots t 3).cast nbuf0_3)) f6 _)
  isplitl [H3]; · iexact H3
  isplitl [H4]; · iexact H4
  isplitl [H5]; · iexact H5
  isplitl [H6]; · iexact H6
  isplitl [HA]; · iexact HA
  isplitl [HB]; · iexact HB
  iintro ⟨H3, H4, H5, H6, HA, HB⟩
  isplitl [HA HB HR]
  · isplitl [HA HB]
    · isplitl [HA]; · iexact HA
      iexact HB
    iexact HR
  isplitl [Ho]; · iexact Ho
  isplitl [H3]
  · iexists Y3; isplitr; · ipureintro; rfl
    iexists f3; isplitr; · ipureintro; exact e3'
    iexact H3
  isplitl [H4]
  · iexists Y4; isplitr; · ipureintro; rfl
    iexists f4; isplitr; · ipureintro; exact e4'
    iexact H4
  isplitl [H5]
  · iexists Y5; isplitr; · ipureintro; rfl
    iexists f5; isplitr; · ipureintro; exact e5'
    iexact H5
  iexists _; isplitr
  swap
  · iexists _; isplitr; swap; · iexact H6
    ipureintro; rfl
  ipureintro
  exact ⟨f3, f4, f5, f6, e3'.trans e3, e4'.trans e4, e5'.trans e5, e6', rfl⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  exact triple_restated (sound_body m c t (Y 0) (Y 1) (Y 2) (Y 3) (finds_0 m c t _ (hY 0)) (finds_1 m c t _ (hY 1)) (finds_2 m c t _ (hY 2)))
    rfl .rfl fun _ => .rfl

set_option backward.isDefEq.respectTransparency.types false in
/-- The program's run: what each array holds at the end is what the proof data allow, and every semaphore is back at zero. -/
theorem run_main : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)
    (hQ' := fun _ h => h)

/-- The arguments are as launched at the end of such a run. -/
theorem args_of {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The frame: the program ends with its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩) (run_main m ρ)

end Cert.FlashIdeal.Body

end
-- ==== Proof.Online.lean ====
/- One row of attention, taken some keys at a time: the running maximum, the running sums, and what they come to. -/
module

public import Idealize.ShloMosaic.PureOps.Ideal.Laws

@[expose] public section

noncomputable section

namespace Cert.Online

open Idealize.ShloMosaic

/-- The weight of a score `x` against a maximum `M`: two to the power of their difference. -/
def wt (x M : EReal) : EReal := Ideal.exp2 (x - M)

theorem bot_sub (x : EReal) : (⊥ : EReal) - x = ⊥ := by
  rw [sub_eq_add_neg, EReal.bot_add]

@[simp] theorem wt_bot (M : EReal) : wt ⊥ M = 0 := by
  simp [wt, bot_sub]

theorem wt_coe (x M : ℝ) : wt x M = ((2 : ℝ) ^ (x - M) : ℝ) := by
  rw [wt, ← EReal.coe_sub, Ideal.exp2_coe]; rfl

/-- A score not above a finite maximum has a finite weight, not below zero. -/
theorem wt_nonneg (x M : EReal) : 0 ≤ wt x M := by
  unfold wt
  generalize x - M = y
  induction y with
  | bot => simp
  | top => simp
  | coe r => rw [Ideal.exp2_coe]; exact EReal.coe_nonneg.mpr (Real.rpow_nonneg (by norm_num) r)

theorem wt_ne_top {x M : EReal} (h : x ≤ M) (hM : M ≠ ⊤) : wt x M ≠ ⊤ := by
  induction x with
  | bot => simp
  | top => exact absurd (top_le_iff.mp h) hM
  | coe x =>
    induction M with
    | bot => exact absurd (le_bot_iff.mp h) (EReal.coe_ne_bot x)
    | top => exact absurd rfl hM
    | coe M => rw [wt_coe]; exact EReal.coe_ne_top _

/-- A weight against one maximum becomes the weight against a later one by the weight of the first maximum. -/
theorem wt_mul {x M M' : EReal} (h : x ≤ M) (h' : M ≤ M') (hM : M' ≠ ⊤) : wt M M' * wt x M = wt x M' := by
  induction x with
  | bot => simp
  | top => exact absurd (top_le_iff.mp (h.trans h')) hM
  | coe x =>
    induction M with
    | bot => exact absurd (le_bot_iff.mp h) (EReal.coe_ne_bot x)
    | top => exact absurd (top_le_iff.mp h') hM
    | coe M =>
      induction M' with
      | bot => exact absurd (le_bot_iff.mp h') (EReal.coe_ne_bot M)
      | top => exact absurd rfl hM
      | coe M' =>
        rw [wt_coe, wt_coe, wt_coe, ← EReal.coe_mul, ← Real.rpow_add (by norm_num)]
        congr 2
        ring

theorem mul_sum {ι : Type} (S : Finset ι) (f : ι → EReal) {a : EReal} (h : 0 ≤ a) (ha : a ≠ ⊤) :
    a * ∑ j ∈ S, f j = ∑ j ∈ S, a * f j := by
  classical
  induction S using Finset.induction_on with
  | empty => simp
  | insert j S hj ih => rw [Finset.sum_insert hj, Finset.sum_insert hj, EReal.left_distrib_of_nonneg_of_ne_top h ha, ih]

theorem coe_sum (e : ℕ → ℝ) (N : ℕ) : ((∑ j ∈ Finset.range N, e j : ℝ) : EReal) = ∑ j ∈ Finset.range N, (e j : EReal) := by
  induction N with
  | zero => simp
  | succ N ih => rw [Finset.sum_range_succ, Finset.sum_range_succ, EReal.coe_add, ih]

/-- After the first `n` keys of a row with scores `s` and values `v`: the running maximum `M` and the running sums `A`. -/
structure Row {κ : Type} (s : ℕ → EReal) (v : ℕ → κ → EReal) (n : ℕ) (M : EReal) (A : κ → EReal) : Prop where
  max : M = (Finset.range n).sup s
  sum : ∀ c, A c = ∑ j ∈ Finset.range n, wt (s j) M * v j c

theorem Row.zero {κ : Type} (s : ℕ → EReal) (v : ℕ → κ → EReal) : Row s v 0 ⊥ fun _ => 0 :=
  ⟨by simp, by simp⟩

theorem sup_add (s : ℕ → EReal) (n K : ℕ) :
    (Finset.range (n + K)).sup s = Max.max ((Finset.range n).sup s) ((Finset.range K).sup fun k => s (n + k)) := by
  apply le_antisymm
  · refine Finset.sup_le fun j hj => ?_
    rw [Finset.mem_range] at hj
    by_cases h : j < n
    · exact le_max_of_le_left (Finset.le_sup (f := s) (Finset.mem_range.mpr h))
    · refine le_max_of_le_right ?_
      have := Finset.le_sup (f := fun k => s (n + k)) (Finset.mem_range.mpr (show j - n < K by omega))
      simpa [show n + (j - n) = j by omega] using this
  · refine max_le (Finset.sup_le fun j hj => ?_) (Finset.sup_le fun k hk => ?_)
    · exact Finset.le_sup (f := s) (Finset.mem_range.mpr (by have := Finset.mem_range.mp hj; omega))
    · exact Finset.le_sup (f := s) (Finset.mem_range.mpr (by have := Finset.mem_range.mp hk; omega))

/-- The next `K` keys: the maximum grows to theirs, the sums so far are rescaled and theirs are added. -/
theorem Row.step {κ : Type} {s : ℕ → EReal} {v : ℕ → κ → EReal} {n : ℕ} {M : EReal} {A : κ → EReal} (h : Row s v n M A)
    (hs : ∀ j, s j ≠ ⊤) (K : ℕ) {M' : EReal} {A' : κ → EReal}
    (hM : M' = Max.max M ((Finset.range K).sup fun k => s (n + k)))
    (hA : ∀ c, A' c = wt M M' * A c + ∑ k ∈ Finset.range K, wt (s (n + k)) M' * v (n + k) c) :
    Row s v (n + K) M' A' := by
  have e : M' = (Finset.range (n + K)).sup s := by rw [hM, h.max, sup_add]
  have hle : M ≤ M' := hM ▸ le_max_left _ _
  have top : M' ≠ ⊤ := by
    rw [e]
    exact ne_of_lt ((Finset.sup_lt_iff (by simp)).mpr fun j _ => lt_top_iff_ne_top.mpr (hs j))
  refine ⟨e, fun c => ?_⟩
  rw [hA c, Finset.sum_range_add, h.sum c, mul_sum _ _ (wt_nonneg _ _) (wt_ne_top hle top)]
  congr 1
  refine Finset.sum_congr rfl fun j hj => ?_
  rw [← mul_assoc, wt_mul (by rw [h.max]; exact Finset.le_sup hj) hle top]

/-- The largest of `K` numbers, as a fold over `Fin K`. -/
theorem fold_max (K : ℕ) (f : ℕ → EReal) : (Finset.univ : Finset (Fin K)).fold max ⊥ (fun k => f k.val) = (Finset.range K).sup f := by
  show (Finset.univ : Finset (Fin K)).sup (fun k => f k.val) = _
  apply le_antisymm
  · exact Finset.sup_le fun k _ => Finset.le_sup (f := f) (Finset.mem_range.mpr k.isLt)
  · exact Finset.sup_le fun k hk => Finset.le_sup (f := fun k : Fin K => f k.val) (Finset.mem_univ ⟨k, Finset.mem_range.mp hk⟩)

/-- Keys that are all masked change nothing. -/
theorem Row.extend {κ : Type} {s : ℕ → EReal} {v : ℕ → κ → EReal} {n : ℕ} {M : EReal} {A : κ → EReal} (h : Row s v n M A) (N : ℕ)
    (hN : n ≤ N) (hs : ∀ j, n ≤ j → s j = ⊥) : Row s v N M A := by
  obtain ⟨K, rfl⟩ := Nat.exists_eq_add_of_le hN
  refine ⟨?_, fun c => ?_⟩
  · rw [sup_add, h.max, show ((Finset.range K).sup fun k => s (n + k)) = ⊥ from ?_, max_eq_left bot_le]
    rw [Finset.sup_congr rfl fun k _ => hs (n + k) (by omega)]
    simp
  · rw [Finset.sum_range_add, h.sum c, Finset.sum_eq_zero (s := Finset.range K), add_zero]
    intro k _
    rw [hs _ (by omega), wt_bot, zero_mul]

/-- The causal row `g` of real scores `r`: after all keys, the quotient the kernel stores is the softmax's average. -/
theorem Row.result {κ : Type} {v : ℕ → κ → EReal} {N : ℕ} {M : EReal} {A : κ → EReal} {g : ℕ} (hg : g < N) (r : ℕ → ℝ)
    {s t : ℕ → EReal} (hs : ∀ j, s j = if j ≤ g then ((r j * (Real.log 2)⁻¹ : ℝ) : EReal) else ⊥)
    (ht : ∀ j, t j = if j ≤ g then (r j : EReal) else ⊥)
    (h : Row s v N M A) {d c : κ} (hc : ∀ j, v j c = 1) {T L : EReal}
    (hT : T = (Finset.range N).sup t) (hL : L = ∑ j ∈ Finset.range N, Ideal.exp (t j - T)) :
    Ideal.div (A d) (A c) = ∑ j ∈ Finset.range N, v j d * Ideal.div (Ideal.exp (t j - T)) L := by
  have l2 : 0 < Real.log 2 := Real.log_pos (by norm_num)
  obtain ⟨a, ha, hmax⟩ := Finset.exists_max_image (Finset.range (g + 1)) r ⟨0, by simp⟩
  have ha' : a ≤ g := by have := Finset.mem_range.mp ha; omega
  have hmax' : ∀ j, j ≤ g → r j ≤ r a := fun j hj => hmax j (Finset.mem_range.mpr (by omega))
  have eM : M = ((r a * (Real.log 2)⁻¹ : ℝ) : EReal) := by
    rw [h.max]
    apply le_antisymm
    · refine Finset.sup_le fun j _ => ?_
      rw [hs]
      split_ifs with hj
      · exact EReal.coe_le_coe_iff.mpr (mul_le_mul_of_nonneg_right (hmax' j hj) (inv_nonneg.mpr l2.le))
      · exact bot_le
    · have := Finset.le_sup (f := s) (Finset.mem_range.mpr (show a < N by omega))
      rwa [hs a, if_pos ha'] at this
  have eT : T = (r a : EReal) := by
    rw [hT]
    apply le_antisymm
    · refine Finset.sup_le fun j _ => ?_
      rw [ht]
      split_ifs with hj
      · exact EReal.coe_le_coe_iff.mpr (hmax' j hj)
      · exact bot_le
    · have := Finset.le_sup (f := t) (Finset.mem_range.mpr (show a < N by omega))
      rwa [ht a, if_pos ha'] at this
  let e : ℕ → ℝ := fun j => if j ≤ g then Real.exp (r j - r a) else 0
  have ew : ∀ j, wt (s j) M = (e j : EReal) := by
    intro j
    rw [hs, eM]
    by_cases hj : j ≤ g
    · rw [if_pos hj, wt_coe]
      simp only [e, if_pos hj]
      rw [Real.rpow_def_of_pos (by norm_num)]
      congr 2
      field_simp
    · rw [if_neg hj, wt_bot]; simp [e, hj]
  have ee : ∀ j, Ideal.exp (t j - T) = (e j : EReal) := by
    intro j
    rw [ht, eT]
    by_cases hj : j ≤ g
    · rw [if_pos hj, ← EReal.coe_sub, Ideal.exp_coe]; simp [e, hj]
    · rw [if_neg hj, bot_sub, Ideal.exp_bot]; simp [e, hj]
  have epos : ∀ j, 0 ≤ e j := fun j => by
    simp only [e]; split_ifs; exacts [(Real.exp_pos _).le, le_rfl]
  let l : ℝ := ∑ j ∈ Finset.range N, e j
  have hl : 0 < l := by
    refine Finset.sum_pos' (fun j _ => epos j) ⟨a, Finset.mem_range.mpr (by omega), ?_⟩
    simp [e, ha']
  have eL : L = (l : EReal) := by
    rw [hL, Finset.sum_congr rfl fun j _ => ee j]
    exact (coe_sum e N).symm
  have eA : A c = (l : EReal) := by
    rw [h.sum c, ← eL, hL]
    exact Finset.sum_congr rfl fun j _ => by rw [ew, ee, hc, mul_one]
  rw [eA, h.sum d, Ideal.div_coe hl.ne', mul_comm, mul_sum _ _ (by exact_mod_cast (by positivity : (0:ℝ) ≤ 1 / l)) (EReal.coe_ne_top _)]
  refine Finset.sum_congr rfl fun j _ => ?_
  rw [ew, ee, eL, Ideal.div_coe hl.ne', mul_comm, mul_comm (e j : EReal) (v j d), mul_assoc]

end Cert.Online

end
-- ==== Proof.Steps.lean ====
/- One tile of keys against one tile of queries, as the attention kernel computes it: the new maxima and the new sums, at
   its three shapes, read at an element. -/
module

public import proofs.«01_k».proof.Proof.Gen.FlashIdeal.Skeleton
public import proofs.«01_k».proof.Proof.Online
public import Idealize.ShloMosaic.Lib.Pointwise

@[expose] public section

set_option maxRecDepth 16384

noncomputable section

namespace Cert.FlashIdeal.Value

open Cert.FlashIdeal Cert.FlashIdeal.Gen
open Idealize.ShloMosaic
open Cert.Online (wt)

/-- Negative infinity's pattern, a maximum's starting value. -/
theorem neg_inf : Ideal.ofBits .f32 0xFF800000#32 = ⊥ := by simp [Ideal.ofBits, Ideal.ieee]

section

variable (s : FVec Ideal S512x512 .f32) (m : FVec Ideal S1x1x512x128 .f32) (v : FVec Ideal S512x128 .bf16)
  (a : FVec Ideal S1x1x512x256 .f32)

/-- The products of 512 queries and 512 keys. -/
def scores512 (q : FVec Ideal S512x256 .bf16) (k : FVec Ideal S512x256 .bf16) : FVec Ideal S512x512 .f32 :=
  matmul dot_S512x256_S512x256_S512x512_1_1_0_0_n_n none (shapeCast S512x256 q shapeCasts_S512x256_S512x256)
    (shapeCast S512x256 k shapeCasts_S512x256_S512x256) (constant S512x512 .f32 0x00000000#32)

/-- The maxima after these scores. -/
def max512 : FVec Ideal S512x128 .f32 :=
  maximumf (shapeCast S512x128 m shapeCasts_S1x1x512x128_S512x128)
    (broadcastTo S512x128 (shapeCast S512x1 (multiReduction .maximumf [1] S512 s 0xFF800000#32 reduces_S512x512_S512 (.inl rfl) rfl)
      shapeCasts_S512_S512x1) broadcasts_S512x1_S512x128)

/-- The sums after these scores. -/
def acc512 : FVec Ideal S512x256 .f32 :=
  have n := max512 s m
  have e := exp2 (subf (shapeCast S512x128 m shapeCasts_S1x1x512x128_S512x128) n)
  have p := exp2 (subf s (concatenate S512x512 1 [⟨S512x128, n⟩, ⟨S512x128, n⟩, ⟨S512x128, n⟩, ⟨S512x128, n⟩]
    concatenates_S512x128_S512x128_S512x128_S512x128_S512x512_d1))
  have o : FVec Ideal S512x128 .bf16 := broadcast S512x128 (Scalar.ofBits .bf16 0x3F80#16)
  addf (mulf (concatenate S512x256 1 [⟨S512x128, e⟩, ⟨S512x128, e⟩] concatenates_S512x128_S512x128_S512x256_d1)
      (shapeCast S512x256 a shapeCasts_S1x1x512x256_S512x256))
    (matmul dot_S512x512_S512x256_S512x256_1_0_0_1_n_n none (truncf .bf16 p bitsLt_bf16_f32)
      (concatenate S512x256 1 [⟨S512x128, shapeCast S512x128 v shapeCasts_S512x128_S512x128⟩, ⟨S512x128, o⟩]
        concatenates_S512x128_S512x128_S512x256_d1) (constant S512x256 .f32 0x00000000#32))

theorem scores512_at (q : FVec Ideal S512x256 .bf16) (k : FVec Ideal S512x256 .bf16) (r : Fin 512) (j : Fin 512) :
    scores512 q k (ix2 r j) = ∑ d : Fin 256, q (ix2 r d) * k (ix2 j d) := by
  pointwise [scores512]

theorem max512_at (r : Fin 512) (l : Fin 128) :
    max512 s m (ix2 r l) = max (m (ix4 0 0 r l)) (Finset.univ.fold max ⊥ fun k : Fin 512 => s (ix2 r k)) := by
  pointwise [max512]
  rw [neg_inf]

variable {s m} {r : Fin 512} {M : EReal} (hM : ∀ l, m (ix4 0 0 r l) = M) {S : ℕ → EReal} (hs : ∀ k : Fin 512, s (ix2 r k) = S k.val)

include hM hs in
theorem max512_row (l : Fin 128) : max512 s m (ix2 r l) = max M ((Finset.range 512).sup S) := by
  rw [max512_at, hM, ← Online.fold_max]
  simp only [hs]

include hM hs in
theorem acc512_row {V : ℕ → Fin 256 → EReal} (hv : ∀ (k : Fin 512) (c : Fin 256), (if h : c.val < 128 then v (ix2 k ⟨c.val, h⟩) else 1) = V k.val c)
    (c : Fin 256) : acc512 s m v a (ix2 r c) = wt M (max M ((Finset.range 512).sup S)) * a (ix4 0 0 r c)
      + ∑ k ∈ Finset.range 512, wt (S k) (max M ((Finset.range 512).sup S)) * V k c := by
  rw [Finset.sum_range]
  simp only [← hv, ← hs]
  pointwise [acc512]
  simp only [max512_row hM hs, hM, dite_eq_ite, ite_self]
  rfl

end

section

variable (s : FVec Ideal S256x256 .f32) (m : FVec Ideal S1x1x256x128 .f32) (v : FVec Ideal S256x128 .bf16)
  (a : FVec Ideal S1x1x256x256 .f32)

/-- The products of 256 queries and 256 keys. -/
def scoresLo (q : FVec Ideal S256x256 .bf16) (k : FVec Ideal S256x256 .bf16) : FVec Ideal S256x256 .f32 :=
  matmul dot_S256x256_S256x256_S256x256_1_1_0_0_n_n none (shapeCast S256x256 q shapeCasts_S256x256_S256x256)
    (shapeCast S256x256 k shapeCasts_S256x256_S256x256) (constant S256x256 .f32 0x00000000#32)

/-- The maxima after these scores. -/
def maxLo : FVec Ideal S256x128 .f32 :=
  maximumf (shapeCast S256x128 m shapeCasts_S1x1x256x128_S256x128)
    (broadcastTo S256x128 (shapeCast S256x1 (multiReduction .maximumf [1] S256 s 0xFF800000#32 reduces_S256x256_S256 (.inl rfl) rfl)
      shapeCasts_S256_S256x1) broadcasts_S256x1_S256x128)

/-- The sums after these scores. -/
def accLo : FVec Ideal S256x256 .f32 :=
  have n := maxLo s m
  have e := exp2 (subf (shapeCast S256x128 m shapeCasts_S1x1x256x128_S256x128) n)
  have p := exp2 (subf s (concatenate S256x256 1 [⟨S256x128, n⟩, ⟨S256x128, n⟩]
    concatenates_S256x128_S256x128_S256x256_d1))
  have o : FVec Ideal S256x128 .bf16 := broadcast S256x128 (Scalar.ofBits .bf16 0x3F80#16)
  addf (mulf (concatenate S256x256 1 [⟨S256x128, e⟩, ⟨S256x128, e⟩] concatenates_S256x128_S256x128_S256x256_d1)
      (shapeCast S256x256 a shapeCasts_S1x1x256x256_S256x256))
    (matmul dot_S256x256_S256x256_S256x256_1_0_0_1_n_n none (truncf .bf16 p bitsLt_bf16_f32)
      (concatenate S256x256 1 [⟨S256x128, shapeCast S256x128 v shapeCasts_S256x128_S256x128⟩, ⟨S256x128, o⟩]
        concatenates_S256x128_S256x128_S256x256_d1) (constant S256x256 .f32 0x00000000#32))

theorem scoresLo_at (q : FVec Ideal S256x256 .bf16) (k : FVec Ideal S256x256 .bf16) (r : Fin 256) (j : Fin 256) :
    scoresLo q k (ix2 r j) = ∑ d : Fin 256, q (ix2 r d) * k (ix2 j d) := by
  pointwise [scoresLo]

theorem maxLo_at (r : Fin 256) (l : Fin 128) :
    maxLo s m (ix2 r l) = max (m (ix4 0 0 r l)) (Finset.univ.fold max ⊥ fun k : Fin 256 => s (ix2 r k)) := by
  pointwise [maxLo]
  rw [neg_inf]

variable {s m} {r : Fin 256} {M : EReal} (hM : ∀ l, m (ix4 0 0 r l) = M) {S : ℕ → EReal} (hs : ∀ k : Fin 256, s (ix2 r k) = S k.val)

include hM hs in
theorem maxLo_row (l : Fin 128) : maxLo s m (ix2 r l) = max M ((Finset.range 256).sup S) := by
  rw [maxLo_at, hM, ← Online.fold_max]
  simp only [hs]

include hM hs in
theorem accLo_row {V : ℕ → Fin 256 → EReal} (hv : ∀ (k : Fin 256) (c : Fin 256), (if h : c.val < 128 then v (ix2 k ⟨c.val, h⟩) else 1) = V k.val c)
    (c : Fin 256) : accLo s m v a (ix2 r c) = wt M (max M ((Finset.range 256).sup S)) * a (ix4 0 0 r c)
      + ∑ k ∈ Finset.range 256, wt (S k) (max M ((Finset.range 256).sup S)) * V k c := by
  rw [Finset.sum_range]
  simp only [← hv, ← hs]
  pointwise [accLo]
  simp only [maxLo_row hM hs, hM, dite_eq_ite, ite_self]
  exact congrArg (_ + ·) (Fin.sum_univ_add (a := 128) (b := 128) fun x : Fin (128 + 128) =>
    wt (s (ix2 r x)) (max M ((Finset.range 256).sup S)) * if h : c.val < 128 then v (ix2 x ⟨c.val, h⟩) else 1).symm

end

section

variable (s : FVec Ideal S256x512 .f32) (m : FVec Ideal S1x1x256x128 .f32) (v : FVec Ideal S512x128 .bf16)
  (a : FVec Ideal S1x1x256x256 .f32)

/-- The products of 256 queries and 512 keys. -/
def scoresHi (q : FVec Ideal S256x256 .bf16) (k : FVec Ideal S512x256 .bf16) : FVec Ideal S256x512 .f32 :=
  matmul dot_S256x256_S512x256_S256x512_1_1_0_0_n_n none (shapeCast S256x256 q shapeCasts_S256x256_S256x256)
    (shapeCast S512x256 k shapeCasts_S512x256_S512x256) (constant S256x512 .f32 0x00000000#32)

/-- The maxima after these scores. -/
def maxHi : FVec Ideal S256x128 .f32 :=
  maximumf (shapeCast S256x128 m shapeCasts_S1x1x256x128_S256x128)
    (broadcastTo S256x128 (shapeCast S256x1 (multiReduction .maximumf [1] S256 s 0xFF800000#32 reduces_S256x512_S256 (.inl rfl) rfl)
      shapeCasts_S256_S256x1) broadcasts_S256x1_S256x128)

/-- The sums after these scores. -/
def accHi : FVec Ideal S256x256 .f32 :=
  have n := maxHi s m
  have e := exp2 (subf (shapeCast S256x128 m shapeCasts_S1x1x256x128_S256x128) n)
  have p := exp2 (subf s (concatenate S256x512 1 [⟨S256x128, n⟩, ⟨S256x128, n⟩, ⟨S256x128, n⟩, ⟨S256x128, n⟩]
    concatenates_S256x128_S256x128_S256x128_S256x128_S256x512_d1))
  have o : FVec Ideal S512x128 .bf16 := broadcast S512x128 (Scalar.ofBits .bf16 0x3F80#16)
  addf (mulf (concatenate S256x256 1 [⟨S256x128, e⟩, ⟨S256x128, e⟩] concatenates_S256x128_S256x128_S256x256_d1)
      (shapeCast S256x256 a shapeCasts_S1x1x256x256_S256x256))
    (matmul dot_S256x512_S512x256_S256x256_1_0_0_1_n_n none (truncf .bf16 p bitsLt_bf16_f32)
      (concatenate S512x256 1 [⟨S512x128, shapeCast S512x128 v shapeCasts_S512x128_S512x128⟩, ⟨S512x128, o⟩]
        concatenates_S512x128_S512x128_S512x256_d1) (constant S256x256 .f32 0x00000000#32))

theorem scoresHi_at (q : FVec Ideal S256x256 .bf16) (k : FVec Ideal S512x256 .bf16) (r : Fin 256) (j : Fin 512) :
    scoresHi q k (ix2 r j) = ∑ d : Fin 256, q (ix2 r d) * k (ix2 j d) := by
  pointwise [scoresHi]

theorem maxHi_at (r : Fin 256) (l : Fin 128) :
    maxHi s m (ix2 r l) = max (m (ix4 0 0 r l)) (Finset.univ.fold max ⊥ fun k : Fin 512 => s (ix2 r k)) := by
  pointwise [maxHi]
  rw [neg_inf]

variable {s m} {r : Fin 256} {M : EReal} (hM : ∀ l, m (ix4 0 0 r l) = M) {S : ℕ → EReal} (hs : ∀ k : Fin 512, s (ix2 r k) = S k.val)

include hM hs in
theorem maxHi_row (l : Fin 128) : maxHi s m (ix2 r l) = max M ((Finset.range 512).sup S) := by
  rw [maxHi_at, hM, ← Online.fold_max]
  simp only [hs]

include hM hs in
theorem accHi_row {V : ℕ → Fin 256 → EReal} (hv : ∀ (k : Fin 512) (c : Fin 256), (if h : c.val < 128 then v (ix2 k ⟨c.val, h⟩) else 1) = V k.val c)
    (c : Fin 256) : accHi s m v a (ix2 r c) = wt M (max M ((Finset.range 512).sup S)) * a (ix4 0 0 r c)
      + ∑ k ∈ Finset.range 512, wt (S k) (max M ((Finset.range 512).sup S)) * V k c := by
  rw [Finset.sum_range]
  simp only [← hv, ← hs]
  pointwise [accHi]
  simp only [maxHi_row hM hs, hM, dite_eq_ite, ite_self]
  rfl

end

end Cert.FlashIdeal.Value

end
-- ==== Proof.Offsets.lean ====
/- Where the attention kernel reads and writes at a grid point: its offsets in closed form. -/
module

public import proofs.«01_k».proof.Proof.Run

@[expose] public section

set_option maxRecDepth 16384

noncomputable section

namespace Cert.FlashIdeal.Value

open Cert.FlashIdeal Cert.FlashIdeal.Gen
open Idealize.ShloMosaic

/-- Which of the point's two query tiles the full item `k` belongs to. -/
def side (a k : ℕ) : ℕ := if a ≤ k then 1 else 0
/-- The query tile on side `w` of a point. -/
def qTile (a w : ℕ) : ℕ := if w = 0 then a else 7 - a
/-- The key tile of the full item `k`. -/
def kTile (a k : ℕ) : ℕ := if a ≤ k then k - a else k

theorem off1 : ∀ (t : Fin grid0.N) (k : Fin 7), k0_off1 (grid0.coords t) (BitVec.ofNat 32 k.val) = ![512 * qTile (t.val % 4) (side (t.val % 4) k.val), 0] := by decide +kernel
theorem off3 : ∀ (t : Fin grid0.N) (k : Fin 7), k0_off3 (grid0.coords t) (BitVec.ofNat 32 k.val) = ![512 * qTile (t.val % 4) (side (t.val % 4) k.val), 256] := by decide +kernel
theorem off2 : ∀ (t : Fin grid0.N) (k : Fin 7), k0_off2 (grid0.coords t) (BitVec.ofNat 32 k.val) (BitVec.ofNat 32 k.val) (BitVec.ofNat 32 k.val) = ![512 * kTile (t.val % 4) k.val, 0] := by decide +kernel
theorem off4 : ∀ (t : Fin grid0.N) (k : Fin 7), k0_off4 (grid0.coords t) (BitVec.ofNat 32 k.val) (BitVec.ofNat 32 k.val) (BitVec.ofNat 32 k.val) = ![512 * kTile (t.val % 4) k.val, 256] := by decide +kernel
theorem off6 : ∀ (t : Fin grid0.N) (k : Fin 7), k0_off6 (grid0.coords t) (BitVec.ofNat 32 k.val) (BitVec.ofNat 32 k.val) (BitVec.ofNat 32 k.val) = ![512 * kTile (t.val % 4) k.val, 0] := by decide +kernel
theorem off9 : ∀ (t : Fin grid0.N) (k : Fin 7), k0_off9 (grid0.coords t) (BitVec.ofNat 32 k.val) (BitVec.ofNat 32 k.val) (BitVec.ofNat 32 k.val) = ![512 * kTile (t.val % 4) k.val, 128] := by decide +kernel
theorem off5 : ∀ (t : Fin grid0.N) (k : Fin 7), k0_off5 (grid0.coords t) (BitVec.ofNat 32 k.val) = ![side (t.val % 4) k.val, 0, 0, 0] := by decide +kernel
theorem off7 : ∀ (t : Fin grid0.N) (k : Fin 7), k0_off7 (grid0.coords t) (BitVec.ofNat 32 k.val) = ![side (t.val % 4) k.val, 0, 0, 0] := by decide +kernel
theorem off8 : ∀ (t : Fin grid0.N) (k : Fin 7), k0_off8 (grid0.coords t) (BitVec.ofNat 32 k.val) = ![side (t.val % 4) k.val, 1, 0, 0] := by decide +kernel
theorem off10 : ∀ (t : Fin grid0.N) (k : Fin 7), k0_off10 (grid0.coords t) (BitVec.ofNat 32 k.val) = ![side (t.val % 4) k.val, 1, 0, 0] := by decide +kernel

/-- The query tiles of a point as rows: `256 · (2 · tile + half)`. -/
theorem off11 : ∀ (t : Fin grid0.N) (h : Fin 2), k0_off11 (grid0.coords t) (BitVec.ofNat 32 (256 * h.val)) = ![512 * (t.val % 4) + 256 * h.val, 0] := by decide +kernel
theorem off13 : ∀ (t : Fin grid0.N) (h : Fin 2), k0_off13 (grid0.coords t) (BitVec.ofNat 32 (256 * h.val)) = ![512 * (t.val % 4) + 256 * h.val, 256] := by decide +kernel
theorem off17 : ∀ (t : Fin grid0.N) (h : Fin 2), k0_off17 (grid0.coords t) (BitVec.ofNat 32 (256 * h.val)) = ![512 * (7 - t.val % 4) + 256 * h.val, 0] := by decide +kernel
theorem off19 : ∀ (t : Fin grid0.N) (h : Fin 2), k0_off19 (grid0.coords t) (BitVec.ofNat 32 (256 * h.val)) = ![512 * (7 - t.val % 4) + 256 * h.val, 256] := by decide +kernel
theorem off12 : ∀ (t : Fin grid0.N), k0_off12 (grid0.coords t) = ![512 * (t.val % 4), 0] := by decide +kernel
theorem off14 : ∀ (t : Fin grid0.N), k0_off14 (grid0.coords t) = ![512 * (t.val % 4), 256] := by decide +kernel
theorem off15 : ∀ (t : Fin grid0.N), k0_off15 (grid0.coords t) = ![512 * (t.val % 4), 0] := by decide +kernel
theorem off16 : ∀ (t : Fin grid0.N), k0_off16 (grid0.coords t) = ![512 * (t.val % 4), 256] := by decide +kernel
theorem off18 : ∀ (t : Fin grid0.N), k0_off18 (grid0.coords t) = ![512 * (7 - t.val % 4), 0] := by decide +kernel
theorem off20 : ∀ (t : Fin grid0.N), k0_off20 (grid0.coords t) = ![512 * (7 - t.val % 4), 256] := by decide +kernel
theorem off21 : ∀ (t : Fin grid0.N), k0_off21 (grid0.coords t) = ![512 * (t.val % 4), 0] := by decide +kernel
theorem off22 : ∀ (t : Fin grid0.N), k0_off22 (grid0.coords t) = ![512 * (t.val % 4), 128] := by decide +kernel
theorem off23 : ∀ (t : Fin grid0.N), k0_off23 (grid0.coords t) = ![512 * (7 - t.val % 4), 0] := by decide +kernel
theorem off24 : ∀ (t : Fin grid0.N), k0_off24 (grid0.coords t) = ![512 * (7 - t.val % 4), 256] := by decide +kernel
theorem off25 : ∀ (t : Fin grid0.N), k0_off25 (grid0.coords t) = ![512 * (t.val % 4), 0] := by decide +kernel
theorem off26 : ∀ (t : Fin grid0.N), k0_off26 (grid0.coords t) = ![512 * (t.val % 4), 128] := by decide +kernel
theorem off27 : ∀ (t : Fin grid0.N), k0_off27 (grid0.coords t) = ![512 * (7 - t.val % 4), 0] := by decide +kernel
theorem off28 : ∀ (t : Fin grid0.N), k0_off28 (grid0.coords t) = ![512 * (7 - t.val % 4), 128] := by decide +kernel
theorem off29 : ∀ (t : Fin grid0.N), k0_off29 (grid0.coords t) = ![512 * (7 - t.val % 4), 0] := by decide +kernel
theorem off30 : ∀ (t : Fin grid0.N), k0_off30 (grid0.coords t) = ![512 * (7 - t.val % 4), 128] := by decide +kernel

end Cert.FlashIdeal.Value

end
-- ==== Proof.Cells.lean ====
/- The two scratch buffers of the attention kernel as running maxima and sums: what one tile's stores make of them. -/
module

public import proofs.«01_k».proof.Proof.Steps
public import proofs.«01_k».proof.Proof.Offsets
public import Idealize.ShloMosaic.Lib.VecWindow
public import Idealize.ShloMosaic.Lib.WordCmp

@[expose] public section

set_option maxRecDepth 16384

noncomputable section

namespace Cert.FlashIdeal.Value

open Cert.FlashIdeal Cert.FlashIdeal.Gen
open Idealize.ShloMosaic
open Cert.Online (wt Row)
open VecWindow (window put)

/-- A matrix at two numbers, zero outside it. -/
def at2 {A B : ℕ} (X : (⟨2, ![A, B]⟩ : Shape).Idx → EReal) (a b : ℕ) : EReal :=
  if h : a < A ∧ b < B then X (ix2 ⟨a, h.1⟩ ⟨b, h.2⟩) else 0

theorem window2 {A B R K : ℕ} (X : (⟨2, ![A, B]⟩ : Shape).Idx → EReal) (a b : ℕ) (inb) (r : Fin R) (k : Fin K) :
    window (s := ⟨2, ![A, B]⟩) X ![a, b] (⟨2, ![R, K]⟩ : Shape).size inb (ix2 r k) = at2 X (a + r.val) (b + k.val) := by
  have h0 : a + R ≤ A := inb 0
  have h1 : b + K ≤ B := inb 1
  have hr := r.isLt
  have hk := k.isLt
  unfold at2
  rw [dif_pos ⟨by omega, by omega⟩]
  exact congrArg X (funext fun x => Fin.ext (by
    fin_cases x
    · show a + 1 * r.val = a + r.val; omega
    · show b + 1 * k.val = b + k.val; omega))

theorem window4 {L R : ℕ} (X : (⟨4, ![2, 2, 512, L]⟩ : Shape).Idx → EReal) (w hd : Fin 2) (r0 : ℕ) (inb) (r : Fin R) (l : Fin L) (h : r0 + R ≤ 512) :
    window (s := ⟨4, ![2, 2, 512, L]⟩) X ![w.val, hd.val, r0, 0] (⟨4, ![1, 1, R, L]⟩ : Shape).size inb (ix4 0 0 r l)
      = X (ix4 w hd ⟨r0 + r.val, by have := r.isLt; omega⟩ l) :=
  congrArg X (funext fun x => Fin.ext (by
    fin_cases x
    · show w.val + 1 * 0 = w.val; omega
    · show hd.val + 1 * 0 = hd.val; omega
    · show r0 + 1 * r.val = r0 + r.val; omega
    · show 0 + 1 * l.val = l.val; omega))

theorem put4_in {L R : ℕ} (X : (⟨4, ![2, 2, 512, L]⟩ : Shape).Idx → EReal) (w hd : Fin 2) (r0 : ℕ)
    (W : (⟨4, ![1, 1, R, L]⟩ : Shape).Idx → EReal) (r : Fin R) (l : Fin L) (h : r0 + R ≤ 512) :
    put (s := ⟨4, ![2, 2, 512, L]⟩) X ![w.val, hd.val, r0, 0] (⟨4, ![1, 1, R, L]⟩ : Shape).size W
      (ix4 w hd ⟨r0 + r.val, by have := r.isLt; omega⟩ l) = W (ix4 0 0 r l) := by
  have hr := r.isLt
  have hl := l.isLt
  unfold put
  rw [dif_pos (fun x => by
    fin_cases x
    · show w.val ≤ w.val ∧ w.val < w.val + 1; omega
    · show hd.val ≤ hd.val ∧ hd.val < hd.val + 1; omega
    · show r0 ≤ r0 + r.val ∧ r0 + r.val < r0 + R; omega
    · show 0 ≤ l.val ∧ l.val < 0 + L; omega)]
  exact congrArg W (funext fun x => Fin.ext (by
    fin_cases x
    · show w.val - w.val = 0; omega
    · show hd.val - hd.val = 0; omega
    · show r0 + r.val - r0 = r.val; omega
    · show l.val - 0 = l.val; omega))

theorem put4_out {L R : ℕ} (X : (⟨4, ![2, 2, 512, L]⟩ : Shape).Idx → EReal) (w hd : Fin 2) (r0 : ℕ)
    (W : (⟨4, ![1, 1, R, L]⟩ : Shape).Idx → EReal) (w' hd' : Fin 2) (r : Fin 512) (l : Fin L)
    (h : ¬ (w' = w ∧ hd' = hd ∧ r0 ≤ r.val ∧ r.val < r0 + R)) :
    put (s := ⟨4, ![2, 2, 512, L]⟩) X ![w.val, hd.val, r0, 0] (⟨4, ![1, 1, R, L]⟩ : Shape).size W (ix4 w' hd' r l) = X (ix4 w' hd' r l) := by
  unfold put
  rw [dif_neg fun hall => h ?_]
  have h0 : w.val ≤ w'.val ∧ w'.val < w.val + 1 := hall 0
  have h1 : hd.val ≤ hd'.val ∧ hd'.val < hd.val + 1 := hall 1
  have h2 : r0 ≤ r.val ∧ r.val < r0 + R := hall 2
  exact ⟨Fin.ext (by omega), Fin.ext (by omega), h2⟩

section

variable (X3 X4 : FVec Ideal S4096x512 .bf16) (X5 : FVec Ideal S4096x256 .bf16)

/-- The causal score of query `g` and key `j` in head `hd` of a pair. -/
def score (hd g j : ℕ) : EReal :=
  if j ≤ g then ∑ d : Fin 256, at2 X3 g (256 * hd + d.val) * at2 X4 j (256 * hd + d.val) else ⊥

/-- The values of key `j` in head `hd` of a pair, then as many ones. -/
def value (hd j : ℕ) (c : Fin 256) : EReal := if c.val < 128 then at2 X5 j (128 * hd + c.val) else 1

/-- After `n w hd r` keys in row `r` of head `hd` on side `w`, the scratch buffers hold that row's maximum and sums. -/
def Inv (a : ℕ) (n : Fin 2 → Fin 2 → Fin 512 → ℕ) (S7 : FVec Ideal S2x2x512x128 .f32) (S8 : FVec Ideal S2x2x512x256 .f32) : Prop :=
  ∀ (w hd : Fin 2) (r : Fin 512), ∃ M, (∀ l : Fin 128, S7 (ix4 w hd r l) = M) ∧
    Row (score X3 X4 hd.val (512 * qTile a w.val + r.val)) (value X5 hd.val) (n w hd r) M (fun c => S8 (ix4 w hd r c))

variable {X3 X4 X5}

/-- Storing rows that are right after more keys, and leaving the others. -/
theorem Inv.put {a : ℕ} {n n' : Fin 2 → Fin 2 → Fin 512 → ℕ} {S7 : FVec Ideal S2x2x512x128 .f32} {S8 : FVec Ideal S2x2x512x256 .f32}
    (h : Inv X3 X4 X5 a n S7 S8) {R : ℕ} (w hd : Fin 2) (r0 : ℕ) (hR : r0 + R ≤ 512)
    (W7 : (⟨4, ![1, 1, R, 128]⟩ : Shape).Idx → EReal) (W8 : (⟨4, ![1, 1, R, 256]⟩ : Shape).Idx → EReal)
    (hin : ∀ r : Fin R, ∃ M, (∀ l : Fin 128, W7 (ix4 0 0 r l) = M) ∧
      Row (score X3 X4 hd.val (512 * qTile a w.val + (r0 + r.val))) (value X5 hd.val) (n' w hd ⟨r0 + r.val, by have := r.isLt; omega⟩) M (fun c => W8 (ix4 0 0 r c)))
    (hout : ∀ w' hd' r, ¬ (w' = w ∧ hd' = hd ∧ r0 ≤ r.val ∧ r.val < r0 + R) → n' w' hd' r = n w' hd' r) :
    Inv X3 X4 X5 a n' (VecWindow.put (s := S2x2x512x128) S7 ![w.val, hd.val, r0, 0] (⟨4, ![1, 1, R, 128]⟩ : Shape).size W7)
      (VecWindow.put (s := S2x2x512x256) S8 ![w.val, hd.val, r0, 0] (⟨4, ![1, 1, R, 256]⟩ : Shape).size W8) := by
  intro w' hd' r
  by_cases hc : w' = w ∧ hd' = hd ∧ r0 ≤ r.val ∧ r.val < r0 + R
  · obtain ⟨rfl, rfl, h1, h2⟩ := hc
    obtain ⟨M, hM, hRow⟩ := hin ⟨r.val - r0, by omega⟩
    have er : r = ⟨r0 + (⟨r.val - r0, by omega⟩ : Fin R).val, by show r0 + (r.val - r0) < 512; omega⟩ := Fin.ext (by show r.val = r0 + (r.val - r0); omega)
    rw [er]
    refine ⟨M, fun l => ?_, ?_⟩
    · rw [show (VecWindow.put (s := S2x2x512x128) S7 _ _ W7 _) = _ from put4_in S7 w' hd' r0 W7 ⟨r.val - r0, by omega⟩ l hR]
      exact hM l
    · rw [show (fun c => VecWindow.put (s := S2x2x512x256) S8 _ _ W8 _) = _ from funext fun c => put4_in S8 w' hd' r0 W8 ⟨r.val - r0, by omega⟩ c hR]
      exact hRow
  · obtain ⟨M, hM, hRow⟩ := h w' hd' r
    rw [hout w' hd' r hc]
    refine ⟨M, fun l => ?_, ?_⟩
    · rw [show (VecWindow.put (s := S2x2x512x128) S7 _ _ W7 _) = _ from put4_out S7 w hd r0 W7 w' hd' r l hc]
      exact hM l
    · rw [show (fun c => VecWindow.put (s := S2x2x512x256) S8 _ _ W8 _) = _ from funext fun c => put4_out S8 w hd r0 W8 w' hd' r c hc]
      exact hRow

end

/-! ## A full tile -/

section

variable {X3 X4 : FVec Ideal S4096x512 .bf16} {X5 : FVec Ideal S4096x256 .bf16} {a : ℕ}
  {n n' : Fin 2 → Fin 2 → Fin 512 → ℕ} {S7 : FVec Ideal S2x2x512x128 .f32} {S8 : FVec Ideal S2x2x512x256 .f32}

/-- The values' window with its ones. -/
theorem value_window {K : ℕ} (hd : Fin 2) (b : ℕ) (i5) (k : Fin K) (c : Fin 256) :
    (if h : c.val < 128 then window (s := S4096x256) X5 ![b, 128 * hd.val] (⟨2, ![K, 128]⟩ : Shape).size i5 (ix2 k ⟨c.val, h⟩) else 1)
      = value X5 hd.val (b + k.val) c := by
  unfold value
  split_ifs with h
  · exact window2 X5 b (128 * hd.val) i5 k ⟨c.val, h⟩
  · rfl

theorem step512 (h : Inv X3 X4 X5 a n S7 S8) (hs : ∀ hd g j, score X3 X4 hd g j ≠ ⊤) (w hd : Fin 2) (kt : ℕ) (hk : kt < qTile a w.val)
    (hn : ∀ r, n w hd r = 512 * kt) (hn' : ∀ w' hd' r, n' w' hd' r = if w' = w ∧ hd' = hd then n w' hd' r + 512 else n w' hd' r) (i3 i4 i5 i7 i8) :
    let s := scores512 (window (s := S4096x512) X3 ![512 * qTile a w.val, 256 * hd.val] S512x256.size i3)
      (window (s := S4096x512) X4 ![512 * kt, 256 * hd.val] S512x256.size i4)
    let m := window (s := S2x2x512x128) S7 ![w.val, hd.val, 0, 0] S1x1x512x128.size i7
    let v := window (s := S4096x256) X5 ![512 * kt, 128 * hd.val] S512x128.size i5
    Inv X3 X4 X5 a n' (put S7 ![w.val, hd.val, 0, 0] S1x1x512x128.size (shapeCast S1x1x512x128 (max512 s m) shapeCasts_S512x128_S1x1x512x128))
      (put S8 ![w.val, hd.val, 0, 0] S1x1x512x256.size (shapeCast S1x1x512x256
        (acc512 s m v (window (s := S2x2x512x256) S8 ![w.val, hd.val, 0, 0] S1x1x512x256.size i8)) shapeCasts_S512x256_S1x1x512x256)) := by
  intro s m v
  refine h.put w hd 0 le_rfl _ _ (fun r => ?_) (fun w' hd' r hc => ?_)
  · obtain ⟨M, hM, hRow⟩ := h w hd ⟨0 + r.val, by have := r.isLt; omega⟩
    have hm : ∀ l, m (ix4 0 0 r l) = M := fun l => (window4 S7 w hd 0 i7 r l le_rfl).trans (hM l)
    have hsc : ∀ k : Fin 512, s (ix2 r k) = score X3 X4 hd.val (512 * qTile a w.val + (0 + r.val)) (512 * kt + k.val) := fun k => by
      have := k.isLt
      show scores512 _ _ (ix2 r k) = _
      rw [scores512_at, score, if_pos (by omega), Nat.zero_add]
      exact Finset.sum_congr rfl fun d _ => congrArg₂ (· * ·) (window2 X3 _ _ i3 r d) (window2 X4 _ _ i4 k d)
    have hv := value_window (X5 := X5) hd (512 * kt) i5
    rw [hn', if_pos ⟨rfl, rfl⟩]
    have e := hn ⟨0 + r.val, by have := r.isLt; omega⟩
    rw [e] at hRow ⊢
    refine ⟨max M ((Finset.range 512).sup fun k => score X3 X4 hd.val (512 * qTile a w.val + (0 + r.val)) (512 * kt + k)), fun l => ?_, ?_⟩
    · rw [← max512_row (s := s) hm (S := fun k => score X3 X4 hd.val (512 * qTile a w.val + (0 + r.val)) (512 * kt + k)) hsc l]
      pointwise
    · refine hRow.step (hs _ _) 512 rfl fun c => ?_
      rw [← window4 S8 w hd 0 i8 r c le_rfl]
      refine Eq.trans ?_ (acc512_row v _ hm (S := fun k => score X3 X4 hd.val (512 * qTile a w.val + (0 + r.val)) (512 * kt + k)) hsc
        (V := fun k => value X5 hd.val (512 * kt + k)) hv c)
      pointwise
  · rw [hn', if_neg fun hh => hc ⟨hh.1, hh.2, Nat.zero_le _, by have := r.isLt; omega⟩]

end

/-! ## The halves of a diagonal tile -/

/-- A tile's scores with those after the diagonal masked, the first half's rows. -/
def maskLo (s : FVec Ideal S256x256 .f32) : FVec Ideal S256x256 .f32 := k0_pay94 s
/-- The same for the second half's rows. -/
def maskHi (s : FVec Ideal S256x512 .f32) : FVec Ideal S256x512 .f32 := k0_pay112 s

theorem mask_value : (Named.named κ "mask" 0xF149F2CA#32 : Ideal .f32) = ⊥ := rfl

theorem maskLo_at (s : FVec Ideal S256x256 .f32) (r k : Fin 256) : maskLo s (ix2 r k) = if k.val ≤ r.val then s (ix2 r k) else ⊥ := by
  pointwise [maskLo, k0_pay94]
  rw [mask_value]
  rw [show IntOp.addi (BitVec.ofNat 32 r.val) 0#32 = BitVec.ofNat 32 r.val from BitVec.add_zero _, WordCmp.cmpi_sle_ofNat (by omega) (by omega)]
  by_cases h : k.val ≤ r.val
  · rw [if_pos h, decide_eq_true h]; rfl
  · rw [if_neg h, decide_eq_false h]; rfl

theorem maskHi_at (s : FVec Ideal S256x512 .f32) (r : Fin 256) (k : Fin 512) : maskHi s (ix2 r k) = if k.val ≤ 256 + r.val then s (ix2 r k) else ⊥ := by
  pointwise [maskHi, k0_pay112]
  rw [mask_value]
  rw [show IntOp.addi (BitVec.ofNat 32 r.val) 256#32 = BitVec.ofNat 32 (256 + r.val) from by
      rw [IntOp.addi, Nat.add_comm, BitVec.ofNat_add] , WordCmp.cmpi_sle_ofNat (by omega) (by omega)]
  by_cases h : k.val ≤ 256 + r.val
  · rw [if_pos h, decide_eq_true h]; rfl
  · rw [if_neg h, decide_eq_false h]; rfl

section

variable {X3 X4 : FVec Ideal S4096x512 .bf16} {X5 : FVec Ideal S4096x256 .bf16} {a : ℕ}
  {n n' : Fin 2 → Fin 2 → Fin 512 → ℕ} {S7 : FVec Ideal S2x2x512x128 .f32} {S8 : FVec Ideal S2x2x512x256 .f32}

theorem stepLo (h : Inv X3 X4 X5 a n S7 S8) (hs : ∀ hd g j, score X3 X4 hd g j ≠ ⊤) (w hd : Fin 2)
    (hn : ∀ r : Fin 512, 0 ≤ r.val → r.val < 0 + 256 → n w hd r = 512 * qTile a w.val ∧ n' w hd r = 512 * qTile a w.val + 256)
    (hn' : ∀ w' hd' r, ¬ (w' = w ∧ hd' = hd ∧ 0 ≤ r.val ∧ r.val < 0 + 256) → n' w' hd' r = n w' hd' r) (i3 i4 i5 i7 i8) :
    let s := maskLo (scoresLo (window (s := S4096x512) X3 ![512 * qTile a w.val + 0, 256 * hd.val] S256x256.size i3)
      (window (s := S4096x512) X4 ![512 * qTile a w.val, 256 * hd.val] S256x256.size i4))
    let m := window (s := S2x2x512x128) S7 ![w.val, hd.val, 0, 0] S1x1x256x128.size i7
    let v := window (s := S4096x256) X5 ![512 * qTile a w.val, 128 * hd.val] S256x128.size i5
    Inv X3 X4 X5 a n' (put S7 ![w.val, hd.val, 0, 0] S1x1x256x128.size (shapeCast S1x1x256x128 (maxLo s m) shapeCasts_S256x128_S1x1x256x128))
      (put S8 ![w.val, hd.val, 0, 0] S1x1x256x256.size (shapeCast S1x1x256x256
        (accLo s m v (window (s := S2x2x512x256) S8 ![w.val, hd.val, 0, 0] S1x1x256x256.size i8)) shapeCasts_S256x256_S1x1x256x256)) := by
  intro s m v
  refine h.put w hd 0 (by omega) _ _ (fun r => ?_) hn'
  obtain ⟨M, hM, hRow⟩ := h w hd ⟨0 + r.val, by have := r.isLt; omega⟩
  have hm : ∀ l, m (ix4 0 0 r l) = M := fun l => (window4 S7 w hd 0 i7 r l (by omega)).trans (hM l)
  have hsc : ∀ k : Fin 256, s (ix2 r k) = score X3 X4 hd.val (512 * qTile a w.val + (0 + r.val)) (512 * qTile a w.val + k.val) := fun k => by
    show maskLo _ (ix2 r k) = _
    rw [maskLo_at, scoresLo_at, score]
    refine if_congr (by omega) (Finset.sum_congr rfl fun d _ => ?_) rfl
    rw [← Nat.add_assoc]
    exact congrArg₂ (· * ·) (window2 X3 _ _ i3 r d) (window2 X4 _ _ i4 k d)
  have hv := value_window (X5 := X5) hd (512 * qTile a w.val) i5
  obtain ⟨e, e'⟩ := hn ⟨0 + r.val, by have := r.isLt; omega⟩ (Nat.le_add_right _ _) (by have := r.isLt; show 0 + r.val < 0 + 256; omega)
  rw [e] at hRow
  rw [e']
  refine ⟨max M ((Finset.range 256).sup fun k => score X3 X4 hd.val (512 * qTile a w.val + (0 + r.val)) (512 * qTile a w.val + k)), fun l => ?_, ?_⟩
  · rw [← maxLo_row (s := s) hm (S := fun k => score X3 X4 hd.val (512 * qTile a w.val + (0 + r.val)) (512 * qTile a w.val + k)) hsc l]
    pointwise
  · refine hRow.step (hs _ _) 256 rfl fun c => ?_
    rw [← window4 S8 w hd 0 i8 r c (by omega)]
    refine Eq.trans ?_ (accLo_row v _ hm (S := fun k => score X3 X4 hd.val (512 * qTile a w.val + (0 + r.val)) (512 * qTile a w.val + k)) hsc
      (V := fun k => value X5 hd.val (512 * qTile a w.val + k)) hv c)
    pointwise

theorem stepHi (h : Inv X3 X4 X5 a n S7 S8) (hs : ∀ hd g j, score X3 X4 hd g j ≠ ⊤) (w hd : Fin 2)
    (hn : ∀ r : Fin 512, 256 ≤ r.val → r.val < 256 + 256 → n w hd r = 512 * qTile a w.val ∧ n' w hd r = 512 * qTile a w.val + 512)
    (hn' : ∀ w' hd' r, ¬ (w' = w ∧ hd' = hd ∧ 256 ≤ r.val ∧ r.val < 256 + 256) → n' w' hd' r = n w' hd' r) (i3 i4 i5 i7 i8) :
    let s := maskHi (scoresHi (window (s := S4096x512) X3 ![512 * qTile a w.val + 256, 256 * hd.val] S256x256.size i3)
      (window (s := S4096x512) X4 ![512 * qTile a w.val, 256 * hd.val] S512x256.size i4))
    let m := window (s := S2x2x512x128) S7 ![w.val, hd.val, 256, 0] S1x1x256x128.size i7
    let v := window (s := S4096x256) X5 ![512 * qTile a w.val, 128 * hd.val] S512x128.size i5
    Inv X3 X4 X5 a n' (put S7 ![w.val, hd.val, 256, 0] S1x1x256x128.size (shapeCast S1x1x256x128 (maxHi s m) shapeCasts_S256x128_S1x1x256x128))
      (put S8 ![w.val, hd.val, 256, 0] S1x1x256x256.size (shapeCast S1x1x256x256
        (accHi s m v (window (s := S2x2x512x256) S8 ![w.val, hd.val, 256, 0] S1x1x256x256.size i8)) shapeCasts_S256x256_S1x1x256x256)) := by
  intro s m v
  refine h.put w hd 256 (by omega) _ _ (fun r => ?_) hn'
  obtain ⟨M, hM, hRow⟩ := h w hd ⟨256 + r.val, by have := r.isLt; omega⟩
  have hm : ∀ l, m (ix4 0 0 r l) = M := fun l => (window4 S7 w hd 256 i7 r l (by omega)).trans (hM l)
  have hsc : ∀ k : Fin 512, s (ix2 r k) = score X3 X4 hd.val (512 * qTile a w.val + (256 + r.val)) (512 * qTile a w.val + k.val) := fun k => by
    show maskHi _ (ix2 r k) = _
    rw [maskHi_at, scoresHi_at, score]
    refine if_congr (by omega) (Finset.sum_congr rfl fun d _ => ?_) rfl
    rw [← Nat.add_assoc]
    exact congrArg₂ (· * ·) (window2 X3 _ _ i3 r d) (window2 X4 _ _ i4 k d)
  have hv := value_window (X5 := X5) hd (512 * qTile a w.val) i5
  obtain ⟨e, e'⟩ := hn ⟨256 + r.val, by have := r.isLt; omega⟩ (Nat.le_add_right _ _) (by have := r.isLt; show 256 + r.val < 256 + 256; omega)
  rw [e] at hRow
  rw [e']
  refine ⟨max M ((Finset.range 512).sup fun k => score X3 X4 hd.val (512 * qTile a w.val + (256 + r.val)) (512 * qTile a w.val + k)), fun l => ?_, ?_⟩
  · rw [← maxHi_row (s := s) hm (S := fun k => score X3 X4 hd.val (512 * qTile a w.val + (256 + r.val)) (512 * qTile a w.val + k)) hsc l]
    pointwise
  · refine hRow.step (hs _ _) 512 rfl fun c => ?_
    rw [← window4 S8 w hd 256 i8 r c (by omega)]
    refine Eq.trans ?_ (accHi_row v _ hm (S := fun k => score X3 X4 hd.val (512 * qTile a w.val + (256 + r.val)) (512 * qTile a w.val + k)) hsc
      (V := fun k => value X5 hd.val (512 * qTile a w.val + k)) hv c)
    pointwise

end

end Cert.FlashIdeal.Value

end
-- ==== Proof.Chain.lean ====
/- The attention kernel's body, store by store: after each, the scratch buffers hold every row's maximum and sums over
   the keys it has met. -/
module

public import proofs.«01_k».proof.Proof.Cells

@[expose] public section

set_option maxRecDepth 16384

noncomputable section

namespace Cert.FlashIdeal.Value

open Cert.FlashIdeal Cert.FlashIdeal.Gen Cert.FlashIdeal.Body
open Idealize.ShloMosaic
open Idealize.ShloMosaic.TcCoe
open Cert.Online (wt Row)

section

variable {c : Dev nD} {M3 M4 : Memref sig .tc .vmem S4096x512 .bf16} {M5 : Memref sig .tc .vmem S4096x256 .bf16}
  {M7 : Memref sig .tc .vmem S2x2x512x128 .f32} {M8 : Memref sig .tc .vmem S2x2x512x256 .f32}
  {f3 : Bf (F := Ideal) c M3} {f4 : Bf (F := Ideal) c M4} {f5 : Bf (F := Ideal) c M5}
  {a : ℕ} {n n' : Fin 2 → Fin 2 → Fin 512 → ℕ}
  {L7 : List (View.Piece (Elt Ideal) S2x2x512x128 .f32)} {L8 : List (View.Piece (Elt Ideal) S2x2x512x256 .f32)}

/-- The invariant of the two scratch buffers after the stores `L7` and `L8`. -/
abbrev Holds (M3 M4 : Memref sig .tc .vmem S4096x512 .bf16) (M5 : Memref sig .tc .vmem S4096x256 .bf16)
    (M7 : Memref sig .tc .vmem S2x2x512x128 .f32) (M8 : Memref sig .tc .vmem S2x2x512x256 .f32)
    (f3 : Bf (F := Ideal) c M3) (f4 : Bf (F := Ideal) c M4) (f5 : Bf (F := Ideal) c M5) (a : ℕ) (n : Fin 2 → Fin 2 → Fin 512 → ℕ)
    (L7 : List (View.Piece (Elt Ideal) S2x2x512x128 .f32)) (L8 : List (View.Piece (Elt Ideal) S2x2x512x256 .f32)) : Prop :=
  Inv (M3.view.read (Elt Ideal) f3) (M4.view.read (Elt Ideal) f4) (M5.view.read (Elt Ideal) f5) a n
    (M7.view.read (Elt Ideal) (M7.view.writes (Elt Ideal) M7.view.junk L7)) (M8.view.read (Elt Ideal) (M8.view.writes (Elt Ideal) M8.view.junk L8))

/-- No score is infinite above. -/
abbrev NoTop (M3 M4 : Memref sig .tc .vmem S4096x512 .bf16) (f3 : Bf (F := Ideal) c M3) (f4 : Bf (F := Ideal) c M4) : Prop :=
  ∀ hd g j, score (M3.view.read (Elt Ideal) f3) (M4.view.read (Elt Ideal) f4) hd g j ≠ ⊤

/-- The stores of a full tile. -/
theorem full (h : Holds M3 M4 M5 M7 M8 f3 f4 f5 a n L7 L8) (hs : NoTop M3 M4 f3 f4) (w hd : Fin 2)
    (kt : ℕ) (hk : kt < qTile a w.val) (hn : ∀ r, n w hd r = 512 * kt)
    (hn' : ∀ w' hd' r, n' w' hd' r = if w' = w ∧ hd' = hd then n w' hd' r + 512 else n w' hd' r)
    {o3 o4 o5 : Fin 2 → ℕ} {o7 o8 : Fin 4 → ℕ} (e3 : o3 = ![512 * qTile a w.val, 256 * hd.val]) (e4 : o4 = ![512 * kt, 256 * hd.val])
    (e5 : o5 = ![512 * kt, 128 * hd.val]) (e7 : o7 = ![w.val, hd.val, 0, 0]) (e8 : o8 = ![w.val, hd.val, 0, 0])
    {i3 : ∀ x, o3 x + S512x256.size x ≤ S4096x512.size x}
    {i4 : ∀ x, o4 x + S512x256.size x ≤ S4096x512.size x} {i5 : ∀ x, o5 x + S512x128.size x ≤ S4096x256.size x}
    {i7 i7' : ∀ x, o7 x + S1x1x512x128.size x ≤ S2x2x512x128.size x} {i8 i8' : ∀ x, o8 x + S1x1x512x256.size x ≤ S2x2x512x256.size x} :
    Holds M3 M4 M5 M7 M8 f3 f4 f5 a n'
      (⟨Rect.unit (s := S2x2x512x128) o7 S1x1x512x128.size i7, shapeCast S1x1x512x128 (max512 (scores512 (M3.view.readAt (Elt Ideal) (Rect.unit (s := S4096x512) o3 S512x256.size i3).toLoadRect f3) (M4.view.readAt (Elt Ideal) (Rect.unit (s := S4096x512) o4 S512x256.size i4).toLoadRect f4))
        (M7.view.readAt (Elt Ideal) (Rect.unit (s := S2x2x512x128) o7 S1x1x512x128.size i7').toLoadRect (M7.view.writes (Elt Ideal) M7.view.junk L7)))
        shapeCasts_S512x128_S1x1x512x128⟩ :: L7)
      (⟨Rect.unit (s := S2x2x512x256) o8 S1x1x512x256.size i8, shapeCast S1x1x512x256 (acc512 (scores512 (M3.view.readAt (Elt Ideal) (Rect.unit (s := S4096x512) o3 S512x256.size i3).toLoadRect f3) (M4.view.readAt (Elt Ideal) (Rect.unit (s := S4096x512) o4 S512x256.size i4).toLoadRect f4))
        (M7.view.readAt (Elt Ideal) (Rect.unit (s := S2x2x512x128) o7 S1x1x512x128.size i7').toLoadRect (M7.view.writes (Elt Ideal) M7.view.junk L7))
        (M5.view.readAt (Elt Ideal) (Rect.unit (s := S4096x256) o5 S512x128.size i5).toLoadRect f5)
        (M8.view.readAt (Elt Ideal) (Rect.unit (s := S2x2x512x256) o8 S1x1x512x256.size i8').toLoadRect (M8.view.writes (Elt Ideal) M8.view.junk L8)))
        shapeCasts_S512x256_S1x1x512x256⟩ :: L8) := by
  subst e3 e4 e5 e7 e8
  unfold Holds
  rw [View.read_writes_cons_put _ _ _ _ _ rfl, View.read_writes_cons_put _ _ _ _ _ rfl,
    View.readAt_unit M3.view f3 i3 rfl i3, View.readAt_unit M4.view f4 i4 rfl i4, View.readAt_unit M5.view f5 i5 rfl i5,
    View.readAt_unit M7.view _ i7' rfl i7', View.readAt_unit M8.view _ i8' rfl i8']
  exact step512 h hs w hd kt hk hn hn' i3 i4 i5 i7' i8'

/-- The stores of a diagonal tile's first half. -/
theorem lo (h : Holds M3 M4 M5 M7 M8 f3 f4 f5 a n L7 L8) (hs : NoTop M3 M4 f3 f4) (w hd : Fin 2)
    (hn : ∀ r : Fin 512, 0 ≤ r.val → r.val < 0 + 256 → n w hd r = 512 * qTile a w.val ∧ n' w hd r = 512 * qTile a w.val + 256)
    (hn' : ∀ w' hd' r, ¬ (w' = w ∧ hd' = hd ∧ 0 ≤ r.val ∧ r.val < 0 + 256) → n' w' hd' r = n w' hd' r)
    {o3 o4 o5 : Fin 2 → ℕ} {o7 o8 : Fin 4 → ℕ} (e3 : o3 = ![512 * qTile a w.val + 0, 256 * hd.val]) (e4 : o4 = ![512 * qTile a w.val, 256 * hd.val])
    (e5 : o5 = ![512 * qTile a w.val, 128 * hd.val]) (e7 : o7 = ![w.val, hd.val, 0, 0]) (e8 : o8 = ![w.val, hd.val, 0, 0])
    {i3 : ∀ x, o3 x + S256x256.size x ≤ S4096x512.size x}
    {i4 : ∀ x, o4 x + S256x256.size x ≤ S4096x512.size x} {i5 : ∀ x, o5 x + S256x128.size x ≤ S4096x256.size x}
    {i7 i7' : ∀ x, o7 x + S1x1x256x128.size x ≤ S2x2x512x128.size x} {i8 i8' : ∀ x, o8 x + S1x1x256x256.size x ≤ S2x2x512x256.size x} :
    Holds M3 M4 M5 M7 M8 f3 f4 f5 a n'
      (⟨Rect.unit (s := S2x2x512x128) o7 S1x1x256x128.size i7, shapeCast S1x1x256x128 (maxLo (maskLo (scoresLo (M3.view.readAt (Elt Ideal) (Rect.unit (s := S4096x512) o3 S256x256.size i3).toLoadRect f3) (M4.view.readAt (Elt Ideal) (Rect.unit (s := S4096x512) o4 S256x256.size i4).toLoadRect f4)))
        (M7.view.readAt (Elt Ideal) (Rect.unit (s := S2x2x512x128) o7 S1x1x256x128.size i7').toLoadRect (M7.view.writes (Elt Ideal) M7.view.junk L7)))
        shapeCasts_S256x128_S1x1x256x128⟩ :: L7)
      (⟨Rect.unit (s := S2x2x512x256) o8 S1x1x256x256.size i8, shapeCast S1x1x256x256 (accLo (maskLo (scoresLo (M3.view.readAt (Elt Ideal) (Rect.unit (s := S4096x512) o3 S256x256.size i3).toLoadRect f3) (M4.view.readAt (Elt Ideal) (Rect.unit (s := S4096x512) o4 S256x256.size i4).toLoadRect f4)))
        (M7.view.readAt (Elt Ideal) (Rect.unit (s := S2x2x512x128) o7 S1x1x256x128.size i7').toLoadRect (M7.view.writes (Elt Ideal) M7.view.junk L7))
        (M5.view.readAt (Elt Ideal) (Rect.unit (s := S4096x256) o5 S256x128.size i5).toLoadRect f5)
        (M8.view.readAt (Elt Ideal) (Rect.unit (s := S2x2x512x256) o8 S1x1x256x256.size i8').toLoadRect (M8.view.writes (Elt Ideal) M8.view.junk L8)))
        shapeCasts_S256x256_S1x1x256x256⟩ :: L8) := by
  subst e3 e4 e5 e7 e8
  unfold Holds
  rw [View.read_writes_cons_put _ _ _ _ _ rfl, View.read_writes_cons_put _ _ _ _ _ rfl,
    View.readAt_unit M3.view f3 i3 rfl i3, View.readAt_unit M4.view f4 i4 rfl i4, View.readAt_unit M5.view f5 i5 rfl i5,
    View.readAt_unit M7.view _ i7' rfl i7', View.readAt_unit M8.view _ i8' rfl i8']
  exact stepLo h hs w hd hn hn' i3 i4 i5 i7' i8'

/-- The stores of a diagonal tile's second half. -/
theorem hi (h : Holds M3 M4 M5 M7 M8 f3 f4 f5 a n L7 L8) (hs : NoTop M3 M4 f3 f4) (w hd : Fin 2)
    (hn : ∀ r : Fin 512, 256 ≤ r.val → r.val < 256 + 256 → n w hd r = 512 * qTile a w.val ∧ n' w hd r = 512 * qTile a w.val + 512)
    (hn' : ∀ w' hd' r, ¬ (w' = w ∧ hd' = hd ∧ 256 ≤ r.val ∧ r.val < 256 + 256) → n' w' hd' r = n w' hd' r)
    {o3 o4 o5 : Fin 2 → ℕ} {o7 o8 : Fin 4 → ℕ} (e3 : o3 = ![512 * qTile a w.val + 256, 256 * hd.val]) (e4 : o4 = ![512 * qTile a w.val, 256 * hd.val])
    (e5 : o5 = ![512 * qTile a w.val, 128 * hd.val]) (e7 : o7 = ![w.val, hd.val, 256, 0]) (e8 : o8 = ![w.val, hd.val, 256, 0])
    {i3 : ∀ x, o3 x + S256x256.size x ≤ S4096x512.size x}
    {i4 : ∀ x, o4 x + S512x256.size x ≤ S4096x512.size x} {i5 : ∀ x, o5 x + S512x128.size x ≤ S4096x256.size x}
    {i7 i7' : ∀ x, o7 x + S1x1x256x128.size x ≤ S2x2x512x128.size x} {i8 i8' : ∀ x, o8 x + S1x1x256x256.size x ≤ S2x2x512x256.size x} :
    Holds M3 M4 M5 M7 M8 f3 f4 f5 a n'
      (⟨Rect.unit (s := S2x2x512x128) o7 S1x1x256x128.size i7, shapeCast S1x1x256x128 (maxHi (maskHi (scoresHi (M3.view.readAt (Elt Ideal) (Rect.unit (s := S4096x512) o3 S256x256.size i3).toLoadRect f3) (M4.view.readAt (Elt Ideal) (Rect.unit (s := S4096x512) o4 S512x256.size i4).toLoadRect f4)))
        (M7.view.readAt (Elt Ideal) (Rect.unit (s := S2x2x512x128) o7 S1x1x256x128.size i7').toLoadRect (M7.view.writes (Elt Ideal) M7.view.junk L7)))
        shapeCasts_S256x128_S1x1x256x128⟩ :: L7)
      (⟨Rect.unit (s := S2x2x512x256) o8 S1x1x256x256.size i8, shapeCast S1x1x256x256 (accHi (maskHi (scoresHi (M3.view.readAt (Elt Ideal) (Rect.unit (s := S4096x512) o3 S256x256.size i3).toLoadRect f3) (M4.view.readAt (Elt Ideal) (Rect.unit (s := S4096x512) o4 S512x256.size i4).toLoadRect f4)))
        (M7.view.readAt (Elt Ideal) (Rect.unit (s := S2x2x512x128) o7 S1x1x256x128.size i7').toLoadRect (M7.view.writes (Elt Ideal) M7.view.junk L7))
        (M5.view.readAt (Elt Ideal) (Rect.unit (s := S4096x256) o5 S512x128.size i5).toLoadRect f5)
        (M8.view.readAt (Elt Ideal) (Rect.unit (s := S2x2x512x256) o8 S1x1x256x256.size i8').toLoadRect (M8.view.writes (Elt Ideal) M8.view.junk L8)))
        shapeCasts_S256x256_S1x1x256x256⟩ :: L8) := by
  subst e3 e4 e5 e7 e8
  unfold Holds
  rw [View.read_writes_cons_put _ _ _ _ _ rfl, View.read_writes_cons_put _ _ _ _ _ rfl,
    View.readAt_unit M3.view f3 i3 rfl i3, View.readAt_unit M4.view f4 i4 rfl i4, View.readAt_unit M5.view f5 i5 rfl i5,
    View.readAt_unit M7.view _ i7' rfl i7', View.readAt_unit M8.view _ i8' rfl i8']
  exact stepHi h hs w hd hn hn' i3 i4 i5 i7' i8'

end

/-- The keys met after `j hd` full items in head `hd`. -/
def met (a : ℕ) (j : Fin 2 → ℕ) : Fin 2 → Fin 2 → Fin 512 → ℕ :=
  fun w hd _ => if w.val = 0 then 512 * min (j hd) a else 512 * (j hd - a)

/-- The number of items done, by head: `x` in the first, `y` in the second. -/
def done (x y : ℕ) (hd : Fin 2) : ℕ := if hd.val = 0 then x else y

theorem side_lt (a k : ℕ) : side a k < 2 := by unfold side; split <;> omega

theorem kTile_lt {a k : ℕ} (ha : a < 4) (hk : k < 7) : kTile a k < qTile a (side a k) := by
  unfold kTile qTile side
  by_cases h : a ≤ k
  · simp only [if_pos h, Nat.one_ne_zero, if_false]; omega
  · simp only [if_neg h, if_true]; omega

theorem met_before (a k : ℕ) (ha : a < 4) (j : Fin 2 → ℕ) (hd : Fin 2) (hj : j hd = k) (r : Fin 512) :
    met a j ⟨side a k, side_lt a k⟩ hd r = 512 * kTile a k := by
  subst hj
  show (if side a (j hd) = 0 then _ else _) = _
  unfold side kTile
  by_cases h : a ≤ j hd
  · simp only [if_pos h, Nat.one_ne_zero, if_false]
  · simp only [if_neg h, if_true]; omega

theorem met_after (a k : ℕ) (j j' : Fin 2 → ℕ) (hd : Fin 2) (hj : j hd = k) (hj' : j' hd = k + 1) (ho : ∀ h, h ≠ hd → j' h = j h)
    (w' hd' : Fin 2) (r : Fin 512) :
    met a j' w' hd' r = if w' = ⟨side a k, side_lt a k⟩ ∧ hd' = hd then met a j w' hd' r + 512 else met a j w' hd' r := by
  have hw : (w' = ⟨side a k, side_lt a k⟩) ↔ w'.val = side a k := ⟨fun h => congrArg Fin.val h, fun h => Fin.ext h⟩
  have hw2 := w'.isLt
  by_cases e : hd' = hd
  · subst e
    simp only [and_true, hw]
    unfold met side
    rw [hj, hj']
    split_ifs <;> omega
  · rw [if_neg fun h => e h.2]
    unfold met
    rw [ho _ e]

/-- The diagonal halves in the order the body takes them. -/
def turn (w hd : Fin 2) (r : Fin 512) : ℕ := 4 * w.val + 2 * (r.val / 256) + hd.val

/-- The keys met after `e` diagonal halves. -/
def metD (a e : ℕ) : Fin 2 → Fin 2 → Fin 512 → ℕ :=
  fun w hd r => 512 * qTile a w.val + if turn w hd r < e then 256 * (r.val / 256) + 256 else 0

theorem metD_zero (a : ℕ) (ha : a < 4) : met a (done 7 7) = metD a 0 := by
  funext w hd r
  have := w.isLt
  unfold met metD done qTile
  split_ifs <;> omega

theorem metD_in {a e : ℕ} (w hd : Fin 2) (h : ℕ) (he : 4 * w.val + 2 * h + hd.val = e) (r : Fin 512) (h1 : 256 * h ≤ r.val) (h2 : r.val < 256 * h + 256) :
    metD a e w hd r = 512 * qTile a w.val ∧ metD a (e + 1) w hd r = 512 * qTile a w.val + (256 * h + 256) := by
  have hr : r.val / 256 = h := by omega
  unfold metD turn
  rw [hr, if_neg (by omega), if_pos (by omega)]
  exact ⟨rfl, rfl⟩

theorem metD_out {a e : ℕ} (w hd : Fin 2) (h : ℕ) (he : 4 * w.val + 2 * h + hd.val = e) (hh : h < 2) (w' hd' : Fin 2) (r : Fin 512)
    (hc : ¬ (w' = w ∧ hd' = hd ∧ 256 * h ≤ r.val ∧ r.val < 256 * h + 256)) : metD a (e + 1) w' hd' r = metD a e w' hd' r := by
  have : turn w' hd' r ≠ e := fun ht => hc (by
    unfold turn at ht
    have := w'.isLt; have := hd'.isLt; have := w.isLt; have := hd.isLt; have := r.isLt
    exact ⟨Fin.ext (by omega), Fin.ext (by omega), by omega, by omega⟩)
  unfold metD
  congr 1
  split_ifs <;> omega

section

variable (c : Dev nD) (t : Fin grid0.N) (M3 M4 : Memref sig .tc .vmem S4096x512 .bf16) (M5 : Memref sig .tc .vmem S4096x256 .bf16)
  (M7 : Memref sig .tc .vmem S2x2x512x128 .f32) (M8 : Memref sig .tc .vmem S2x2x512x256 .f32)
  (f3 : Bf (F := Ideal) c M3) (f4 : Bf (F := Ideal) c M4) (f5 : Bf (F := Ideal) c M5)

/-- The scratch buffers as the body first fills them. -/
theorem holds1 : Holds M3 M4 M5 M7 M8 f3 f4 f5 (t.val % 4) (met (t.val % 4) (done 0 0)) kernelRun.sl.H7_1 kernelRun.sl.H8_1 := by
  have e7 : M7.view.read (Elt Ideal) (M7.view.writes (Elt Ideal) M7.view.junk kernelRun.sl.H7_1) = (k0_pay2 : FVec Ideal S2x2x512x128 .f32) :=
    View.read_writes_full M7.view _ (off := ![0, 0, 0, 0]) (by decide) _ _
  have e8 : M8.view.read (Elt Ideal) (M8.view.writes (Elt Ideal) M8.view.junk kernelRun.sl.H8_1) = (k0_pay3 : FVec Ideal S2x2x512x256 .f32) :=
    View.read_writes_full M8.view _ (off := ![0, 0, 0, 0]) (by decide) _ _
  unfold Holds
  rw [e7, e8]
  intro w hd r
  have en : met (t.val % 4) (done 0 0) w hd r = 0 := by unfold met done; split_ifs <;> omega
  rw [en]
  refine ⟨⊥, fun l => ?_, ?_⟩
  · pointwise [k0_pay2]
    exact mask_value
  · have e0 : (fun c : Fin 256 => (k0_pay3 : FVec Ideal S2x2x512x256 .f32) (ix4 w hd r c)) = fun _ => 0 := by
      funext c
      pointwise [k0_pay3]
    rw [e0]
    exact Row.zero _ _

variable (hs : NoTop M3 M4 f3 f4)
include hs

/-! One theorem a pair of stores: the full items, one head after the other. -/

theorem holds2 : Holds M3 M4 M5 M7 M8 f3 f4 f5 (t.val % 4) (met (t.val % 4) (done 1 0)) (kernelRun.sl.H7_2 c (grid0.coords t) M3 M4 M7 f3 f4) (kernelRun.sl.H8_2 c (grid0.coords t) M3 M4 M5 M7 M8 f3 f4 f5) :=
  full (holds1 c t M3 M4 M5 M7 M8 f3 f4 f5) hs ⟨side (t.val % 4) 0, side_lt _ _⟩ 0 (kTile (t.val % 4) 0)
    (kTile_lt (by omega) (by omega)) (met_before _ _ (by omega) _ _ rfl) (met_after _ _ _ _ _ rfl rfl (by decide))
    (off1 t 0) (off2 t 0) (off6 t 0) (off5 t 0) (off7 t 0)

theorem holds3 : Holds M3 M4 M5 M7 M8 f3 f4 f5 (t.val % 4) (met (t.val % 4) (done 1 1)) (kernelRun.sl.H7_3 c (grid0.coords t) M3 M4 M7 f3 f4) (kernelRun.sl.H8_3 c (grid0.coords t) M3 M4 M5 M7 M8 f3 f4 f5) :=
  full (holds2 c t M3 M4 M5 M7 M8 f3 f4 f5 hs) hs ⟨side (t.val % 4) 0, side_lt _ _⟩ 1 (kTile (t.val % 4) 0)
    (kTile_lt (by omega) (by omega)) (met_before _ _ (by omega) _ _ rfl) (met_after _ _ _ _ _ rfl rfl (by decide))
    (off3 t 0) (off4 t 0) (off9 t 0) (off8 t 0) (off10 t 0)

theorem holds4 : Holds M3 M4 M5 M7 M8 f3 f4 f5 (t.val % 4) (met (t.val % 4) (done 2 1)) (kernelRun.sl.H7_4 c (grid0.coords t) M3 M4 M7 f3 f4) (kernelRun.sl.H8_4 c (grid0.coords t) M3 M4 M5 M7 M8 f3 f4 f5) :=
  full (holds3 c t M3 M4 M5 M7 M8 f3 f4 f5 hs) hs ⟨side (t.val % 4) 1, side_lt _ _⟩ 0 (kTile (t.val % 4) 1)
    (kTile_lt (by omega) (by omega)) (met_before _ _ (by omega) _ _ rfl) (met_after _ _ _ _ _ rfl rfl (by decide))
    (off1 t 1) (off2 t 1) (off6 t 1) (off5 t 1) (off7 t 1)

theorem holds5 : Holds M3 M4 M5 M7 M8 f3 f4 f5 (t.val % 4) (met (t.val % 4) (done 2 2)) (kernelRun.sl.H7_5 c (grid0.coords t) M3 M4 M7 f3 f4) (kernelRun.sl.H8_5 c (grid0.coords t) M3 M4 M5 M7 M8 f3 f4 f5) :=
  full (holds4 c t M3 M4 M5 M7 M8 f3 f4 f5 hs) hs ⟨side (t.val % 4) 1, side_lt _ _⟩ 1 (kTile (t.val % 4) 1)
    (kTile_lt (by omega) (by omega)) (met_before _ _ (by omega) _ _ rfl) (met_after _ _ _ _ _ rfl rfl (by decide))
    (off3 t 1) (off4 t 1) (off9 t 1) (off8 t 1) (off10 t 1)

theorem holds6 : Holds M3 M4 M5 M7 M8 f3 f4 f5 (t.val % 4) (met (t.val % 4) (done 3 2)) (kernelRun.sl.H7_6 c (grid0.coords t) M3 M4 M7 f3 f4) (kernelRun.sl.H8_6 c (grid0.coords t) M3 M4 M5 M7 M8 f3 f4 f5) :=
  full (holds5 c t M3 M4 M5 M7 M8 f3 f4 f5 hs) hs ⟨side (t.val % 4) 2, side_lt _ _⟩ 0 (kTile (t.val % 4) 2)
    (kTile_lt (by omega) (by omega)) (met_before _ _ (by omega) _ _ rfl) (met_after _ _ _ _ _ rfl rfl (by decide))
    (off1 t 2) (off2 t 2) (off6 t 2) (off5 t 2) (off7 t 2)

theorem holds7 : Holds M3 M4 M5 M7 M8 f3 f4 f5 (t.val % 4) (met (t.val % 4) (done 3 3)) (kernelRun.sl.H7_7 c (grid0.coords t) M3 M4 M7 f3 f4) (kernelRun.sl.H8_7 c (grid0.coords t) M3 M4 M5 M7 M8 f3 f4 f5) :=
  full (holds6 c t M3 M4 M5 M7 M8 f3 f4 f5 hs) hs ⟨side (t.val % 4) 2, side_lt _ _⟩ 1 (kTile (t.val % 4) 2)
    (kTile_lt (by omega) (by omega)) (met_before _ _ (by omega) _ _ rfl) (met_after _ _ _ _ _ rfl rfl (by decide))
    (off3 t 2) (off4 t 2) (off9 t 2) (off8 t 2) (off10 t 2)

theorem holds8 : Holds M3 M4 M5 M7 M8 f3 f4 f5 (t.val % 4) (met (t.val % 4) (done 4 3)) (kernelRun.sl.H7_8 c (grid0.coords t) M3 M4 M7 f3 f4) (kernelRun.sl.H8_8 c (grid0.coords t) M3 M4 M5 M7 M8 f3 f4 f5) :=
  full (holds7 c t M3 M4 M5 M7 M8 f3 f4 f5 hs) hs ⟨side (t.val % 4) 3, side_lt _ _⟩ 0 (kTile (t.val % 4) 3)
    (kTile_lt (by omega) (by omega)) (met_before _ _ (by omega) _ _ rfl) (met_after _ _ _ _ _ rfl rfl (by decide))
    (off1 t 3) (off2 t 3) (off6 t 3) (off5 t 3) (off7 t 3)

theorem holds9 : Holds M3 M4 M5 M7 M8 f3 f4 f5 (t.val % 4) (met (t.val % 4) (done 4 4)) (kernelRun.sl.H7_9 c (grid0.coords t) M3 M4 M7 f3 f4) (kernelRun.sl.H8_9 c (grid0.coords t) M3 M4 M5 M7 M8 f3 f4 f5) :=
  full (holds8 c t M3 M4 M5 M7 M8 f3 f4 f5 hs) hs ⟨side (t.val % 4) 3, side_lt _ _⟩ 1 (kTile (t.val % 4) 3)
    (kTile_lt (by omega) (by omega)) (met_before _ _ (by omega) _ _ rfl) (met_after _ _ _ _ _ rfl rfl (by decide))
    (off3 t 3) (off4 t 3) (off9 t 3) (off8 t 3) (off10 t 3)

theorem holds10 : Holds M3 M4 M5 M7 M8 f3 f4 f5 (t.val % 4) (met (t.val % 4) (done 5 4)) (kernelRun.sl.H7_10 c (grid0.coords t) M3 M4 M7 f3 f4) (kernelRun.sl.H8_10 c (grid0.coords t) M3 M4 M5 M7 M8 f3 f4 f5) :=
  full (holds9 c t M3 M4 M5 M7 M8 f3 f4 f5 hs) hs ⟨side (t.val % 4) 4, side_lt _ _⟩ 0 (kTile (t.val % 4) 4)
    (kTile_lt (by omega) (by omega)) (met_before _ _ (by omega) _ _ rfl) (met_after _ _ _ _ _ rfl rfl (by decide))
    (off1 t 4) (off2 t 4) (off6 t 4) (off5 t 4) (off7 t 4)

theorem holds11 : Holds M3 M4 M5 M7 M8 f3 f4 f5 (t.val % 4) (met (t.val % 4) (done 5 5)) (kernelRun.sl.H7_11 c (grid0.coords t) M3 M4 M7 f3 f4) (kernelRun.sl.H8_11 c (grid0.coords t) M3 M4 M5 M7 M8 f3 f4 f5) :=
  full (holds10 c t M3 M4 M5 M7 M8 f3 f4 f5 hs) hs ⟨side (t.val % 4) 4, side_lt _ _⟩ 1 (kTile (t.val % 4) 4)
    (kTile_lt (by omega) (by omega)) (met_before _ _ (by omega) _ _ rfl) (met_after _ _ _ _ _ rfl rfl (by decide))
    (off3 t 4) (off4 t 4) (off9 t 4) (off8 t 4) (off10 t 4)

theorem holds12 : Holds M3 M4 M5 M7 M8 f3 f4 f5 (t.val % 4) (met (t.val % 4) (done 6 5)) (kernelRun.sl.H7_12 c (grid0.coords t) M3 M4 M7 f3 f4) (kernelRun.sl.H8_12 c (grid0.coords t) M3 M4 M5 M7 M8 f3 f4 f5) :=
  full (holds11 c t M3 M4 M5 M7 M8 f3 f4 f5 hs) hs ⟨side (t.val % 4) 5, side_lt _ _⟩ 0 (kTile (t.val % 4) 5)
    (kTile_lt (by omega) (by omega)) (met_before _ _ (by omega) _ _ rfl) (met_after _ _ _ _ _ rfl rfl (by decide))
    (off1 t 5) (off2 t 5) (off6 t 5) (off5 t 5) (off7 t 5)

theorem holds13 : Holds M3 M4 M5 M7 M8 f3 f4 f5 (t.val % 4) (met (t.val % 4) (done 6 6)) (kernelRun.sl.H7_13 c (grid0.coords t) M3 M4 M7 f3 f4) (kernelRun.sl.H8_13 c (grid0.coords t) M3 M4 M5 M7 M8 f3 f4 f5) :=
  full (holds12 c t M3 M4 M5 M7 M8 f3 f4 f5 hs) hs ⟨side (t.val % 4) 5, side_lt _ _⟩ 1 (kTile (t.val % 4) 5)
    (kTile_lt (by omega) (by omega)) (met_before _ _ (by omega) _ _ rfl) (met_after _ _ _ _ _ rfl rfl (by decide))
    (off3 t 5) (off4 t 5) (off9 t 5) (off8 t 5) (off10 t 5)

theorem holds14 : Holds M3 M4 M5 M7 M8 f3 f4 f5 (t.val % 4) (met (t.val % 4) (done 7 6)) (kernelRun.sl.H7_14 c (grid0.coords t) M3 M4 M7 f3 f4) (kernelRun.sl.H8_14 c (grid0.coords t) M3 M4 M5 M7 M8 f3 f4 f5) :=
  full (holds13 c t M3 M4 M5 M7 M8 f3 f4 f5 hs) hs ⟨side (t.val % 4) 6, side_lt _ _⟩ 0 (kTile (t.val % 4) 6)
    (kTile_lt (by omega) (by omega)) (met_before _ _ (by omega) _ _ rfl) (met_after _ _ _ _ _ rfl rfl (by decide))
    (off1 t 6) (off2 t 6) (off6 t 6) (off5 t 6) (off7 t 6)

theorem holds15 : Holds M3 M4 M5 M7 M8 f3 f4 f5 (t.val % 4) (met (t.val % 4) (done 7 7)) (kernelRun.sl.H7_15 c (grid0.coords t) M3 M4 M7 f3 f4) (kernelRun.sl.H8_15 c (grid0.coords t) M3 M4 M5 M7 M8 f3 f4 f5) :=
  full (holds14 c t M3 M4 M5 M7 M8 f3 f4 f5 hs) hs ⟨side (t.val % 4) 6, side_lt _ _⟩ 1 (kTile (t.val % 4) 6)
    (kTile_lt (by omega) (by omega)) (met_before _ _ (by omega) _ _ rfl) (met_after _ _ _ _ _ rfl rfl (by decide))
    (off3 t 6) (off4 t 6) (off9 t 6) (off8 t 6) (off10 t 6)

/-! Then the halves of the diagonal tiles. -/

theorem holds16 : Holds M3 M4 M5 M7 M8 f3 f4 f5 (t.val % 4) (metD (t.val % 4) 1) (kernelRun.sl.H7_16 c (grid0.coords t) M3 M4 M7 f3 f4) (kernelRun.sl.H8_16 c (grid0.coords t) M3 M4 M5 M7 M8 f3 f4 f5) :=
  lo (metD_zero (t.val % 4) (by omega) ▸ holds15 c t M3 M4 M5 M7 M8 f3 f4 f5 hs : Holds M3 M4 M5 M7 M8 f3 f4 f5 (t.val % 4) (metD (t.val % 4) 0) (kernelRun.sl.H7_15 c (grid0.coords t) M3 M4 M7 f3 f4) (kernelRun.sl.H8_15 c (grid0.coords t) M3 M4 M5 M7 M8 f3 f4 f5)) hs 0 0 (fun r h1 h2 => metD_in 0 0 0 rfl r h1 h2) (fun w' hd' r hc => metD_out 0 0 0 rfl (by omega) w' hd' r hc)
    (off11 t 0) (off12 t) (off21 t) rfl rfl

theorem holds17 : Holds M3 M4 M5 M7 M8 f3 f4 f5 (t.val % 4) (metD (t.val % 4) 2) (kernelRun.sl.H7_17 c (grid0.coords t) M3 M4 M7 f3 f4) (kernelRun.sl.H8_17 c (grid0.coords t) M3 M4 M5 M7 M8 f3 f4 f5) :=
  lo (holds16 c t M3 M4 M5 M7 M8 f3 f4 f5 hs) hs 0 1 (fun r h1 h2 => metD_in 0 1 0 rfl r h1 h2) (fun w' hd' r hc => metD_out 0 1 0 rfl (by omega) w' hd' r hc)
    (off13 t 0) (off14 t) (off22 t) rfl rfl

theorem holds18 : Holds M3 M4 M5 M7 M8 f3 f4 f5 (t.val % 4) (metD (t.val % 4) 3) (kernelRun.sl.H7_18 c (grid0.coords t) M3 M4 M7 f3 f4) (kernelRun.sl.H8_18 c (grid0.coords t) M3 M4 M5 M7 M8 f3 f4 f5) :=
  hi (holds17 c t M3 M4 M5 M7 M8 f3 f4 f5 hs) hs 0 0 (fun r h1 h2 => metD_in 0 0 1 rfl r h1 h2) (fun w' hd' r hc => metD_out 0 0 1 rfl (by omega) w' hd' r hc)
    (off11 t 1) (off15 t) (off25 t) rfl rfl

theorem holds19 : Holds M3 M4 M5 M7 M8 f3 f4 f5 (t.val % 4) (metD (t.val % 4) 4) (kernelRun.sl.H7_19 c (grid0.coords t) M3 M4 M7 f3 f4) (kernelRun.sl.H8_19 c (grid0.coords t) M3 M4 M5 M7 M8 f3 f4 f5) :=
  hi (holds18 c t M3 M4 M5 M7 M8 f3 f4 f5 hs) hs 0 1 (fun r h1 h2 => metD_in 0 1 1 rfl r h1 h2) (fun w' hd' r hc => metD_out 0 1 1 rfl (by omega) w' hd' r hc)
    (off13 t 1) (off16 t) (off26 t) rfl rfl

theorem holds20 : Holds M3 M4 M5 M7 M8 f3 f4 f5 (t.val % 4) (metD (t.val % 4) 5) (kernelRun.sl.H7_20 c (grid0.coords t) M3 M4 M7 f3 f4) (kernelRun.sl.H8_20 c (grid0.coords t) M3 M4 M5 M7 M8 f3 f4 f5) :=
  lo (holds19 c t M3 M4 M5 M7 M8 f3 f4 f5 hs) hs 1 0 (fun r h1 h2 => metD_in 1 0 0 rfl r h1 h2) (fun w' hd' r hc => metD_out 1 0 0 rfl (by omega) w' hd' r hc)
    (off17 t 0) (off18 t) (off27 t) rfl rfl

theorem holds21 : Holds M3 M4 M5 M7 M8 f3 f4 f5 (t.val % 4) (metD (t.val % 4) 6) (kernelRun.sl.H7_21 c (grid0.coords t) M3 M4 M7 f3 f4) (kernelRun.sl.H8_21 c (grid0.coords t) M3 M4 M5 M7 M8 f3 f4 f5) :=
  lo (holds20 c t M3 M4 M5 M7 M8 f3 f4 f5 hs) hs 1 1 (fun r h1 h2 => metD_in 1 1 0 rfl r h1 h2) (fun w' hd' r hc => metD_out 1 1 0 rfl (by omega) w' hd' r hc)
    (off19 t 0) (off20 t) (off28 t) rfl rfl

theorem holds22 : Holds M3 M4 M5 M7 M8 f3 f4 f5 (t.val % 4) (metD (t.val % 4) 7) (kernelRun.sl.H7_22 c (grid0.coords t) M3 M4 M7 f3 f4) (kernelRun.sl.H8_22 c (grid0.coords t) M3 M4 M5 M7 M8 f3 f4 f5) :=
  hi (holds21 c t M3 M4 M5 M7 M8 f3 f4 f5 hs) hs 1 0 (fun r h1 h2 => metD_in 1 0 1 rfl r h1 h2) (fun w' hd' r hc => metD_out 1 0 1 rfl (by omega) w' hd' r hc)
    (off17 t 1) (off23 t) (off29 t) rfl rfl

theorem holds23 : Holds M3 M4 M5 M7 M8 f3 f4 f5 (t.val % 4) (metD (t.val % 4) 8) (⟨Rect.unit (s := S2x2x512x128) ![1, 1, 256, 0] S1x1x256x128.size (by decide), kernelRun.sl.v1024 c (grid0.coords t) M3 M4 M7 f3 f4⟩ :: (kernelRun.sl.H7_22 c (grid0.coords t) M3 M4 M7 f3 f4)) (kernelRun.sl.H8_23 c (grid0.coords t) M3 M4 M5 M7 M8 f3 f4 f5) :=
  hi (holds22 c t M3 M4 M5 M7 M8 f3 f4 f5 hs) hs 1 1 (fun r h1 h2 => metD_in 1 1 1 rfl r h1 h2) (fun w' hd' r hc => metD_out 1 1 1 rfl (by omega) w' hd' r hc)
    (off19 t 1) (off24 t) (off30 t) rfl rfl

end

end Cert.FlashIdeal.Value

end
-- ==== Proof.Rows.lean ====
/- What the attention kernel's body leaves in its result's buffer: the rows of the point's two query tiles. -/
module

public import proofs.«01_k».proof.Proof.Chain
public import proofs.«01_k».proof.Proof.Run

@[expose] public section

set_option maxRecDepth 16384

noncomputable section

namespace Cert.FlashIdeal.Value

open Cert.FlashIdeal Cert.FlashIdeal.Gen Cert.FlashIdeal.Body
open Idealize.ShloMosaic
open Idealize.ShloMosaic.TcCoe
open Cert.Online (wt Row)
open VecWindow (window put)

/-- The attention of query `g` in head `hd` of a pair, at column `d`, as the kernel's sums have it. -/
def att (X3 X4 : FVec Ideal S4096x512 .bf16) (X5 : FVec Ideal S4096x256 .bf16) (hd g : ℕ) (d : Fin 128) : EReal :=
  Ideal.div (∑ j ∈ Finset.range 4096, wt (score X3 X4 hd g j) ((Finset.range 4096).sup (score X3 X4 hd g)) * value X5 hd j ⟨d.val, by omega⟩)
    (∑ j ∈ Finset.range 4096, wt (score X3 X4 hd g j) ((Finset.range 4096).sup (score X3 X4 hd g)) * value X5 hd j ⟨128 + d.val, by omega⟩)

theorem put2_in {A B R K : ℕ} (X : (⟨2, ![A, B]⟩ : Shape).Idx → EReal) (a b : ℕ) (W : (⟨2, ![R, K]⟩ : Shape).Idx → EReal) (x : Fin A) (y : Fin B)
    (r : Fin R) (k : Fin K) (hx : x.val = a + r.val) (hy : y.val = b + k.val) :
    put (s := ⟨2, ![A, B]⟩) X ![a, b] (⟨2, ![R, K]⟩ : Shape).size W (ix2 x y) = W (ix2 r k) := by
  have hr := r.isLt
  have hk := k.isLt
  unfold put
  rw [dif_pos (fun z => by
    fin_cases z
    · show a ≤ x.val ∧ x.val < a + R; omega
    · show b ≤ y.val ∧ y.val < b + K; omega)]
  exact congrArg W (funext fun z => Fin.ext (by
    fin_cases z
    · show x.val - a = r.val; omega
    · show y.val - b = k.val; omega))

/-- A store of one tile's rows in one head, read at an element. -/
theorem put_tile (X : FVec Ideal S4096x256 .bf16) (q h b : ℕ) (hb : b = 128 * h) (W : FVec Ideal S512x128 .bf16) (g : Fin 4096) (hd : Fin 2) (d : Fin 128) :
    put (s := S4096x256) X ![512 * q, b] S512x128.size W (ix2 g ⟨128 * hd.val + d.val, by omega⟩)
      = if g.val / 512 = q ∧ hd.val = h then W (ix2 ⟨g.val % 512, by omega⟩ d) else X (ix2 g ⟨128 * hd.val + d.val, by omega⟩) := by
  subst hb
  have hd2 := hd.isLt
  have hdd := d.isLt
  by_cases e : g.val / 512 = q ∧ hd.val = h
  · rw [if_pos e]
    exact put2_in X (512 * q) (128 * h) W g ⟨128 * hd.val + d.val, by omega⟩ ⟨g.val % 512, by omega⟩ d
      (by show g.val = 512 * q + g.val % 512; omega) (by show 128 * hd.val + d.val = 128 * h + d.val; omega)
  · rw [if_neg e]
    unfold put
    rw [dif_neg fun hall => e ?_]
    have h0 : 512 * q ≤ g.val ∧ g.val < 512 * q + 512 := hall 0
    have h1 : 128 * h ≤ 128 * hd.val + d.val ∧ 128 * hd.val + d.val < 128 * h + 128 := hall 1
    omega

theorem pay1_at (x : FVec Ideal S1x1x512x256 .f32) (r : Fin 512) (d : Fin 128) :
    (k0_pay1 x : FVec Ideal S512x128 .bf16) (ix2 r d) = Ideal.div (x (ix4 0 0 r ⟨d.val, by omega⟩)) (x (ix4 0 0 r ⟨128 + d.val, by omega⟩)) := by
  pointwise [k0_pay1]

section

variable (c : Dev nD) (t : Fin grid0.N) (M3 M4 : Memref sig .tc .vmem S4096x512 .bf16) (M5 : Memref sig .tc .vmem S4096x256 .bf16)
  (M7 : Memref sig .tc .vmem S2x2x512x128 .f32) (M8 : Memref sig .tc .vmem S2x2x512x256 .f32)
  (f3 : Bf (F := Ideal) c M3) (f4 : Bf (F := Ideal) c M4) (f5 : Bf (F := Ideal) c M5)

variable (hs : NoTop M3 M4 f3 f4)
include hs

/-- A stored quotient is the attention of its query. -/
theorem stored (w hd : Fin 2) (inb) (r : Fin 512) (d : Fin 128) :
    k0_pay1 (F := Ideal) (M8.view.readCov (kernelRun.sl.H8_23 c (grid0.coords t) M3 M4 M5 M7 M8 f3 f4 f5)
      (Rect.unit (s := S2x2x512x256) ![w.val, hd.val, 0, 0] S1x1x512x256.size inb).toLoadRect) (ix2 r d)
      = att (M3.view.read (Elt Ideal) f3) (M4.view.read (Elt Ideal) f4) (M5.view.read (Elt Ideal) f5) hd.val (512 * qTile (t.val % 4) w.val + r.val) d := by
  obtain ⟨M, -, hRow⟩ := holds23 c t M3 M4 M5 M7 M8 f3 f4 f5 hs w hd r
  have hRow := hRow.extend 4096 (by
      have := r.isLt; have := w.isLt
      unfold metD qTile
      split_ifs <;> omega) (fun j hj => by
      have := r.isLt; have := w.isLt; have := hd.isLt
      unfold score
      rw [if_neg]
      unfold metD turn at hj
      rw [if_pos (by omega)] at hj
      omega)
  rw [pay1_at]
  have e : ∀ k : Fin 256, (M8.view.readCov (kernelRun.sl.H8_23 c (grid0.coords t) M3 M4 M5 M7 M8 f3 f4 f5)
      (Rect.unit (s := S2x2x512x256) ![w.val, hd.val, 0, 0] S1x1x512x256.size inb).toLoadRect) (ix4 0 0 r k)
      = (M8.view.read (Elt Ideal) (M8.view.writes (Elt Ideal) M8.view.junk (kernelRun.sl.H8_23 c (grid0.coords t) M3 M4 M5 M7 M8 f3 f4 f5))) (ix4 w hd r k) := fun k => by
    refine (congrFun (View.readAt_unit M8.view _ inb rfl inb) (ix4 0 0 r k)).trans ((window4 _ w hd 0 inb r k le_rfl).trans ?_)
    congr 2
    exact Fin.ext (Nat.zero_add _)
  rw [e, e, hRow.sum, hRow.sum, hRow.max]
  rfl

/-- The result's buffer after the body: the rows of tiles `a` and `7 - a` are their attention, the others as before. -/
theorem body_rows (h3 h4 h5 h7 h8) (M6 : Memref sig .tc .vmem S4096x256 .bf16) (f6 : Bf (F := Ideal) c M6) (g : Fin 4096) (hd : Fin 2) (d : Fin 128) :
    M6.view.read (Elt Ideal) (M6.view.writes (Elt Ideal) f6 (kernelRun (F := Ideal) c (grid0.coords t) M3 h3 M4 h4 M5 h5 M7 h7 M8 h8 f3 f4 f5).1)
        (ix2 g ⟨128 * hd.val + d.val, by omega⟩)
      = if g.val / 512 = t.val % 4 ∨ g.val / 512 = 7 - t.val % 4
        then att (M3.view.read (Elt Ideal) f3) (M4.view.read (Elt Ideal) f4) (M5.view.read (Elt Ideal) f5) hd.val g.val d
        else M6.view.read (Elt Ideal) f6 (ix2 g ⟨128 * hd.val + d.val, by omega⟩) := by
  show M6.view.read (Elt Ideal) (M6.view.writes (Elt Ideal) f6 [_, _, _, _]) _ = _
  rw [View.read_writes_cons_put _ _ _ _ _ (off30 t : _ = ![512 * (7 - t.val % 4), 128]),
    View.read_writes_cons_put _ _ _ _ _ (off29 t : _ = ![512 * (7 - t.val % 4), 0]),
    View.read_writes_cons_put _ _ _ _ _ (off26 t : _ = ![512 * (t.val % 4), 128]),
    View.read_writes_cons_put _ _ _ _ _ (off25 t : _ = ![512 * (t.val % 4), 0]), View.writes_nil]
  have st := stored c t M3 M4 M5 M7 M8 f3 f4 f5 hs
  have hg := g.isLt
  rw [put_tile _ _ 1 128 rfl, put_tile _ _ 0 0 rfl, put_tile _ _ 1 128 rfl, put_tile _ _ 0 0 rfl]
  have key : ∀ w : Fin 2, g.val / 512 = qTile (t.val % 4) w.val → 512 * qTile (t.val % 4) w.val + g.val % 512 = g.val := fun w h => by omega
  have e0 := key 0
  have e1 := key 1
  have q0 : qTile (t.val % 4) (0 : Fin 2).val = t.val % 4 := rfl
  have q1 : qTile (t.val % 4) (1 : Fin 2).val = 7 - t.val % 4 := rfl
  rw [q0] at e0
  rw [q1] at e1
  have s00 := st 0 0 (by decide) ⟨g.val % 512, by omega⟩ d
  have s01 := st 0 1 (by decide) ⟨g.val % 512, by omega⟩ d
  have s10 := st 1 0 (by decide) ⟨g.val % 512, by omega⟩ d
  have s11 := st 1 1 (by decide) ⟨g.val % 512, by omega⟩ d
  rw [q0] at s00 s01
  rw [q1] at s10 s11
  have cs : hd = 0 ∨ hd = 1 := by omega
  by_cases h1 : g.val / 512 = 7 - t.val % 4
  · rw [if_pos (Or.inr h1)]
    rw [e1 h1] at s10 s11
    rcases cs with rfl | rfl
    · rw [if_neg (by omega), if_pos ⟨h1, rfl⟩]; exact s10
    · rw [if_pos ⟨h1, rfl⟩]; exact s11
  · rw [if_neg (fun h => h1 h.1), if_neg (fun h => h1 h.1)]
    by_cases h0 : g.val / 512 = t.val % 4
    · rw [if_pos (Or.inl h0)]
      rw [e0 h0] at s00 s01
      rcases cs with rfl | rfl
      · rw [if_neg (by omega), if_pos ⟨h0, rfl⟩]; exact s00
      · rw [if_pos ⟨h0, rfl⟩]; exact s01
    · rw [if_neg (fun h => h0 h.1), if_neg (fun h => h0 h.1), if_neg (by omega)]

end

end Cert.FlashIdeal.Value

end
-- ==== Proof.Blocks.lean ====
/- The blocks of the attention kernel's windows, and what its result's blocks hold when they are written back. -/
module

public import proofs.«01_k».proof.Proof.Rows
public import Idealize.ShloMosaic.Lib.Pipeline.ArrRel
public import Idealize.ShloMosaic.Lib.Pipeline.ValueKit

@[expose] public section

set_option maxRecDepth 16384

noncomputable section

namespace Cert.FlashIdeal.Value

open Cert.FlashIdeal Cert.FlashIdeal.Gen Cert.FlashIdeal.Body
open Idealize.ShloMosaic
open Idealize.ShloMosaic.TcCoe
open Idealize.ShloMosaic.Pipeline (RDat Dat)

variable (m : (ℓ : Loc nD τ sig) → Buf (Elt Ideal) ℓ)

theorem index0 : ∀ t : Fin cfg0.N, win0_0.index t = ![t.val / 16, t.val / 4 % 4] := (by decide +kernel : ∀ t : Fin grid0.N, _)
theorem index1 : ∀ t : Fin cfg0.N, win0_1.index t = ![t.val / 16, t.val / 4 % 4] := (by decide +kernel : ∀ t : Fin grid0.N, _)
theorem index2 : ∀ t : Fin cfg0.N, win0_2.index t = ![t.val / 16, t.val / 4 % 4] := (by decide +kernel : ∀ t : Fin grid0.N, _)
theorem index3 : ∀ t : Fin cfg0.N, win0_3.index t = ![t.val / 16, t.val / 4 % 4] := (by decide +kernel : ∀ t : Fin grid0.N, _)

theorem lt128 (t : Fin cfg0.N) : t.val < 128 := t.isLt

/-- The queries' block at a point. -/
theorem block0 (c : Dev nD) (t : Fin cfg0.N) (g : Fin 4096) (k : Fin 512) :
    (iblk m c 0 t : FVec Ideal S4096x512 .bf16) (ix2 g k)
      = (V m c main_v16 : FVec Ideal S32768x2048 .bf16) (ix2 ⟨t.val / 16 * 4096 + g.val, by have := lt128 t; omega⟩ ⟨t.val / 4 % 4 * 512 + k.val, by omega⟩) := by
  refine congrArg (V m c main_v16) ?_
  blk_ext [index0 t]
/-- The keys' block at a point. -/
theorem block1 (c : Dev nD) (t : Fin cfg0.N) (g : Fin 4096) (k : Fin 512) :
    (iblk m c 1 t : FVec Ideal S4096x512 .bf16) (ix2 g k)
      = (V m c main_v29 : FVec Ideal S32768x2048 .bf16) (ix2 ⟨t.val / 16 * 4096 + g.val, by have := lt128 t; omega⟩ ⟨t.val / 4 % 4 * 512 + k.val, by omega⟩) := by
  refine congrArg (V m c main_v29) ?_
  blk_ext [index1 t]
/-- The values' block at a point. -/
theorem block2 (c : Dev nD) (t : Fin cfg0.N) (g : Fin 4096) (k : Fin 256) :
    (iblk m c 2 t : FVec Ideal S4096x256 .bf16) (ix2 g k)
      = (V m c main_v31 : FVec Ideal S32768x1024 .bf16) (ix2 ⟨t.val / 16 * 4096 + g.val, by have := lt128 t; omega⟩ ⟨t.val / 4 % 4 * 256 + k.val, by omega⟩) := by
  refine congrArg (V m c main_v31) ?_
  blk_ext [index2 t]

theorem same0 (c : Dev nD) (t u : Fin cfg0.N) (h : t.val / 4 = u.val / 4) :
    (iblk m c 0 t : FVec Ideal S4096x512 .bf16) = iblk m c 0 u := by
  refine funext fun (j : S4096x512.Idx) => ?_
  rw [eq_ix2 j]
  refine (block0 m c t _ _).trans (.trans ?_ (block0 m c u _ _).symm)
  congr 2 <;> apply Fin.ext <;> dsimp only <;> omega
theorem same1 (c : Dev nD) (t u : Fin cfg0.N) (h : t.val / 4 = u.val / 4) :
    (iblk m c 1 t : FVec Ideal S4096x512 .bf16) = iblk m c 1 u := by
  refine funext fun (j : S4096x512.Idx) => ?_
  rw [eq_ix2 j]
  refine (block1 m c t _ _).trans (.trans ?_ (block1 m c u _ _).symm)
  congr 2 <;> apply Fin.ext <;> dsimp only <;> omega
theorem same2 (c : Dev nD) (t u : Fin cfg0.N) (h : t.val / 4 = u.val / 4) :
    (iblk m c 2 t : FVec Ideal S4096x256 .bf16) = iblk m c 2 u := by
  refine funext fun (j : S4096x256.Idx) => ?_
  rw [eq_ix2 j]
  refine (block2 m c t _ _).trans (.trans ?_ (block2 m c u _ _).symm)
  congr 2 <;> apply Fin.ext <;> dsimp only <;> omega

/-- No score of the point's blocks is `⊤`. -/
def Below (c : Dev nD) : Prop := ∀ (t : Fin cfg0.N) (hd g j : ℕ), score (iblk m c 0 t) (iblk m c 1 t) hd g j ≠ ⊤

/-- After a point, the rows of the tiles met so far in its block are their attention. -/
theorem rows_left (c : Dev nD) (hs : Below m c) : ∀ (n : ℕ) (hn : n < cfg0.N) (X : FVec Ideal S4096x256 .bf16),
    (rdat m c).Leaves 3 ⟨n, hn⟩ X → ∀ (g : Fin 4096) (hd : Fin 2) (d : Fin 128), (g.val / 512 ≤ n % 4 ∨ 7 - n % 4 ≤ g.val / 512) →
      X (ix2 g ⟨128 * hd.val + d.val, by omega⟩) = att (iblk m c 0 ⟨n, hn⟩) (iblk m c 1 ⟨n, hn⟩) (iblk m c 2 ⟨n, hn⟩) hd.val g.val d := by
  intro n
  induction n with
  | zero =>
    rintro hn X ⟨Y, -, f3, f4, f5, f6, e3, e4, e5, e6, rfl⟩ g hd d hg
    have hs' := hs ⟨0, hn⟩
    rw [← e3, ← e4] at hs'
    refine (body_rows c ⟨0, hn⟩ _ _ _ _ _ f3 f4 f5 hs' _ _ _ _ _ _ f6 g hd d).trans ?_
    rw [if_pos (by have := g.isLt; show g.val / 512 = 0 % 4 ∨ g.val / 512 = 7 - 0 % 4; omega), e3, e4, e5]
  | succ n ih =>
    rintro hn X ⟨Y, hY, f3, f4, f5, f6, e3, e4, e5, e6, rfl⟩ g hd d hg
    have hs' := hs ⟨n + 1, hn⟩
    rw [← e3, ← e4] at hs'
    refine (body_rows c ⟨n + 1, hn⟩ _ _ _ _ _ f3 f4 f5 hs' _ _ _ _ _ _ f6 g hd d).trans ?_
    rw [e3, e4, e5]
    split_ifs with hc
    · rfl
    · have hc : ¬(g.val / 512 = (n + 1) % 4 ∨ g.val / 512 = 7 - (n + 1) % 4) := hc
      have h := ((rdat m c).finds_of_pos (w := 3) (t := ⟨n + 1, hn⟩) (by rfl) (Nat.succ_ne_zero n) Y).1 hY
      have h := h.resolve_left (fun h => by
        have := (flush0_3 _).1 h
        have : (n + 1 - 1) % 4 = 3 := this
        have := g.isLt
        omega)
      have hn' : n < cfg0.N := Nat.lt_of_succ_lt hn
      have q : n / 4 = (n + 1) / 4 := by have := g.isLt; omega
      rw [e6, ih hn' Y h g hd d (by omega), same0 m c ⟨n, hn'⟩ ⟨n + 1, hn⟩ q, same1 m c ⟨n, hn'⟩ ⟨n + 1, hn⟩ q, same2 m c ⟨n, hn'⟩ ⟨n + 1, hn⟩ q]

/-- The last point of the block that holds an element of the result array. -/
def last (j : S32768x1024.Idx) : Fin cfg0.N := ⟨(j 0).val / 4096 * 16 + (j 1).val / 256 * 4 + 3, by
  have h0 : (j 0).val < 32768 := (j 0).isLt
  have h1 : (j 1).val < 1024 := (j 1).isLt
  show _ < 128
  omega⟩

/-- What a run leaves in the result array: every row's attention. -/
def whole (c : Dev nD) : FVec Ideal S32768x1024 .bf16 := fun j =>
  att (iblk m c 0 (last j)) (iblk m c 1 (last j)) (iblk m c 2 (last j)) ((j 1).val % 256 / 128) ((j 0).val % 4096) ⟨(j 1).val % 128, by omega⟩

theorem whole_at (c : Dev nD) (t : Fin cfg0.N) (h3 : t.val % 4 = 3) (g : Fin 4096) (hd : Fin 2) (d : Fin 128) (j : S32768x1024.Idx)
    (e0 : (j 0).val = t.val / 16 * 4096 + g.val) (e1 : (j 1).val = t.val / 4 % 4 * 256 + (128 * hd.val + d.val)) :
    whole m c j = att (iblk m c 0 t) (iblk m c 1 t) (iblk m c 2 t) hd.val g.val d := by
  have ht := lt128 t
  have hl : last j = t := Fin.ext (by show (j 0).val / 4096 * 16 + (j 1).val / 256 * 4 + 3 = t.val; omega)
  have a1 : (j 1).val % 256 / 128 = hd.val := by omega
  have a2 : (j 0).val % 4096 = g.val := by omega
  have a3 : (⟨(j 1).val % 128, by omega⟩ : Fin 128) = d := Fin.ext (by show (j 1).val % 128 = d.val; omega)
  unfold whole
  rw [hl, a1, a2, a3]

theorem result_array (c : Dev nD) (hs : Below m c) (after) (hL : ∀ (w : Fin cfg0.W) (u : Fin cfg0.N), (cfg0.win w).flush u = true → (rdat m c).Leaves w u (after w u)) :
    ((rdat m c).withAfter after).arrAt 3 cfg0.N = whole m c := by
  refine ((rdat m c).withAfter after).arrAt_eq_of_covers 3 _ (by decide +kernel) fun t hf y => ?_
  blk_simp
  have h3 := (flush0_3 t).1 hf
  have hl := hL 3 t hf
  have ht := lt128 t
  have hy0 : (y 0).val < 4096 := (y 0).isLt
  have hy1 : (y 1).val < 256 := (y 1).isLt
  have r := rows_left m c hs t.val t.isLt _ hl ⟨(y 0).val, hy0⟩ ⟨(y 1).val / 128, by omega⟩ ⟨(y 1).val % 128, by omega⟩ (by dsimp only; omega)
  rw [RDat.withAfter_after]
  refine (congrArg (after 3 t) ?_).trans (r.trans (whole_at m c t h3 _ _ _ _ ?_ ?_).symm)
  · refine funext fun a => Fin.ext ?_
    match a with
    | ⟨0, _⟩ => rfl
    | ⟨1, _⟩ => show (y 1).val = 128 * ((y 1).val / 128) + (y 1).val % 128; omega
  · blk_simp [index3 t]
  · blk_simp [index3 t]
    show t.val / 4 % 4 * 256 + (y 1).val = t.val / 4 % 4 * 256 + (128 * ((y 1).val / 128) + (y 1).val % 128)
    omega

end Cert.FlashIdeal.Value

end
-- ==== Proof.Inputs.lean ====
/- What the attention kernel's host code hands it: the queries, keys and values in the rows and columns its blocks take. -/
module

public import proofs.«01_k».proof.Proof.Gen.FlashIdeal.Frame
public import Idealize.ShloMosaic.Lib.Pointwise

@[expose] public section

set_option maxRecDepth 16384

noncomputable section

namespace Cert.FlashIdeal.Value

open Cert.FlashIdeal Cert.FlashIdeal.Gen
open Idealize.ShloMosaic
open Idealize.ShloMosaic.TcCoe

variable (m : (ℓ : Loc nD τ sig) → Buf (Elt Ideal) ℓ)

/-- The layout of queries and keys: of each head's 192 columns, 128 and then 64 in the lower (even head) or the upper
    (odd head) half of a tile. -/
def packed (X : FVec Ideal S8x4096x8x192 .f32) : FVec Ideal S32768x2048 .bf16 :=
  shapeCast S32768x2048 (truncf (F := Ideal) .bf16 (select (cmpi .eq (andi (iotaInDim S8x4096x8x256 32 2)
      (broadcastInDim S8x4096x8x256 ![] bcast_S_S8x4096x8x256 (constantI S_ 32 1#32))) (broadcastInDim S8x4096x8x256 ![] bcast_S_S8x4096x8x256 (constantI S_ 32 1#32)))
    (concatenate S8x4096x8x256 3 [⟨S8x4096x8x128, extractStridedSlice S8x4096x8x128 ![0, 0, 0, 0] X slices_S8x4096x8x192_S8x4096x8x128_0_0_0_0⟩,
      ⟨S8x4096x8x64, broadcastInDim S8x4096x8x64 ![] bcast_S_S8x4096x8x64 (constant (F := Ideal) S_ .f32 0x00000000#32)⟩,
      ⟨S8x4096x8x64, extractStridedSlice S8x4096x8x64 ![0, 0, 0, 128] X slices_S8x4096x8x192_S8x4096x8x64_0_0_0_128⟩] concatenates_S8x4096x8x128_S8x4096x8x64_S8x4096x8x64_S8x4096x8x256_d3)
    (concatenate S8x4096x8x256 3 [⟨S8x4096x8x128, extractStridedSlice S8x4096x8x128 ![0, 0, 0, 0] X slices_S8x4096x8x192_S8x4096x8x128_0_0_0_0⟩,
      ⟨S8x4096x8x64, extractStridedSlice S8x4096x8x64 ![0, 0, 0, 128] X slices_S8x4096x8x192_S8x4096x8x64_0_0_0_128⟩,
      ⟨S8x4096x8x64, broadcastInDim S8x4096x8x64 ![] bcast_S_S8x4096x8x64 (constant (F := Ideal) S_ .f32 0x00000000#32)⟩] concatenates_S8x4096x8x128_S8x4096x8x64_S8x4096x8x64_S8x4096x8x256_d3) : FVec Ideal S8x4096x8x256 .f32)
    bitsLt_bf16_f32) shapeCasts_S8x4096x8x256_S32768x2048

/-- The layout of the values. -/
def flat (X : FVec Ideal S8x4096x8x128 .f32) : FVec Ideal S32768x1024 .bf16 :=
  shapeCast S32768x1024 (truncf (F := Ideal) .bf16 X bitsLt_bf16_f32) shapeCasts_S8x4096x8x128_S32768x1024

/-- The queries times the scale. -/
def scaled (X : FVec Ideal S8x4096x8x192 .f32) : FVec Ideal S8x4096x8x192 .f32 :=
  mulf X (broadcastInDim S8x4096x8x192 ![] bcast_S_S8x4096x8x192 (Host.divf (constant (F := Ideal) S_ .f32 0x3D93CD3A#32) (Host.log (constant (F := Ideal) S_ .f32 0x40000000#32))))

set_option maxHeartbeats 4000000 in
theorem array_q (c : Dev nD) : V m c main_v16 = packed (scaled (m ((c : Thread nD τ).loc main_arg0))) := by
  simp only [V, hostOps0, hostOps0_1, hostOps0_2, hostOps0_3, hostOps0_4, List.flatten_cons, List.flatten_nil, List.cons_append, List.nil_append,
    StableHlo.TRef.ternary, StableHlo.TRef.toBuf, StableHlo.TRef.ofBuf, cast_eq]
  after_results_simp
  rfl

set_option maxHeartbeats 4000000 in
theorem array_k (c : Dev nD) : V m c main_v29 = packed (m ((c : Thread nD τ).loc main_arg1)) := by
  simp only [V, hostOps0, hostOps0_1, hostOps0_2, hostOps0_3, hostOps0_4, List.flatten_cons, List.flatten_nil, List.cons_append, List.nil_append,
    StableHlo.TRef.ternary, StableHlo.TRef.toBuf, StableHlo.TRef.ofBuf, cast_eq]
  after_results_simp
  rfl

set_option maxHeartbeats 4000000 in
theorem array_v (c : Dev nD) : V m c main_v31 = flat (m ((c : Thread nD τ).loc main_arg2)) := by
  simp only [V, hostOps0, hostOps0_1, hostOps0_2, hostOps0_3, hostOps0_4, List.flatten_cons, List.flatten_nil, List.cons_append, List.nil_append,
    StableHlo.TRef.ternary, StableHlo.TRef.toBuf, StableHlo.TRef.ofBuf, cast_eq]
  after_results_simp
  rfl

theorem flat_at (X : FVec Ideal S8x4096x8x128 .f32) (b : Fin 8) (g : Fin 4096) (h : Fin 8) (k : Fin 128) :
    flat X (ix2 ⟨4096 * b.val + g.val, by omega⟩ ⟨128 * h.val + k.val, by omega⟩) = X (ix4 b g h k) := by
  pointwise [flat]

theorem odd_select (h : Fin 8) (x y : EReal) :
    Scalar.select (IntOp.cmpi CmpIPredicate.eq (IntOp.andi (BitVec.ofNat 32 h.val) 1#32) 1#32) x y = if h.val % 2 = 1 then x else y := by
  fin_cases h <;> rfl

theorem packed_at (X : FVec Ideal S8x4096x8x192 .f32) (b : Fin 8) (g : Fin 4096) (h : Fin 8) (k : Fin 256) :
    packed X (ix2 ⟨4096 * b.val + g.val, by omega⟩ ⟨256 * h.val + k.val, by omega⟩)
      = if e : k.val < 128 then X (ix4 b g h ⟨k.val, by omega⟩)
        else if h.val % 2 = 1 then if k.val < 192 then 0 else X (ix4 b g h ⟨k.val - 64, by omega⟩)
        else if e : k.val < 192 then X (ix4 b g h ⟨k.val, e⟩) else 0 := by
  pointwise [packed]
  rw [odd_select]
  by_cases h1 : k.val < 128
  · simp only [dif_pos h1, ite_self]
  · by_cases h2 : k.val - 128 < 64
    · have h3 : k.val < 192 := by omega
      simp only [dif_neg h1, dif_pos h2, if_pos h3, dif_pos h3]
      congr 3
      apply Fin.ext
      dsimp only
      omega
    · have h3 : ¬k.val < 192 := by omega
      simp only [dif_neg h1, dif_neg h2, if_neg h3, dif_neg h3]
      congr 3
      apply Fin.ext
      dsimp only
      omega

end Cert.FlashIdeal.Value

end
-- ==== Proof.Reference.lean ====
/- The reference's result at an element: a softmax's weights over the keys, and the values' sum under them. -/
module

public import proofs.«01_k».proof.Proof.Gen.AttentionIdeal.Run
public import Idealize.ShloMosaic.Lib.Pointwise
public import Idealize.ShloMosaic.Lib.WordCmp

@[expose] public section

set_option maxRecDepth 16384

noncomputable section

namespace Cert.AttentionIdeal.Value

open Cert.AttentionIdeal Cert.AttentionIdeal.Gen
open Idealize.ShloMosaic
open Idealize.ShloMosaic.TcCoe

variable (m : (ℓ : Loc nD τ sig) → Buf (Elt Ideal) ℓ)

theorem neg_inf : Ideal.ofBits .f32 0xFF800000#32 = ⊥ := by simp [Ideal.ofBits, Ideal.ieee]

/-- The score of query `g` and key `j`, `⊥` where the key is later. -/
def masked (Q K : FVec Ideal S8x4096x8x192 .f32) (b : Fin 8) (g : Fin 4096) (h : Fin 8) (j : Fin 4096) : EReal :=
  if j.val ≤ g.val then (∑ x : Fin 192, Q (ix4 b g h x) * K (ix4 b j h x)) * Ideal.ofBits .f32 0x3D93CD3A#32 else ⊥

theorem select_mask (g j : Fin 4096) (x : EReal) :
    Scalar.select (IntOp.cmpi .sle (BitVec.ofNat 32 j.val) (BitVec.ofNat 32 g.val)) x (id (constant (F := Ideal) S_ .f32 0xFF800000#32) ix0)
      = if j.val ≤ g.val then x else ⊥ := by
  rw [WordCmp.cmpi_sle_ofNat (by omega) (by omega)]
  by_cases h : j.val ≤ g.val
  · rw [if_pos h, decide_eq_true h]; rfl
  · rw [if_neg h, decide_eq_false h]; exact neg_inf

section

variable (s : FVec Ideal S8x8x4096x4096 .f32) (p : FVec Ideal S8x8x4096x4096 .f32) (Q K : FVec Ideal S8x4096x8x192 .f32) (V : FVec Ideal S8x4096x8x128 .f32)
  (b : Fin 8) (g j : Fin 4096) (h : Fin 8) (d : Fin 128)

/-- Every query's score with every key. -/
def scores : FVec Ideal S8x8x4096x4096 .f32 :=
  select (broadcastInDim S8x8x4096x4096 ![0, 1, 2, 3] bcast_S1x1x4096x4096_S8x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
    (mulf (Host.dotGeneral dot_S8x4096x8x192_S8x4096x8x192_S8x8x4096x4096_3_3_1_1_02_02 none Q K) (broadcastInDim S8x8x4096x4096 ![] bcast_S_S8x8x4096x4096 (constant S_ .f32 0x3D93CD3A#32)))
    (broadcastInDim S8x8x4096x4096 ![] bcast_S_S8x8x4096x4096 (id (constant S_ .f32 0xFF800000#32)))

/-- Each row's largest score. -/
def tops : FVec Ideal S8x8x4096 .f32 :=
  maximumf (broadcastInDim S8x8x4096 ![] bcast_S_S8x8x4096 (constant S_ .f32 0xFF800000#32))
    (Host.reduce FloatOps.maximumf s (constant S_ .f32 0xFF800000#32) reducesTo_S8x8x4096x4096_S8x8x4096_d3 h_S_)

/-- The exponentials of the scores over their row's largest. -/
def exps (M : FVec Ideal S8x8x4096 .f32) : FVec Ideal S8x8x4096x4096 .f32 :=
  Host.exp (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 M)))

/-- The exponentials over their row's sum. -/
def weights (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2
    (Host.reduceAdd e (constant S_ .f32 0x00000000#32) reducesTo_S8x8x4096x4096_S8x8x4096_d3 h_S_)))

/-- The values under the weights, as the result's rows. -/
def rows : FVec Ideal S32768x1024 .bf16 :=
  truncf .bf16 (shapeCast S32768x1024 (transpose S8x4096x8x128 [0, 3, 1, 2] (Host.dotGeneral dot_S8x4096x8x128_S8x8x4096x4096_S8x8x128x4096_1_3_3_2_02_01 none V p) transposes_S8x8x128x4096_S8x4096x8x128_0_3_1_2 : FVec Ideal S8x4096x8x128 .f32) shapeCasts_S8x4096x8x128_S32768x1024) bitsLt_bf16_f32

theorem scores_at : scores Q K (ix4 b h g j) = masked Q K b g h j := by
  pointwise [scores]
  rw [select_mask]
  rfl

theorem larger_at {S : Shape} (x y : FVec Ideal S .f32) (i : S.Idx) : maximumf x y i = (max (x i : EReal) (y i : EReal) : EReal) := rfl

theorem largest_at : (Host.reduce FloatOps.maximumf s (constant S_ .f32 0xFF800000#32) reducesTo_S8x8x4096x4096_S8x8x4096_d3 h_S_ : FVec Ideal S8x8x4096 .f32) (ix3 b h g)
    = (Finset.univ.fold max (⊥ : EReal) (fun j => (s (ix4 b h g j) : EReal)) : EReal) := by
  pointwise
  rw [neg_inf]

theorem floor_at : (broadcastInDim S8x8x4096 ![] bcast_S_S8x8x4096 (constant (F := Ideal) S_ .f32 0xFF800000#32) : FVec Ideal S8x8x4096 .f32) (ix3 b h g) = (⊥ : EReal) := by
  pointwise
  exact neg_inf

theorem tops_at : tops s (ix3 b h g) = (Finset.univ.fold max (⊥ : EReal) (fun j => (s (ix4 b h g j) : EReal)) : EReal) := by
  unfold tops
  rw [larger_at, largest_at, floor_at, max_eq_right bot_le]

theorem exps_at (M : FVec Ideal S8x8x4096 .f32) : exps s M (ix4 b h g j) = Ideal.exp (s (ix4 b h g j) - M (ix3 b h g)) := by
  pointwise [exps]

theorem weights_at (e : FVec Ideal S8x8x4096x4096 .f32) :
    weights e (ix4 b h g j) = Ideal.div (e (ix4 b h g j)) (∑ y : Fin 4096, (e (ix4 b h g y) : EReal)) := by
  pointwise [weights]

theorem rows_at : rows p V (ix2 ⟨4096 * b.val + g.val, by omega⟩ ⟨128 * h.val + d.val, by omega⟩)
    = (∑ x : Fin 4096, (V (ix4 b x h d) : EReal) * (p (ix4 b h g x) : EReal) : EReal) := by
  pointwise [rows]

end

theorem result_eq (c : Dev nD) : res_main_v26 m c
    = rows (weights (exps (scores (m ((c : Thread nD τ).loc main_arg0)) (m ((c : Thread nD τ).loc main_arg1)))
      (tops (scores (m ((c : Thread nD τ).loc main_arg0)) (m ((c : Thread nD τ).loc main_arg1)))))) (m ((c : Thread nD τ).loc main_arg2)) := rfl

theorem result_at (Q K : FVec Ideal S8x4096x8x192 .f32) (V : FVec Ideal S8x4096x8x128 .f32) (b : Fin 8) (g : Fin 4096) (h : Fin 8) (d : Fin 128) :
    rows (weights (exps (scores Q K) (tops (scores Q K)))) V (ix2 ⟨4096 * b.val + g.val, by omega⟩ ⟨128 * h.val + d.val, by omega⟩)
      = (∑ x : Fin 4096, V (ix4 b x h d) * Ideal.div (Ideal.exp (masked Q K b g h x - Finset.univ.fold max ⊥ (masked Q K b g h)))
          (∑ y : Fin 4096, Ideal.exp (masked Q K b g h y - Finset.univ.fold max ⊥ (masked Q K b g h))) : EReal) := by
  simp only [rows_at, weights_at, exps_at, tops_at, scores_at]

end Cert.AttentionIdeal.Value

end
-- ==== Proof.Scores.lean ====
/- The kernel's scores, from finite queries and keys: each is the reference's divided by the logarithm of two. -/
module

public import proofs.«01_k».proof.Proof.Blocks
public import proofs.«01_k».proof.Proof.Inputs
public import proofs.«01_k».proof.Proof.Reference

@[expose] public section

set_option maxRecDepth 16384

noncomputable section

namespace Cert.FlashIdeal.Value

open Cert.FlashIdeal Cert.FlashIdeal.Gen
open Idealize.ShloMosaic
open Idealize.ShloMosaic.TcCoe
open Cert.Online (wt Row)

/-- Every element is a real number. -/
def Fin' {s : Shape} {φ : FTy} (X : FVec Ideal s φ) : Prop := ∀ i, ∃ r : ℝ, (X i : EReal) = (r : EReal)

theorem scale_real : ∃ c : ℝ, Ideal.ofBits .f32 0x3D93CD3A#32 = (c : EReal) := by
  refine ⟨(9686330 : ℝ) * (1 / 2 ^ 27 : ℝ), ?_⟩
  rw [EReal.coe_mul]
  simp [Ideal.ofBits, Ideal.ieee]

theorem two_real : Ideal.ofBits .f32 0x40000000#32 = ((2 : ℝ) : EReal) := by
  rw [show (2 : ℝ) = (8388608 : ℝ) * (1 / 2 ^ 22 : ℝ) by norm_num, EReal.coe_mul]
  simp [Ideal.ofBits, Ideal.ieee]

/-- The reference's scale. -/
def scale : ℝ := scale_real.choose
theorem scale_eq : Ideal.ofBits .f32 0x3D93CD3A#32 = (scale : EReal) := scale_real.choose_spec

theorem scaled_at (X : FVec Ideal S8x4096x8x192 .f32) (i : S8x4096x8x192.Idx) :
    scaled X i = (X i : EReal) * ((scale * (Real.log 2)⁻¹ : ℝ) : EReal) := by
  have l2 : Real.log 2 ≠ 0 := (Real.log_pos (by norm_num)).ne'
  pointwise [scaled]
  rw [scale_eq, two_real, Ideal.log_coe, if_neg (by norm_num), Ideal.div_coe l2, ← EReal.coe_mul, one_div]

/-- A sum over a head's 256 columns is the sum over the 192 that are not zero. -/
theorem sum_packed (odd : Prop) [Decidable odd] (f : Fin 192 → EReal) :
    (∑ k : Fin 256, if e : k.val < 128 then f ⟨k.val, by omega⟩
        else if odd then if k.val < 192 then 0 else f ⟨k.val - 64, by omega⟩
        else if e : k.val < 192 then f ⟨k.val, e⟩ else 0) = ∑ x, f x := by
  have h256 := Fin.sum_univ_add (a := 128) (b := 128) (fun k : Fin 256 => if e : k.val < 128 then f ⟨k.val, by omega⟩
        else if odd then if k.val < 192 then 0 else f ⟨k.val - 64, by omega⟩
        else if e : k.val < 192 then f ⟨k.val, e⟩ else 0)
  have h128 := Fin.sum_univ_add (a := 64) (b := 64) (fun k : Fin 128 => if odd then if k.val < 64 then 0 else f ⟨k.val + 64, by omega⟩
        else if e : k.val < 64 then f ⟨128 + k.val, by omega⟩ else 0)
  have h192 := Fin.sum_univ_add (a := 128) (b := 64) f
  refine h256.trans (Eq.trans ?_ h192.symm)
  refine congrArg₂ (fun x y : EReal => x + y) ?_ ?_
  · refine Finset.sum_congr rfl fun k _ => ?_
    rw [dif_pos (show (Fin.castAdd 128 k).val < 128 from k.isLt)]
    rfl
  · refine Eq.trans (Finset.sum_congr rfl fun k _ => ?_) (h128.trans ?_)
    · have hk := k.isLt
      have e : (Fin.natAdd 128 k).val = 128 + k.val := rfl
      rw [dif_neg (by omega)]
      by_cases o : odd
      · rw [if_pos o, if_pos o]
        by_cases q : k.val < 64
        · rw [if_pos (by omega), if_pos q]
        · rw [if_neg (by omega), if_neg q]
          congr 1; apply Fin.ext; show 128 + k.val - 64 = k.val + 64; omega
      · rw [if_neg o, if_neg o]
        by_cases q : k.val < 64
        · rw [dif_pos (by omega), dif_pos q]
          rfl
        · rw [dif_neg (by omega), dif_neg q]
    · by_cases o : odd
      · have l : ∀ k : Fin 64, (Fin.castAdd 64 k).val < 64 := fun k => k.isLt
        have r : ∀ k : Fin 64, ¬(Fin.natAdd 64 k).val < 64 := fun k => by show ¬(64 + k.val < 64); omega
        simp only [if_pos o, if_pos (l _), if_neg (r _), Finset.sum_const_zero, zero_add]
        refine Finset.sum_congr rfl fun k _ => ?_
        congr 1; apply Fin.ext; show 64 + k.val + 64 = 128 + k.val; omega
      · have l : ∀ k : Fin 64, (Fin.castAdd 64 k).val < 64 := fun k => k.isLt
        have r : ∀ k : Fin 64, ¬(Fin.natAdd 64 k).val < 64 := fun k => by show ¬(64 + k.val < 64); omega
        simp only [if_neg o, dif_pos (l _), dif_neg (r _), Finset.sum_const_zero, add_zero]
        rfl

/-- The product of two packed rows. -/
theorem dot_packed (X Y : FVec Ideal S8x4096x8x192 .f32) (b : Fin 8) (g j : Fin 4096) (h : Fin 8) :
    (∑ k : Fin 256, (packed X (ix2 ⟨4096 * b.val + g.val, by omega⟩ ⟨256 * h.val + k.val, by omega⟩) : EReal)
        * (packed Y (ix2 ⟨4096 * b.val + j.val, by omega⟩ ⟨256 * h.val + k.val, by omega⟩) : EReal))
      = ∑ x : Fin 192, (X (ix4 b g h x) : EReal) * (Y (ix4 b j h x) : EReal) := by
  rw [← sum_packed (h.val % 2 = 1) (fun x => (X (ix4 b g h x) : EReal) * (Y (ix4 b j h x) : EReal))]
  refine Finset.sum_congr rfl fun k _ => ?_
  rw [packed_at, packed_at]
  split_ifs <;> first | rfl | exact mul_zero _

theorem packed_real (X : FVec Ideal S8x4096x8x192 .f32) (hX : Fin' X) : Fin' (packed X) := by
  intro i
  have h0 : (i 0).val < 32768 := (i 0).isLt
  have h1 : (i 1).val < 2048 := (i 1).isLt
  have e : i = ix2 ⟨4096 * ((i 0).val / 4096) + (i 0).val % 4096, by omega⟩ ⟨256 * ((i 1).val / 256) + (i 1).val % 256, by omega⟩ := by
    refine funext fun a => Fin.ext ?_
    match a with
    | ⟨0, _⟩ => show (i 0).val = 4096 * ((i 0).val / 4096) + (i 0).val % 4096; omega
    | ⟨1, _⟩ => show (i 1).val = 256 * ((i 1).val / 256) + (i 1).val % 256; omega
  have q := packed_at X ⟨(i 0).val / 4096, by omega⟩ ⟨(i 0).val % 4096, by omega⟩ ⟨(i 1).val / 256, by omega⟩ ⟨(i 1).val % 256, by omega⟩
  rw [e]
  refine Exists.imp (fun r hr => q.trans hr) ?_
  split_ifs <;> first | exact hX _ | exact ⟨0, rfl⟩

theorem at2_real {A B : ℕ} {φ : FTy} (X : FVec Ideal ⟨2, ![A, B]⟩ φ) (hX : Fin' X) (a b : ℕ) : ∃ r : ℝ, at2 X a b = (r : EReal) := by
  unfold at2
  split_ifs
  · exact hX _
  · exact ⟨0, rfl⟩

theorem sum_real {n : ℕ} (f : Fin n → EReal) (hf : ∀ k, ∃ r : ℝ, f k = (r : EReal)) : ∃ r : ℝ, ∑ k, f k = (r : EReal) := by
  choose r hr using hf
  refine ⟨∑ k, r k, ?_⟩
  rw [Finset.sum_congr rfl fun k _ => hr k]
  induction (Finset.univ : Finset (Fin n)) using Finset.induction_on with
  | empty => simp
  | insert a S ha ih => rw [Finset.sum_insert ha, Finset.sum_insert ha, EReal.coe_add, ih]

theorem score_below (X3 X4 : FVec Ideal S4096x512 .bf16) (h3 : Fin' X3) (h4 : Fin' X4) (hd g j : ℕ) : score X3 X4 hd g j ≠ ⊤ := by
  unfold score
  split_ifs
  · obtain ⟨r, hr⟩ := sum_real (fun d : Fin 256 => at2 X3 g (256 * hd + d.val) * at2 X4 j (256 * hd + d.val)) fun d => by
      obtain ⟨a, ha⟩ := at2_real X3 h3 g (256 * hd + d.val)
      obtain ⟨b, hb⟩ := at2_real X4 h4 j (256 * hd + d.val)
      exact ⟨a * b, by rw [ha, hb, EReal.coe_mul]⟩
    rw [hr]
    exact EReal.coe_ne_top r
  · exact bot_ne_top

section

variable (m : (ℓ : Loc nD τ sig) → Buf (Elt Ideal) ℓ) (c : Dev nD)
  (Q K : FVec Ideal S8x4096x8x192 .f32) (W : FVec Ideal S8x4096x8x128 .f32)
  (hQ : m ((c : Thread nD τ).loc main_arg0) = Q) (hK : m ((c : Thread nD τ).loc main_arg1) = K) (hW : m ((c : Thread nD τ).loc main_arg2) = W)
  (fQ : Fin' Q) (fK : Fin' K)

theorem scaled_real (X : FVec Ideal S8x4096x8x192 .f32) (hX : Fin' X) : Fin' (scaled X) := fun i => by
  obtain ⟨r, hr⟩ := hX i
  exact ⟨r * (scale * (Real.log 2)⁻¹), by rw [scaled_at, hr, ← EReal.coe_mul]⟩

include hQ hK fQ fK in
theorem below : Below m c := fun t hd g j => by
  refine score_below _ _ (fun i => ?_) (fun i => ?_) hd g j
  · have e := block0 m c t (i 0) (i 1)
    rw [array_q, hQ] at e
    obtain ⟨r, hr⟩ := packed_real _ (scaled_real Q fQ) (ix2 ⟨t.val / 16 * 4096 + (i 0).val, by have := lt128 t; have : (i 0).val < 4096 := (i 0).isLt; omega⟩ ⟨t.val / 4 % 4 * 512 + (i 1).val, by have : (i 1).val < 512 := (i 1).isLt; omega⟩)
    exact ⟨r, (congrArg _ (eq_ix2 i)).trans (e.trans hr)⟩
  · have e := block1 m c t (i 0) (i 1)
    rw [array_k, hK] at e
    obtain ⟨r, hr⟩ := packed_real _ fK (ix2 ⟨t.val / 16 * 4096 + (i 0).val, by have := lt128 t; have : (i 0).val < 4096 := (i 0).isLt; omega⟩ ⟨t.val / 4 % 4 * 512 + (i 1).val, by have : (i 1).val < 512 := (i 1).isLt; omega⟩)
    exact ⟨r, (congrArg _ (eq_ix2 i)).trans (e.trans hr)⟩

/-- The head of a grid point's pair. -/
def headOf (t : Fin cfg0.N) (hd : Fin 2) : Fin 8 := ⟨2 * (t.val / 4 % 4) + hd.val, by omega⟩
/-- The batch row of a grid point. -/
def rowOf (t : Fin cfg0.N) : Fin 8 := ⟨t.val / 16, by have := lt128 t; omega⟩

include hQ hK in
theorem score_at (t : Fin cfg0.N) (hd : Fin 2) (g j : Fin 4096) (hj : j.val ≤ g.val) :
    score (iblk m c 0 t) (iblk m c 1 t) hd.val g.val j.val
      = ∑ x : Fin 192, (scaled Q (ix4 (rowOf t) g (headOf t hd) x) : EReal) * (K (ix4 (rowOf t) j (headOf t hd) x) : EReal) := by
  unfold score
  rw [if_pos hj, ← dot_packed]
  refine Finset.sum_congr rfl fun k _ => ?_
  have hk := k.isLt
  have hh := hd.isLt
  have ht := lt128 t
  have hg := g.isLt
  have hj := j.isLt
  unfold at2
  rw [dif_pos ⟨hg, by omega⟩, dif_pos ⟨hj, by omega⟩]
  have e0 := block0 m c t g ⟨256 * hd.val + k.val, by omega⟩
  have e1 := block1 m c t j ⟨256 * hd.val + k.val, by omega⟩
  rw [array_q, hQ] at e0
  rw [array_k, hK] at e1
  refine (congrArg₂ (fun x y : EReal => x * y) e0 e1).trans ?_
  have a : ∀ g : Fin 4096, (ix2 ⟨t.val / 16 * 4096 + g.val, by omega⟩ ⟨t.val / 4 % 4 * 512 + (256 * hd.val + k.val), by omega⟩ : S32768x2048.Idx)
      = ix2 ⟨4096 * (rowOf t).val + g.val, by unfold rowOf; dsimp only; omega⟩ ⟨256 * (headOf t hd).val + k.val, by unfold headOf; dsimp only; omega⟩ := fun g => by
    unfold rowOf headOf
    congr 1 <;> apply Fin.ext <;> dsimp only <;> omega
  dsimp only
  rw [a, a]

include hW in
theorem value_at (t : Fin cfg0.N) (hd : Fin 2) (j : Fin 4096) (d : Fin 128) :
    value (iblk m c 2 t) hd.val j.val ⟨d.val, by omega⟩ = W (ix4 (rowOf t) j (headOf t hd) d) := by
  have hd' := d.isLt
  have hh := hd.isLt
  have ht := lt128 t
  have hj := j.isLt
  unfold value
  rw [if_pos hd']
  unfold at2
  rw [dif_pos ⟨hj, by dsimp only; omega⟩]
  have e := block2 m c t j ⟨128 * hd.val + d.val, by omega⟩
  rw [array_v, hW] at e
  refine e.trans (.trans ?_ (flat_at W (rowOf t) j (headOf t hd) d))
  unfold rowOf headOf
  congr 2 <;> apply Fin.ext <;> dsimp only <;> omega

include hQ hK hW fQ fK in
/-- A row of the kernel's attention is the reference's. -/
theorem att_eq (t : Fin cfg0.N) (hd : Fin 2) (g : Fin 4096) (d : Fin 128) :
    att (iblk m c 0 t) (iblk m c 1 t) (iblk m c 2 t) hd.val g.val d
      = Cert.AttentionIdeal.Value.rows (Cert.AttentionIdeal.Value.weights (Cert.AttentionIdeal.Value.exps (Cert.AttentionIdeal.Value.scores Q K)
          (Cert.AttentionIdeal.Value.tops (Cert.AttentionIdeal.Value.scores Q K)))) W
          (ix2 ⟨4096 * (rowOf t).val + g.val, by omega⟩ ⟨128 * (headOf t hd).val + d.val, by omega⟩) := by
  rw [Cert.AttentionIdeal.Value.result_at]
  choose q hq using fQ
  choose k hk using fK
  have hg := g.isLt
  let r : ℕ → ℝ := fun j => if h : j < 4096 then (∑ x : Fin 192, q (ix4 (rowOf t) g (headOf t hd) x) * k (ix4 (rowOf t) ⟨j, h⟩ (headOf t hd) x)) * scale else 0
  let T : ℕ → EReal := fun j => if j ≤ g.val then (r j : EReal) else ⊥
  have cs : ∀ f : Fin 192 → ℝ, ((∑ x, f x : ℝ) : EReal) = ∑ x, (f x : EReal) := fun f => by
    induction (Finset.univ : Finset (Fin 192)) using Finset.induction_on with
    | empty => simp
    | insert a S ha ih => rw [Finset.sum_insert ha, Finset.sum_insert ha, EReal.coe_add, ih]
  have hs : ∀ j, score (iblk m c 0 t) (iblk m c 1 t) hd.val g.val j = if j ≤ g.val then ((r j * (Real.log 2)⁻¹ : ℝ) : EReal) else ⊥ := fun j => by
    by_cases h : j ≤ g.val
    · have hj : j < 4096 := by omega
      rw [if_pos h, score_at m c Q K hQ hK t hd g ⟨j, hj⟩ h]
      show _ = (((dite _ _ _ : ℝ) * (Real.log 2)⁻¹ : ℝ) : EReal)
      rw [dif_pos hj, mul_assoc, Finset.sum_mul, cs]
      refine Finset.sum_congr rfl fun x _ => ?_
      rw [scaled_at, hq, hk, ← EReal.coe_mul, ← EReal.coe_mul]
      congr 1
      ring
    · unfold score
      rw [if_neg h, if_neg h]
  have hT : ∀ j : Fin 4096, Cert.AttentionIdeal.Value.masked Q K (rowOf t) g (headOf t hd) j = T j.val := fun j => by
    show _ = ite _ _ _
    unfold Cert.AttentionIdeal.Value.masked
    by_cases h : j.val ≤ g.val
    · rw [if_pos h, if_pos h]
      show _ = ((dite _ _ _ : ℝ) : EReal)
      rw [dif_pos j.isLt, scale_eq, EReal.coe_mul, cs]
      congr 1
      refine Finset.sum_congr rfl fun x _ => ?_
      rw [hq, hk, ← EReal.coe_mul]
    · rw [if_neg h, if_neg h]
  have hM : (Finset.univ : Finset (Fin 4096)).fold max ⊥ (Cert.AttentionIdeal.Value.masked Q K (rowOf t) g (headOf t hd)) = (Finset.range 4096).sup T := by
    rw [← Cert.Online.fold_max, show Cert.AttentionIdeal.Value.masked Q K (rowOf t) g (headOf t hd) = fun j : Fin 4096 => T j.val from funext hT]
  have row : Row (score (iblk m c 0 t) (iblk m c 1 t) hd.val g.val) (value (iblk m c 2 t) hd.val) 4096 _ (fun e => ∑ j ∈ Finset.range 4096,
      wt (score (iblk m c 0 t) (iblk m c 1 t) hd.val g.val j) ((Finset.range 4096).sup (score (iblk m c 0 t) (iblk m c 1 t) hd.val g.val)) * value (iblk m c 2 t) hd.val j e) :=
    ⟨rfl, fun _ => rfl⟩
  have res := Row.result hg r hs (fun _ => rfl : ∀ j, T j = _) row (d := ⟨d.val, by omega⟩) (c := ⟨128 + d.val, by omega⟩)
    (fun j => if_neg (by dsimp only; omega)) rfl rfl
  refine res.trans ?_
  rw [hM]
  simp only [hT]
  rw [Fin.sum_univ_eq_sum_range (fun y => Ideal.exp (T y - (Finset.range 4096).sup T)) 4096, Finset.sum_range]
  refine Finset.sum_congr rfl fun x _ => ?_
  rw [value_at m c W hW t hd x d]

end

end Cert.FlashIdeal.Value

end
-- ==== Proof.Values.lean ====
/- The value claim of the attention kernel: from finite queries and keys it leaves what the reference leaves. -/
module

public import proofs.«01_k».proof.Defs
public import proofs.«01_k».proof.Proof.Gen.Pre_finite
public import proofs.«01_k».proof.Proof.Scores

@[expose] public section

set_option maxRecDepth 16384

noncomputable section

namespace Cert.FlashIdeal.Value

open Cert.FlashIdeal Cert.FlashIdeal.Gen Cert.FlashIdeal.Body
open Idealize.ShloMosaic
open Idealize.ShloMosaic.TcCoe
open Idealize.SL.Sem
open Idealize.ShloMosaic.Pipeline (RDat)

theorem real_of_abs (x : EReal) (h : Ideal.cmp .olt (max x (-x)) (Ideal.ofBits .f32 0x7F800000#32) = 1#1) : ∃ r : ℝ, x = (r : EReal) := by
  have t : Ideal.ofBits .f32 0x7F800000#32 = ⊤ := by simp [Ideal.ofBits, Ideal.ieee]
  rw [t] at h
  induction x with
  | bot => simp [Ideal.cmp] at h
  | top => simp [Ideal.cmp] at h
  | coe r => exact ⟨r, rfl⟩

theorem and_one (x y : BitVec 1) (h : IntOp.andi x y = 1#1) : x = 1#1 ∧ y = 1#1 := by
  revert x y
  decide

/-- The precondition says that the queries and the keys are real numbers. -/
theorem finite_real (Q K : FVec Ideal S8x4096x8x192 .f32) (W : FVec Ideal S8x4096x8x128 .f32)
    (h : Cert.Pre_finite.fn (F := Ideal) Q K W = fun _ => 1#1) : Fin' Q ∧ Fin' K := by
  have at_ : ∀ i, IntOp.andi (Ideal.cmp .olt (max (Q i : EReal) (-(Q i))) (Ideal.ofBits .f32 0x7F800000#32))
      (Ideal.cmp .olt (max (K i : EReal) (-(K i))) (Ideal.ofBits .f32 0x7F800000#32)) = 1#1 := fun i => by
    have := congrFun h i
    dsimp only [Cert.Pre_finite.fn] at this
    exact this
  exact ⟨fun i => real_of_abs _ (and_one _ _ (at_ i)).1, fun i => real_of_abs _ (and_one _ _ (at_ i)).2⟩

section

variable (m : (ℓ : Loc nD τ sig) → Buf (Elt Ideal) ℓ) (ρ : Dev nD → PrngReg)

/-- The run of the kernel's program: its result, and its arguments unchanged. -/
theorem run_whole (hs : ∀ c, Below m c) : θ_run defs (onTc (τ := τ) (main (F := Ideal))) ⟨m, fun _ => 0, ρ⟩ (fun r => ∀ c : Dev nD,
      r.2.mem ((c.tc : Thread nD τ).loc main_v32) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.exists_exact c
    exact ⟨(hA 3).trans (result_array m c (hs c) after hL), args_of m h.1 c⟩) (run_main m ρ)

theorem whole_eq (c : Dev nD) (Q K : FVec Ideal S8x4096x8x192 .f32) (W : FVec Ideal S8x4096x8x128 .f32)
    (hQ : m ((c : Thread nD τ).loc main_arg0) = Q) (hK : m ((c : Thread nD τ).loc main_arg1) = K) (hW : m ((c : Thread nD τ).loc main_arg2) = W)
    (fQ : Fin' Q) (fK : Fin' K) :
    whole m c = Cert.AttentionIdeal.Value.rows (Cert.AttentionIdeal.Value.weights (Cert.AttentionIdeal.Value.exps (Cert.AttentionIdeal.Value.scores Q K)
          (Cert.AttentionIdeal.Value.tops (Cert.AttentionIdeal.Value.scores Q K)))) W := by
  funext j
  have h0 : (j 0).val < 32768 := (j 0).isLt
  have h1 : (j 1).val < 1024 := (j 1).isLt
  have hl : (last j).val = (j 0).val / 4096 * 16 + (j 1).val / 256 * 4 + 3 := rfl
  refine (att_eq m c Q K W hQ hK hW fQ fK (last j) ⟨(j 1).val % 256 / 128, by omega⟩ ⟨(j 0).val % 4096, by omega⟩ ⟨(j 1).val % 128, by omega⟩).trans (congrArg _ ?_)
  refine funext fun a => Fin.ext ?_
  match a with
  | ⟨0, _⟩ => show 4096 * ((last j).val / 16) + (j 0).val % 4096 = (j 0).val; omega
  | ⟨1, _⟩ => show 128 * (2 * ((last j).val / 4 % 4) + (j 1).val % 256 / 128) + (j 1).val % 128 = (j 1).val; omega

end

theorem algebraic : Cert.algebraic_FlashIdeal_AttentionIdeal_pre_finite := fun m g m' g' hpre hagree => by
  have fin := fun c => finite_real _ _ _ (hpre c)
  refine ⟨fun c => whole m c, run_whole m g fun c => below m c _ _ rfl rfl (fin c).1 (fin c).2, ?_⟩
  refine (θ_run Cert.AttentionIdeal.defs _ _).mono (fun r h c => ⟨(h c).1.trans ?_, (h c).2⟩) (Cert.AttentionIdeal.Value.run m' g')
  rw [Cert.AttentionIdeal.Value.result_eq, (hagree c).1, (hagree c).2.1, (hagree c).2.2]
  exact (whole_eq m c _ _ _ rfl rfl rfl (fin c).1 (fin c).2).symm

end Cert.FlashIdeal.Value

end
-- ==== Proof.Half.lean ====
/- The half-step of a feed-forward layer on one row, as sums and products of extended reals. -/
module

public import Idealize.ShloMosaic.PureOps.Ideal

@[expose] public section

noncomputable section

namespace Cert.Half

open Idealize.ShloMosaic

/-- A row over the root of its mean square, times its gains. -/
def rms {n : ℕ} (x g : Fin n → EReal) (j : Fin n) : EReal :=
  x j * Ideal.rsqrt (Ideal.div (∑ k, x k * x k) (Ideal.ofBits .f32 0x44800000#32) + Ideal.ofBits .f32 0x358637BD#32) * g j

/-- `z` times its logistic. -/
def silu (z : EReal) : EReal :=
  z * Ideal.div 1 (1 + Ideal.exp (-z))

/-- One hidden unit. -/
def unit {n : ℕ} (h wg wu : Fin n → EReal) : EReal :=
  silu (∑ i, h i * wg i) * ∑ i, h i * wu i

/-- The row after the half-step. -/
def half {n k : ℕ} (x g : Fin n → EReal) (wg wu : Fin n → Fin k → EReal) (wd : Fin k → Fin n → EReal) (j : Fin n) : EReal :=
  x j + Ideal.ofBits .f32 0x3F000000#32 * ∑ u, unit (rms x g) (fun i => wg i u) (fun i => wu i u) * wd u j

/-- A choice between two things that are `v`. -/
theorem either {α : Type} {P : Prop} [Decidable P] {a : P → α} {b : ¬P → α} {v : α} (ha : ∀ h, a h = v) (hb : ∀ h, b h = v) : dite P a b = v := by
  by_cases h : P
  · exact (dif_pos h).trans (ha h)
  · exact (dif_neg h).trans (hb h)

/-- Times `1/1024` is over `1024`. -/
theorem mean_eq (s : EReal) : s * Ideal.ofBits .f32 0x3A800000#32 = Ideal.div s (Ideal.ofBits .f32 0x44800000#32) := by
  have a : Ideal.ofBits .f32 0x44800000#32 = ((1024 : ℝ) : EReal) :=
    (show Ideal.ofBits .f32 0x44800000#32 = ((8388608 * (2 ^ 13)⁻¹ : ℝ) : EReal) by simp [Ideal.ofBits, Ideal.ieee]).trans (congrArg _ (by norm_num))
  have b : Ideal.ofBits .f32 0x3A800000#32 = ((1 / 1024 : ℝ) : EReal) :=
    (show Ideal.ofBits .f32 0x3A800000#32 = ((8388608 * (2 ^ 33)⁻¹ : ℝ) : EReal) by simp [Ideal.ofBits, Ideal.ieee]).trans (congrArg _ (by norm_num))
  rw [a, b, Ideal.div_coe (by norm_num)]

/-- With the exact constant, a power of two is the exponential of the negated number. -/
theorem exp2_eq (z : EReal) : Ideal.exp2 (z * ((-((Real.log 2)⁻¹) : ℝ) : EReal)) = Ideal.exp (-z) := by
  have l2 : 0 < Real.log 2 := Real.log_pos (by norm_num)
  have neg : (-((Real.log 2)⁻¹) : ℝ) < 0 := neg_lt_zero.mpr (inv_pos.mpr l2)
  induction z with
  | bot => rw [EReal.bot_mul_coe_of_neg neg, Ideal.exp2_top, EReal.neg_bot, Ideal.exp_top]
  | top => rw [EReal.top_mul_coe_of_neg neg, Ideal.exp2_bot, EReal.neg_top, Ideal.exp_bot]
  | coe r =>
    rw [← EReal.coe_mul, ← EReal.coe_neg, Ideal.exp2_coe, Ideal.exp_coe]
    refine congrArg _ ((Real.rpow_def_of_pos (by norm_num) _).trans (congrArg Real.exp ?_))
    field_simp

theorem exp_nonneg (z : EReal) : 0 ≤ Ideal.exp z := by
  induction z with
  | bot => exact le_rfl
  | top => exact le_top
  | coe r => exact EReal.coe_nonneg.mpr (Real.exp_nonneg r)

/-- The kernel's form of `silu`. -/
theorem silu_eq (z : EReal) : Ideal.div z (1 + Ideal.exp2 (z * ((-((Real.log 2)⁻¹) : ℝ) : EReal))) = silu z := by
  unfold silu
  rw [exp2_eq]
  have h : (1 : EReal) + Ideal.exp (-z) ≠ 0 := (lt_of_lt_of_le zero_lt_one (le_add_of_nonneg_right (exp_nonneg (-z)))).ne'
  rw [Ideal.div, Ideal.div, if_neg h, if_neg h, one_mul]

end Cert.Half

end
-- ==== Proof.TileWide.lean ====
/- A feed-forward half-step on one tile of 1024 rows: the kernel's vectors, read at an element. -/
module

public import proofs.«01_k».proof.Proof.Gen.MixFfnIdeal.Frame
public import proofs.«01_k».proof.Proof.Half
public import Idealize.ShloMosaic.Lib.Pointwise
public import Idealize.ShloMosaic.Lib.Pipeline.ValueKit

@[expose] public section

set_option maxRecDepth 16384

noncomputable section

namespace Cert.TileWide

open Cert.MixFfnIdeal Cert.MixFfnIdeal.Gen
open Idealize.ShloMosaic
open Cert.Half

variable (x : FVec Ideal S1024x1024 .f32) (g : FVec Ideal S1x1024 .f32) (h : FVec Ideal S1024x1024 .bf16) (c : Ideal .f32)
  (a b : FVec Ideal S1024x256 .bf16) (wg wu : FVec Ideal S1024x2816 .bf16) (wd : FVec Ideal S2816x1024 .bf16)

/-- The tile's rows over the root of their mean square, times the gains. -/
def normed : FVec Ideal S1024x1024 .bf16 :=
  truncf (F := Ideal) .bf16 (mulf (mulf x (broadcastTo S1024x1024 (rsqrt (addf (mulf (shapeCast S1024x1
      (multiReduction (F := Ideal) .add [1] S1024 (mulf x x) 0x00000000#32 reduces_S1024x1024_S1024 (.inl rfl) rfl) shapeCasts_S1024_S1024x1)
    (broadcast S1024x1 (Scalar.ofBits (F := Ideal) .f32 0x3A800000#32))) (broadcast S1024x1 (Scalar.ofBits (F := Ideal) .f32 0x358637BD#32)))) broadcasts_S1024x1_S1024x1024))
    (broadcastTo S1024x1024 (shapeCast S1x1024 g shapeCasts_S1x1024_S1x1024) broadcasts_S1x1024_S1024x1024)) bitsLt_bf16_f32

/-- The tile's rows times 256 columns of a matrix. -/
def cols : FVec Ideal S1024x256 .f32 :=
  matmul (F := Ideal) dot_S1024x1024_S1024x256_S1024x256_1_0_0_1_n_n none h (shapeCast S1024x256 a shapeCasts_S1024x256_S1024x256) (constant S1024x256 .f32 0x00000000#32)

/-- 256 hidden units of the tile's rows. -/
def units : FVec Ideal S1024x256 .bf16 :=
  truncf (F := Ideal) .bf16 (mulf (divf (cols h a) (addf (broadcast S1024x256 (Scalar.ofBits (F := Ideal) .f32 0x3F800000#32)) (exp2 (mulf (cols h a) (broadcast S1024x256 c)))))
    (cols h b)) bitsLt_bf16_f32

/-- 256 columns of a matrix, from column `o`. -/
def part (w : FVec Ideal S1024x2816 .bf16) (o : ℕ) (ho : ∀ k : Fin 2, (![0, o] : Fin 2 → ℕ) k + S1024x256.size k ≤ S1024x2816.size k) : FVec Ideal S1024x256 .bf16 :=
  View.ld (Val := Elt Ideal) (e' := .bf16) (S := S1024x2816) w (Rect.unit (s := S1024x2816) ![0, o] S1024x256.size ho)

/-- All hidden units of the tile's rows. -/
def hiddens : FVec Ideal S1024x2816 .bf16 :=
  concatenate S1024x2816 1 [⟨S1024x256, units (normed x g) c (part wg 0 inb_S1024x2816_S1024x256_0_0) (part wu 0 inb_S1024x2816_S1024x256_0_0)⟩, ⟨S1024x256, units (normed x g) c (part wg 256 inb_S1024x2816_S1024x256_0_256) (part wu 256 inb_S1024x2816_S1024x256_0_256)⟩, ⟨S1024x256, units (normed x g) c (part wg 512 inb_S1024x2816_S1024x256_0_512) (part wu 512 inb_S1024x2816_S1024x256_0_512)⟩, ⟨S1024x256, units (normed x g) c (part wg 768 inb_S1024x2816_S1024x256_0_768) (part wu 768 inb_S1024x2816_S1024x256_0_768)⟩, ⟨S1024x256, units (normed x g) c (part wg 1024 inb_S1024x2816_S1024x256_0_1024) (part wu 1024 inb_S1024x2816_S1024x256_0_1024)⟩, ⟨S1024x256, units (normed x g) c (part wg 1280 inb_S1024x2816_S1024x256_0_1280) (part wu 1280 inb_S1024x2816_S1024x256_0_1280)⟩, ⟨S1024x256, units (normed x g) c (part wg 1536 inb_S1024x2816_S1024x256_0_1536) (part wu 1536 inb_S1024x2816_S1024x256_0_1536)⟩, ⟨S1024x256, units (normed x g) c (part wg 1792 inb_S1024x2816_S1024x256_0_1792) (part wu 1792 inb_S1024x2816_S1024x256_0_1792)⟩, ⟨S1024x256, units (normed x g) c (part wg 2048 inb_S1024x2816_S1024x256_0_2048) (part wu 2048 inb_S1024x2816_S1024x256_0_2048)⟩, ⟨S1024x256, units (normed x g) c (part wg 2304 inb_S1024x2816_S1024x256_0_2304) (part wu 2304 inb_S1024x2816_S1024x256_0_2304)⟩, ⟨S1024x256, units (normed x g) c (part wg 2560 inb_S1024x2816_S1024x256_0_2560) (part wu 2560 inb_S1024x2816_S1024x256_0_2560)⟩] concatenates_S1024x256_S1024x256_S1024x256_S1024x256_S1024x256_S1024x256_S1024x256_S1024x256_S1024x256_S1024x256_S1024x256_S1024x2816_d1

/-- The tile after the half-step. -/
def tile : FVec Ideal S1024x1024 .f32 :=
  addf x (mulf (broadcast S1024x1024 (Scalar.ofBits (F := Ideal) .f32 0x3F000000#32)) (matmul (F := Ideal) dot_S1024x2816_S2816x1024_S1024x1024_1_0_0_1_n_n none
    (hiddens x g c wg wu)
    (shapeCast S2816x1024 wd shapeCasts_S2816x1024_S2816x1024) (constant S1024x1024 .f32 0x00000000#32)))

theorem normed_at (p j : Fin 1024) : normed x g (ix2 p j) = rms (fun k => x (ix2 p k)) (fun k => g (ix2 0 k)) j := by
  pointwise [normed]
  rw [mean_eq]
  rfl

theorem cols_at (p : Fin 1024) (j : Fin 256) : cols h a (ix2 p j) = (∑ k : Fin 1024, h (ix2 p k) * a (ix2 k j) : EReal) := by
  pointwise [cols]

theorem units_at (p : Fin 1024) (j : Fin 256) :
    units h ((-((Real.log 2)⁻¹) : ℝ) : EReal) a b (ix2 p j) = unit (fun k => h (ix2 p k)) (fun k => a (ix2 k j)) (fun k => b (ix2 k j)) := by
  pointwise [units]
  rw [cols_at, cols_at]
  exact congrArg (· * _) (silu_eq _)

theorem part_at (w : FVec Ideal S1024x2816 .bf16) (o : ℕ) (ho) (k : Fin 1024) (j : Fin 256) (u : Fin 2816) (e : u.val = o + j.val) :
    part w o ho (ix2 k j) = w (ix2 k u) := by
  refine View.ld_unit_apply_of (Val := Elt Ideal) (e := .bf16) (S := S1024x2816) w _ _ _ _ _ fun a => ?_
  fin_cases a
  · exact (Nat.zero_add _).symm
  · exact e

theorem hiddens_at (p : Fin 1024) (u : Fin 2816) :
    hiddens x g ((-((Real.log 2)⁻¹) : ℝ) : EReal) wg wu (ix2 p u)
      = unit (rms (fun k => x (ix2 p k)) (fun k => g (ix2 0 k))) (fun k => wg (ix2 k u)) (fun k => wu (ix2 k u)) := by
  have e (o : ℕ) (ho) (v : Fin 256) (hv : u.val = o + v.val) :
      units (normed x g) ((-((Real.log 2)⁻¹) : ℝ) : EReal) (part wg o ho) (part wu o ho) (ix2 p v)
        = unit (rms (fun k => x (ix2 p k)) (fun k => g (ix2 0 k))) (fun k => wg (ix2 k u)) (fun k => wu (ix2 k u)) := by
    rw [units_at]
    simp only [normed_at, fun w k => part_at w o ho k v u hv]
  pointwise [hiddens]
  iterate 10
    refine either (fun _ => e _ _ _ (by dsimp only; omega)) fun _ => ?_
  exact e _ _ _ (by dsimp only; omega)

theorem tile_at (p j : Fin 1024) :
    tile x g ((-((Real.log 2)⁻¹) : ℝ) : EReal) wg wu wd (ix2 p j)
      = half (fun k => x (ix2 p k)) (fun k => g (ix2 0 k)) (fun k u => wg (ix2 k u)) (fun k u => wu (ix2 k u)) (fun u k => wd (ix2 u k)) j := by
  pointwise [tile]
  simp only [hiddens_at]
  rfl

end Cert.TileWide

end
-- ==== Proof.MixValue.lean ====
/- What the mix_ffn call leaves in its result array. -/
module

public import proofs.«01_k».proof.Proof.TileWide
public import proofs.«01_k».proof.Proof.Gen.MixFfnIdeal.Value

@[expose] public section

set_option maxRecDepth 16384

noncomputable section

namespace Cert.MixFfnIdeal.Value

open Cert.MixFfnIdeal Cert.MixFfnIdeal.Gen
open Idealize.ShloMosaic
open Idealize.ShloMosaic.TcCoe
open Cert.Half Cert.TileWide

variable (m : (ℓ : Loc nD τ sig) → Buf (Elt Ideal) ℓ)

/-- Rows of the call's input: the stream's plus the mixer's through its output matrix. -/
def mixed (x : FVec Ideal S1024x1024 .f32) (a w : FVec Ideal S1024x1024 .bf16) : FVec Ideal S1024x1024 .f32 := k0_pay2 x a w

theorem mixed_at (x : FVec Ideal S1024x1024 .f32) (a w : FVec Ideal S1024x1024 .bf16) (p j : Fin 1024) :
    mixed x a w (ix2 p j) = (x (ix2 p j) + ∑ k : Fin 1024, a (ix2 p k) * w (ix2 k j) : EReal) := by
  pointwise [mixed, k0_pay2]

/-- The constant of the exponential. -/
abbrev scale : Ideal .f32 := ((-((Real.log 2)⁻¹) : ℝ) : EReal)

section

variable (X : FVec Ideal S1024x1024 .f32) (h : FVec Ideal S1024x1024 .bf16) (a b a' b' : FVec Ideal S1024x256 .bf16)

theorem pay5_eq : k0_pay5 (F := Ideal) h a b = units h scale a b := rfl
theorem pay6_eq : k0_pay6 (F := Ideal) h a b = units h scale a b := rfl
theorem pay10_eq : k0_pay10 (F := Ideal) h a b = units h scale a b := rfl
theorem pay11_eq : k0_pay11 (F := Ideal) h a b = units h scale a b := rfl
theorem pay16_eq : k0_pay16 (F := Ideal) h a b = units h scale a b := rfl
theorem pay17_eq : k0_pay17 (F := Ideal) h a b = units h scale a b := rfl
theorem pay4_eq (x : FVec Ideal S1024x1024 .f32) (o w : FVec Ideal S1024x1024 .bf16) (g : FVec Ideal S1x1024 .f32) :
    k0_pay4 (F := Ideal) x o w g a b = units (normed (mixed x o w) g) scale a b := rfl
theorem pay3_eq (x : FVec Ideal S1024x1024 .f32) (o w : FVec Ideal S1024x1024 .bf16) (g : FVec Ideal S1x1024 .f32) :
    k0_pay3 (F := Ideal) x o w g = normed (mixed x o w) g := rfl
theorem pay9_eq : k0_pay9 (F := Ideal) h (k0_pay7 h a) (k0_pay8 b) = units h scale a b := rfl
theorem pay15_eq : k0_pay15 (F := Ideal) h (k0_pay12 h a) (k0_pay13 h a) k0_pay14 b = units h scale a b := rfl
theorem pay1_eq (u0 u1 u2 u3 u4 u5 u6 u7 u8 : FVec Ideal S1024x256 .bf16) (wd : FVec Ideal S2816x1024 .bf16) :
    k0_pay1 (F := Ideal) X h u0 u1 u2 u3 u4 u5 u6 u7 u8 (k0_pay18 h a) b a' b' wd
      = addf X (mulf (broadcast S1024x1024 (Scalar.ofBits (F := Ideal) .f32 0x3F000000#32)) (matmul (F := Ideal) dot_S1024x2816_S2816x1024_S1024x1024_1_0_0_1_n_n none
          (concatenate S1024x2816 1 [⟨S1024x256, u0⟩, ⟨S1024x256, u1⟩, ⟨S1024x256, u2⟩, ⟨S1024x256, u3⟩, ⟨S1024x256, u4⟩, ⟨S1024x256, u5⟩, ⟨S1024x256, u6⟩, ⟨S1024x256, u7⟩, ⟨S1024x256, u8⟩, ⟨S1024x256, units h scale a b⟩, ⟨S1024x256, units h scale a' b'⟩] concatenates_S1024x256_S1024x256_S1024x256_S1024x256_S1024x256_S1024x256_S1024x256_S1024x256_S1024x256_S1024x256_S1024x256_S1024x2816_d1)
          (shapeCast S2816x1024 wd shapeCasts_S2816x1024_S2816x1024) (constant S1024x1024 .f32 0x00000000#32))) := rfl

end

theorem wide {e : EltTy} (X : Vec Ideal S1024x1024 e) : View.ld X r0_0 = X := by simp (disch := decide) only [View.ld_unit_lit']
theorem gains (X : FVec Ideal S1x1024 .f32) : View.ld (Val := Elt Ideal) (e' := .f32) X r0_1 = X := by simp (disch := decide) only [View.ld_unit_lit']
theorem down (X : FVec Ideal S2816x1024 .bf16) : View.ld (Val := Elt Ideal) (e' := .bf16) X r0_13 = X := by simp (disch := decide) only [View.ld_unit_lit']
theorem stored (X : FVec Ideal S1024x1024 .f32) (L : List (View.Piece (Elt Ideal) S1024x1024 .f32)) (h : L = [⟨r0_0, X⟩]) : View.canon L = X := by
  subst h
  simp (disch := decide) only [View.canon_cons_unit_lit']

theorem out_eq (x : FVec Ideal S1024x1024 .f32) (a w : FVec Ideal S1024x1024 .bf16) (g : FVec Ideal S1x1024 .f32) (wg wu : FVec Ideal S1024x2816 .bf16) (wd : FVec Ideal S2816x1024 .bf16) :
    (out0_7 (F := Ideal) x a w g wg wu wd : FVec Ideal S1024x1024 .f32) = tile (mixed x a w) g scale wg wu wd := by
  unfold out0_7
  refine (stored _ _ rfl).trans ?_
  unfold k0_pay19
  rw [wide, wide, wide, gains, down, pay3_eq, pay4_eq, pay5_eq, pay6_eq, pay9_eq, pay10_eq, pay11_eq, pay15_eq, pay16_eq, pay17_eq]
  exact pay1_eq ..

set_option maxHeartbeats 4000000 in
theorem arrays (c : Dev nD) :
    V m c main_v0 = shapeCast S32768x1024 (m ((c : Thread nD τ).loc main_arg0)) shapeCasts_S8x4096x1024_S32768x1024
    ∧ V m c main_v2 = shapeCast S32768x1024 (truncf (F := Ideal) .bf16 (m ((c : Thread nD τ).loc main_arg1)) bitsLt_bf16_f32) shapeCasts_S8x4096x1024_S32768x1024
    ∧ V m c main_v6 = truncf (F := Ideal) .bf16 (m ((c : Thread nD τ).loc main_arg6)) bitsLt_bf16_f32
    ∧ V m c main_v3 = truncf (F := Ideal) .bf16 (m ((c : Thread nD τ).loc main_arg3)) bitsLt_bf16_f32
    ∧ V m c main_v4 = truncf (F := Ideal) .bf16 (m ((c : Thread nD τ).loc main_arg4)) bitsLt_bf16_f32
    ∧ V m c main_v5 = truncf (F := Ideal) .bf16 (m ((c : Thread nD τ).loc main_arg5)) bitsLt_bf16_f32
    ∧ V m c main_v10 = shapeCast S1x1024 (broadcastInDim S1x1x1x1024 ![0, 1, 2, 3] bcast_S1x1x1x1024_S1x1x1x1024_0_1_2_3 (shapeCast S1x1x1x1024
        (shapeCast S1x1024 (m ((c : Thread nD τ).loc main_arg2)) shapeCasts_S1024_S1x1024) shapeCasts_S1x1024_S1x1x1x1024)) shapeCasts_S1x1x1x1024_S1x1024 := by
  simp only [V, hostOps0, List.flatten_cons, List.flatten_nil, List.cons_append, List.nil_append, cast_eq]
  refine ⟨?_, ?_, ?_, ?_, ?_, ?_, ?_⟩ <;> (after_results_simp <;> rfl)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem lt32 (t : Fin cfg0.N) : t.val < 32 := t.isLt

theorem rows_at {e : EltTy} (X : Vec Ideal S8x4096x1024 e) (b : Fin 8) (q : Fin 4096) (k : Fin 1024) :
    shapeCast S32768x1024 X shapeCasts_S8x4096x1024_S32768x1024 (ix2 ⟨4096 * b.val + q.val, by omega⟩ k) = X (ix3 b q k) := by
  pointwise []

/-- An element of the stream's block at a point. -/
theorem block0 (c : Dev nD) (t : Fin cfg0.N) (p k : Fin 1024) : (iblk m c 0 t : FVec Ideal S1024x1024 .f32) (ix2 p k)
      = (m ((c : Thread nD τ).loc main_arg0) : FVec Ideal S8x4096x1024 .f32)
          (ix3 ⟨t.val / 4, by have := lt32 t; omega⟩ ⟨t.val % 4 * 1024 + p.val, by omega⟩ k) := by
  have ht := lt32 t
  refine .trans ?_ (rows_at _ _ _ _)
  rw [← (arrays m c).1]
  refine congrArg (V m c main_v0) ?_
  blk_ext [index0 t]
/-- An element of the mixer's block at a point. -/
theorem block1 (c : Dev nD) (t : Fin cfg0.N) (p k : Fin 1024) : (iblk m c 1 t : FVec Ideal S1024x1024 .bf16) (ix2 p k)
      = ((m ((c : Thread nD τ).loc main_arg1) : FVec Ideal S8x4096x1024 .f32)
          (ix3 ⟨t.val / 4, by have := lt32 t; omega⟩ ⟨t.val % 4 * 1024 + p.val, by omega⟩ k) : EReal) := by
  have ht := lt32 t
  refine .trans (b := (shapeCast S32768x1024 (truncf (F := Ideal) .bf16 (m ((c : Thread nD τ).loc main_arg1)) bitsLt_bf16_f32) shapeCasts_S8x4096x1024_S32768x1024 : FVec Ideal S32768x1024 .bf16)
    (ix2 ⟨4096 * (t.val / 4) + (t.val % 4 * 1024 + p.val), by omega⟩ k)) ?_ (rows_at (e := .bf16) _ ⟨t.val / 4, by omega⟩ ⟨t.val % 4 * 1024 + p.val, by omega⟩ k)
  rw [← (arrays m c).2.1]
  refine congrArg (V m c main_v2) ?_
  blk_ext [index1 t]
theorem block2 (c : Dev nD) (t : Fin cfg0.N) (p k : Fin 1024) : (iblk m c 2 t : FVec Ideal S1024x1024 .bf16) (ix2 p k)
      = ((m ((c : Thread nD τ).loc main_arg6) : FVec Ideal S1024x1024 .f32) (ix2 p k) : EReal) := by
  refine (congrArg (V m c main_v6) (?_ : _ = ix2 p k)).trans ?_
  · blk_ext [index2 t]
  · rw [(arrays m c).2.2.1]; rfl
theorem block3 (c : Dev nD) (t : Fin cfg0.N) (k : Fin 1024) : (iblk m c 3 t : FVec Ideal S1x1024 .f32) (ix2 0 k)
      = (m ((c : Thread nD τ).loc main_arg2) : FVec Ideal S1024 .f32) (ix1 k) := by
  refine (congrArg (V m c main_v10) (?_ : _ = ix2 0 k)).trans ?_
  · blk_ext [index3 t]
  · rw [(arrays m c).2.2.2.2.2.2]
    pointwise []
theorem block4 (c : Dev nD) (t : Fin cfg0.N) (p : Fin 1024) (k : Fin 2816) : (iblk m c 4 t : FVec Ideal S1024x2816 .bf16) (ix2 p k)
      = ((m ((c : Thread nD τ).loc main_arg3) : FVec Ideal S1024x2816 .f32) (ix2 p k) : EReal) := by
  refine (congrArg (V m c main_v3) (?_ : _ = ix2 p k)).trans ?_
  · blk_ext [index4 t]
  · rw [(arrays m c).2.2.2.1]; rfl
theorem block5 (c : Dev nD) (t : Fin cfg0.N) (p : Fin 1024) (k : Fin 2816) : (iblk m c 5 t : FVec Ideal S1024x2816 .bf16) (ix2 p k)
      = ((m ((c : Thread nD τ).loc main_arg4) : FVec Ideal S1024x2816 .f32) (ix2 p k) : EReal) := by
  refine (congrArg (V m c main_v4) (?_ : _ = ix2 p k)).trans ?_
  · blk_ext [index5 t]
  · rw [(arrays m c).2.2.2.2.1]; rfl
theorem block6 (c : Dev nD) (t : Fin cfg0.N) (p : Fin 2816) (k : Fin 1024) : (iblk m c 6 t : FVec Ideal S2816x1024 .bf16) (ix2 p k)
      = ((m ((c : Thread nD τ).loc main_arg5) : FVec Ideal S2816x1024 .f32) (ix2 p k) : EReal) := by
  refine (congrArg (V m c main_v5) (?_ : _ = ix2 p k)).trans ?_
  · blk_ext [index6 t]
  · rw [(arrays m c).2.2.2.2.2.1]; rfl

/-- The result at a row of the stream: the mixer's output added in, then half of its feed-forward network. -/
def rowOf (x o : FVec Ideal S8x4096x1024 .f32) (g : FVec Ideal S1024 .f32) (wg wu : FVec Ideal S1024x2816 .f32) (wd : FVec Ideal S2816x1024 .f32)
    (wo : FVec Ideal S1024x1024 .f32) (b : Fin 8) (q : Fin 4096) (j : Fin 1024) : EReal :=
  half (fun k => (x (ix3 b q k) + ∑ i : Fin 1024, o (ix3 b q i) * wo (ix2 i k) : EReal)) (fun k => g (ix1 k)) (fun k u => wg (ix2 k u)) (fun k u => wu (ix2 k u)) (fun u k => wd (ix2 u k)) j

/-- What a run leaves in the result array. -/
def whole (c : Dev nD) : FVec Ideal S32768x1024 .f32 := fun i =>
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    ⟨(i 0).val / 4096, by have : (i 0).val < 32768 := (i 0).isLt; omega⟩ ⟨(i 0).val % 4096, by omega⟩ (i 1)

theorem tile_row (c : Dev nD) (t : Fin cfg0.N) (p j : Fin 1024) :
    (out0_7 (F := Ideal) (iblk m c 0 t) (iblk m c 1 t) (iblk m c 2 t) (iblk m c 3 t) (iblk m c 4 t) (iblk m c 5 t) (iblk m c 6 t) : FVec Ideal S1024x1024 .f32) (ix2 p j)
      = rowOf (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          ⟨t.val / 4, by have := lt32 t; omega⟩ ⟨t.val % 4 * 1024 + p.val, by omega⟩ j := by
  rw [out_eq, tile_at]
  simp only [mixed_at, block0, block1, block2, block3, block4, block5, block6]
  rfl

theorem result_array (c : Dev nD) : (dats m 0 c).arrAt 7 cfg0.N = whole m c := by
  refine (dats m 0 c).arrAt_eq_of_covers 7 _ (by decide +kernel) fun t hf y => ?_
  blk_simp
  rw [after0_7]
  have ht := lt32 t
  obtain ⟨p, j, rfl⟩ : ∃ (p j : Fin 1024), y = ix2 p j := ⟨y 0, y 1, eq_ix2 y⟩
  refine (tile_row m c t p j).trans ?_
  obtain ⟨i, hi⟩ : ∃ i, i = (win0_7.blk t).view.emb (ix2 p j) := ⟨_, rfl⟩
  rw [← hi]
  have e : i = ix2 ⟨t.val * 1024 + p.val, by omega⟩ j := by
    rw [hi]
    blk_ext [index7 t]
  rw [e]
  unfold whole
  congr 1
  · exact Fin.ext (by show t.val / 4 = (t.val * 1024 + p.val) / 4096; omega)
  · exact Fin.ext (by show t.val % 4 * 1024 + p.val = (t.val * 1024 + p.val) % 4096; omega)

end Cert.MixFfnIdeal.Value

end
-- ==== Proof.RefHalf.lean ====
/- The reference's feed-forward half-step, read at an element. -/
module

public import proofs.«01_k».proof.Proof.Gen.MixFfnRefIdeal.Run
public import proofs.«01_k».proof.Proof.Half
public import Idealize.ShloMosaic.Lib.Pointwise

@[expose] public section

set_option maxRecDepth 16384

noncomputable section

namespace Cert.RefHalf

open Cert.MixFfnRefIdeal Cert.MixFfnRefIdeal.Gen
open Idealize.ShloMosaic
open Cert.Half

variable (X : FVec Ideal S8x4096x1024 .f32) (g : FVec Ideal S1024 .f32) (h : FVec Ideal S8x4096x1024 .f32) (G U : FVec Ideal S8x4096x2816 .f32) (w wg wu : FVec Ideal S1024x2816 .f32)
  (wd : FVec Ideal S2816x1024 .f32)

/-- Every row over the root of its mean square, times the gains. -/
def normed : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1
    (Host.reduceAdd (mulf X X) (constant S_ .f32 0x00000000#32) reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Every row times the columns of a matrix. -/
def through : FVec Ideal S8x4096x2816 .f32 := Host.dotGeneral dot_S8x4096x1024_S1024x2816_S8x4096x2816_2_0_01_1_n_n none h w

/-- The hidden units from the two products. -/
def gated : FVec Ideal S8x4096x2816 .f32 :=
  mulf (mulf G (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf G))))) U

/-- Every row plus half of its feed-forward network's output. -/
def step : FVec Ideal S8x4096x1024 .f32 :=
  addf X (mulf (broadcastInDim S8x4096x1024 ![] bcast_S_S8x4096x1024 (constant S_ .f32 0x3F000000#32))
    (Host.dotGeneral dot_S8x4096x2816_S2816x1024_S8x4096x1024_2_0_01_1_n_n none (gated (through (normed X g) wg) (through (normed X g) wu)) wd))

variable (b : Fin 8) (q : Fin 4096) (j : Fin 1024) (u : Fin 2816)

theorem normed_at : normed X g (ix3 b q j) = rms (fun k => X (ix3 b q k)) (fun k => g (ix1 k)) j := by
  pointwise [normed]
  rfl

theorem through_at : through h w (ix3 b q u) = (∑ k : Fin 1024, h (ix3 b q k) * w (ix2 k u) : EReal) := by
  pointwise [through]

theorem gated_at : gated G U (ix3 b q u) = (silu (G (ix3 b q u)) * U (ix3 b q u) : EReal) := by
  pointwise [gated]
  rfl

theorem step_at : step X g wg wu wd (ix3 b q j)
    = half (fun k => X (ix3 b q k)) (fun k => g (ix1 k)) (fun k u => wg (ix2 k u)) (fun k u => wu (ix2 k u)) (fun u k => wd (ix2 u k)) j := by
  pointwise [step]
  simp only [gated_at, through_at, normed_at]
  rfl

end Cert.RefHalf

end
-- ==== Proof.MixValues.lean ====
/- The mix_ffn call computes its reference. -/
module

public import proofs.«01_k».proof.Proof.MixValue
public import proofs.«01_k».proof.Proof.RefHalf
public import proofs.«01_k».proof.Defs

@[expose] public section

set_option maxRecDepth 16384

noncomputable section

namespace Cert.MixFfnRefIdeal.Value

open Cert.MixFfnRefIdeal Cert.MixFfnRefIdeal.Gen
open Idealize.ShloMosaic
open Idealize.ShloMosaic.TcCoe
open Cert.RefHalf Cert.Half

/-- The stream with the mixer's output added in. -/
def mixed (x o : FVec Ideal S8x4096x1024 .f32) (wo : FVec Ideal S1024x1024 .f32) : FVec Ideal S8x4096x1024 .f32 :=
  addf x (Host.dotGeneral dot_S8x4096x1024_S1024x1024_S8x4096x1024_2_0_01_1_n_n none o wo)

theorem mixed_at (x o : FVec Ideal S8x4096x1024 .f32) (wo : FVec Ideal S1024x1024 .f32) (b : Fin 8) (q : Fin 4096) (j : Fin 1024) :
    mixed x o wo (ix3 b q j) = (x (ix3 b q j) + ∑ i : Fin 1024, o (ix3 b q i) * wo (ix2 i j) : EReal) := by
  pointwise [mixed]

theorem result_eq (m : (ℓ : Loc nD τ sig) → Buf (Elt Ideal) ℓ) (c : Dev nD) :
    res_main_v23 m c = shapeCast S32768x1024 (step (mixed (m ((c.tc : Thread nD τ).loc main_arg0)) (m ((c.tc : Thread nD τ).loc main_arg1)) (m ((c.tc : Thread nD τ).loc main_arg6)))
      (m ((c.tc : Thread nD τ).loc main_arg2)) (m ((c.tc : Thread nD τ).loc main_arg3)) (m ((c.tc : Thread nD τ).loc main_arg4)) (m ((c.tc : Thread nD τ).loc main_arg5)))
      shapeCasts_S8x4096x1024_S32768x1024 := rfl

end Cert.MixFfnRefIdeal.Value

namespace Cert.MixFfnIdeal.Value

open Cert.MixFfnIdeal Cert.MixFfnIdeal.Gen
open Idealize.ShloMosaic
open Idealize.ShloMosaic.TcCoe

theorem whole_eq (m : (ℓ : Loc nD τ sig) → Buf (Elt Ideal) ℓ) (c : Dev nD) :
    whole m c = shapeCast S32768x1024 (Cert.RefHalf.step (Cert.MixFfnRefIdeal.Value.mixed (m ((c : Thread nD τ).loc main_arg0)) (m ((c : Thread nD τ).loc main_arg1)) (m ((c : Thread nD τ).loc main_arg6)))
      (m ((c : Thread nD τ).loc main_arg2)) (m ((c : Thread nD τ).loc main_arg3)) (m ((c : Thread nD τ).loc main_arg4)) (m ((c : Thread nD τ).loc main_arg5))) shapeCasts_S8x4096x1024_S32768x1024 := by
  funext i
  have h0 : (i 0).val < 32768 := (i 0).isLt
  have e : i = ix2 ⟨4096 * ((i 0).val / 4096) + (i 0).val % 4096, by omega⟩ (i 1) := by
    refine (eq_ix2 i).trans ?_
    congr 1
    exact Fin.ext (by show (i 0).val = 4096 * ((i 0).val / 4096) + (i 0).val % 4096; omega)
  refine .trans ?_ (congrArg _ e.symm)
  refine .trans ?_ (rows_at (e := .f32) _ ⟨(i 0).val / 4096, by omega⟩ ⟨(i 0).val % 4096, by omega⟩ (i 1)).symm
  refine .trans ?_ (Cert.RefHalf.step_at _ _ _ _ _ _ _ _).symm
  simp only [Cert.MixFfnRefIdeal.Value.mixed_at]
  rfl

theorem algebraic : Cert.algebraic_MixFfnIdeal_MixFfnRefIdeal := fun m g m' g' _ hagree => by
  refine ⟨fun c => whole m c, ?_, ?_⟩
  · exact (θ_run defs _ _).mono (fun r h c => ⟨(h c).1.trans (result_array m c), (h c).2⟩) (run_blocks m g)
  · refine (θ_run Cert.MixFfnRefIdeal.defs _ _).mono (fun r h c => ⟨(h c).1.trans ?_, (h c).2⟩) (Cert.MixFfnRefIdeal.Value.run m' g')
    rw [Cert.MixFfnRefIdeal.Value.result_eq, (hagree c).1, (hagree c).2.1, (hagree c).2.2.1, (hagree c).2.2.2.1, (hagree c).2.2.2.2.1, (hagree c).2.2.2.2.2.1, (hagree c).2.2.2.2.2.2]
    exact (whole_eq m c).symm

end Cert.MixFfnIdeal.Value

end
-- ==== Proof.FfnValue.lean ====
/- What the ffn call leaves in its result arrays. -/
module

public import proofs.«01_k».proof.Proof.TileWide
public import proofs.«01_k».proof.Proof.Gen.FfnIdeal.Value

@[expose] public section

set_option maxRecDepth 16384

noncomputable section

namespace Cert.FfnIdeal.Value

open Cert.FfnIdeal Cert.FfnIdeal.Gen
open Idealize.ShloMosaic
open Idealize.ShloMosaic.TcCoe
open Cert.Half Cert.TileWide

variable (m : (ℓ : Loc nD τ sig) → Buf (Elt Ideal) ℓ)

/-- The rows of the stream's block. -/
def own (x : FVec Ideal S1024x1024 .f32) : FVec Ideal S1024x1024 .f32 := k0_pay5 x

theorem own_at (x : FVec Ideal S1024x1024 .f32) (p j : Fin 1024) : own x (ix2 p j) = x (ix2 p j) := by
  pointwise [own, k0_pay5]

/-- The constant of the exponential. -/
abbrev scale : Ideal .f32 := ((-((Real.log 2)⁻¹) : ℝ) : EReal)

section

variable (X : FVec Ideal S1024x1024 .f32) (h : FVec Ideal S1024x1024 .bf16) (a b : FVec Ideal S1024x256 .bf16)

theorem pay7_eq : k0_pay7 (F := Ideal) h a b = units h scale a b := rfl
theorem pay8_eq : k0_pay8 (F := Ideal) h a b = units h scale a b := rfl
theorem pay12_eq : k0_pay12 (F := Ideal) h a b = units h scale a b := rfl
theorem pay13_eq : k0_pay13 (F := Ideal) h a b = units h scale a b := rfl
theorem pay18_eq : k0_pay18 (F := Ideal) h a b = units h scale a b := rfl
theorem pay19_eq : k0_pay19 (F := Ideal) h a b = units h scale a b := rfl
theorem pay22_eq : k0_pay22 (F := Ideal) h a b = units h scale a b := rfl
theorem pay23_eq : k0_pay23 (F := Ideal) h a b = units h scale a b := rfl
theorem pay6_eq (x : FVec Ideal S1024x1024 .f32) (g : FVec Ideal S1x1024 .f32) : k0_pay6 (F := Ideal) x g = normed (own x) g := rfl
theorem pay11_eq : k0_pay11 (F := Ideal) h (k0_pay9 h a) (k0_pay10 b) = units h scale a b := rfl
theorem pay17_eq : k0_pay17 (F := Ideal) h (k0_pay14 h a) (k0_pay15 h a) k0_pay16 b = units h scale a b := rfl
theorem pay21_eq : k0_pay21 (F := Ideal) h (k0_pay20 h a) b = units h scale a b := rfl
theorem pay1_eq (u0 u1 u2 u3 u4 u5 u6 u7 u8 u9 u10 : FVec Ideal S1024x256 .bf16) (wd : FVec Ideal S2816x1024 .bf16) :
    k0_pay1 (F := Ideal) X u0 u1 u2 u3 u4 u5 u6 u7 u8 u9 u10 wd
      = addf X (mulf (broadcast S1024x1024 (Scalar.ofBits (F := Ideal) .f32 0x3F000000#32)) (matmul (F := Ideal) dot_S1024x2816_S2816x1024_S1024x1024_1_0_0_1_n_n none
          (concatenate S1024x2816 1 [⟨S1024x256, u0⟩, ⟨S1024x256, u1⟩, ⟨S1024x256, u2⟩, ⟨S1024x256, u3⟩, ⟨S1024x256, u4⟩, ⟨S1024x256, u5⟩, ⟨S1024x256, u6⟩, ⟨S1024x256, u7⟩, ⟨S1024x256, u8⟩, ⟨S1024x256, u9⟩, ⟨S1024x256, u10⟩] concatenates_S1024x256_S1024x256_S1024x256_S1024x256_S1024x256_S1024x256_S1024x256_S1024x256_S1024x256_S1024x256_S1024x256_S1024x2816_d1)
          (shapeCast S2816x1024 wd shapeCasts_S2816x1024_S2816x1024) (constant S1024x1024 .f32 0x00000000#32))) := rfl

end

theorem wide {e : EltTy} (X : Vec Ideal S1024x1024 e) : View.ld X r0_4 = X := by simp (disch := decide) only [View.ld_unit_lit']
theorem gains (X : FVec Ideal S1x1024 .f32) : View.ld (Val := Elt Ideal) (e' := .f32) X r0_5 = X := by simp (disch := decide) only [View.ld_unit_lit']
theorem down (X : FVec Ideal S2816x1024 .bf16) : View.ld (Val := Elt Ideal) (e' := .bf16) X r0_17 = X := by simp (disch := decide) only [View.ld_unit_lit']
theorem stored (X : FVec Ideal S1024x1024 .f32) (L : List (View.Piece (Elt Ideal) S1024x1024 .f32)) (h : L = [⟨r0_4, X⟩]) : View.canon L = X := by
  subst h
  simp (disch := decide) only [View.canon_cons_unit_lit']

section

variable (x : FVec Ideal S1024x1024 .f32) (g : FVec Ideal S1x1024 .f32) (wg wu : FVec Ideal S1024x2816 .bf16) (wd : FVec Ideal S2816x1024 .bf16)
  (r5 r6 : FVec Ideal S1x1x32x2816 .f32) (r7 : FVec Ideal S1x1x128x1024 .f32)

theorem out_eq : (out0_8 (F := Ideal) x g wg wu wd r5 r6 r7 : FVec Ideal S1024x1024 .f32) = tile (own x) g scale wg wu wd := by
  unfold out0_8
  refine (stored _ _ rfl).trans ?_
  unfold k0_pay24
  rw [wide, gains, down, pay6_eq, pay7_eq, pay8_eq, pay11_eq, pay12_eq, pay13_eq, pay17_eq, pay18_eq, pay19_eq, pay21_eq, pay22_eq, pay23_eq]
  exact pay1_eq ..

theorem slab9 (p : Fin 32) (k : Fin 2816) : (out0_9 (F := Ideal) x g wg wu wd r5 r6 r7 : FVec Ideal S32x2816 .bf16) (ix2 p k) = (r5 (ix4 0 0 p k) : EReal) := by
  frame_out
  pointwise [k0_pay2]
theorem slab10 (p : Fin 32) (k : Fin 2816) : (out0_10 (F := Ideal) x g wg wu wd r5 r6 r7 : FVec Ideal S32x2816 .bf16) (ix2 p k) = (r6 (ix4 0 0 p k) : EReal) := by
  frame_out
  pointwise [k0_pay3]
theorem slab11 (p : Fin 128) (k : Fin 1024) : (out0_11 (F := Ideal) x g wg wu wd r5 r6 r7 : FVec Ideal S128x1024 .bf16) (ix2 p k) = (r7 (ix4 0 0 p k) : EReal) := by
  frame_out
  pointwise [k0_pay4]

end

/-- A layer's gains, as the call takes them. -/
def gain (G : FVec Ideal S4x3x1024 .f32) : FVec Ideal S1024 .f32 :=
  shapeCast S1024 (extractStridedSlice S1x1x1024 ![0, 0, 0] G slices_S4x3x1024_S1x1x1024_0_0_0) shapeCasts_S1x1x1024_S1024
/-- A half-step's first matrices. -/
def first (W : FVec Ideal S4x2x1024x2816 .f32) : FVec Ideal S1024x2816 .f32 :=
  shapeCast S1024x2816 (extractStridedSlice S1x1x1024x2816 ![0, 0, 0, 0] W slices_S4x2x1024x2816_S1x1x1024x2816_0_0_0_0) shapeCasts_S1x1x1024x2816_S1024x2816
/-- A half-step's last matrix. -/
def last (W : FVec Ideal S4x2x2816x1024 .f32) : FVec Ideal S2816x1024 .f32 :=
  shapeCast S2816x1024 (extractStridedSlice S1x1x2816x1024 ![0, 0, 0, 0] W slices_S4x2x2816x1024_S1x1x2816x1024_0_0_0_0) shapeCasts_S1x1x2816x1024_S2816x1024

set_option maxHeartbeats 4000000 in
theorem arrays (c : Dev nD) :
    V m c main_v0 = shapeCast S32768x1024 (m ((c : Thread nD τ).loc main_arg0)) shapeCasts_S8x4096x1024_S32768x1024
    ∧ V m c main_v3 = truncf (F := Ideal) .bf16 (first (m ((c : Thread nD τ).loc main_arg2))) bitsLt_bf16_f32
    ∧ V m c main_v6 = truncf (F := Ideal) .bf16 (first (m ((c : Thread nD τ).loc main_arg3))) bitsLt_bf16_f32
    ∧ V m c main_v9 = truncf (F := Ideal) .bf16 (last (m ((c : Thread nD τ).loc main_arg4))) bitsLt_bf16_f32
    ∧ V m c main_v15 = shapeCast S1x1024 (broadcastInDim S1x1x1x1024 ![0, 1, 2, 3] bcast_S1x1x1x1024_S1x1x1x1024_0_1_2_3 (shapeCast S1x1x1x1024
        (shapeCast S1x1024 (gain (m ((c : Thread nD τ).loc main_arg1))) shapeCasts_S1024_S1x1024) shapeCasts_S1x1024_S1x1x1x1024)) shapeCasts_S1x1x1x1024_S1x1024 := by
  simp only [V, hostOps0, List.flatten_cons, List.flatten_nil, List.cons_append, List.nil_append, cast_eq]
  refine ⟨?_, ?_, ?_, ?_, ?_⟩ <;> (after_results_simp <;> rfl)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 1, t.val, 0] := (by decide +kernel : ∀ t : Fin grid0.N, _)
theorem index6 : ∀ t : Fin cfg0.N, win0_6.index t = ![0, 1, t.val, 0] := (by decide +kernel : ∀ t : Fin grid0.N, _)
theorem index7 : ∀ t : Fin cfg0.N, win0_7.index t = ![0, 1, min t.val 21, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![min t.val 21, 0] := (by decide +kernel : ∀ t : Fin grid0.N, _)

theorem lt32 (t : Fin cfg0.N) : t.val < 32 := t.isLt

theorem rows_at {e : EltTy} (X : Vec Ideal S8x4096x1024 e) (b : Fin 8) (q : Fin 4096) (k : Fin 1024) :
    shapeCast S32768x1024 X shapeCasts_S8x4096x1024_S32768x1024 (ix2 ⟨4096 * b.val + q.val, by omega⟩ k) = X (ix3 b q k) := by
  pointwise []

theorem row_gain (X : FVec Ideal S1024 .f32) (k : Fin 1024) : shapeCast S1x1024 (broadcastInDim S1x1x1x1024 ![0, 1, 2, 3] bcast_S1x1x1x1024_S1x1x1x1024_0_1_2_3 (shapeCast S1x1x1x1024
        (shapeCast S1x1024 X shapeCasts_S1024_S1x1024) shapeCasts_S1x1024_S1x1x1x1024)) shapeCasts_S1x1x1x1024_S1x1024 (ix2 0 k) = X (ix1 k) := by
  pointwise []

/-- An element of the stream's block at a point. -/
theorem block0 (c : Dev nD) (t : Fin cfg0.N) (p k : Fin 1024) : (iblk m c 0 t : FVec Ideal S1024x1024 .f32) (ix2 p k)
      = (m ((c : Thread nD τ).loc main_arg0) : FVec Ideal S8x4096x1024 .f32)
          (ix3 ⟨t.val / 4, by have := lt32 t; omega⟩ ⟨t.val % 4 * 1024 + p.val, by omega⟩ k) := by
  have ht := lt32 t
  refine .trans ?_ (rows_at _ _ _ _)
  rw [← (arrays m c).1]
  refine congrArg (V m c main_v0) ?_
  blk_ext [index0 t]
theorem block1 (c : Dev nD) (t : Fin cfg0.N) (k : Fin 1024) : (iblk m c 1 t : FVec Ideal S1x1024 .f32) (ix2 0 k) = gain (m ((c : Thread nD τ).loc main_arg1)) (ix1 k) := by
  refine (congrArg (V m c main_v15) (?_ : _ = ix2 0 k)).trans ?_
  · blk_ext [index1 t]
  · rw [(arrays m c).2.2.2.2]
    exact row_gain _ _
theorem block2 (c : Dev nD) (t : Fin cfg0.N) (p : Fin 1024) (k : Fin 2816) : (iblk m c 2 t : FVec Ideal S1024x2816 .bf16) (ix2 p k)
      = (first (m ((c : Thread nD τ).loc main_arg2)) (ix2 p k) : EReal) := by
  refine (congrArg (V m c main_v3) (?_ : _ = ix2 p k)).trans ?_
  · blk_ext [index2 t]
  · rw [(arrays m c).2.1]; rfl
theorem block3 (c : Dev nD) (t : Fin cfg0.N) (p : Fin 1024) (k : Fin 2816) : (iblk m c 3 t : FVec Ideal S1024x2816 .bf16) (ix2 p k)
      = (first (m ((c : Thread nD τ).loc main_arg3)) (ix2 p k) : EReal) := by
  refine (congrArg (V m c main_v6) (?_ : _ = ix2 p k)).trans ?_
  · blk_ext [index3 t]
  · rw [(arrays m c).2.2.1]; rfl
theorem block4 (c : Dev nD) (t : Fin cfg0.N) (p : Fin 2816) (k : Fin 1024) : (iblk m c 4 t : FVec Ideal S2816x1024 .bf16) (ix2 p k)
      = (last (m ((c : Thread nD τ).loc main_arg4)) (ix2 p k) : EReal) := by
  refine (congrArg (V m c main_v9) (?_ : _ = ix2 p k)).trans ?_
  · blk_ext [index4 t]
  · rw [(arrays m c).2.2.2.1]; rfl
theorem block5 (c : Dev nD) (t : Fin cfg0.N) (p : Fin 32) (k : Fin 2816) : (iblk m c 5 t : FVec Ideal S1x1x32x2816 .f32) (ix4 0 0 p k)
      = (m ((c : Thread nD τ).loc main_arg2) : FVec Ideal S4x2x1024x2816 .f32) (ix4 0 1 ⟨t.val * 32 + p.val, by have := lt32 t; omega⟩ k) := by
  refine (congrArg (V m c main_arg2) (?_ : _ = ix4 0 1 ⟨t.val * 32 + p.val, by have := lt32 t; omega⟩ k)).trans ?_
  · blk_ext [index5 t]
  · rw [V_main_arg2]
theorem block6 (c : Dev nD) (t : Fin cfg0.N) (p : Fin 32) (k : Fin 2816) : (iblk m c 6 t : FVec Ideal S1x1x32x2816 .f32) (ix4 0 0 p k)
      = (m ((c : Thread nD τ).loc main_arg3) : FVec Ideal S4x2x1024x2816 .f32) (ix4 0 1 ⟨t.val * 32 + p.val, by have := lt32 t; omega⟩ k) := by
  refine (congrArg (V m c main_arg3) (?_ : _ = ix4 0 1 ⟨t.val * 32 + p.val, by have := lt32 t; omega⟩ k)).trans ?_
  · blk_ext [index6 t]
  · rw [V_main_arg3]
theorem block7 (c : Dev nD) (t : Fin cfg0.N) (p : Fin 128) (k : Fin 1024) : (iblk m c 7 t : FVec Ideal S1x1x128x1024 .f32) (ix4 0 0 p k)
      = (m ((c : Thread nD τ).loc main_arg4) : FVec Ideal S4x2x2816x1024 .f32) (ix4 0 1 ⟨min t.val 21 * 128 + p.val, by omega⟩ k) := by
  refine (congrArg (V m c main_arg4) (?_ : _ = ix4 0 1 ⟨min t.val 21 * 128 + p.val, by omega⟩ k)).trans ?_
  · blk_ext [index7 t]
  · rw [V_main_arg4]

/-- The result at a row of the stream: half of its feed-forward network added in. -/
def rowOf (x : FVec Ideal S8x4096x1024 .f32) (g : FVec Ideal S1024 .f32) (wg wu : FVec Ideal S1024x2816 .f32) (wd : FVec Ideal S2816x1024 .f32)
    (b : Fin 8) (q : Fin 4096) (j : Fin 1024) : EReal :=
  half (fun k => x (ix3 b q k)) (fun k => g (ix1 k)) (fun k u => wg (ix2 k u)) (fun k u => wu (ix2 k u)) (fun u k => wd (ix2 u k)) j

/-- What a run leaves in the stream's array. -/
def whole (c : Dev nD) : FVec Ideal S32768x1024 .f32 := fun i =>
  rowOf (m ((c : Thread nD τ).loc main_arg0)) (gain (m ((c : Thread nD τ).loc main_arg1))) (first (m ((c : Thread nD τ).loc main_arg2))) (first (m ((c : Thread nD τ).loc main_arg3)))
    (last (m ((c : Thread nD τ).loc main_arg4)))
    ⟨(i 0).val / 4096, by have : (i 0).val < 32768 := (i 0).isLt; omega⟩ ⟨(i 0).val % 4096, by omega⟩ (i 1)

theorem tile_row (c : Dev nD) (t : Fin cfg0.N) (p j : Fin 1024) :
    (out0_8 (F := Ideal) (iblk m c 0 t) (iblk m c 1 t) (iblk m c 2 t) (iblk m c 3 t) (iblk m c 4 t) (iblk m c 5 t) (iblk m c 6 t) (iblk m c 7 t) : FVec Ideal S1024x1024 .f32) (ix2 p j)
      = rowOf (m ((c : Thread nD τ).loc main_arg0)) (gain (m ((c : Thread nD τ).loc main_arg1))) (first (m ((c : Thread nD τ).loc main_arg2))) (first (m ((c : Thread nD τ).loc main_arg3)))
          (last (m ((c : Thread nD τ).loc main_arg4)))
          ⟨t.val / 4, by have := lt32 t; omega⟩ ⟨t.val % 4 * 1024 + p.val, by omega⟩ j := by
  rw [out_eq]
  refine (tile_at _ _ _ _ _ _ _).trans ?_
  simp only [own_at, block0, block1, block2, block3, block4]
  rfl

theorem result_array (c : Dev nD) : (dats m 0 c).arrAt 8 cfg0.N = whole m c := by
  refine (dats m 0 c).arrAt_eq_of_covers 8 _ (by decide +kernel) fun t hf y => ?_
  blk_simp
  rw [after0_8]
  have ht := lt32 t
  obtain ⟨p, j, rfl⟩ : ∃ (p j : Fin 1024), y = ix2 p j := ⟨y 0, y 1, eq_ix2 y⟩
  refine (tile_row m c t p j).trans ?_
  obtain ⟨i, hi⟩ : ∃ i, i = (win0_8.blk t).view.emb (ix2 p j) := ⟨_, rfl⟩
  rw [← hi]
  have e : i = ix2 ⟨t.val * 1024 + p.val, by omega⟩ j := by
    rw [hi]
    blk_ext [index8 t]
  rw [e]
  unfold whole
  congr 1
  · exact Fin.ext (by show t.val / 4 = (t.val * 1024 + p.val) / 4096; omega)
  · exact Fin.ext (by show t.val % 4 * 1024 + p.val = (t.val * 1024 + p.val) % 4096; omega)

/-- The next half-step's first matrices, cast. -/
def nextFirst (W : FVec Ideal S4x2x1024x2816 .f32) (s : S4x2x1024x2816.Slices ![0, 1, 0, 0] S1x1x1024x2816) : FVec Ideal S1024x2816 .bf16 :=
  truncf (F := Ideal) .bf16 (shapeCast S1024x2816 (extractStridedSlice S1x1x1024x2816 ![0, 1, 0, 0] W s) shapeCasts_S1x1x1024x2816_S1024x2816) bitsLt_bf16_f32
/-- The next half-step's last matrix, cast. -/
def nextLast (W : FVec Ideal S4x2x2816x1024 .f32) (s : S4x2x2816x1024.Slices ![0, 1, 0, 0] S1x1x2816x1024) : FVec Ideal S2816x1024 .bf16 :=
  truncf (F := Ideal) .bf16 (shapeCast S2816x1024 (extractStridedSlice S1x1x2816x1024 ![0, 1, 0, 0] W s) shapeCasts_S1x1x2816x1024_S2816x1024) bitsLt_bf16_f32

theorem nextFirst_at (W : FVec Ideal S4x2x1024x2816 .f32) (s) (p : Fin 1024) (k : Fin 2816) : nextFirst W s (ix2 p k) = (W (ix4 0 1 p k) : EReal) := by
  pointwise [nextFirst]
theorem nextLast_at (W : FVec Ideal S4x2x2816x1024 .f32) (s) (p : Fin 2816) (k : Fin 1024) : nextLast W s (ix2 p k) = (W (ix4 0 1 p k) : EReal) := by
  pointwise [nextLast]

theorem cast_array9 (c : Dev nD) (s) : (dats m 0 c).arrAt 9 cfg0.N = nextFirst (m ((c : Thread nD τ).loc main_arg2)) s := by
  refine (dats m 0 c).arrAt_eq_of_covers 9 _ (by decide +kernel) fun t hf y => ?_
  blk_simp
  rw [after0_9]
  have ht := lt32 t
  obtain ⟨p, j, rfl⟩ : ∃ (p : Fin 32) (j : Fin 2816), y = ix2 p j := ⟨y 0, y 1, eq_ix2 y⟩
  refine (slab9 ..).trans ((block5 m c t p j).trans ?_)
  obtain ⟨i, hi⟩ : ∃ i, i = (win0_9.blk t).view.emb (ix2 p j) := ⟨_, rfl⟩
  rw [← hi]
  have e : i = ix2 ⟨t.val * 32 + p.val, by omega⟩ j := by
    rw [hi]
    blk_ext [index9 t]
  rw [e]
  exact (nextFirst_at _ _ _ _).symm

theorem cast_array10 (c : Dev nD) (s) : (dats m 0 c).arrAt 10 cfg0.N = nextFirst (m ((c : Thread nD τ).loc main_arg3)) s := by
  refine (dats m 0 c).arrAt_eq_of_covers 10 _ (by decide +kernel) fun t hf y => ?_
  blk_simp
  rw [after0_10]
  have ht := lt32 t
  obtain ⟨p, j, rfl⟩ : ∃ (p : Fin 32) (j : Fin 2816), y = ix2 p j := ⟨y 0, y 1, eq_ix2 y⟩
  refine (slab10 ..).trans ((block6 m c t p j).trans ?_)
  obtain ⟨i, hi⟩ : ∃ i, i = (win0_10.blk t).view.emb (ix2 p j) := ⟨_, rfl⟩
  rw [← hi]
  have e : i = ix2 ⟨t.val * 32 + p.val, by omega⟩ j := by
    rw [hi]
    blk_ext [index10 t]
  rw [e]
  exact (nextFirst_at _ _ _ _).symm

theorem cast_array11 (c : Dev nD) (s) : (dats m 0 c).arrAt 11 cfg0.N = nextLast (m ((c : Thread nD τ).loc main_arg4)) s := by
  refine (dats m 0 c).arrAt_eq_of_covers 11 _ (by decide +kernel) fun t hf y => ?_
  blk_simp
  rw [after0_11]
  have ht := lt32 t
  obtain ⟨p, j, rfl⟩ : ∃ (p : Fin 128) (j : Fin 1024), y = ix2 p j := ⟨y 0, y 1, eq_ix2 y⟩
  refine (slab11 ..).trans ((block7 m c t p j).trans ?_)
  obtain ⟨i, hi⟩ : ∃ i, i = (win0_11.blk t).view.emb (ix2 p j) := ⟨_, rfl⟩
  rw [← hi]
  have e : i = ix2 ⟨min t.val 21 * 128 + p.val, by omega⟩ j := by
    rw [hi]
    blk_ext [index11 t]
  rw [e]
  exact (nextLast_at _ _ _ _).symm

end Cert.FfnIdeal.Value

end
-- ==== Proof.FfnValues.lean ====
/- The ffn call computes its reference. -/
module

public import proofs.«01_k».proof.Proof.FfnValue
public import proofs.«01_k».proof.Proof.RefHalf
public import proofs.«01_k».proof.Proof.Gen.FfnRefIdeal.Run
public import proofs.«01_k».proof.Defs

@[expose] public section

set_option maxRecDepth 16384

noncomputable section

namespace Cert.FfnIdeal.Value

open Cert.FfnIdeal Cert.FfnIdeal.Gen
open Idealize.ShloMosaic
open Idealize.ShloMosaic.TcCoe

theorem result_eq (m : (ℓ : Loc Cert.FfnRefIdeal.nD Cert.FfnRefIdeal.τ Cert.FfnRefIdeal.sig) → Buf (Elt Ideal) ℓ) (c : Dev Cert.FfnRefIdeal.nD) :
    Cert.FfnRefIdeal.Value.res_main_v29 m c = shapeCast S32768x1024 (Cert.RefHalf.step (m ((c.tc : Thread Cert.FfnRefIdeal.nD Cert.FfnRefIdeal.τ).loc Cert.FfnRefIdeal.main_arg0))
      (gain (m ((c.tc : Thread Cert.FfnRefIdeal.nD Cert.FfnRefIdeal.τ).loc Cert.FfnRefIdeal.main_arg1))) (first (m ((c.tc : Thread Cert.FfnRefIdeal.nD Cert.FfnRefIdeal.τ).loc Cert.FfnRefIdeal.main_arg2)))
      (first (m ((c.tc : Thread Cert.FfnRefIdeal.nD Cert.FfnRefIdeal.τ).loc Cert.FfnRefIdeal.main_arg3))) (last (m ((c.tc : Thread Cert.FfnRefIdeal.nD Cert.FfnRefIdeal.τ).loc Cert.FfnRefIdeal.main_arg4))))
      shapeCasts_S8x4096x1024_S32768x1024 := rfl

theorem whole_eq (m : (ℓ : Loc nD τ sig) → Buf (Elt Ideal) ℓ) (c : Dev nD) :
    whole m c = shapeCast S32768x1024 (Cert.RefHalf.step (m ((c : Thread nD τ).loc main_arg0)) (gain (m ((c : Thread nD τ).loc main_arg1))) (first (m ((c : Thread nD τ).loc main_arg2)))
      (first (m ((c : Thread nD τ).loc main_arg3))) (last (m ((c : Thread nD τ).loc main_arg4)))) shapeCasts_S8x4096x1024_S32768x1024 := by
  funext i
  have h0 : (i 0).val < 32768 := (i 0).isLt
  have e : i = ix2 ⟨4096 * ((i 0).val / 4096) + (i 0).val % 4096, by omega⟩ (i 1) := by
    refine (eq_ix2 i).trans ?_
    congr 1
    exact Fin.ext (by show (i 0).val = 4096 * ((i 0).val / 4096) + (i 0).val % 4096; omega)
  refine .trans ?_ (congrArg _ e.symm)
  refine .trans ?_ (rows_at (e := .f32) _ ⟨(i 0).val / 4096, by omega⟩ ⟨(i 0).val % 4096, by omega⟩ (i 1)).symm
  exact (Cert.RefHalf.step_at _ _ _ _ _ _ _ _).symm

theorem algebraic : Cert.algebraic_FfnIdeal_FfnRefIdeal := fun m g m' g' _ hagree => by
  refine ⟨fun c => whole m c, fun c => nextFirst (m ((c : Thread nD τ).loc main_arg2)) (by decide), fun c => nextFirst (m ((c : Thread nD τ).loc main_arg3)) (by decide),
    fun c => nextLast (m ((c : Thread nD τ).loc main_arg4)) (by decide), ?_, ?_⟩
  · exact (θ_run defs _ _).mono (fun r h c => ⟨(h c).1.trans (result_array m c), (h c).2.1.trans (cast_array9 m c _), (h c).2.2.1.trans (cast_array10 m c _),
      (h c).2.2.2.1.trans (cast_array11 m c _), (h c).2.2.2.2⟩) (run_blocks m g)
  · refine (θ_run Cert.FfnRefIdeal.defs _ _).mono (fun r h c => ⟨(h c).1.trans ?_, (h c).2.1.trans ?_, (h c).2.2.1.trans ?_, (h c).2.2.2.1.trans ?_, (h c).2.2.2.2⟩) (Cert.FfnRefIdeal.Value.run m' g')
    · rw [result_eq, (hagree c).1, (hagree c).2.1, (hagree c).2.2.1, (hagree c).2.2.2.1, (hagree c).2.2.2.2]
      exact (whole_eq m c).symm
    · rw [(hagree c).2.2.1]; rfl
    · rw [(hagree c).2.2.2.1]; rfl
    · rw [(hagree c).2.2.2.2]; rfl

end Cert.FfnIdeal.Value

end
-- ==== Proof.TileNarrow.lean ====
/- A feed-forward half-step on one tile of 512 rows: the kernel's vectors, read at an element. -/
module

public import proofs.«01_k».proof.Proof.Gen.RetMixFfnIdeal.Frame
public import proofs.«01_k».proof.Proof.Half
public import Idealize.ShloMosaic.Lib.Pointwise
public import Idealize.ShloMosaic.Lib.Pipeline.ValueKit

@[expose] public section

set_option maxRecDepth 16384

noncomputable section

namespace Cert.TileNarrow

open Cert.RetMixFfnIdeal Cert.RetMixFfnIdeal.Gen
open Idealize.ShloMosaic
open Cert.Half

variable (x : FVec Ideal S512x1024 .f32) (g : FVec Ideal S1x1024 .f32) (h : FVec Ideal S512x1024 .bf16) (c : Ideal .f32)
  (a b : FVec Ideal S1024x256 .bf16) (wg wu : FVec Ideal S1024x2816 .bf16) (wd : FVec Ideal S2816x1024 .bf16)

/-- The tile's rows over the root of their mean square, times the gains. -/
def normed : FVec Ideal S512x1024 .bf16 :=
  truncf (F := Ideal) .bf16 (mulf (mulf x (broadcastTo S512x1024 (rsqrt (addf (mulf (shapeCast S512x1
      (multiReduction (F := Ideal) .add [1] S512 (mulf x x) 0x00000000#32 reduces_S512x1024_S512 (.inl rfl) rfl) shapeCasts_S512_S512x1)
    (broadcast S512x1 (Scalar.ofBits (F := Ideal) .f32 0x3A800000#32))) (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)) bitsLt_bf16_f32

/-- The tile's rows times 256 columns of a matrix. -/
def cols : FVec Ideal S512x256 .f32 :=
  matmul (F := Ideal) dot_S512x1024_S1024x256_S512x256_1_0_0_1_n_n none h (shapeCast S1024x256 a shapeCasts_S1024x256_S1024x256) (constant S512x256 .f32 0x00000000#32)

/-- 256 hidden units of the tile's rows. -/
def units : FVec Ideal S512x256 .bf16 :=
  truncf (F := Ideal) .bf16 (mulf (divf (cols h a) (addf (broadcast S512x256 (Scalar.ofBits (F := Ideal) .f32 0x3F800000#32)) (exp2 (mulf (cols h a) (broadcast S512x256 c)))))
    (cols h b)) bitsLt_bf16_f32

/-- 256 columns of a matrix, from column `o`. -/
def part (w : FVec Ideal S1024x2816 .bf16) (o : ℕ) (ho : ∀ k : Fin 2, (![0, o] : Fin 2 → ℕ) k + S1024x256.size k ≤ S1024x2816.size k) : FVec Ideal S1024x256 .bf16 :=
  View.ld (Val := Elt Ideal) (e' := .bf16) (S := S1024x2816) w (Rect.unit (s := S1024x2816) ![0, o] S1024x256.size ho)

/-- All hidden units of the tile's rows. -/
def hiddens : FVec Ideal S512x2816 .bf16 :=
  concatenate S512x2816 1 [⟨S512x256, units (normed x g) c (part wg 0 inb_S1024x2816_S1024x256_0_0) (part wu 0 inb_S1024x2816_S1024x256_0_0)⟩, ⟨S512x256, units (normed x g) c (part wg 256 inb_S1024x2816_S1024x256_0_256) (part wu 256 inb_S1024x2816_S1024x256_0_256)⟩, ⟨S512x256, units (normed x g) c (part wg 512 inb_S1024x2816_S1024x256_0_512) (part wu 512 inb_S1024x2816_S1024x256_0_512)⟩, ⟨S512x256, units (normed x g) c (part wg 768 inb_S1024x2816_S1024x256_0_768) (part wu 768 inb_S1024x2816_S1024x256_0_768)⟩, ⟨S512x256, units (normed x g) c (part wg 1024 inb_S1024x2816_S1024x256_0_1024) (part wu 1024 inb_S1024x2816_S1024x256_0_1024)⟩, ⟨S512x256, units (normed x g) c (part wg 1280 inb_S1024x2816_S1024x256_0_1280) (part wu 1280 inb_S1024x2816_S1024x256_0_1280)⟩, ⟨S512x256, units (normed x g) c (part wg 1536 inb_S1024x2816_S1024x256_0_1536) (part wu 1536 inb_S1024x2816_S1024x256_0_1536)⟩, ⟨S512x256, units (normed x g) c (part wg 1792 inb_S1024x2816_S1024x256_0_1792) (part wu 1792 inb_S1024x2816_S1024x256_0_1792)⟩, ⟨S512x256, units (normed x g) c (part wg 2048 inb_S1024x2816_S1024x256_0_2048) (part wu 2048 inb_S1024x2816_S1024x256_0_2048)⟩, ⟨S512x256, units (normed x g) c (part wg 2304 inb_S1024x2816_S1024x256_0_2304) (part wu 2304 inb_S1024x2816_S1024x256_0_2304)⟩, ⟨S512x256, units (normed x g) c (part wg 2560 inb_S1024x2816_S1024x256_0_2560) (part wu 2560 inb_S1024x2816_S1024x256_0_2560)⟩] concatenates_S512x256_S512x256_S512x256_S512x256_S512x256_S512x256_S512x256_S512x256_S512x256_S512x256_S512x256_S512x2816_d1

/-- The tile after the half-step. -/
def tile : FVec Ideal S512x1024 .f32 :=
  addf x (mulf (broadcast S512x1024 (Scalar.ofBits (F := Ideal) .f32 0x3F000000#32)) (matmul (F := Ideal) dot_S512x2816_S2816x1024_S512x1024_1_0_0_1_n_n none
    (hiddens x g c wg wu)
    (shapeCast S2816x1024 wd shapeCasts_S2816x1024_S2816x1024) (constant S512x1024 .f32 0x00000000#32)))

theorem normed_at (p : Fin 512) (j : Fin 1024) : normed x g (ix2 p j) = rms (fun k => x (ix2 p k)) (fun k => g (ix2 0 k)) j := by
  pointwise [normed]
  rw [mean_eq]
  rfl

theorem cols_at (p : Fin 512) (j : Fin 256) : cols h a (ix2 p j) = (∑ k : Fin 1024, h (ix2 p k) * a (ix2 k j) : EReal) := by
  pointwise [cols]

theorem units_at (p : Fin 512) (j : Fin 256) :
    units h ((-((Real.log 2)⁻¹) : ℝ) : EReal) a b (ix2 p j) = unit (fun k => h (ix2 p k)) (fun k => a (ix2 k j)) (fun k => b (ix2 k j)) := by
  pointwise [units]
  rw [cols_at, cols_at]
  exact congrArg (· * _) (silu_eq _)

theorem part_at (w : FVec Ideal S1024x2816 .bf16) (o : ℕ) (ho) (k : Fin 1024) (j : Fin 256) (u : Fin 2816) (e : u.val = o + j.val) :
    part w o ho (ix2 k j) = w (ix2 k u) := by
  refine View.ld_unit_apply_of (Val := Elt Ideal) (e := .bf16) (S := S1024x2816) w _ _ _ _ _ fun a => ?_
  fin_cases a
  · exact (Nat.zero_add _).symm
  · exact e

theorem hiddens_at (p : Fin 512) (u : Fin 2816) :
    hiddens x g ((-((Real.log 2)⁻¹) : ℝ) : EReal) wg wu (ix2 p u)
      = unit (rms (fun k => x (ix2 p k)) (fun k => g (ix2 0 k))) (fun k => wg (ix2 k u)) (fun k => wu (ix2 k u)) := by
  have e (o : ℕ) (ho) (v : Fin 256) (hv : u.val = o + v.val) :
      units (normed x g) ((-((Real.log 2)⁻¹) : ℝ) : EReal) (part wg o ho) (part wu o ho) (ix2 p v)
        = unit (rms (fun k => x (ix2 p k)) (fun k => g (ix2 0 k))) (fun k => wg (ix2 k u)) (fun k => wu (ix2 k u)) := by
    rw [units_at]
    simp only [normed_at, fun w k => part_at w o ho k v u hv]
  pointwise [hiddens]
  iterate 10
    refine either (fun _ => e _ _ _ (by dsimp only; omega)) fun _ => ?_
  exact e _ _ _ (by dsimp only; omega)

theorem tile_at (p : Fin 512) (j : Fin 1024) :
    tile x g ((-((Real.log 2)⁻¹) : ℝ) : EReal) wg wu wd (ix2 p j)
      = half (fun k => x (ix2 p k)) (fun k => g (ix2 0 k)) (fun k u => wg (ix2 k u)) (fun k u => wu (ix2 k u)) (fun u k => wd (ix2 u k)) j := by
  pointwise [tile]
  simp only [hiddens_at]
  rfl

end Cert.TileNarrow

end
-- ==== Proof.Heads.lean ====
/- The retention's output, normalised head by head, gated and projected, on one tile of 512 rows. -/
module

public import proofs.«01_k».proof.Proof.Gen.RetMixFfnIdeal.Frame
public import proofs.«01_k».proof.Proof.Half
public import Idealize.ShloMosaic.Lib.Pointwise
public import Idealize.ShloMosaic.Lib.Pipeline.ValueKit

@[expose] public section

set_option maxRecDepth 16384

noncomputable section

namespace Cert.Heads

open Cert.RetMixFfnIdeal Cert.RetMixFfnIdeal.Gen
open Idealize.ShloMosaic
open Cert.Half

/-- A row minus its mean. -/
def centred (o : Fin 256 → EReal) (k : Fin 256) : EReal := o k - Ideal.div (∑ i, o i) (Ideal.ofBits .f32 0x43800000#32)

/-- A row minus its mean, over its deviation, times its gains. -/
def group (o n : Fin 256 → EReal) (k : Fin 256) : EReal :=
  centred o k * Ideal.rsqrt (Ideal.div (∑ i, centred o i * centred o i) (Ideal.ofBits .f32 0x43800000#32) + Ideal.ofBits .f32 0x358637BD#32) * n k

/-- A head's place among the columns. -/
def place (h : Fin 8) (v : Fin 256) : Fin 2048 := ⟨256 * h.val + v.val, by omega⟩

/-- A row with the gated heads projected into it. -/
def mixed (x : Fin 1024 → EReal) (o n : Fin 8 → Fin 256 → EReal) (g : Fin 8 → Fin 256 → EReal) (w : Fin 8 → Fin 256 → Fin 1024 → EReal) (j : Fin 1024) : EReal :=
  x j + ∑ h, ∑ v, silu (g h v) * group (o h) (n h) v * w h v j

/-- A sum over the columns is the sum over the heads of the sums over a head's columns. -/
theorem sum_places (f : Fin 2048 → EReal) : (∑ u, f u) = ∑ h, ∑ v, f (place h v) := by
  rw [← Fintype.sum_prod_type' (f := fun h v => f (place h v))]
  refine (Fintype.sum_equiv (finProdFinEquiv (m := 8) (n := 256)) _ _ fun a => congrArg f (Fin.ext ?_)).symm
  show 256 * a.1.val + a.2.val = a.2.val + 256 * a.1.val
  omega

variable (x : FVec Ideal S512x1024 .f32) (o : FVec Ideal S512x256 .bf16) (n : FVec Ideal S1x256 .f32) (g : FVec Ideal S512x256 .bf16) (w : FVec Ideal S256x1024 .bf16)

/-- A head's rows, in the wider type. -/
def wideHead : FVec Ideal S512x256 .f32 := extf .f32 (shapeCast S512x256 o shapeCasts_S512x256_S512x256) bitsLt_bf16_f32

/-- A head's rows minus their means. -/
def headCentred : FVec Ideal S512x256 .f32 :=
  subf (wideHead o) (broadcastTo S512x256 (divf (shapeCast S512x1 (multiReduction (F := Ideal) .add [1] S512 (wideHead o) 0x00000000#32 reduces_S512x256_S512 (.inl rfl) rfl) shapeCasts_S512_S512x1)
    (broadcast S512x1 (Scalar.ofBits (F := Ideal) .f32 0x43800000#32))) broadcasts_S512x1_S512x256)

/-- A head's rows, normalised. -/
def headGroup : FVec Ideal S512x256 .f32 :=
  mulf (mulf (headCentred o) (broadcastTo S512x256 (rsqrt (addf (divf (shapeCast S512x1 (multiReduction (F := Ideal) .add [1] S512 (mulf (headCentred o) (headCentred o)) 0x00000000#32 reduces_S512x256_S512 (.inl rfl) rfl) shapeCasts_S512_S512x1)
    (broadcast S512x1 (Scalar.ofBits (F := Ideal) .f32 0x43800000#32))) (broadcast S512x1 (Scalar.ofBits (F := Ideal) .f32 0x358637BD#32)))) broadcasts_S512x1_S512x256))
    (broadcastTo S512x256 (shapeCast S1x256 n shapeCasts_S1x256_S1x256) broadcasts_S1x256_S512x256)

/-- The constant of the exponential. -/
abbrev scale : Ideal .f32 := ((-((Real.log 2)⁻¹) : ℝ) : EReal)

/-- A head's rows, normalised and gated. -/
def headGated : FVec Ideal S512x256 .bf16 :=
  truncf (F := Ideal) .bf16 (mulf (divf (wideHead g) (addf (broadcast S512x256 (Scalar.ofBits (F := Ideal) .f32 0x3F800000#32)) (exp2 (mulf (wideHead g) (broadcast S512x256 scale))))) (headGroup o n)) bitsLt_bf16_f32

/-- The tile with one head projected into it. -/
def headStep : FVec Ideal S512x1024 .f32 :=
  addf x (matmul (F := Ideal) dot_S512x256_S256x1024_S512x1024_1_0_0_1_n_n none (headGated o n g) (shapeCast S256x1024 w shapeCasts_S256x1024_S256x1024) (constant S512x1024 .f32 0x00000000#32))

theorem wideHead_at (p : Fin 512) (v : Fin 256) : wideHead o (ix2 p v) = (o (ix2 p v) : EReal) := by
  pointwise [wideHead]

theorem headCentred_at (p : Fin 512) (v : Fin 256) : headCentred o (ix2 p v) = centred (fun k => o (ix2 p k)) v := by
  pointwise [headCentred]
  simp only [wideHead_at]
  rfl

theorem headGroup_at (p : Fin 512) (v : Fin 256) : headGroup o n (ix2 p v) = group (fun k => o (ix2 p k)) (fun k => n (ix2 0 k)) v := by
  pointwise [headGroup]
  simp only [headCentred_at]
  rfl

theorem headGated_at (p : Fin 512) (v : Fin 256) :
    headGated o n g (ix2 p v) = (silu (g (ix2 p v)) * group (fun k => o (ix2 p k)) (fun k => n (ix2 0 k)) v : EReal) := by
  pointwise [headGated]
  rw [wideHead_at, headGroup_at]
  exact congrArg (· * _) (silu_eq _)

theorem headStep_at (p : Fin 512) (j : Fin 1024) :
    headStep x o n g w (ix2 p j) = (x (ix2 p j) + ∑ v : Fin 256, silu (g (ix2 p v)) * group (fun k => o (ix2 p k)) (fun k => n (ix2 0 k)) v * w (ix2 v j) : EReal) := by
  pointwise [headStep]
  simp only [headGated_at]

/-- A head's columns, from column `c`. -/
def headCols (r : FVec Ideal S512x2048 .bf16) (c : ℕ) (hc : ∀ k : Fin 2, (![0, c] : Fin 2 → ℕ) k + S512x256.size k ≤ S512x2048.size k) : FVec Ideal S512x256 .bf16 :=
  View.ld (Val := Elt Ideal) (e' := .bf16) (S := S512x2048) r (Rect.unit (s := S512x2048) ![0, c] S512x256.size hc)
/-- A head's gains, from column `c`. -/
def headGains (r : FVec Ideal S1x2048 .f32) (c : ℕ) (hc : ∀ k : Fin 2, (![0, c] : Fin 2 → ℕ) k + S1x256.size k ≤ S1x2048.size k) : FVec Ideal S1x256 .f32 :=
  View.ld (Val := Elt Ideal) (e' := .f32) (S := S1x2048) r (Rect.unit (s := S1x2048) ![0, c] S1x256.size hc)
/-- A head's rows of the projection, from row `c`. -/
def headRows (r : FVec Ideal S2048x1024 .bf16) (c : ℕ) (hc : ∀ k : Fin 2, (![c, 0] : Fin 2 → ℕ) k + S256x1024.size k ≤ S2048x1024.size k) : FVec Ideal S256x1024 .bf16 :=
  View.ld (Val := Elt Ideal) (e' := .bf16) (S := S2048x1024) r (Rect.unit (s := S2048x1024) ![c, 0] S256x1024.size hc)

theorem headCols_at (r : FVec Ideal S512x2048 .bf16) (h : Fin 8) (c : ℕ) (hc) (p : Fin 512) (v : Fin 256) (e : c = 256 * h.val) :
    headCols r c hc (ix2 p v) = r (ix2 p (place h v)) := by
  refine View.ld_unit_apply_of (Val := Elt Ideal) (e := .bf16) (S := S512x2048) r _ _ _ _ _ fun a => ?_
  fin_cases a
  · exact (Nat.zero_add _).symm
  · exact congrArg (· + v.val) e.symm
theorem headGains_at (r : FVec Ideal S1x2048 .f32) (h : Fin 8) (c : ℕ) (hc) (v : Fin 256) (e : c = 256 * h.val) :
    headGains r c hc (ix2 0 v) = r (ix2 0 (place h v)) := by
  refine View.ld_unit_apply_of (Val := Elt Ideal) (e := .f32) (S := S1x2048) r _ _ _ _ _ fun a => ?_
  fin_cases a
  · exact (Nat.zero_add _).symm
  · exact congrArg (· + v.val) e.symm
theorem headRows_at (r : FVec Ideal S2048x1024 .bf16) (h : Fin 8) (c : ℕ) (hc) (v : Fin 256) (j : Fin 1024) (e : c = 256 * h.val) :
    headRows r c hc (ix2 v j) = r (ix2 (place h v) j) := by
  refine View.ld_unit_apply_of (Val := Elt Ideal) (e := .bf16) (S := S2048x1024) r _ _ _ _ _ fun a => ?_
  fin_cases a
  · exact congrArg (· + v.val) e.symm
  · exact (Nat.zero_add _).symm

variable (r : FVec Ideal S512x2048 .bf16) (N : FVec Ideal S1x2048 .f32) (G : FVec Ideal S512x2048 .bf16) (W : FVec Ideal S2048x1024 .bf16)

/-- What one head adds to an element. -/
def adds (p : Fin 512) (j : Fin 1024) (h : Fin 8) : EReal :=
  ∑ v : Fin 256, silu (G (ix2 p (place h v))) * group (fun k => r (ix2 p (place h k))) (fun k => N (ix2 0 (place h k))) v * W (ix2 (place h v) j)

theorem step_adds (h : Fin 8) (c : ℕ) (hr hn hw) (e : c = 256 * h.val) (p : Fin 512) (j : Fin 1024) :
    headStep x (headCols r c hr) (headGains N c hn) (headCols G c hr) (headRows W c hw) (ix2 p j) = (x (ix2 p j) + adds r N G W p j h : EReal) := by
  rw [headStep_at]
  simp only [fun p v => headCols_at r h c hr p v e, fun p v => headCols_at G h c hr p v e, fun v => headGains_at N h c hn v e, fun v j => headRows_at W h c hw v j e]
  rfl

/-- The tile with all heads projected into it. -/
def allHeads : FVec Ideal S512x1024 .f32 :=
  headStep (headStep (headStep (headStep (headStep (headStep (headStep (headStep x (headCols r 0 inb_S512x2048_S512x256_0_0) (headGains N 0 inb_S1x2048_S1x256_0_0) (headCols G 0 inb_S512x2048_S512x256_0_0) (headRows W 0 inb_S2048x1024_S256x1024_0_0)) (headCols r 256 inb_S512x2048_S512x256_0_256) (headGains N 256 inb_S1x2048_S1x256_0_256) (headCols G 256 inb_S512x2048_S512x256_0_256) (headRows W 256 inb_S2048x1024_S256x1024_256_0)) (headCols r 512 inb_S512x2048_S512x256_0_512) (headGains N 512 inb_S1x2048_S1x256_0_512) (headCols G 512 inb_S512x2048_S512x256_0_512) (headRows W 512 inb_S2048x1024_S256x1024_512_0)) (headCols r 768 inb_S512x2048_S512x256_0_768) (headGains N 768 inb_S1x2048_S1x256_0_768) (headCols G 768 inb_S512x2048_S512x256_0_768) (headRows W 768 inb_S2048x1024_S256x1024_768_0)) (headCols r 1024 inb_S512x2048_S512x256_0_1024) (headGains N 1024 inb_S1x2048_S1x256_0_1024) (headCols G 1024 inb_S512x2048_S512x256_0_1024) (headRows W 1024 inb_S2048x1024_S256x1024_1024_0)) (headCols r 1280 inb_S512x2048_S512x256_0_1280) (headGains N 1280 inb_S1x2048_S1x256_0_1280) (headCols G 1280 inb_S512x2048_S512x256_0_1280) (headRows W 1280 inb_S2048x1024_S256x1024_1280_0)) (headCols r 1536 inb_S512x2048_S512x256_0_1536) (headGains N 1536 inb_S1x2048_S1x256_0_1536) (headCols G 1536 inb_S512x2048_S512x256_0_1536) (headRows W 1536 inb_S2048x1024_S256x1024_1536_0)) (headCols r 1792 inb_S512x2048_S512x256_0_1792) (headGains N 1792 inb_S1x2048_S1x256_0_1792) (headCols G 1792 inb_S512x2048_S512x256_0_1792) (headRows W 1792 inb_S2048x1024_S256x1024_1792_0)

theorem allHeads_at (p : Fin 512) (j : Fin 1024) :
    allHeads x r N G W (ix2 p j) = mixed (fun k => x (ix2 p k)) (fun h k => r (ix2 p (place h k))) (fun h k => N (ix2 0 (place h k))) (fun h k => G (ix2 p (place h k))) (fun h k j => W (ix2 (place h k) j)) j := by
  unfold allHeads
  rw [step_adds _ r N G W 7 1792 _ _ _ rfl, step_adds _ r N G W 6 1536 _ _ _ rfl, step_adds _ r N G W 5 1280 _ _ _ rfl, step_adds _ r N G W 4 1024 _ _ _ rfl, step_adds _ r N G W 3 768 _ _ _ rfl, step_adds _ r N G W 2 512 _ _ _ rfl, step_adds _ r N G W 1 256 _ _ _ rfl, step_adds _ r N G W 0 0 _ _ _ rfl]
  refine .trans ?_ (congrArg (x (ix2 p j) + ·) (Fin.sum_univ_eight (adds r N G W p j)).symm)
  simp only [add_assoc]

end Cert.Heads

end
-- ==== Proof.RetValue.lean ====
/- What the ret_mix_ffn call leaves in its result arrays. -/
module

public import proofs.«01_k».proof.Proof.TileNarrow
public import proofs.«01_k».proof.Proof.Heads
public import proofs.«01_k».proof.Proof.Gen.RetMixFfnIdeal.Value

@[expose] public section

set_option maxRecDepth 16384

noncomputable section

namespace Cert.RetMixFfnIdeal.Value

open Cert.RetMixFfnIdeal Cert.RetMixFfnIdeal.Gen
open Idealize.ShloMosaic
open Idealize.ShloMosaic.TcCoe
open Cert.Half Cert.TileNarrow Cert.Heads

variable (m : (ℓ : Loc nD τ sig) → Buf (Elt Ideal) ℓ)

/-- The rows of the stream's block. -/
def own (x : FVec Ideal S512x1024 .f32) : FVec Ideal S512x1024 .f32 := k0_pay8 x

theorem own_at (x : FVec Ideal S512x1024 .f32) (p : Fin 512) (j : Fin 1024) : own x (ix2 p j) = x (ix2 p j) := by
  pointwise [own, k0_pay8]

section

variable (X : FVec Ideal S512x1024 .f32) (o : FVec Ideal S512x256 .bf16) (n : FVec Ideal S1x256 .f32) (g : FVec Ideal S512x256 .bf16) (w : FVec Ideal S256x1024 .bf16)
  (s : FVec Ideal S1x1024 .f32) (h : FVec Ideal S512x1024 .bf16) (a b : FVec Ideal S1024x256 .bf16)

theorem pay9_eq : k0_pay9 (F := Ideal) X o n g w = headStep X o n g w := rfl
theorem pay12_eq : k0_pay12 (F := Ideal) X (k0_pay10 o) (k0_pay11 o) n g w = headStep X o n g w := rfl
theorem pay15_eq : k0_pay15 (F := Ideal) X (k0_pay13 o) (k0_pay14 o) n g w = headStep X o n g w := rfl
theorem pay18_eq : k0_pay18 (F := Ideal) X (k0_pay16 o) (k0_pay17 o) n g w = headStep X o n g w := rfl
theorem pay20_eq : k0_pay20 (F := Ideal) X (k0_pay19 o) n g w = headStep X o n g w := rfl
theorem pay22_eq : k0_pay22 (F := Ideal) X (k0_pay21 o n) g w = headStep X o n g w := rfl
theorem pay25_eq : k0_pay25 (F := Ideal) X (k0_pay23 o n) (k0_pay24 g) (Named.named κ "log2e" 0xBFB8AA3B#32) w = headStep X o n g w := rfl
theorem pay29_eq : k0_pay29 (F := Ideal) X (k0_pay26 o n) (k0_pay27 g) (k0_pay28 g) w = headStep X o n g w := rfl
theorem pay30_eq : k0_pay30 (F := Ideal) X (k0_pay26 o n) (k0_pay27 g) (k0_pay28 g) w s = normed (headStep X o n g w) s := rfl
theorem pay31_eq : k0_pay31 (F := Ideal) X (k0_pay26 o n) (k0_pay27 g) (k0_pay28 g) w s a b = units (normed (headStep X o n g w) s) scale a b := rfl
theorem pay34_eq : k0_pay34 (F := Ideal) h (k0_pay32 X (k0_pay26 o n) (k0_pay27 g) (k0_pay28 g) w s a) k0_pay33 b
    = k0_pay34 (F := Ideal) h (cols (normed (headStep X o n g w) s) a) k0_pay33 b := rfl
theorem unit1_eq : k0_pay34 (F := Ideal) h (cols h a) k0_pay33 b = units h scale a b := rfl
theorem pay35_eq : k0_pay35 (F := Ideal) h a b = units h scale a b := rfl
theorem pay36_eq : k0_pay36 (F := Ideal) h a b = units h scale a b := rfl
theorem pay37_eq : k0_pay37 (F := Ideal) h a b = units h scale a b := rfl
theorem pay38_eq : k0_pay38 (F := Ideal) h a b = units h scale a b := rfl
theorem pay42_eq : k0_pay42 (F := Ideal) h a b = units h scale a b := rfl
theorem pay43_eq : k0_pay43 (F := Ideal) h a b = units h scale a b := rfl
theorem pay41_eq : k0_pay41 (F := Ideal) h (k0_pay39 h a) (k0_pay40 b) = units h scale a b := rfl
theorem pay1_eq : truncf (F := Ideal) .bf16 (k0_pay1 (F := Ideal) h (k0_pay44 h a) (k0_pay45 h a) k0_pay46 b) bitsLt_bf16_f32 = units h scale a b := rfl
theorem pay2_eq (u0 u1 u2 u3 u4 u5 u6 u7 u8 : FVec Ideal S512x256 .bf16) (u9 : FVec Ideal S512x256 .f32) (wd : FVec Ideal S2816x1024 .bf16) :
    k0_pay2 (F := Ideal) X h u0 u1 u2 u3 u4 u5 u6 u7 u8 u9 a b wd
      = addf X (mulf (broadcast S512x1024 (Scalar.ofBits (F := Ideal) .f32 0x3F000000#32)) (matmul (F := Ideal) dot_S512x2816_S2816x1024_S512x1024_1_0_0_1_n_n none
          (concatenate S512x2816 1 [⟨S512x256, u0⟩, ⟨S512x256, u1⟩, ⟨S512x256, u2⟩, ⟨S512x256, u3⟩, ⟨S512x256, u4⟩, ⟨S512x256, u5⟩, ⟨S512x256, u6⟩, ⟨S512x256, u7⟩, ⟨S512x256, u8⟩, ⟨S512x256, truncf (F := Ideal) .bf16 u9 bitsLt_bf16_f32⟩, ⟨S512x256, units h scale a b⟩] concatenates_S512x256_S512x256_S512x256_S512x256_S512x256_S512x256_S512x256_S512x256_S512x256_S512x256_S512x256_S512x2816_d1)
          (shapeCast S2816x1024 wd shapeCasts_S2816x1024_S2816x1024) (constant S512x1024 .f32 0x00000000#32))) := rfl

end

set_option maxHeartbeats 2000000 in
theorem out_eq (c : Dev nD) (t : Fin cfg0.N) : ((dats m 0 c).after 14 t : FVec Ideal S512x1024 .f32)
    = tile (allHeads (own (iblk m c 0 t)) (iblk m c 1 t) (iblk m c 3 t) (X0_2 m c t) (iblk m c 4 t)) (iblk m c 5 t) scale (iblk m c 6 t) (iblk m c 7 t) (iblk m c 8 t) := by
  rw [after0_14]
  frame_out
  rw [pay9_eq, pay12_eq, pay15_eq, pay18_eq, pay20_eq, pay22_eq, pay25_eq, pay29_eq, pay30_eq, pay31_eq, pay34_eq, unit1_eq, pay35_eq, pay36_eq, pay37_eq, pay38_eq, pay41_eq, pay42_eq, pay43_eq, pay2_eq, pay1_eq]
  rfl

theorem slab15 (c : Dev nD) (t : Fin cfg0.N) (p : Fin 16) (k : Fin 2816) :
    ((dats m 0 c).after 15 t : FVec Ideal S16x2816 .bf16) (ix2 p k) = ((iblk m c 9 t : FVec Ideal S1x1x16x2816 .f32) (ix4 0 0 p k) : EReal) := by
  rw [after0_15]
  frame_out
  pointwise [k0_pay3]
theorem slab16 (c : Dev nD) (t : Fin cfg0.N) (p : Fin 16) (k : Fin 2816) :
    ((dats m 0 c).after 16 t : FVec Ideal S16x2816 .bf16) (ix2 p k) = ((iblk m c 10 t : FVec Ideal S1x1x16x2816 .f32) (ix4 0 0 p k) : EReal) := by
  rw [after0_16]
  frame_out
  pointwise [k0_pay4]
theorem slab17 (c : Dev nD) (t : Fin cfg0.N) (p : Fin 64) (k : Fin 1024) :
    ((dats m 0 c).after 17 t : FVec Ideal S64x1024 .bf16) (ix2 p k) = ((iblk m c 11 t : FVec Ideal S1x1x64x1024 .f32) (ix4 0 0 p k) : EReal) := by
  rw [after0_17]
  frame_out
  pointwise [k0_pay5]
theorem slab18 (c : Dev nD) (t : Fin cfg0.N) (p : Fin 16) (k : Fin 6144) :
    ((dats m 0 c).after 18 t : FVec Ideal S16x6144 .bf16) (ix2 p k) = ((iblk m c 12 t : FVec Ideal S1x16x6144 .f32) (ix3 0 p k) : EReal) := by
  rw [after0_18]
  frame_out
  pointwise [k0_pay6]
theorem slab19 (c : Dev nD) (t : Fin cfg0.N) (p : Fin 32) (k : Fin 1024) :
    ((dats m 0 c).after 19 t : FVec Ideal S32x1024 .bf16) (ix2 p k) = ((iblk m c 13 t : FVec Ideal S1x32x1024 .f32) (ix3 0 p k) : EReal) := by
  rw [after0_19]
  frame_out
  pointwise [k0_pay7]

/-- A layer's gains, as the call takes them. -/
def gain (G : FVec Ideal S4x3x1024 .f32) : FVec Ideal S1024 .f32 :=
  shapeCast S1024 (extractStridedSlice S1x1x1024 ![0, 2, 0] G slices_S4x3x1024_S1x1x1024_0_2_0) shapeCasts_S1x1x1024_S1024
/-- A half-step's first matrices. -/
def first (W : FVec Ideal S4x2x1024x2816 .f32) : FVec Ideal S1024x2816 .f32 :=
  shapeCast S1024x2816 (extractStridedSlice S1x1x1024x2816 ![0, 1, 0, 0] W slices_S4x2x1024x2816_S1x1x1024x2816_0_1_0_0) shapeCasts_S1x1x1024x2816_S1024x2816
/-- A half-step's last matrix. -/
def last (W : FVec Ideal S4x2x2816x1024 .f32) : FVec Ideal S2816x1024 .f32 :=
  shapeCast S2816x1024 (extractStridedSlice S1x1x2816x1024 ![0, 1, 0, 0] W slices_S4x2x2816x1024_S1x1x2816x1024_0_1_0_0) shapeCasts_S1x1x2816x1024_S2816x1024
/-- The heads' gains. -/
def heads (G : FVec Ideal S2x8x256 .f32) : FVec Ideal S8x256 .f32 :=
  shapeCast S8x256 (extractStridedSlice S1x8x256 ![0, 0, 0] G slices_S2x8x256_S1x8x256_0_0_0) shapeCasts_S1x8x256_S8x256
/-- The heads' projection. -/
def projection (W : FVec Ideal S2x2048x1024 .f32) : FVec Ideal S2048x1024 .f32 :=
  shapeCast S2048x1024 (extractStridedSlice S1x2048x1024 ![0, 0, 0] W slices_S2x2048x1024_S1x2048x1024_0_0_0) shapeCasts_S1x2048x1024_S2048x1024

set_option maxHeartbeats 8000000 in
theorem arrays (c : Dev nD) :
    V m c main_v0 = shapeCast S32768x1024 (m ((c : Thread nD τ).loc main_arg0)) shapeCasts_S8x4096x1024_S32768x1024
    ∧ V m c main_v2 = shapeCast S32768x2048 (truncf (F := Ideal) .bf16 (m ((c : Thread nD τ).loc main_arg1) : FVec Ideal S8x4096x8x256 .f32) bitsLt_bf16_f32) shapeCasts_S8x4096x8x256_S32768x2048
    ∧ V m c main_v4 = shapeCast S32768x5120 (truncf (F := Ideal) .bf16 (m ((c : Thread nD τ).loc main_arg2) : FVec Ideal S8x4096x5120 .f32) bitsLt_bf16_f32) shapeCasts_S8x4096x5120_S32768x5120
    ∧ V m c main_v7 = truncf (F := Ideal) .bf16 (first (m ((c : Thread nD τ).loc main_arg4))) bitsLt_bf16_f32
    ∧ V m c main_v10 = truncf (F := Ideal) .bf16 (first (m ((c : Thread nD τ).loc main_arg5))) bitsLt_bf16_f32
    ∧ V m c main_v13 = truncf (F := Ideal) .bf16 (last (m ((c : Thread nD τ).loc main_arg6))) bitsLt_bf16_f32
    ∧ V m c main_v19 = shapeCast S1x2048 (broadcastInDim S1x1x1x2048 ![0, 1, 2, 3] bcast_S1x1x1x2048_S1x1x1x2048_0_1_2_3 (shapeCast S1x1x1x2048
        (shapeCast S1x2048 (heads (m ((c : Thread nD τ).loc main_arg8))) shapeCasts_S8x256_S1x2048) shapeCasts_S1x2048_S1x1x1x2048)) shapeCasts_S1x1x1x2048_S1x2048
    ∧ V m c main_v22 = truncf (F := Ideal) .bf16 (projection (m ((c : Thread nD τ).loc main_arg9))) bitsLt_bf16_f32
    ∧ V m c main_v28 = shapeCast S1x1024 (broadcastInDim S1x1x1x1024 ![0, 1, 2, 3] bcast_S1x1x1x1024_S1x1x1x1024_0_1_2_3 (shapeCast S1x1x1x1024
        (shapeCast S1x1024 (gain (m ((c : Thread nD τ).loc main_arg3))) shapeCasts_S1024_S1x1024) shapeCasts_S1x1024_S1x1x1x1024)) shapeCasts_S1x1x1x1024_S1x1024 := by
  simp only [V, hostOps0, List.flatten_cons, List.flatten_nil, List.cons_append, List.nil_append, cast_eq]
  refine ⟨?_, ?_, ?_, ?_, ?_, ?_, ?_, ?_, ?_⟩ <;> (after_results_simp <;> rfl)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![1, 0, t.val, 0] := (by decide +kernel : ∀ t : Fin grid0.N, _)
theorem index10 : ∀ t : Fin cfg0.N, win0_10.index t = ![1, 0, t.val, 0] := (by decide +kernel : ∀ t : Fin grid0.N, _)
theorem index11 : ∀ t : Fin cfg0.N, win0_11.index t = ![1, 0, min t.val 43, 0] := (by decide +kernel : ∀ t : Fin grid0.N, _)
theorem index12 : ∀ t : Fin cfg0.N, win0_12.index t = ![1, t.val, 0] := (by decide +kernel : ∀ t : Fin grid0.N, _)
theorem index13 : ∀ t : Fin cfg0.N, win0_13.index t = ![1, t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)
theorem index16 : ∀ t : Fin cfg0.N, win0_16.index t = ![t.val, 0] := (by decide +kernel : ∀ t : Fin grid0.N, _)
theorem index17 : ∀ t : Fin cfg0.N, win0_17.index t = ![min t.val 43, 0] := (by decide +kernel : ∀ t : Fin grid0.N, _)
theorem index18 : ∀ t : Fin cfg0.N, win0_18.index t = ![t.val, 0] := (by decide +kernel : ∀ t : Fin grid0.N, _)
theorem index19 : ∀ t : Fin cfg0.N, win0_19.index t = ![t.val, 0] := (by decide +kernel : ∀ t : Fin grid0.N, _)

theorem lt64 (t : Fin cfg0.N) : t.val < 64 := t.isLt

theorem rows_at {e : EltTy} (X : Vec Ideal S8x4096x1024 e) (b : Fin 8) (q : Fin 4096) (k : Fin 1024) :
    shapeCast S32768x1024 X shapeCasts_S8x4096x1024_S32768x1024 (ix2 ⟨4096 * b.val + q.val, by omega⟩ k) = X (ix3 b q k) := by
  pointwise []
theorem proj_at {e : EltTy} (X : Vec Ideal S8x4096x5120 e) (b : Fin 8) (q : Fin 4096) (k : Fin 5120) :
    shapeCast S32768x5120 X shapeCasts_S8x4096x5120_S32768x5120 (ix2 ⟨4096 * b.val + q.val, by omega⟩ k) = X (ix3 b q k) := by
  pointwise []
theorem heads_at {e : EltTy} (X : Vec Ideal S8x4096x8x256 e) (b : Fin 8) (q : Fin 4096) (h : Fin 8) (v : Fin 256) :
    shapeCast S32768x2048 X shapeCasts_S8x4096x8x256_S32768x2048 (ix2 ⟨4096 * b.val + q.val, by omega⟩ (place h v)) = X (ix4 b q h v) := by
  pointwise [place]

theorem row_gain (X : FVec Ideal S1024 .f32) (k : Fin 1024) : shapeCast S1x1024 (broadcastInDim S1x1x1x1024 ![0, 1, 2, 3] bcast_S1x1x1x1024_S1x1x1x1024_0_1_2_3 (shapeCast S1x1x1x1024
        (shapeCast S1x1024 X shapeCasts_S1024_S1x1024) shapeCasts_S1x1024_S1x1x1x1024)) shapeCasts_S1x1x1x1024_S1x1024 (ix2 0 k) = X (ix1 k) := by
  pointwise []
theorem row_heads (X : FVec Ideal S8x256 .f32) (h : Fin 8) (v : Fin 256) : shapeCast S1x2048 (broadcastInDim S1x1x1x2048 ![0, 1, 2, 3] bcast_S1x1x1x2048_S1x1x1x2048_0_1_2_3 (shapeCast S1x1x1x2048
        (shapeCast S1x2048 X shapeCasts_S8x256_S1x2048) shapeCasts_S1x2048_S1x1x1x2048)) shapeCasts_S1x1x1x2048_S1x2048 (ix2 0 (place h v)) = X (ix2 h v) := by
  pointwise [place]

/-- The gate's column of a head's place. -/
def gateAt (h : Fin 8) (v : Fin 256) : Fin 5120 := ⟨256 * h.val + v.val, by omega⟩

/-- An element of the stream's block at a point. -/
theorem block0 (c : Dev nD) (t : Fin cfg0.N) (p : Fin 512) (k : Fin 1024) : (iblk m c 0 t : FVec Ideal S512x1024 .f32) (ix2 p k)
      = (m ((c : Thread nD τ).loc main_arg0) : FVec Ideal S8x4096x1024 .f32)
          (ix3 ⟨t.val / 8, by have := lt64 t; omega⟩ ⟨t.val % 8 * 512 + p.val, by omega⟩ k) := by
  have ht := lt64 t
  refine .trans ?_ (rows_at _ _ _ _)
  rw [← (arrays m c).1]
  refine congrArg (V m c main_v0) ?_
  blk_ext [index0 t]
theorem block1 (c : Dev nD) (t : Fin cfg0.N) (p : Fin 512) (h : Fin 8) (v : Fin 256) : (iblk m c 1 t : FVec Ideal S512x2048 .bf16) (ix2 p (place h v))
      = ((m ((c : Thread nD τ).loc main_arg1) : FVec Ideal S8x4096x8x256 .f32)
          (ix4 ⟨t.val / 8, by have := lt64 t; omega⟩ ⟨t.val % 8 * 512 + p.val, by omega⟩ h v) : EReal) := by
  have ht := lt64 t
  refine .trans ?_ (heads_at (e := .bf16) (truncf (F := Ideal) .bf16 (m ((c : Thread nD τ).loc main_arg1) : FVec Ideal S8x4096x8x256 .f32) bitsLt_bf16_f32)
    ⟨t.val / 8, by omega⟩ ⟨t.val % 8 * 512 + p.val, by omega⟩ h v)
  rw [← (arrays m c).2.1]
  refine congrArg (V m c main_v2) ?_
  blk_ext [index1 t]
theorem block2 (c : Dev nD) (t : Fin cfg0.N) (p : Fin 512) (h : Fin 8) (v : Fin 256) : (X0_2 m c t : FVec Ideal S512x2048 .bf16) (ix2 p (place h v))
      = ((m ((c : Thread nD τ).loc main_arg2) : FVec Ideal S8x4096x5120 .f32)
          (ix3 ⟨t.val / 8, by have := lt64 t; omega⟩ ⟨t.val % 8 * 512 + p.val, by omega⟩ (gateAt h v)) : EReal) := by
  have ht := lt64 t
  refine .trans ?_ (proj_at (e := .bf16) (truncf (F := Ideal) .bf16 (m ((c : Thread nD τ).loc main_arg2) : FVec Ideal S8x4096x5120 .f32) bitsLt_bf16_f32)
    ⟨t.val / 8, by omega⟩ ⟨t.val % 8 * 512 + p.val, by omega⟩ (gateAt h v))
  rw [← (arrays m c).2.2.1]
  unfold X0_2
  refine (dif_pos (moved0_2 t (ix2 p (place h v)))).trans ?_
  refine congrArg (V m c main_v4) ?_
  unfold place gateAt
  blk_ext [index2 t]
theorem block3 (c : Dev nD) (t : Fin cfg0.N) (h : Fin 8) (v : Fin 256) : (iblk m c 3 t : FVec Ideal S1x2048 .f32) (ix2 0 (place h v)) = heads (m ((c : Thread nD τ).loc main_arg8)) (ix2 h v) := by
  refine (congrArg (V m c main_v19) (?_ : _ = ix2 0 (place h v))).trans ?_
  · blk_ext [index3 t]
  · rw [(arrays m c).2.2.2.2.2.2.1]
    exact row_heads _ _ _
theorem block5 (c : Dev nD) (t : Fin cfg0.N) (k : Fin 1024) : (iblk m c 5 t : FVec Ideal S1x1024 .f32) (ix2 0 k) = gain (m ((c : Thread nD τ).loc main_arg3)) (ix1 k) := by
  refine (congrArg (V m c main_v28) (?_ : _ = ix2 0 k)).trans ?_
  · blk_ext [index5 t]
  · rw [(arrays m c).2.2.2.2.2.2.2.2]
    exact row_gain _ _
theorem block4 (c : Dev nD) (t : Fin cfg0.N) (p : Fin 2048) (k : Fin 1024) : (iblk m c 4 t : FVec Ideal S2048x1024 .bf16) (ix2 p k)
      = (projection (m ((c : Thread nD τ).loc main_arg9)) (ix2 p k) : EReal) := by
  refine (congrArg (V m c main_v22) (?_ : _ = ix2 p k)).trans ?_
  · blk_ext [index4 t]
  · rw [(arrays m c).2.2.2.2.2.2.2.1]; rfl
theorem block6 (c : Dev nD) (t : Fin cfg0.N) (p : Fin 1024) (k : Fin 2816) : (iblk m c 6 t : FVec Ideal S1024x2816 .bf16) (ix2 p k)
      = (first (m ((c : Thread nD τ).loc main_arg4)) (ix2 p k) : EReal) := by
  refine (congrArg (V m c main_v7) (?_ : _ = ix2 p k)).trans ?_
  · blk_ext [index6 t]
  · rw [(arrays m c).2.2.2.1]; rfl
theorem block7 (c : Dev nD) (t : Fin cfg0.N) (p : Fin 1024) (k : Fin 2816) : (iblk m c 7 t : FVec Ideal S1024x2816 .bf16) (ix2 p k)
      = (first (m ((c : Thread nD τ).loc main_arg5)) (ix2 p k) : EReal) := by
  refine (congrArg (V m c main_v10) (?_ : _ = ix2 p k)).trans ?_
  · blk_ext [index7 t]
  · rw [(arrays m c).2.2.2.2.1]; rfl
theorem block8 (c : Dev nD) (t : Fin cfg0.N) (p : Fin 2816) (k : Fin 1024) : (iblk m c 8 t : FVec Ideal S2816x1024 .bf16) (ix2 p k)
      = (last (m ((c : Thread nD τ).loc main_arg6)) (ix2 p k) : EReal) := by
  refine (congrArg (V m c main_v13) (?_ : _ = ix2 p k)).trans ?_
  · blk_ext [index8 t]
  · rw [(arrays m c).2.2.2.2.2.1]; rfl
theorem block9 (c : Dev nD) (t : Fin cfg0.N) (p : Fin 16) (k : Fin 2816) : (iblk m c 9 t : FVec Ideal S1x1x16x2816 .f32) (ix4 0 0 p k)
      = (m ((c : Thread nD τ).loc main_arg4) : FVec Ideal S4x2x1024x2816 .f32) (ix4 1 0 ⟨t.val * 16 + p.val, by have := lt64 t; omega⟩ k) := by
  refine (congrArg (V m c main_arg4) (?_ : _ = (ix4 1 0 ⟨t.val * 16 + p.val, by have := lt64 t; omega⟩ k))).trans ?_
  · blk_ext [index9 t]
  · rw [V_main_arg4]
theorem block10 (c : Dev nD) (t : Fin cfg0.N) (p : Fin 16) (k : Fin 2816) : (iblk m c 10 t : FVec Ideal S1x1x16x2816 .f32) (ix4 0 0 p k)
      = (m ((c : Thread nD τ).loc main_arg5) : FVec Ideal S4x2x1024x2816 .f32) (ix4 1 0 ⟨t.val * 16 + p.val, by have := lt64 t; omega⟩ k) := by
  refine (congrArg (V m c main_arg5) (?_ : _ = (ix4 1 0 ⟨t.val * 16 + p.val, by have := lt64 t; omega⟩ k))).trans ?_
  · blk_ext [index10 t]
  · rw [V_main_arg5]
theorem block11 (c : Dev nD) (t : Fin cfg0.N) (p : Fin 64) (k : Fin 1024) : (iblk m c 11 t : FVec Ideal S1x1x64x1024 .f32) (ix4 0 0 p k)
      = (m ((c : Thread nD τ).loc main_arg6) : FVec Ideal S4x2x2816x1024 .f32) (ix4 1 0 ⟨min t.val 43 * 64 + p.val, by have := lt64 t; omega⟩ k) := by
  refine (congrArg (V m c main_arg6) (?_ : _ = (ix4 1 0 ⟨min t.val 43 * 64 + p.val, by have := lt64 t; omega⟩ k))).trans ?_
  · blk_ext [index11 t]
  · rw [V_main_arg6]
theorem block12 (c : Dev nD) (t : Fin cfg0.N) (p : Fin 16) (k : Fin 6144) : (iblk m c 12 t : FVec Ideal S1x16x6144 .f32) (ix3 0 p k)
      = (m ((c : Thread nD τ).loc main_arg7) : FVec Ideal S2x1024x6144 .f32) (ix3 1 ⟨t.val * 16 + p.val, by have := lt64 t; omega⟩ k) := by
  refine (congrArg (V m c main_arg7) (?_ : _ = (ix3 1 ⟨t.val * 16 + p.val, by have := lt64 t; omega⟩ k))).trans ?_
  · blk_ext [index12 t]
  · rw [V_main_arg7]
theorem block13 (c : Dev nD) (t : Fin cfg0.N) (p : Fin 32) (k : Fin 1024) : (iblk m c 13 t : FVec Ideal S1x32x1024 .f32) (ix3 0 p k)
      = (m ((c : Thread nD τ).loc main_arg9) : FVec Ideal S2x2048x1024 .f32) (ix3 1 ⟨t.val * 32 + p.val, by have := lt64 t; omega⟩ k) := by
  refine (congrArg (V m c main_arg9) (?_ : _ = (ix3 1 ⟨t.val * 32 + p.val, by have := lt64 t; omega⟩ k))).trans ?_
  · blk_ext [index13 t]
  · rw [V_main_arg9]

/-- The result at a row of the stream: the gated heads projected in, then half of its feed-forward network. -/
def rowOf (x : FVec Ideal S8x4096x1024 .f32) (o : FVec Ideal S8x4096x8x256 .f32) (P : FVec Ideal S8x4096x5120 .f32) (n : FVec Ideal S8x256 .f32) (wo : FVec Ideal S2048x1024 .f32)
    (g : FVec Ideal S1024 .f32) (wg wu : FVec Ideal S1024x2816 .f32) (wd : FVec Ideal S2816x1024 .f32) (b : Fin 8) (q : Fin 4096) (j : Fin 1024) : EReal :=
  half (mixed (fun k => x (ix3 b q k)) (fun h v => o (ix4 b q h v)) (fun h v => n (ix2 h v)) (fun h v => P (ix3 b q (gateAt h v))) (fun h v j => wo (ix2 (place h v) j)))
    (fun k => g (ix1 k)) (fun k u => wg (ix2 k u)) (fun k u => wu (ix2 k u)) (fun u k => wd (ix2 u k)) j

/-- What a run leaves in the stream's array. -/
def whole (c : Dev nD) : FVec Ideal S32768x1024 .f32 := fun i =>
  rowOf (m ((c : Thread nD τ).loc main_arg0)) (m ((c : Thread nD τ).loc main_arg1)) (m ((c : Thread nD τ).loc main_arg2)) (heads (m ((c : Thread nD τ).loc main_arg8))) (projection (m ((c : Thread nD τ).loc main_arg9))) (gain (m ((c : Thread nD τ).loc main_arg3)))
    (first (m ((c : Thread nD τ).loc main_arg4))) (first (m ((c : Thread nD τ).loc main_arg5))) (last (m ((c : Thread nD τ).loc main_arg6)))
    ⟨(i 0).val / 4096, by have : (i 0).val < 32768 := (i 0).isLt; omega⟩ ⟨(i 0).val % 4096, by omega⟩ (i 1)

theorem tile_row (c : Dev nD) (t : Fin cfg0.N) (p : Fin 512) (j : Fin 1024) : ((dats m 0 c).after 14 t : FVec Ideal S512x1024 .f32) (ix2 p j)
      = rowOf (m ((c : Thread nD τ).loc main_arg0)) (m ((c : Thread nD τ).loc main_arg1)) (m ((c : Thread nD τ).loc main_arg2)) (heads (m ((c : Thread nD τ).loc main_arg8))) (projection (m ((c : Thread nD τ).loc main_arg9))) (gain (m ((c : Thread nD τ).loc main_arg3)))
    (first (m ((c : Thread nD τ).loc main_arg4))) (first (m ((c : Thread nD τ).loc main_arg5))) (last (m ((c : Thread nD τ).loc main_arg6)))
          ⟨t.val / 8, by have := lt64 t; omega⟩ ⟨t.val % 8 * 512 + p.val, by omega⟩ j := by
  rw [out_eq]
  refine (tile_at _ _ _ _ _ _ _).trans ?_
  simp only [allHeads_at, own_at, block0, block1, block2, block3, block4, block5, block6, block7, block8]
  rfl

theorem result_array (c : Dev nD) : (dats m 0 c).arrAt 14 cfg0.N = whole m c := by
  refine (dats m 0 c).arrAt_eq_of_covers 14 _ (by decide +kernel) fun t hf y => ?_
  blk_simp
  have ht := lt64 t
  obtain ⟨p, j, rfl⟩ : ∃ (p : Fin 512) (j : Fin 1024), y = ix2 p j := ⟨y 0, y 1, eq_ix2 y⟩
  refine (tile_row m c t p j).trans ?_
  obtain ⟨i, hi⟩ : ∃ i, i = (win0_14.blk t).view.emb (ix2 p j) := ⟨_, rfl⟩
  rw [← hi]
  have e : i = ix2 ⟨t.val * 512 + p.val, by omega⟩ j := by
    rw [hi]
    blk_ext [index14 t]
  rw [e]
  unfold whole
  congr 1
  · exact Fin.ext (by show t.val / 8 = (t.val * 512 + p.val) / 4096; omega)
  · exact Fin.ext (by show t.val % 8 * 512 + p.val = (t.val * 512 + p.val) % 4096; omega)

/-- The next layer's first matrices, cast. -/
def nextFirst (W : FVec Ideal S4x2x1024x2816 .f32) (s : S4x2x1024x2816.Slices ![1, 0, 0, 0] S1x1x1024x2816) : FVec Ideal S1024x2816 .bf16 :=
  truncf (F := Ideal) .bf16 (shapeCast S1024x2816 (extractStridedSlice S1x1x1024x2816 ![1, 0, 0, 0] W s) shapeCasts_S1x1x1024x2816_S1024x2816) bitsLt_bf16_f32
/-- The next layer's last matrix, cast. -/
def nextLast (W : FVec Ideal S4x2x2816x1024 .f32) (s : S4x2x2816x1024.Slices ![1, 0, 0, 0] S1x1x2816x1024) : FVec Ideal S2816x1024 .bf16 :=
  truncf (F := Ideal) .bf16 (shapeCast S2816x1024 (extractStridedSlice S1x1x2816x1024 ![1, 0, 0, 0] W s) shapeCasts_S1x1x2816x1024_S2816x1024) bitsLt_bf16_f32
/-- The next layer's projection into the retention, cast. -/
def nextIn (W : FVec Ideal S2x1024x6144 .f32) (s : S2x1024x6144.Slices ![1, 0, 0] ⟨3, ![1, 1024, 6144]⟩) (q : Shape.ShapeCasts ⟨3, ![1, 1024, 6144]⟩ S1024x6144) : FVec Ideal S1024x6144 .bf16 :=
  truncf (F := Ideal) .bf16 (shapeCast S1024x6144 (extractStridedSlice ⟨3, ![1, 1024, 6144]⟩ ![1, 0, 0] W s) q) bitsLt_bf16_f32
/-- The next layer's projection out of the retention, cast. -/
def nextOut (W : FVec Ideal S2x2048x1024 .f32) (s : S2x2048x1024.Slices ![1, 0, 0] S1x2048x1024) : FVec Ideal S2048x1024 .bf16 :=
  truncf (F := Ideal) .bf16 (shapeCast S2048x1024 (extractStridedSlice S1x2048x1024 ![1, 0, 0] W s) shapeCasts_S1x2048x1024_S2048x1024) bitsLt_bf16_f32

theorem nextFirst_at (W : FVec Ideal S4x2x1024x2816 .f32) (s) (p : Fin 1024) (k : Fin 2816) : nextFirst W s (ix2 p k) = (W (ix4 1 0 p k) : EReal) := by
  pointwise [nextFirst]
theorem nextLast_at (W : FVec Ideal S4x2x2816x1024 .f32) (s) (p : Fin 2816) (k : Fin 1024) : nextLast W s (ix2 p k) = (W (ix4 1 0 p k) : EReal) := by
  pointwise [nextLast]
theorem nextIn_at (W : FVec Ideal S2x1024x6144 .f32) (s q) (p : Fin 1024) (k : Fin 6144) : nextIn W s q (ix2 p k) = (W (ix3 1 p k) : EReal) := by
  pointwise [nextIn]
theorem nextOut_at (W : FVec Ideal S2x2048x1024 .f32) (s) (p : Fin 2048) (k : Fin 1024) : nextOut W s (ix2 p k) = (W (ix3 1 p k) : EReal) := by
  pointwise [nextOut]

theorem cast_array15 (c : Dev nD) (s) : (dats m 0 c).arrAt 15 cfg0.N = nextFirst (m ((c : Thread nD τ).loc main_arg4)) s := by
  refine (dats m 0 c).arrAt_eq_of_covers 15 _ (by decide +kernel) fun t hf y => ?_
  blk_simp
  have ht := lt64 t
  obtain ⟨p, j, rfl⟩ : ∃ (p : Fin 16) (j : Fin 2816), y = ix2 p j := ⟨y 0, y 1, eq_ix2 y⟩
  refine (slab15 ..).trans ((block9 m c t p j).trans ?_)
  obtain ⟨i, hi⟩ : ∃ i, i = (win0_15.blk t).view.emb (ix2 p j) := ⟨_, rfl⟩
  rw [← hi]
  have e : i = ix2 ⟨t.val * 16 + p.val, by omega⟩ j := by
    rw [hi]
    blk_ext [index15 t]
  rw [e]
  exact (nextFirst_at _ _ _ _).symm

theorem cast_array16 (c : Dev nD) (s) : (dats m 0 c).arrAt 16 cfg0.N = nextFirst (m ((c : Thread nD τ).loc main_arg5)) s := by
  refine (dats m 0 c).arrAt_eq_of_covers 16 _ (by decide +kernel) fun t hf y => ?_
  blk_simp
  have ht := lt64 t
  obtain ⟨p, j, rfl⟩ : ∃ (p : Fin 16) (j : Fin 2816), y = ix2 p j := ⟨y 0, y 1, eq_ix2 y⟩
  refine (slab16 ..).trans ((block10 m c t p j).trans ?_)
  obtain ⟨i, hi⟩ : ∃ i, i = (win0_16.blk t).view.emb (ix2 p j) := ⟨_, rfl⟩
  rw [← hi]
  have e : i = ix2 ⟨t.val * 16 + p.val, by omega⟩ j := by
    rw [hi]
    blk_ext [index16 t]
  rw [e]
  exact (nextFirst_at _ _ _ _).symm

theorem cast_array17 (c : Dev nD) (s) : (dats m 0 c).arrAt 17 cfg0.N = nextLast (m ((c : Thread nD τ).loc main_arg6)) s := by
  refine (dats m 0 c).arrAt_eq_of_covers 17 _ (by decide +kernel) fun t hf y => ?_
  blk_simp
  have ht := lt64 t
  obtain ⟨p, j, rfl⟩ : ∃ (p : Fin 64) (j : Fin 1024), y = ix2 p j := ⟨y 0, y 1, eq_ix2 y⟩
  refine (slab17 ..).trans ((block11 m c t p j).trans ?_)
  obtain ⟨i, hi⟩ : ∃ i, i = (win0_17.blk t).view.emb (ix2 p j) := ⟨_, rfl⟩
  rw [← hi]
  have e : i = ix2 ⟨min t.val 43 * 64 + p.val, by omega⟩ j := by
    rw [hi]
    blk_ext [index17 t]
  rw [e]
  exact (nextLast_at _ _ _ _).symm

theorem cast_array18 (c : Dev nD) (s q) : (dats m 0 c).arrAt 18 cfg0.N = nextIn (m ((c : Thread nD τ).loc main_arg7)) s q := by
  refine (dats m 0 c).arrAt_eq_of_covers 18 _ (by decide +kernel) fun t hf y => ?_
  blk_simp
  have ht := lt64 t
  obtain ⟨p, j, rfl⟩ : ∃ (p : Fin 16) (j : Fin 6144), y = ix2 p j := ⟨y 0, y 1, eq_ix2 y⟩
  refine (slab18 ..).trans ((block12 m c t p j).trans ?_)
  obtain ⟨i, hi⟩ : ∃ i, i = (win0_18.blk t).view.emb (ix2 p j) := ⟨_, rfl⟩
  rw [← hi]
  have e : i = ix2 ⟨t.val * 16 + p.val, by omega⟩ j := by
    rw [hi]
    blk_ext [index18 t]
  rw [e]
  exact (nextIn_at _ _ _ _ _).symm

theorem cast_array19 (c : Dev nD) (s) : (dats m 0 c).arrAt 19 cfg0.N = nextOut (m ((c : Thread nD τ).loc main_arg9)) s := by
  refine (dats m 0 c).arrAt_eq_of_covers 19 _ (by decide +kernel) fun t hf y => ?_
  blk_simp
  have ht := lt64 t
  obtain ⟨p, j, rfl⟩ : ∃ (p : Fin 32) (j : Fin 1024), y = ix2 p j := ⟨y 0, y 1, eq_ix2 y⟩
  refine (slab19 ..).trans ((block13 m c t p j).trans ?_)
  obtain ⟨i, hi⟩ : ∃ i, i = (win0_19.blk t).view.emb (ix2 p j) := ⟨_, rfl⟩
  rw [← hi]
  have e : i = ix2 ⟨t.val * 32 + p.val, by omega⟩ j := by
    rw [hi]
    blk_ext [index19 t]
  rw [e]
  exact (nextOut_at _ _ _ _).symm

end Cert.RetMixFfnIdeal.Value

end
-- ==== Proof.RetValues.lean ====
/- The ret_mix_ffn call computes its reference. -/
module

public import proofs.«01_k».proof.Proof.RetValue
public import proofs.«01_k».proof.Proof.RefHalf
public import proofs.«01_k».proof.Proof.Gen.RetMixFfnRefIdeal.Run
public import proofs.«01_k».proof.Defs

@[expose] public section

set_option maxRecDepth 16384

noncomputable section

namespace Cert.RefHeads

open Cert.RetMixFfnRefIdeal Cert.RetMixFfnRefIdeal.Gen
open Idealize.ShloMosaic
open Cert.Half Cert.Heads

variable (X : FVec Ideal S8x4096x1024 .f32) (O D : FVec Ideal S8x4096x8x256 .f32) (P : FVec Ideal S8x4096x5120 .f32) (N : FVec Ideal S8x256 .f32) (W : FVec Ideal S2048x1024 .f32)
  (A G : FVec Ideal S8x4096x2048 .f32)

/-- Every head's mean over its last axis. -/
def mean : FVec Ideal S8x4096x8x1 .f32 :=
  Host.divf (broadcastInDim S8x4096x8x1 ![0, 1, 2] bcast_S8x4096x8_S8x4096x8x1_0_1_2 (Host.reduceAdd O (constant S_ .f32 0x00000000#32) reducesTo_S8x4096x8x256_S8x4096x8_d3 h_S_))
    (broadcastInDim S8x4096x8x1 ![] bcast_S_S8x4096x8x1 (constant S_ .f32 0x43800000#32))

/-- Every head minus its mean. -/
def apart : FVec Ideal S8x4096x8x256 .f32 := subf O (broadcastInDim S8x4096x8x256 ![0, 1, 2, 3] bcast_S8x4096x8x1_S8x4096x8x256_0_1_2_3 (mean O))

/-- Every head normalised, from what is left of its mean. -/
def grouped : FVec Ideal S8x4096x8x256 .f32 :=
  mulf (mulf D (broadcastInDim S8x4096x8x256 ![0, 1, 2, 3] bcast_S8x4096x8x1_S8x4096x8x256_0_1_2_3 (Host.rsqrt (addf (mean (mulf D D)) (broadcastInDim S8x4096x8x1 ![] bcast_S_S8x4096x8x1 (constant S_ .f32 0x358637BD#32))))))
    (broadcastInDim S8x4096x8x256 ![0, 1, 2, 3] bcast_S1x1x8x256_S8x4096x8x256_0_1_2_3 (broadcastInDim S1x1x8x256 ![2, 3] bcast_S8x256_S1x1x8x256_2_3 N))

/-- The gate's columns. -/
def gate : FVec Ideal S8x4096x2048 .f32 := extractStridedSlice S8x4096x2048 ![0, 0, 0] P slices_S8x4096x5120_S8x4096x2048_0_0_0

/-- The columns, gated. -/
def gated : FVec Ideal S8x4096x2048 .f32 :=
  mulf (mulf G (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf G))))) A

/-- Every row with the gated heads projected into it. -/
def join : FVec Ideal S8x4096x1024 .f32 :=
  addf X (Host.dotGeneral dot_S8x4096x2048_S2048x1024_S8x4096x1024_2_0_01_1_n_n none
    (gated (shapeCast S8x4096x2048 (grouped (apart O) N) shapeCasts_S8x4096x8x256_S8x4096x2048) (gate P)) W)

variable (b : Fin 8) (q : Fin 4096) (h : Fin 8) (v : Fin 256) (j : Fin 1024)

theorem mean_at : mean O (ix4 b q h 0) = Ideal.div (∑ k : Fin 256, O (ix4 b q h k) : EReal) (Ideal.ofBits .f32 0x43800000#32) := by
  pointwise [mean]

theorem apart_at : apart O (ix4 b q h v) = centred (fun k => O (ix4 b q h k)) v := by
  pointwise [apart]
  rw [mean_at]
  rfl

theorem grouped_at : grouped (apart O) N (ix4 b q h v) = group (fun k => O (ix4 b q h k)) (fun k => N (ix2 h k)) v := by
  pointwise [grouped]
  rw [mean_at]
  simp only [mulf_apply, apart_at]
  rfl

theorem gate_at : gate P (ix3 b q (place h v)) = P (ix3 b q (Cert.RetMixFfnIdeal.Value.gateAt h v)) := by
  pointwise [gate, place, Cert.RetMixFfnIdeal.Value.gateAt]

theorem gated_at (u : Fin 2048) : gated A G (ix3 b q u) = (silu (G (ix3 b q u)) * A (ix3 b q u) : EReal) := by
  pointwise [gated]
  rfl

theorem flat_at : shapeCast S8x4096x2048 O shapeCasts_S8x4096x8x256_S8x4096x2048 (ix3 b q (place h v)) = O (ix4 b q h v) := by
  pointwise [place]

theorem join_at : join X O P N W (ix3 b q j)
    = mixed (fun k => X (ix3 b q k)) (fun h v => O (ix4 b q h v)) (fun h v => N (ix2 h v)) (fun h v => P (ix3 b q (Cert.RetMixFfnIdeal.Value.gateAt h v))) (fun h v j => W (ix2 (place h v) j)) j := by
  pointwise [join]
  rw [sum_places]
  simp only [gated_at, flat_at, gate_at, grouped_at]
  rfl

end Cert.RefHeads

namespace Cert.RetMixFfnIdeal.Value

open Cert.RetMixFfnIdeal Cert.RetMixFfnIdeal.Gen
open Idealize.ShloMosaic
open Idealize.ShloMosaic.TcCoe

/-- The reference's result, from its arrays. -/
def resultOf (x : FVec Ideal S8x4096x1024 .f32) (o : FVec Ideal S8x4096x8x256 .f32) (P : FVec Ideal S8x4096x5120 .f32) (G : FVec Ideal S4x3x1024 .f32) (wg wu : FVec Ideal S4x2x1024x2816 .f32)
    (wd : FVec Ideal S4x2x2816x1024 .f32) (n : FVec Ideal S2x8x256 .f32) (wo : FVec Ideal S2x2048x1024 .f32) : FVec Ideal S32768x1024 .f32 :=
  shapeCast S32768x1024 (Cert.RefHalf.step (Cert.RefHeads.join x o P (heads n) (projection wo)) (gain G) (first wg) (first wu) (last wd)) shapeCasts_S8x4096x1024_S32768x1024

theorem result_eq (m : (ℓ : Loc Cert.RetMixFfnRefIdeal.nD Cert.RetMixFfnRefIdeal.τ Cert.RetMixFfnRefIdeal.sig) → Buf (Elt Ideal) ℓ) (c : Dev Cert.RetMixFfnRefIdeal.nD) :
    Cert.RetMixFfnRefIdeal.Value.res_main_v60 m c = resultOf (m ((c.tc : Thread Cert.RetMixFfnRefIdeal.nD Cert.RetMixFfnRefIdeal.τ).loc Cert.RetMixFfnRefIdeal.main_arg0))
      (m ((c.tc : Thread Cert.RetMixFfnRefIdeal.nD Cert.RetMixFfnRefIdeal.τ).loc Cert.RetMixFfnRefIdeal.main_arg1)) (m ((c.tc : Thread Cert.RetMixFfnRefIdeal.nD Cert.RetMixFfnRefIdeal.τ).loc Cert.RetMixFfnRefIdeal.main_arg2))
      (m ((c.tc : Thread Cert.RetMixFfnRefIdeal.nD Cert.RetMixFfnRefIdeal.τ).loc Cert.RetMixFfnRefIdeal.main_arg3)) (m ((c.tc : Thread Cert.RetMixFfnRefIdeal.nD Cert.RetMixFfnRefIdeal.τ).loc Cert.RetMixFfnRefIdeal.main_arg4))
      (m ((c.tc : Thread Cert.RetMixFfnRefIdeal.nD Cert.RetMixFfnRefIdeal.τ).loc Cert.RetMixFfnRefIdeal.main_arg5)) (m ((c.tc : Thread Cert.RetMixFfnRefIdeal.nD Cert.RetMixFfnRefIdeal.τ).loc Cert.RetMixFfnRefIdeal.main_arg6))
      (m ((c.tc : Thread Cert.RetMixFfnRefIdeal.nD Cert.RetMixFfnRefIdeal.τ).loc Cert.RetMixFfnRefIdeal.main_arg8)) (m ((c.tc : Thread Cert.RetMixFfnRefIdeal.nD Cert.RetMixFfnRefIdeal.τ).loc Cert.RetMixFfnRefIdeal.main_arg9)) := rfl

theorem whole_eq (m : (ℓ : Loc nD τ sig) → Buf (Elt Ideal) ℓ) (c : Dev nD) :
    whole m c = resultOf (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg8)) (m ((c : Thread nD τ).loc main_arg9)) := by
  funext i
  have h0 : (i 0).val < 32768 := (i 0).isLt
  have e : i = ix2 ⟨4096 * ((i 0).val / 4096) + (i 0).val % 4096, by omega⟩ (i 1) := by
    refine (eq_ix2 i).trans ?_
    congr 1
    exact Fin.ext (by show (i 0).val = 4096 * ((i 0).val / 4096) + (i 0).val % 4096; omega)
  refine .trans ?_ (congrArg _ e.symm)
  refine .trans ?_ (rows_at (e := .f32) _ ⟨(i 0).val / 4096, by omega⟩ ⟨(i 0).val % 4096, by omega⟩ (i 1)).symm
  refine .trans ?_ (Cert.RefHalf.step_at _ _ _ _ _ _ _ _).symm
  refine .trans ?_ (congrArg (fun r => Cert.Half.half r _ _ _ _ _) (funext fun k => Cert.RefHeads.join_at _ _ _ _ _ _ _ k)).symm
  rfl

theorem algebraic : Cert.algebraic_RetMixFfnIdeal_RetMixFfnRefIdeal := fun m g m' g' _ hagree => by
  refine ⟨fun c => whole m c, fun c => nextFirst (m ((c : Thread nD τ).loc main_arg4)) (by decide), fun c => nextFirst (m ((c : Thread nD τ).loc main_arg5)) (by decide),
    fun c => nextLast (m ((c : Thread nD τ).loc main_arg6)) (by decide), fun c => nextIn (m ((c : Thread nD τ).loc main_arg7)) (by decide) (by decide),
    fun c => nextOut (m ((c : Thread nD τ).loc main_arg9)) (by decide), ?_, ?_⟩
  · exact (θ_run defs _ _).mono (fun r h c => ⟨(h c).1.trans (result_array m c), (h c).2.1.trans (cast_array15 m c _), (h c).2.2.1.trans (cast_array16 m c _),
      (h c).2.2.2.1.trans (cast_array17 m c _), (h c).2.2.2.2.1.trans (cast_array18 m c _ _), (h c).2.2.2.2.2.1.trans (cast_array19 m c _), (h c).2.2.2.2.2.2⟩) (run_blocks m g)
  · refine (θ_run Cert.RetMixFfnRefIdeal.defs _ _).mono (fun r h c => ?_) (Cert.RetMixFfnRefIdeal.Value.run m' g')
    obtain ⟨a0, a1, a2, a3, a4, a5, a6, a7, a8, a9⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [result_eq, a0, a1, a2, a3, a4, a5, a6, a8, a9]
      exact (whole_eq m c).symm
    · rw [a4]; rfl
    · rw [a5]; rfl
    · rw [a6]; rfl
    · rw [a7]; rfl
    · rw [a9]; rfl

end Cert.RetMixFfnIdeal.Value

end
-- ==== Proof.Turn.lean ====
/- The projections of one tile of 512 rows into the retention: the kernel's vectors, read at an element. -/
module

public import proofs.«01_k».proof.Proof.Gen.RetProjIdeal.Frame
public import proofs.«01_k».proof.Proof.TileNarrow
public import Idealize.ShloMosaic.Lib.Pointwise
public import Idealize.ShloMosaic.Lib.Pipeline.ValueKit

@[expose] public section

set_option maxRecDepth 16384

noncomputable section

namespace Cert.Turn

open Cert.RetProjIdeal Cert.RetProjIdeal.Gen
open Idealize.ShloMosaic
open Cert.Half

/-- The place of a coordinate among the 64 angles. -/
def angleOf (v : Fin 128) : Fin 64 := ⟨v.val % 64, by omega⟩

/-- The other coordinate of the same angle. -/
def across (v : Fin 128) : Fin 128 := ⟨(v.val + 64) % 128, by omega⟩

/-- A head's row turned by its angles, coordinates 64 apart forming the pairs. -/
def turn (z : Fin 128 → EReal) (co si : Fin 64 → EReal) (v : Fin 128) : EReal :=
  if v.val < 64 then z v * co (angleOf v) - z (across v) * si (angleOf v) else z v * co (angleOf v) + z (across v) * si (angleOf v)

/-- The sines with the sign that the first coordinates take. -/
def signed (si : Fin 64 → EReal) (v : Fin 128) : EReal := if v.val < 64 then -si (angleOf v) else si (angleOf v)

theorem turn_eq (z : Fin 128 → EReal) (co si : Fin 64 → EReal) (v : Fin 128) :
    z v * co (angleOf v) + z (across v) * signed si v = turn z co si v := by
  unfold turn signed
  split_ifs with h
  · rw [mul_neg, sub_eq_add_neg]
  · rfl

/-- A column of a head, among 1024. -/
def headCol (h : Fin 8) (u : Fin 128) : Fin 1024 := ⟨128 * h.val + u.val, by omega⟩

/-- One row of the gate, the values and the turned queries side by side, from the row's normed values. -/
def projected (x : Fin 1024 → EReal) (W : Fin 1024 → Fin 6144 → EReal) (co si : Fin 64 → EReal) (j : Fin 5120) : EReal :=
  if j.val < 2048 then ∑ k, x k * W k ⟨4096 + j.val % 2048, by omega⟩
  else if j.val < 4096 then ∑ k, x k * W k ⟨j.val, by omega⟩
  else turn (fun u => ∑ k, x k * W k ⟨(j.val - 4096) / 128 * 128 + u.val, by omega⟩) co si ⟨(j.val - 4096) % 128, by omega⟩

/-- One row of the turned and scaled keys, from the row's normed values. -/
def keyed (x : Fin 1024 → EReal) (W : Fin 1024 → Fin 6144 → EReal) (co si : Fin 64 → EReal) (r : Fin 1024) : EReal :=
  turn (fun u => ∑ k, x k * W k ⟨1024 + r.val / 128 * 128 + u.val, by omega⟩) co si ⟨r.val % 128, by omega⟩ * Ideal.ofBits .f32 0x3DB504F3#32

section

variable (h : FVec Ideal S512x1024 .bf16) (w : FVec Ideal S1024x1024 .bf16) (w2 : FVec Ideal S1024x2048 .bf16) (z : FVec Ideal S512x1024 .f32) (co si : FVec Ideal S512x128 .f32)

/-- The tile's rows times 1024 columns. -/
def narrow : FVec Ideal S512x1024 .f32 :=
  matmul (F := Ideal) dot_S512x1024_S1024x1024_S512x1024_1_0_0_1_n_n none h (shapeCast S1024x1024 w shapeCasts_S1024x1024_S1024x1024) (constant S512x1024 .f32 0x00000000#32)

/-- The tile's rows times 2048 columns. -/
def broad : FVec Ideal S512x2048 .bf16 :=
  truncf (F := Ideal) .bf16 (matmul (F := Ideal) dot_S512x1024_S1024x2048_S512x2048_1_0_0_1_n_n none h (shapeCast S1024x2048 w2 shapeCasts_S1024x2048_S1024x2048) (constant S512x2048 .f32 0x00000000#32)) bitsLt_bf16_f32

/-- One head of the tile, turned. -/
def turned (o : ℕ) (s : S512x1024.Slices ![0, o] S512x128) : FVec Ideal S512x128 .f32 :=
  addf (mulf (extractStridedSlice S512x128 ![0, o] z s) (shapeCast S512x128 co shapeCasts_S512x128_S512x128))
    (mulf (dynamicRotate 1 64#32 none (extractStridedSlice S512x128 ![0, o] z s) rotates_S512x128_d1) (shapeCast S512x128 si shapeCasts_S512x128_S512x128))

/-- One head of the tile's queries. -/
def query (o : ℕ) (s : S512x1024.Slices ![0, o] S512x128) : FVec Ideal S512x128 .bf16 := truncf (F := Ideal) .bf16 (turned z co si o s) bitsLt_bf16_f32

/-- One head of 256 of the tile's keys, from row `r`, a key to a column. -/
def key (o : ℕ) (s : S512x1024.Slices ![0, o] S512x128) (r : ℕ) (s' : S512x128.Slices ![r, 0] S256x128) : FVec Ideal S1x128x256 .bf16 :=
  shapeCast S1x128x256 (truncf (F := Ideal) .bf16 (transpose S128x256 [1, 0] (extractStridedSlice S256x128 ![r, 0]
    (mulf (turned z co si o s) (broadcast S512x128 (Scalar.ofBits (F := Ideal) .f32 0x3DB504F3#32))) s') transposes_S256x128_p1_0_S128x256) bitsLt_bf16_f32) shapeCasts_S128x256_S1x128x256

theorem narrow_at (p : Fin 512) (j : Fin 1024) : narrow h w (ix2 p j) = (∑ k : Fin 1024, h (ix2 p k) * w (ix2 k j) : EReal) := by
  pointwise [narrow]

theorem broad_at (p : Fin 512) (j : Fin 2048) : broad h w2 (ix2 p j) = (∑ k : Fin 1024, h (ix2 p k) * w2 (ix2 k j) : EReal) := by
  pointwise [broad]

theorem turned_at (o : ℕ) (s) (p : Fin 512) (v : Fin 128) (hd : Fin 8) (ho : o = 128 * hd.val) (c i : Fin 64 → EReal)
    (hc : ∀ v : Fin 128, co (ix2 p v) = c (angleOf v)) (hi : ∀ v : Fin 128, si (ix2 p v) = signed i v) :
    turned z co si o s (ix2 p v) = turn (fun u => z (ix2 p (headCol hd u))) c i v := by
  subst ho
  refine .trans ?_ (turn_eq _ _ _ _)
  rw [← hc, ← hi]
  pointwise [turned, headCol, across]
  simp only [show v.val + 128 - 64 = v.val + 64 by omega]

theorem query_at (o : ℕ) (s) (p : Fin 512) (v : Fin 128) (hd : Fin 8) (ho : o = 128 * hd.val) (c i : Fin 64 → EReal)
    (hc : ∀ v : Fin 128, co (ix2 p v) = c (angleOf v)) (hi : ∀ v : Fin 128, si (ix2 p v) = signed i v) :
    query z co si o s (ix2 p v) = turn (fun u => z (ix2 p (headCol hd u))) c i v := by
  pointwise [query]
  exact turned_at z co si o s p v hd ho c i hc hi

theorem key_at (o : ℕ) (s) (r : ℕ) (s') (v : Fin 128) (y : Fin 256) (p : Fin 512) (hp : p.val = r + y.val) (hd : Fin 8) (ho : o = 128 * hd.val) (c i : Fin 64 → EReal)
    (hc : ∀ v : Fin 128, co (ix2 p v) = c (angleOf v)) (hi : ∀ v : Fin 128, si (ix2 p v) = signed i v) :
    key z co si o s r s' (ix3 0 v y) = (turn (fun u => z (ix2 p (headCol hd u))) c i v * Ideal.ofBits .f32 0x3DB504F3#32 : EReal) := by
  rw [← turned_at z co si o s p v hd ho c i hc hi]
  have e : (⟨r + y.val, hp ▸ p.isLt⟩ : Fin 512) = p := Fin.ext hp.symm
  pointwise [key]
  rw [e]

end

/-- `n` columns of the matrix, from column `o`. -/
theorem part_at {n : ℕ} (w : FVec Ideal S1024x6144 .bf16) (o : ℕ) (ho) (k : Fin 1024) (j : Fin n) (u : Fin 6144) (e : u.val = o + j.val) :
    View.ld (Val := Elt Ideal) (e' := .bf16) (S := S1024x6144) w (Rect.unit (s := S1024x6144) ![0, o] ![1024, n] ho) (ix2 k j) = w (ix2 k u) := by
  refine View.ld_unit_apply_of (Val := Elt Ideal) (e := .bf16) (S := S1024x6144) w _ _ _ _ _ fun a => ?_
  fin_cases a
  · exact (Nat.zero_add _).symm
  · exact e

end Cert.Turn

end
-- ==== Proof.RetProjPieces.lean ====
/- The pieces that the projections' call stores, each a part of a row's projections. -/
module

public import proofs.«01_k».proof.Proof.Turn
public import proofs.«01_k».proof.Proof.Gen.RetProjIdeal.Value

@[expose] public section

set_option maxRecDepth 16384

noncomputable section

namespace Cert.RetProjIdeal.Value

open Cert.RetProjIdeal Cert.RetProjIdeal.Gen
open Idealize.ShloMosaic
open Idealize.ShloMosaic.TcCoe
open Cert.Half Cert.Turn

variable (m : (ℓ : Loc nD τ sig) → Buf (Elt Ideal) ℓ)

section

variable (x : FVec Ideal S512x1024 .f32) (g : FVec Ideal S1x1024 .f32) (h : FVec Ideal S512x1024 .bf16) (w : FVec Ideal S1024x1024 .bf16) (w2 : FVec Ideal S1024x2048 .bf16)
  (z : FVec Ideal S512x1024 .f32) (co si : FVec Ideal S512x128 .f32)

/-- The block's rows normed. -/
theorem normed_at (p : Fin 512) (j : Fin 1024) : k0_pay4 (F := Ideal) x g (ix2 p j) = rms (fun k => x (ix2 p k)) (fun k => g (ix2 0 k)) j := by
  refine (show k0_pay4 (F := Ideal) x g (ix2 p j) = Cert.TileNarrow.normed (shapeCast S512x1024 x shapeCasts_S512x1024_S512x1024) g (ix2 p j) from rfl).trans ?_
  refine (Cert.TileNarrow.normed_at _ _ _ _).trans ?_
  refine congrArg (fun r => rms r _ j) (funext fun k => ?_)
  pointwise []

theorem pay2_eq : k0_pay2 (F := Ideal) (k0_pay4 x g) w2 = broad (k0_pay4 (F := Ideal) x g) w2 := rfl
theorem pay3_eq : k0_pay3 (F := Ideal) (k0_pay4 x g) w2 = broad (k0_pay4 (F := Ideal) x g) w2 := rfl
theorem pay7_eq : k0_pay7 (F := Ideal) x g w = narrow (k0_pay4 (F := Ideal) x g) w := rfl
theorem pay8_eq : k0_pay8 (F := Ideal) x g w = narrow (k0_pay4 (F := Ideal) x g) w := rfl

theorem pay9_eq : k0_pay9 (F := Ideal) x g co si w = query (narrow (k0_pay4 (F := Ideal) x g) w) co si 0 slices_S512x1024_o0_0_S512x128 := rfl
theorem pay16_eq : k0_pay16 (F := Ideal) (k0_pay5 co) (k0_pay6 si) z = query z co si 128 slices_S512x1024_o0_128_S512x128 := rfl
theorem pay21_eq : k0_pay21 (F := Ideal) (k0_pay5 co) (k0_pay6 si) z = query z co si 256 slices_S512x1024_o0_256_S512x128 := rfl
theorem pay25_eq : k0_pay25 (F := Ideal) (k0_pay5 co) (k0_pay6 si) z = query z co si 384 slices_S512x1024_o0_384_S512x128 := rfl
theorem pay32_eq : k0_pay32 (F := Ideal) (k0_pay5 co) (k0_pay6 si) z = query z co si 512 slices_S512x1024_o0_512_S512x128 := rfl
theorem pay37_eq : k0_pay37 (F := Ideal) (k0_pay5 co) (k0_pay6 si) z = query z co si 640 slices_S512x1024_o0_640_S512x128 := rfl
theorem pay41_eq : k0_pay41 (F := Ideal) (k0_pay5 co) (k0_pay6 si) z = query z co si 768 slices_S512x1024_o0_768_S512x128 := rfl
theorem pay48_eq : k0_pay48 (F := Ideal) (k0_pay5 co) (k0_pay6 si) z = query z co si 896 slices_S512x1024_o0_896_S512x128 := rfl
theorem pay14_eq : k0_pay14 (F := Ideal) (k0_pay6 si) (k0_pay11 x g co w) (k0_pay12 x g w) = key (narrow (k0_pay4 (F := Ideal) x g) w) co si 0 slices_S512x1024_o0_0_S512x128 0 slices_S512x128_o0_0_S256x128 := rfl
theorem pay15_eq : k0_pay15 (F := Ideal) (k0_pay6 si) (k0_pay11 x g co w) (k0_pay12 x g w) = key (narrow (k0_pay4 (F := Ideal) x g) w) co si 0 slices_S512x1024_o0_0_S512x128 256 slices_S512x128_o256_0_S256x128 := rfl
theorem pay18_eq : k0_pay18 (F := Ideal) (k0_pay5 co) (k0_pay6 si) z = key z co si 128 slices_S512x1024_o0_128_S512x128 0 slices_S512x128_o0_0_S256x128 := rfl
theorem pay20_eq : k0_pay20 (F := Ideal) (k0_pay19 (k0_pay5 co) (k0_pay6 si) z) = key z co si 128 slices_S512x1024_o0_128_S512x128 256 slices_S512x128_o256_0_S256x128 := rfl
theorem pay23_eq : k0_pay23 (F := Ideal) (k0_pay5 co) (k0_pay6 si) z = key z co si 256 slices_S512x1024_o0_256_S512x128 0 slices_S512x128_o0_0_S256x128 := rfl
theorem pay24_eq : k0_pay24 (F := Ideal) (k0_pay5 co) (k0_pay6 si) z = key z co si 256 slices_S512x1024_o0_256_S512x128 256 slices_S512x128_o256_0_S256x128 := rfl
theorem pay30_eq : k0_pay30 (F := Ideal) (k0_pay6 si) (k0_pay27 (k0_pay5 co) z) (k0_pay28 z) = key z co si 384 slices_S512x1024_o0_384_S512x128 0 slices_S512x128_o0_0_S256x128 := rfl
theorem pay31_eq : k0_pay31 (F := Ideal) (k0_pay6 si) (k0_pay27 (k0_pay5 co) z) (k0_pay28 z) = key z co si 384 slices_S512x1024_o0_384_S512x128 256 slices_S512x128_o256_0_S256x128 := rfl
theorem pay34_eq : k0_pay34 (F := Ideal) (k0_pay5 co) (k0_pay6 si) z = key z co si 512 slices_S512x1024_o0_512_S512x128 0 slices_S512x128_o0_0_S256x128 := rfl
theorem pay36_eq : k0_pay36 (F := Ideal) (k0_pay35 (k0_pay5 co) (k0_pay6 si) z) = key z co si 512 slices_S512x1024_o0_512_S512x128 256 slices_S512x128_o256_0_S256x128 := rfl
theorem pay39_eq : k0_pay39 (F := Ideal) (k0_pay5 co) (k0_pay6 si) z = key z co si 640 slices_S512x1024_o0_640_S512x128 0 slices_S512x128_o0_0_S256x128 := rfl
theorem pay40_eq : k0_pay40 (F := Ideal) (k0_pay5 co) (k0_pay6 si) z = key z co si 640 slices_S512x1024_o0_640_S512x128 256 slices_S512x128_o256_0_S256x128 := rfl
theorem pay46_eq : k0_pay46 (F := Ideal) (k0_pay6 si) (k0_pay43 (k0_pay5 co) z) (k0_pay44 z) = key z co si 768 slices_S512x1024_o0_768_S512x128 0 slices_S512x128_o0_0_S256x128 := rfl
theorem pay47_eq : k0_pay47 (F := Ideal) (k0_pay6 si) (k0_pay43 (k0_pay5 co) z) (k0_pay44 z) = key z co si 768 slices_S512x1024_o0_768_S512x128 256 slices_S512x128_o256_0_S256x128 := rfl
theorem pay50_eq : k0_pay50 (F := Ideal) (k0_pay5 co) (k0_pay6 si) z = key z co si 896 slices_S512x1024_o0_896_S512x128 0 slices_S512x128_o0_0_S256x128 := rfl
theorem pay1_eq : k0_pay1 (F := Ideal) (k0_pay51 (k0_pay5 co) (k0_pay6 si) z) = key z co si 896 slices_S512x1024_o0_896_S512x128 256 slices_S512x128_o256_0_S256x128 := rfl

end

/-- The normed values of a row of the block. -/
def rowNormed (x : FVec Ideal S512x1024 .f32) (g : FVec Ideal S1x1024 .f32) (p : Fin 512) : Fin 1024 → EReal := rms (fun k => x (ix2 p k)) (fun k => g (ix2 0 k))

section

variable (x : FVec Ideal S512x1024 .f32) (g : FVec Ideal S1x1024 .f32) (W : FVec Ideal S1024x6144 .bf16) (co si : FVec Ideal S512x128 .f32) (C S : Fin 64 → EReal) (p : Fin 512)

theorem broad_projected (o : ℕ) (ho) (v : Fin 2048) (j : Fin 5120) (e : j.val < 2048 ∧ o = 4096 ∧ j.val = v.val ∨ 2048 ≤ j.val ∧ o = 2048 ∧ j.val = 2048 + v.val) :
    broad (k0_pay4 (F := Ideal) x g) (View.ld (Val := Elt Ideal) (e' := .bf16) (S := S1024x6144) W (Rect.unit (s := S1024x6144) ![0, o] ![1024, 2048] ho)) (ix2 p v)
      = projected (rowNormed x g p) (fun k j => W (ix2 k j)) C S j := by
  rw [broad_at]
  unfold projected rowNormed
  rcases e with ⟨a, rfl, c⟩ | ⟨a, rfl, c⟩
  · rw [if_pos a]
    refine Finset.sum_congr rfl fun k _ => ?_
    rw [normed_at, part_at W 4096 ho k v ⟨4096 + j.val % 2048, by omega⟩ (by show 4096 + j.val % 2048 = 4096 + v.val; omega)]
  · rw [if_neg (by omega), if_pos (by omega)]
    refine Finset.sum_congr rfl fun k _ => ?_
    rw [normed_at, part_at W 2048 ho k v ⟨j.val, by omega⟩ c]

variable (hc : ∀ v : Fin 128, co (ix2 p v) = C (angleOf v)) (hi : ∀ v : Fin 128, si (ix2 p v) = signed S v)

include hc hi

theorem query_projected (hd : Fin 8) (o : ℕ) (ho : o = 128 * hd.val) (s) (ho') (v : Fin 128) (j : Fin 5120) (e : j.val = 4096 + o + v.val) :
    query (narrow (k0_pay4 (F := Ideal) x g) (View.ld (Val := Elt Ideal) (e' := .bf16) (S := S1024x6144) W (Rect.unit (s := S1024x6144) ![0, 0] ![1024, 1024] ho'))) co si o s (ix2 p v)
      = projected (rowNormed x g p) (fun k j => W (ix2 k j)) C S j := by
  rw [query_at _ co si o s p v hd ho C S hc hi]
  unfold projected rowNormed
  rw [if_neg (by omega), if_neg (by omega)]
  rw [show (⟨(j.val - 4096) % 128, by omega⟩ : Fin 128) = v from Fin.ext (by show (j.val - 4096) % 128 = v.val; omega)]
  refine congrArg (fun z => turn z C S v) (funext fun u => ?_)
  rw [narrow_at]
  refine Finset.sum_congr rfl fun k _ => ?_
  rw [normed_at, part_at W 0 ho' k (headCol hd u) ⟨(j.val - 4096) / 128 * 128 + u.val, by omega⟩ (by show (j.val - 4096) / 128 * 128 + u.val = 0 + (128 * hd.val + u.val); omega)]

theorem key_keyed (hd : Fin 8) (o : ℕ) (ho : o = 128 * hd.val) (s) (ho') (r : ℕ) (s') (v : Fin 128) (y : Fin 256) (hp : p.val = r + y.val) (j : Fin 1024) (e : j.val = o + v.val) :
    key (narrow (k0_pay4 (F := Ideal) x g) (View.ld (Val := Elt Ideal) (e' := .bf16) (S := S1024x6144) W (Rect.unit (s := S1024x6144) ![0, 1024] ![1024, 1024] ho'))) co si o s r s' (ix3 0 v y)
      = keyed (rowNormed x g p) (fun k j => W (ix2 k j)) C S j := by
  rw [key_at _ co si o s r s' v y p hp hd ho C S hc hi]
  unfold keyed rowNormed
  rw [show (⟨j.val % 128, by omega⟩ : Fin 128) = v from Fin.ext (by show j.val % 128 = v.val; omega)]
  refine congrArg (fun z => turn z C S v * Ideal.ofBits .f32 0x3DB504F3#32) (funext fun u => ?_)
  rw [narrow_at]
  refine Finset.sum_congr rfl fun k _ => ?_
  rw [normed_at, part_at W 1024 ho' k (headCol hd u) ⟨1024 + j.val / 128 * 128 + u.val, by omega⟩ (by show 1024 + j.val / 128 * 128 + u.val = 1024 + (128 * hd.val + u.val); omega)]

end

end Cert.RetProjIdeal.Value

end
-- ==== Proof.RetProjTiles.lean ====
/- What one step of the projections' call stores. -/
module

public import proofs.«01_k».proof.Proof.RetProjPieces
public import proofs.«01_k».proof.Proof.Gen.RetProjIdeal.Value

@[expose] public section

set_option maxRecDepth 16384

noncomputable section

namespace Cert.RetProjIdeal.Value

open Cert.RetProjIdeal Cert.RetProjIdeal.Gen
open Idealize.ShloMosaic
open Idealize.ShloMosaic.TcCoe
open Cert.Half Cert.Turn

variable (m : (ℓ : Loc nD τ sig) → Buf (Elt Ideal) ℓ)

set_option maxHeartbeats 4000000 in
theorem out5 (c : Dev nD) (t : Fin cfg0.N) (C S : Fin 512 → Fin 64 → EReal)
    (hc : ∀ (p : Fin 512) (v : Fin 128), (iblk m c 3 t : FVec Ideal S512x128 .f32) (ix2 p v) = C p (angleOf v))
    (hi : ∀ (p : Fin 512) (v : Fin 128), (iblk m c 4 t : FVec Ideal S512x128 .f32) (ix2 p v) = signed (S p) v) :
    ((dats m 0 c).after 5 t : FVec Ideal S512x5120 .bf16) = fun y => projected (rowNormed (iblk m c 0 t) (iblk m c 1 t) (y 0)) (fun k j => (iblk m c 2 t : FVec Ideal S1024x6144 .bf16) (ix2 k j)) (C (y 0)) (S (y 0)) (y 1) := by
  rw [after0_5]
  frame_out
  funext y
  canon_tiles x h using View.cover_of_tiledBy _ ![512, 128] (by sl_kernel_rfl) y
  · rw [pay3_eq]
    obtain ⟨p, v, rfl⟩ : ∃ (p : Fin 512) (v : Fin 2048), x = ix2 p v := ⟨x 0, x 1, eq_ix2 x⟩
    obtain rfl : y 0 = p := Fin.ext h0
    exact broad_projected _ _ _ _ _ _ 4096 _ v (y 1) (Or.inl ⟨by have : v.val < 2048 := v.isLt; have : (y 1).val = v.val := h1; omega, rfl, h1⟩)
  · rw [pay2_eq]
    obtain ⟨p, v, rfl⟩ : ∃ (p : Fin 512) (v : Fin 2048), x = ix2 p v := ⟨x 0, x 1, eq_ix2 x⟩
    obtain rfl : y 0 = p := Fin.ext h0
    exact broad_projected _ _ _ _ _ _ 2048 _ v (y 1) (Or.inr ⟨by have : (y 1).val = 2048 + v.val := h1; omega, rfl, h1⟩)
  · rw [pay48_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 7 896 rfl _ _ v (y 1) h1
  · rw [pay41_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 6 768 rfl _ _ v (y 1) h1
  · rw [pay37_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 5 640 rfl _ _ v (y 1) h1
  · rw [pay32_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 4 512 rfl _ _ v (y 1) h1
  · rw [pay25_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 3 384 rfl _ _ v (y 1) h1
  · rw [pay21_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 2 256 rfl _ _ v (y 1) h1
  · rw [pay16_eq, pay7_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 1 128 rfl _ _ v (y 1) h1
  · rw [pay9_eq]
    obtain ⟨p, v, rfl⟩ : ∃ (p : Fin 512) (v : Fin 128), x = ix2 p v := ⟨x 0, x 1, eq_ix2 x⟩
    obtain rfl : y 0 = p := Fin.ext h0
    exact query_projected _ _ _ _ _ _ _ _ (hc _) (hi _) 0 0 rfl _ _ v (y 1) h1

set_option maxHeartbeats 4000000 in
theorem out6 (c : Dev nD) (t : Fin cfg0.N) (C S : Fin 512 → Fin 64 → EReal)
    (hc : ∀ (p : Fin 512) (v : Fin 128), (iblk m c 3 t : FVec Ideal S512x128 .f32) (ix2 p v) = C p (angleOf v))
    (hi : ∀ (p : Fin 512) (v : Fin 128), (iblk m c 4 t : FVec Ideal S512x128 .f32) (ix2 p v) = signed (S p) v) :
    ((dats m 0 c).after 6 t : FVec Ideal S2x1024x256 .bf16) = fun y => (fun p : Fin 512 => keyed (rowNormed (iblk m c 0 t) (iblk m c 1 t) p) (fun k j => (iblk m c 2 t : FVec Ideal S1024x6144 .bf16) (ix2 k j)) (C p) (S p) (y 1))
        ⟨256 * (y 0).val + (y 2).val, by have : (y 0).val < 2 := (y 0).isLt; have : (y 2).val < 256 := (y 2).isLt; omega⟩ := by
  rw [after0_6]
  frame_out
  funext y
  canon_tiles x h
  · rw [pay1_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 7 896 rfl _ _ 256 _ v u (by have h0 : (y 0).val = 1 := h0; have h2 : (y 2).val = u.val := h2; show 256 * (y 0).val + (y 2).val = 256 + u.val; omega) (y 1) (by have h1 : (y 1).val = 896 + v.val := h1; omega)
  · rw [pay50_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 7 896 rfl _ _ 0 _ v u (by have h0 : (y 0).val = 0 := h0; have h2 : (y 2).val = u.val := h2; show 256 * (y 0).val + (y 2).val = 0 + u.val; omega) (y 1) (by have h1 : (y 1).val = 896 + v.val := h1; omega)
  · rw [pay47_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 6 768 rfl _ _ 256 _ v u (by have h0 : (y 0).val = 1 := h0; have h2 : (y 2).val = u.val := h2; show 256 * (y 0).val + (y 2).val = 256 + u.val; omega) (y 1) (by have h1 : (y 1).val = 768 + v.val := h1; omega)
  · rw [pay46_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 6 768 rfl _ _ 0 _ v u (by have h0 : (y 0).val = 0 := h0; have h2 : (y 2).val = u.val := h2; show 256 * (y 0).val + (y 2).val = 0 + u.val; omega) (y 1) (by have h1 : (y 1).val = 768 + v.val := h1; omega)
  · rw [pay40_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 5 640 rfl _ _ 256 _ v u (by have h0 : (y 0).val = 1 := h0; have h2 : (y 2).val = u.val := h2; show 256 * (y 0).val + (y 2).val = 256 + u.val; omega) (y 1) (by have h1 : (y 1).val = 640 + v.val := h1; omega)
  · rw [pay39_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 5 640 rfl _ _ 0 _ v u (by have h0 : (y 0).val = 0 := h0; have h2 : (y 2).val = u.val := h2; show 256 * (y 0).val + (y 2).val = 0 + u.val; omega) (y 1) (by have h1 : (y 1).val = 640 + v.val := h1; omega)
  · rw [pay36_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 4 512 rfl _ _ 256 _ v u (by have h0 : (y 0).val = 1 := h0; have h2 : (y 2).val = u.val := h2; show 256 * (y 0).val + (y 2).val = 256 + u.val; omega) (y 1) (by have h1 : (y 1).val = 512 + v.val := h1; omega)
  · rw [pay34_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 4 512 rfl _ _ 0 _ v u (by have h0 : (y 0).val = 0 := h0; have h2 : (y 2).val = u.val := h2; show 256 * (y 0).val + (y 2).val = 0 + u.val; omega) (y 1) (by have h1 : (y 1).val = 512 + v.val := h1; omega)
  · rw [pay31_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 3 384 rfl _ _ 256 _ v u (by have h0 : (y 0).val = 1 := h0; have h2 : (y 2).val = u.val := h2; show 256 * (y 0).val + (y 2).val = 256 + u.val; omega) (y 1) (by have h1 : (y 1).val = 384 + v.val := h1; omega)
  · rw [pay30_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 3 384 rfl _ _ 0 _ v u (by have h0 : (y 0).val = 0 := h0; have h2 : (y 2).val = u.val := h2; show 256 * (y 0).val + (y 2).val = 0 + u.val; omega) (y 1) (by have h1 : (y 1).val = 384 + v.val := h1; omega)
  · rw [pay24_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 2 256 rfl _ _ 256 _ v u (by have h0 : (y 0).val = 1 := h0; have h2 : (y 2).val = u.val := h2; show 256 * (y 0).val + (y 2).val = 256 + u.val; omega) (y 1) (by have h1 : (y 1).val = 256 + v.val := h1; omega)
  · rw [pay23_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 2 256 rfl _ _ 0 _ v u (by have h0 : (y 0).val = 0 := h0; have h2 : (y 2).val = u.val := h2; show 256 * (y 0).val + (y 2).val = 0 + u.val; omega) (y 1) (by have h1 : (y 1).val = 256 + v.val := h1; omega)
  · rw [pay20_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 1 128 rfl _ _ 256 _ v u (by have h0 : (y 0).val = 1 := h0; have h2 : (y 2).val = u.val := h2; show 256 * (y 0).val + (y 2).val = 256 + u.val; omega) (y 1) (by have h1 : (y 1).val = 128 + v.val := h1; omega)
  · rw [pay18_eq, pay8_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 1 128 rfl _ _ 0 _ v u (by have h0 : (y 0).val = 0 := h0; have h2 : (y 2).val = u.val := h2; show 256 * (y 0).val + (y 2).val = 0 + u.val; omega) (y 1) (by have h1 : (y 1).val = 128 + v.val := h1; omega)
  · rw [pay15_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 0 0 rfl _ _ 256 _ v u (by have h0 : (y 0).val = 1 := h0; have h2 : (y 2).val = u.val := h2; show 256 * (y 0).val + (y 2).val = 256 + u.val; omega) (y 1) (by have h1 : (y 1).val = v.val := h1; omega)
  · rw [pay14_eq]
    obtain ⟨a, v, u, rfl⟩ : ∃ (a : Fin 1) (v : Fin 128) (u : Fin 256), x = ix3 a v u := ⟨x 0, x 1, x 2, eq_ix3 x⟩
    obtain rfl : a = 0 := Subsingleton.elim _ _
    exact key_keyed _ _ _ _ _ _ _ _ (hc _) (hi _) 0 0 rfl _ _ 0 _ v u (by have h0 : (y 0).val = 0 := h0; have h2 : (y 2).val = u.val := h2; show 256 * (y 0).val + (y 2).val = 0 + u.val; omega) (y 1) (by have h1 : (y 1).val = v.val := h1; omega)

end Cert.RetProjIdeal.Value

end
-- ==== Proof.RetProjValue.lean ====
/- What the projections' call leaves in its result arrays. -/
module

public import proofs.«01_k».proof.Proof.RetProjTiles

@[expose] public section

set_option maxRecDepth 16384

noncomputable section

namespace Cert.RetProjIdeal.Value

open Cert.RetProjIdeal Cert.RetProjIdeal.Gen
open Idealize.ShloMosaic
open Idealize.ShloMosaic.TcCoe
open Cert.Half Cert.Turn

variable (m : (ℓ : Loc nD τ sig) → Buf (Elt Ideal) ℓ)

/-- The layer's gains. -/
def gain (G : FVec Ideal S4x3x1024 .f32) : FVec Ideal S1024 .f32 :=
  shapeCast S1024 (extractStridedSlice S1x1x1024 ![0, 1, 0] G slices_S4x3x1024_S1x1x1024_0_1_0) shapeCasts_S1x1x1024_S1024

/-- The layer's weights. -/
def weights (W : FVec Ideal S2x1024x6144 .f32) : FVec Ideal S1024x6144 .f32 :=
  shapeCast S1024x6144 (extractStridedSlice S1x1024x6144 ![0, 0, 0] W slices_S2x1024x6144_S1x1024x6144_0_0_0) shapeCasts_S1x1024x6144_S1024x6144

/-- Every position's angles. -/
def angles (P : Vec Ideal S8x4096 .i32) : FVec Ideal S8x4096x64 .f32 :=
  mulf (broadcastInDim S8x4096x64 ![0, 1, 2] bcast_S8x4096x1_S8x4096x64_0_1_2 (broadcastInDim S8x4096x1 ![0, 1] bcast_S8x4096_S8x4096x1_0_1 (sitofp (F := Ideal) .f32 P)))
    (broadcastInDim S8x4096x64 ![0, 1, 2] bcast_S1x1x64_S8x4096x64_0_1_2 (broadcastInDim S1x1x64 ![2] bcast_S64_S1x1x64_2
      (Host.powf (broadcastInDim S64 ![] bcast_S_S64 (constant (F := Ideal) S_ .f32 0x461C4000#32))
        (Host.divf (Host.negf (addf (broadcastInDim S64 ![] bcast_S_S64 (constant (F := Ideal) S_ .f32 0x00000000#32)) (mulf (broadcastInDim S64 ![] bcast_S_S64 (constant (F := Ideal) S_ .f32 0x40000000#32)) (sitofp (F := Ideal) .f32 (iotaInDim S64 32 0)))))
          (broadcastInDim S64 ![] bcast_S_S64 (constant (F := Ideal) S_ .f32 0x43000000#32))))))

/-- Two arrays of 64 coordinates side by side, a position to a row. -/
def paired (a b : FVec Ideal S8x4096x64 .f32) : FVec Ideal S32768x128 .f32 :=
  shapeCast S32768x128 (concatenate S8x4096x128 2 [⟨S8x4096x64, a⟩, ⟨S8x4096x64, b⟩] concatenates_S8x4096x64_S8x4096x64_S8x4096x128_d2) shapeCasts_S8x4096x128_S32768x128

set_option maxHeartbeats 8000000 in
theorem arrays (c : Dev nD) :
    V m c main_v0 = shapeCast S32768x1024 (m ((c : Thread nD τ).loc main_arg0)) shapeCasts_S8x4096x1024_S32768x1024
    ∧ V m c main_v29 = shapeCast S1x1024 (broadcastInDim S1x1x1x1024 ![0, 1, 2, 3] bcast_S1x1x1x1024_S1x1x1x1024_0_1_2_3 (shapeCast S1x1x1x1024
        (shapeCast S1x1024 (gain (m ((c : Thread nD τ).loc main_arg2))) shapeCasts_S1024_S1x1024) shapeCasts_S1x1024_S1x1x1x1024)) shapeCasts_S1x1x1x1024_S1x1024
    ∧ V m c main_v32 = truncf (F := Ideal) .bf16 (weights (m ((c : Thread nD τ).loc main_arg3))) bitsLt_bf16_f32
    ∧ V m c main_v20 = paired (Host.cos (angles (m ((c : Thread nD τ).loc main_arg1)))) (Host.cos (angles (m ((c : Thread nD τ).loc main_arg1))))
    ∧ V m c main_v23 = paired (Host.negf (Host.sin (angles (m ((c : Thread nD τ).loc main_arg1))))) (Host.sin (angles (m ((c : Thread nD τ).loc main_arg1)))) := by
  simp only [V, hostOps0, List.flatten_cons, List.flatten_nil, List.cons_append, List.nil_append, cast_eq]
  refine ⟨?_, ?_, ?_, ?_, ?_⟩ <;> (after_results_simp <;> rfl)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0, 0] := (by decide +kernel : ∀ t : Fin grid0.N, _)

theorem lt64 (t : Fin cfg0.N) : t.val < 64 := t.isLt

theorem rows_at {e : EltTy} (X : Vec Ideal S8x4096x1024 e) (b : Fin 8) (q : Fin 4096) (k : Fin 1024) :
    shapeCast S32768x1024 X shapeCasts_S8x4096x1024_S32768x1024 (ix2 ⟨4096 * b.val + q.val, by omega⟩ k) = X (ix3 b q k) := by
  pointwise []

theorem row_gain (X : FVec Ideal S1024 .f32) (k : Fin 1024) : shapeCast S1x1024 (broadcastInDim S1x1x1x1024 ![0, 1, 2, 3] bcast_S1x1x1x1024_S1x1x1x1024_0_1_2_3 (shapeCast S1x1x1x1024
        (shapeCast S1x1024 X shapeCasts_S1024_S1x1024) shapeCasts_S1x1024_S1x1x1x1024)) shapeCasts_S1x1x1x1024_S1x1024 (ix2 0 k) = X (ix1 k) := by
  pointwise []

theorem paired_at (a r : FVec Ideal S8x4096x64 .f32) (b : Fin 8) (q : Fin 4096) (v : Fin 128) :
    paired a r (ix2 ⟨4096 * b.val + q.val, by omega⟩ v) = if v.val < 64 then a (ix3 b q (angleOf v)) else r (ix3 b q (angleOf v)) := by
  by_cases h : v.val < 64
  · rw [if_pos h]
    have e : angleOf v = ⟨v.val, h⟩ := Fin.ext (by show v.val % 64 = v.val; omega)
    rw [e]
    pointwise [paired]
    exact dif_pos h
  · rw [if_neg h]
    have e : angleOf v = ⟨v.val - 64, by omega⟩ := Fin.ext (by show v.val % 64 = v.val - 64; omega)
    rw [e]
    pointwise [paired]
    exact dif_neg h

/-- An element of the stream's block at a point. -/
theorem block0 (c : Dev nD) (t : Fin cfg0.N) (p : Fin 512) (k : Fin 1024) : (iblk m c 0 t : FVec Ideal S512x1024 .f32) (ix2 p k)
      = (m ((c : Thread nD τ).loc main_arg0) : FVec Ideal S8x4096x1024 .f32)
          (ix3 ⟨t.val / 8, by have := lt64 t; omega⟩ ⟨t.val % 8 * 512 + p.val, by omega⟩ k) := by
  have ht := lt64 t
  refine .trans ?_ (rows_at (e := .f32) _ _ _ _)
  rw [← (arrays m c).1]
  refine congrArg (V m c main_v0) ?_
  blk_ext [index0 t]
theorem block1 (c : Dev nD) (t : Fin cfg0.N) (k : Fin 1024) : (iblk m c 1 t : FVec Ideal S1x1024 .f32) (ix2 0 k) = gain (m ((c : Thread nD τ).loc main_arg2)) (ix1 k) := by
  refine (congrArg (V m c main_v29) (?_ : _ = ix2 0 k)).trans ?_
  · blk_ext [index1 t]
  · rw [(arrays m c).2.1, row_gain]
theorem block2 (c : Dev nD) (t : Fin cfg0.N) (p : Fin 1024) (k : Fin 6144) : (iblk m c 2 t : FVec Ideal S1024x6144 .bf16) (ix2 p k) = (weights (m ((c : Thread nD τ).loc main_arg3)) (ix2 p k) : EReal) := by
  refine (congrArg (V m c main_v32) (?_ : _ = ix2 p k)).trans ?_
  · blk_ext [index2 t]
  · rw [(arrays m c).2.2.1]; rfl

/-- A position's cosines. -/
def cosines (P : Vec Ideal S8x4096 .i32) (b : Fin 8) (q : Fin 4096) (i : Fin 64) : EReal := Host.cos (angles P) (ix3 b q i)
/-- A position's sines. -/
def sines (P : Vec Ideal S8x4096 .i32) (b : Fin 8) (q : Fin 4096) (i : Fin 64) : EReal := Host.sin (angles P) (ix3 b q i)

theorem block3 (c : Dev nD) (t : Fin cfg0.N) (p : Fin 512) (v : Fin 128) : (iblk m c 3 t : FVec Ideal S512x128 .f32) (ix2 p v)
      = cosines (m ((c : Thread nD τ).loc main_arg1)) ⟨t.val / 8, by have := lt64 t; omega⟩ ⟨t.val % 8 * 512 + p.val, by omega⟩ (angleOf v) := by
  have ht := lt64 t
  have e := paired_at (Host.cos (angles (m ((c : Thread nD τ).loc main_arg1)))) (Host.cos (angles (m ((c : Thread nD τ).loc main_arg1)))) ⟨t.val / 8, by omega⟩ ⟨t.val % 8 * 512 + p.val, by omega⟩ v
  rw [ite_self] at e
  refine .trans ?_ e
  rw [← (arrays m c).2.2.2.1]
  refine congrArg (V m c main_v20) ?_
  blk_ext [index3 t]
theorem block4 (c : Dev nD) (t : Fin cfg0.N) (p : Fin 512) (v : Fin 128) : (iblk m c 4 t : FVec Ideal S512x128 .f32) (ix2 p v)
      = signed (sines (m ((c : Thread nD τ).loc main_arg1)) ⟨t.val / 8, by have := lt64 t; omega⟩ ⟨t.val % 8 * 512 + p.val, by omega⟩) v := by
  have ht := lt64 t
  refine .trans ?_ (paired_at (Host.negf (Host.sin (angles (m ((c : Thread nD τ).loc main_arg1))))) (Host.sin (angles (m ((c : Thread nD τ).loc main_arg1)))) ⟨t.val / 8, by omega⟩ ⟨t.val % 8 * 512 + p.val, by omega⟩ v)
  rw [← (arrays m c).2.2.2.2]
  refine congrArg (V m c main_v23) ?_
  blk_ext [index4 t]

/-- A row's normed values. -/
def rowOf (x : FVec Ideal S8x4096x1024 .f32) (g : FVec Ideal S1024 .f32) (b : Fin 8) (q : Fin 4096) : Fin 1024 → EReal := rms (fun k => x (ix3 b q k)) (fun k => g (ix1 k))

/-- The gate, the values and the queries of a row. -/
def rowsAt (x : FVec Ideal S8x4096x1024 .f32) (P : Vec Ideal S8x4096 .i32) (g : FVec Ideal S1024 .f32) (W : FVec Ideal S1024x6144 .f32) (b : Fin 8) (q : Fin 4096) (j : Fin 5120) : EReal :=
  projected (rowOf x g b q) (fun k j => W (ix2 k j)) (cosines P b q) (sines P b q) j
/-- The keys of a row. -/
def keysAt (x : FVec Ideal S8x4096x1024 .f32) (P : Vec Ideal S8x4096 .i32) (g : FVec Ideal S1024 .f32) (W : FVec Ideal S1024x6144 .f32) (b : Fin 8) (q : Fin 4096) (j : Fin 1024) : EReal :=
  keyed (rowOf x g b q) (fun k j => W (ix2 k j)) (cosines P b q) (sines P b q) j

theorem normed_row (c : Dev nD) (t : Fin cfg0.N) (p : Fin 512) : rowNormed (iblk m c 0 t) (iblk m c 1 t) p
    = rowOf (m ((c : Thread nD τ).loc main_arg0)) (gain (m ((c : Thread nD τ).loc main_arg2))) ⟨t.val / 8, by have := lt64 t; omega⟩ ⟨t.val % 8 * 512 + p.val, by omega⟩ := by
  exact congrArg₂ rms (funext fun k => block0 m c t p k) (funext fun k => block1 m c t k)

/-- What a run leaves in the rows' array. -/
def rows (c : Dev nD) : FVec Ideal S32768x5120 .bf16 := fun i =>
  rowsAt (m ((c : Thread nD τ).loc main_arg0)) (m ((c : Thread nD τ).loc main_arg1)) (gain (m ((c : Thread nD τ).loc main_arg2))) (weights (m ((c : Thread nD τ).loc main_arg3)))
    ⟨(i 0).val / 4096, by have : (i 0).val < 32768 := (i 0).isLt; omega⟩ ⟨(i 0).val % 4096, by omega⟩ (i 1)

/-- What a run leaves in the keys' array. -/
def chunks (c : Dev nD) : FVec Ideal S128x1024x256 .bf16 := fun i =>
  keysAt (m ((c : Thread nD τ).loc main_arg0)) (m ((c : Thread nD τ).loc main_arg1)) (gain (m ((c : Thread nD τ).loc main_arg2))) (weights (m ((c : Thread nD τ).loc main_arg3)))
    ⟨(i 0).val / 16, by have : (i 0).val < 128 := (i 0).isLt; omega⟩ ⟨(i 0).val % 16 * 256 + (i 2).val, by have : (i 2).val < 256 := (i 2).isLt; omega⟩ (i 1)

theorem tile_rows (c : Dev nD) (t : Fin cfg0.N) (p : Fin 512) (j : Fin 5120) : ((dats m 0 c).after 5 t : FVec Ideal S512x5120 .bf16) (ix2 p j)
      = rowsAt (m ((c : Thread nD τ).loc main_arg0)) (m ((c : Thread nD τ).loc main_arg1)) (gain (m ((c : Thread nD τ).loc main_arg2))) (weights (m ((c : Thread nD τ).loc main_arg3)))
          ⟨t.val / 8, by have := lt64 t; omega⟩ ⟨t.val % 8 * 512 + p.val, by omega⟩ j := by
  rw [out5 m c t _ _ (block3 m c t) (block4 m c t)]
  exact congrArg₂ (fun r w => projected r w _ _ j) (normed_row m c t p) (funext fun k => funext fun u => block2 m c t k u)

theorem tile_keys (c : Dev nD) (t : Fin cfg0.N) (a : Fin 2) (j : Fin 1024) (u : Fin 256) : ((dats m 0 c).after 6 t : FVec Ideal S2x1024x256 .bf16) (ix3 a j u)
      = keysAt (m ((c : Thread nD τ).loc main_arg0)) (m ((c : Thread nD τ).loc main_arg1)) (gain (m ((c : Thread nD τ).loc main_arg2))) (weights (m ((c : Thread nD τ).loc main_arg3)))
          ⟨t.val / 8, by have := lt64 t; omega⟩ ⟨t.val % 8 * 512 + (256 * a.val + u.val), by omega⟩ j := by
  rw [out6 m c t _ _ (block3 m c t) (block4 m c t)]
  exact congrArg₂ (fun r w => keyed r w _ _ j) (normed_row m c t ⟨256 * a.val + u.val, by omega⟩) (funext fun k => funext fun u => block2 m c t k u)

theorem rows_array (c : Dev nD) : (dats m 0 c).arrAt 5 cfg0.N = rows m c := by
  refine (dats m 0 c).arrAt_eq_of_covers 5 _ (by decide +kernel) fun t hf y => ?_
  blk_simp
  have ht := lt64 t
  obtain ⟨p, j, rfl⟩ : ∃ (p : Fin 512) (j : Fin 5120), y = ix2 p j := ⟨y 0, y 1, eq_ix2 y⟩
  refine (tile_rows m c t p j).trans ?_
  obtain ⟨i, hi⟩ : ∃ i, i = (win0_5.blk t).view.emb (ix2 p j) := ⟨_, rfl⟩
  rw [← hi]
  have e : i = ix2 ⟨t.val * 512 + p.val, by omega⟩ j := by
    rw [hi]
    blk_ext [index5 t]
  rw [e]
  unfold rows
  congr 1
  · exact Fin.ext (by show t.val / 8 = (t.val * 512 + p.val) / 4096; omega)
  · exact Fin.ext (by show t.val % 8 * 512 + p.val = (t.val * 512 + p.val) % 4096; omega)

theorem chunks_array (c : Dev nD) : (dats m 0 c).arrAt 6 cfg0.N = chunks m c := by
  refine (dats m 0 c).arrAt_eq_of_covers 6 _ (by decide +kernel) fun t hf y => ?_
  blk_simp
  have ht := lt64 t
  obtain ⟨a, j, u, rfl⟩ : ∃ (a : Fin 2) (j : Fin 1024) (u : Fin 256), y = ix3 a j u := ⟨y 0, y 1, y 2, eq_ix3 y⟩
  refine (tile_keys m c t a j u).trans ?_
  obtain ⟨i, hi⟩ : ∃ i, i = (win0_6.blk t).view.emb (ix3 a j u) := ⟨_, rfl⟩
  rw [← hi]
  have e : i = ix3 ⟨t.val * 2 + a.val, by omega⟩ j u := by
    rw [hi]
    blk_ext [index6 t]
  rw [e]
  unfold chunks
  congr 1
  · exact Fin.ext (by show t.val / 8 = (t.val * 2 + a.val) / 16; omega)
  · exact Fin.ext (by show t.val % 8 * 512 + (256 * a.val + u.val) = (t.val * 2 + a.val) % 16 * 256 + u.val; omega)

end Cert.RetProjIdeal.Value

end
-- ==== Proof.RetProjValues.lean ====
/- The projections' call computes its reference. -/
module

public import proofs.«01_k».proof.Proof.RetProjValue
public import proofs.«01_k».proof.Proof.RefHalf
public import proofs.«01_k».proof.Proof.Gen.RetProjRefIdeal.Run
public import proofs.«01_k».proof.Defs

@[expose] public section

set_option maxRecDepth 16384

noncomputable section

namespace Cert.RefTurn

open Cert.RetProjRefIdeal Cert.RetProjRefIdeal.Gen
open Idealize.ShloMosaic
open Cert.Half Cert.Turn

variable (X : FVec Ideal S8x4096x1024 .f32) (W : FVec Ideal S1024x6144 .f32) (A T : FVec Ideal S8x4096x64 .f32) (Y : FVec Ideal S8x4096x6144 .f32) (z : FVec Ideal S8x4096x8x128 .f32)

/-- Every row times the columns of the weights. -/
def through : FVec Ideal S8x4096x6144 .f32 := Host.dotGeneral dot_S8x4096x1024_S1024x6144_S8x4096x6144_2_0_01_1_n_n none X W

/-- A table repeated for every head. -/
def wide : FVec Ideal S8x4096x8x64 .f32 :=
  broadcastInDim S8x4096x8x64 ![0, 1, 2, 3] bcast_S8x4096x1x64_S8x4096x8x64_0_1_2_3 (broadcastInDim S8x4096x1x64 ![0, 1, 3] bcast_S8x4096x64_S8x4096x1x64_0_1_3 T)

/-- The first coordinates of every head. -/
def fore : FVec Ideal S8x4096x8x64 .f32 := extractStridedSlice S8x4096x8x64 ![0, 0, 0, 0] z slices_S8x4096x8x128_S8x4096x8x64_0_0_0_0
/-- The second coordinates of every head. -/
def aft : FVec Ideal S8x4096x8x64 .f32 := extractStridedSlice S8x4096x8x64 ![0, 0, 0, 64] z slices_S8x4096x8x128_S8x4096x8x64_0_0_0_64

/-- Every head turned by its position's angles. -/
def roped : FVec Ideal S8x4096x8x128 .f32 :=
  concatenate S8x4096x8x128 3 [⟨S8x4096x8x64, subf (mulf (fore z) (wide (Host.cos A))) (mulf (aft z) (wide (Host.sin A)))⟩,
    ⟨S8x4096x8x64, addf (mulf (aft z) (wide (Host.cos A))) (mulf (fore z) (wide (Host.sin A)))⟩] concatenates_S8x4096x8x64_S8x4096x8x64_S8x4096x8x128_d3

/-- The queries' heads. -/
def queries : FVec Ideal S8x4096x8x128 .f32 :=
  shapeCast S8x4096x8x128 (extractStridedSlice S8x4096x1024 ![0, 0, 0] Y slices_S8x4096x6144_S8x4096x1024_0_0_0) shapeCasts_S8x4096x1024_S8x4096x8x128
/-- The keys' heads. -/
def keys : FVec Ideal S8x4096x8x128 .f32 :=
  shapeCast S8x4096x8x128 (extractStridedSlice S8x4096x1024 ![0, 0, 1024] Y slices_S8x4096x6144_S8x4096x1024_0_0_1024) shapeCasts_S8x4096x1024_S8x4096x8x128

/-- The gate, the values and the queries side by side. -/
def beside : FVec Ideal S8x4096x5120 .f32 :=
  concatenate S8x4096x5120 2 [⟨S8x4096x2048, extractStridedSlice S8x4096x2048 ![0, 0, 4096] Y slices_S8x4096x6144_S8x4096x2048_0_0_4096⟩,
    ⟨S8x4096x2048, extractStridedSlice S8x4096x2048 ![0, 0, 2048] Y slices_S8x4096x6144_S8x4096x2048_0_0_2048⟩,
    ⟨S8x4096x1024, shapeCast S8x4096x1024 z shapeCasts_S8x4096x8x128_S8x4096x1024⟩] concatenates_S8x4096x2048_S8x4096x2048_S8x4096x1024_S8x4096x5120_d2

/-- The rows, stored. -/
def stored (R : FVec Ideal S8x4096x5120 .f32) : FVec Ideal S32768x5120 .bf16 := truncf (F := Ideal) .bf16 (shapeCast S32768x5120 R shapeCasts_S8x4096x5120_S32768x5120) bitsLt_bf16_f32

/-- The keys, scaled. -/
def scaled : FVec Ideal S8x4096x8x128 .f32 := mulf z (broadcastInDim S8x4096x8x128 ![] bcast_S_S8x4096x8x128 (constant (F := Ideal) S_ .f32 0x3DB504F3#32))

/-- The scaled keys in chunks of 256 rows, a key to a column. -/
def chunked : FVec Ideal S128x1024x256 .bf16 :=
  truncf (F := Ideal) .bf16 (transpose S128x1024x256 [0, 2, 1] (shapeCast S128x256x1024 z shapeCasts_S8x4096x8x128_S128x256x1024) transposes_S128x256x1024_S128x1024x256_0_2_1) bitsLt_bf16_f32

variable (b : Fin 8) (q : Fin 4096) (h : Fin 8) (v : Fin 128)

theorem through_at (j : Fin 6144) : through X W (ix3 b q j) = (∑ k : Fin 1024, X (ix3 b q k) * W (ix2 k j) : EReal) := by
  pointwise [through]

theorem wide_at (i : Fin 64) : wide T (ix4 b q h i) = T (ix3 b q i) := by
  pointwise [wide]

theorem fore_at (i : Fin 64) : fore z (ix4 b q h i) = z (ix4 b q h ⟨i.val, by omega⟩) := by
  pointwise [fore]

theorem aft_at (i : Fin 64) : aft z (ix4 b q h i) = z (ix4 b q h ⟨64 + i.val, by omega⟩) := by
  pointwise [aft]

theorem roped_at : roped A z (ix4 b q h v) = turn (fun u => z (ix4 b q h u)) (fun i => Host.cos A (ix3 b q i)) (fun i => Host.sin A (ix3 b q i)) v := by
  unfold turn
  by_cases hv : v.val < 64
  · rw [if_pos hv]
    have e : angleOf v = ⟨v.val, hv⟩ := Fin.ext (by show v.val % 64 = v.val; omega)
    have e' : across v = ⟨64 + v.val, by omega⟩ := Fin.ext (by show (v.val + 64) % 128 = 64 + v.val; omega)
    rw [e, e']
    pointwise [roped]
    refine (dif_pos hv).trans ?_
    rw [fore_at, aft_at, wide_at, wide_at]
    rfl
  · rw [if_neg hv]
    have e : angleOf v = ⟨v.val - 64, by omega⟩ := Fin.ext (by show v.val % 64 = v.val - 64; omega)
    have e' : across v = ⟨v.val - 64, by omega⟩ := Fin.ext (by show (v.val + 64) % 128 = v.val - 64; omega)
    have e'' : v = ⟨64 + (v.val - 64), by omega⟩ := Fin.ext (by show v.val = 64 + (v.val - 64); omega)
    rw [e, e']
    pointwise [roped]
    refine (dif_neg hv).trans ?_
    rw [fore_at, aft_at, wide_at, wide_at, ← e'']
    rfl

theorem queries_at : queries Y (ix4 b q h v) = Y (ix3 b q ⟨h.val * 128 + v.val, by omega⟩) := by
  pointwise [queries]

theorem keys_at : keys Y (ix4 b q h v) = Y (ix3 b q ⟨1024 + (h.val * 128 + v.val), by omega⟩) := by
  pointwise [keys]

theorem stored_at (R : FVec Ideal S8x4096x5120 .f32) (j : Fin 5120) : stored R (ix2 ⟨4096 * b.val + q.val, by omega⟩ j) = (R (ix3 b q j) : EReal) := by
  pointwise [stored]

theorem scaled_at : scaled z (ix4 b q h v) = (z (ix4 b q h v) * Ideal.ofBits .f32 0x3DB504F3#32 : EReal) := by
  pointwise [scaled]

theorem chunked_at (n : Fin 128) (s : Fin 256) (hb : b.val = n.val / 16) (hq : q.val = n.val % 16 * 256 + s.val) :
    chunked z (ix3 n ⟨128 * h.val + v.val, by omega⟩ s) = (z (ix4 b q h v) : EReal) := by
  pointwise [chunked]
  rw [show b = ⟨n.val / 16, by omega⟩ from Fin.ext hb, show q = ⟨n.val % 16 * 256 + s.val, by omega⟩ from Fin.ext hq]

theorem beside_at (X : FVec Ideal S8x4096x1024 .f32) (j : Fin 5120) : beside (through X W) (roped A (queries (through X W))) (ix3 b q j)
    = projected (fun k => X (ix3 b q k)) (fun k j => W (ix2 k j)) (fun i => Host.cos A (ix3 b q i)) (fun i => Host.sin A (ix3 b q i)) j := by
  unfold projected
  by_cases h1 : j.val < 2048
  · rw [if_pos h1]
    pointwise [beside]
    refine (dif_pos h1).trans ?_
    refine (through_at ..).trans ?_
    refine Finset.sum_congr rfl fun k _ => ?_
    refine congrArg (fun u => X (ix3 b q k) * W (ix2 k u)) (Fin.ext ?_)
    show 4096 + j.val = 4096 + j.val % 2048
    omega
  · rw [if_neg h1]
    by_cases h2 : j.val < 4096
    · rw [if_pos h2]
      pointwise [beside]
      refine (dif_neg h1).trans ((dif_pos (by omega)).trans ?_)
      refine (through_at ..).trans ?_
      refine Finset.sum_congr rfl fun k _ => ?_
      refine congrArg (fun u => X (ix3 b q k) * W (ix2 k u)) (Fin.ext ?_)
      show 2048 + (j.val - 2048) = j.val
      omega
    · rw [if_neg h2]
      pointwise [beside]
      refine (dif_neg h1).trans ((dif_neg (by omega)).trans ?_)
      refine (roped_at ..).trans ?_
      refine congrArg₂ (fun z v => turn z _ _ v) (funext fun u => ?_) (Fin.ext ?_)
      · rw [queries_at, through_at]
        refine Finset.sum_congr rfl fun k _ => ?_
        refine congrArg (fun u => X (ix3 b q k) * W (ix2 k u)) (Fin.ext ?_)
        show (j.val - 2048 - 2048) / 128 * 128 + u.val = (j.val - 4096) / 128 * 128 + u.val
        omega
      · show (j.val - 2048 - 2048) % 128 = (j.val - 4096) % 128
        omega

theorem apart_at (X : FVec Ideal S8x4096x1024 .f32) (n : Fin 128) (r : Fin 1024) (s : Fin 256) (hb : b.val = n.val / 16) (hq : q.val = n.val % 16 * 256 + s.val) :
    chunked (scaled (roped A (keys (through X W)))) (ix3 n r s)
      = keyed (fun k => X (ix3 b q k)) (fun k j => W (ix2 k j)) (fun i => Host.cos A (ix3 b q i)) (fun i => Host.sin A (ix3 b q i)) r := by
  rw [show r = ⟨128 * (⟨r.val / 128, by omega⟩ : Fin 8).val + (⟨r.val % 128, by omega⟩ : Fin 128).val, by omega⟩ from Fin.ext (by show r.val = 128 * (r.val / 128) + r.val % 128; omega)]
  refine (chunked_at _ b q _ _ n s hb hq).trans ((scaled_at ..).trans ?_)
  unfold keyed
  rw [roped_at]
  refine congrArg₂ (fun z v => turn z _ _ v * Ideal.ofBits .f32 0x3DB504F3#32) (funext fun u => ?_) (Fin.ext ?_)
  · rw [keys_at, through_at]
    refine Finset.sum_congr rfl fun k _ => ?_
    refine congrArg (fun u => X (ix3 b q k) * W (ix2 k u)) (Fin.ext ?_)
    show 1024 + (r.val / 128 * 128 + u.val) = 1024 + (128 * (r.val / 128) + r.val % 128) / 128 * 128 + u.val
    omega
  · show r.val % 128 = (128 * (r.val / 128) + r.val % 128) % 128
    omega

end Cert.RefTurn

namespace Cert.RetProjIdeal.Value

open Cert.RetProjIdeal Cert.RetProjIdeal.Gen
open Idealize.ShloMosaic
open Idealize.ShloMosaic.TcCoe

/-- The reference's projections, from its arrays. -/
def projections (x : FVec Ideal S8x4096x1024 .f32) (G : FVec Ideal S4x3x1024 .f32) (W : FVec Ideal S2x1024x6144 .f32) : FVec Ideal Cert.RetProjRefIdeal.S8x4096x6144 .f32 :=
  Cert.RefTurn.through (Cert.RefHalf.normed x (gain G)) (weights W)

/-- The reference's rows, from its arrays. -/
def rowsOf (x : FVec Ideal S8x4096x1024 .f32) (P : Vec Ideal S8x4096 .i32) (G : FVec Ideal S4x3x1024 .f32) (W : FVec Ideal S2x1024x6144 .f32) : FVec Ideal S32768x5120 .bf16 :=
  Cert.RefTurn.stored (Cert.RefTurn.beside (projections x G W) (Cert.RefTurn.roped (angles P) (Cert.RefTurn.queries (projections x G W))))

/-- The reference's keys, from its arrays. -/
def keysOf (x : FVec Ideal S8x4096x1024 .f32) (P : Vec Ideal S8x4096 .i32) (G : FVec Ideal S4x3x1024 .f32) (W : FVec Ideal S2x1024x6144 .f32) : FVec Ideal S128x1024x256 .bf16 :=
  Cert.RefTurn.chunked (Cert.RefTurn.scaled (Cert.RefTurn.roped (angles P) (Cert.RefTurn.keys (projections x G W))))

theorem rows_result (m : (ℓ : Loc Cert.RetProjRefIdeal.nD Cert.RetProjRefIdeal.τ Cert.RetProjRefIdeal.sig) → Buf (Elt Ideal) ℓ) (c : Dev Cert.RetProjRefIdeal.nD) :
    Cert.RetProjRefIdeal.Value.res_main_v97 m c = rowsOf (m ((c.tc : Thread Cert.RetProjRefIdeal.nD Cert.RetProjRefIdeal.τ).loc Cert.RetProjRefIdeal.main_arg0))
      (m ((c.tc : Thread Cert.RetProjRefIdeal.nD Cert.RetProjRefIdeal.τ).loc Cert.RetProjRefIdeal.main_arg1)) (m ((c.tc : Thread Cert.RetProjRefIdeal.nD Cert.RetProjRefIdeal.τ).loc Cert.RetProjRefIdeal.main_arg2))
      (m ((c.tc : Thread Cert.RetProjRefIdeal.nD Cert.RetProjRefIdeal.τ).loc Cert.RetProjRefIdeal.main_arg3)) := rfl

theorem keys_result (m : (ℓ : Loc Cert.RetProjRefIdeal.nD Cert.RetProjRefIdeal.τ Cert.RetProjRefIdeal.sig) → Buf (Elt Ideal) ℓ) (c : Dev Cert.RetProjRefIdeal.nD) :
    Cert.RetProjRefIdeal.Value.res_main_v98 m c = keysOf (m ((c.tc : Thread Cert.RetProjRefIdeal.nD Cert.RetProjRefIdeal.τ).loc Cert.RetProjRefIdeal.main_arg0))
      (m ((c.tc : Thread Cert.RetProjRefIdeal.nD Cert.RetProjRefIdeal.τ).loc Cert.RetProjRefIdeal.main_arg1)) (m ((c.tc : Thread Cert.RetProjRefIdeal.nD Cert.RetProjRefIdeal.τ).loc Cert.RetProjRefIdeal.main_arg2))
      (m ((c.tc : Thread Cert.RetProjRefIdeal.nD Cert.RetProjRefIdeal.τ).loc Cert.RetProjRefIdeal.main_arg3)) := rfl

theorem rows_eq (m : (ℓ : Loc nD τ sig) → Buf (Elt Ideal) ℓ) (c : Dev nD) :
    rows m c = rowsOf (m ((c : Thread nD τ).loc main_arg0)) (m ((c : Thread nD τ).loc main_arg1)) (m ((c : Thread nD τ).loc main_arg2)) (m ((c : Thread nD τ).loc main_arg3)) := by
  funext i
  have h0 : (i 0).val < 32768 := (i 0).isLt
  have e : i = ix2 ⟨4096 * ((i 0).val / 4096) + (i 0).val % 4096, by omega⟩ (i 1) := by
    refine (eq_ix2 i).trans ?_
    congr 1
    exact Fin.ext (by show (i 0).val = 4096 * ((i 0).val / 4096) + (i 0).val % 4096; omega)
  refine .trans ?_ (congrArg _ e.symm)
  refine .trans ?_ (Cert.RefTurn.stored_at ⟨(i 0).val / 4096, by omega⟩ ⟨(i 0).val % 4096, by omega⟩ _ (i 1)).symm
  refine .trans ?_ (Cert.RefTurn.beside_at _ _ _ _ _ _).symm
  have e' : rowOf (m ((c : Thread nD τ).loc main_arg0)) (gain (m ((c : Thread nD τ).loc main_arg2))) ⟨(i 0).val / 4096, by omega⟩ ⟨(i 0).val % 4096, by omega⟩ = fun k => Cert.RefHalf.normed (m ((c : Thread nD τ).loc main_arg0)) (gain (m ((c : Thread nD τ).loc main_arg2))) (ix3 ⟨(i 0).val / 4096, by omega⟩ ⟨(i 0).val % 4096, by omega⟩ k) :=
    funext fun k => (Cert.RefHalf.normed_at (m ((c : Thread nD τ).loc main_arg0)) (gain (m ((c : Thread nD τ).loc main_arg2))) ⟨(i 0).val / 4096, by omega⟩ ⟨(i 0).val % 4096, by omega⟩ k).symm
  unfold rows rowsAt
  dsimp only
  rw [e']
  rfl

theorem chunks_eq (m : (ℓ : Loc nD τ sig) → Buf (Elt Ideal) ℓ) (c : Dev nD) :
    chunks m c = keysOf (m ((c : Thread nD τ).loc main_arg0)) (m ((c : Thread nD τ).loc main_arg1)) (m ((c : Thread nD τ).loc main_arg2)) (m ((c : Thread nD τ).loc main_arg3)) := by
  funext i
  have h0 : (i 0).val < 128 := (i 0).isLt
  have h2 : (i 2).val < 256 := (i 2).isLt
  refine .trans ?_ (congrArg _ (eq_ix3 i).symm)
  refine .trans ?_ (Cert.RefTurn.apart_at _ _ ⟨(i 0).val / 16, by omega⟩ ⟨(i 0).val % 16 * 256 + (i 2).val, by omega⟩ _ (i 0) (i 1) (i 2) rfl rfl).symm
  have e : rowOf (m ((c : Thread nD τ).loc main_arg0)) (gain (m ((c : Thread nD τ).loc main_arg2))) ⟨(i 0).val / 16, by omega⟩ ⟨(i 0).val % 16 * 256 + (i 2).val, by omega⟩ = fun k => Cert.RefHalf.normed (m ((c : Thread nD τ).loc main_arg0)) (gain (m ((c : Thread nD τ).loc main_arg2))) (ix3 ⟨(i 0).val / 16, by omega⟩ ⟨(i 0).val % 16 * 256 + (i 2).val, by omega⟩ k) :=
    funext fun k => (Cert.RefHalf.normed_at (m ((c : Thread nD τ).loc main_arg0)) (gain (m ((c : Thread nD τ).loc main_arg2))) ⟨(i 0).val / 16, by omega⟩ ⟨(i 0).val % 16 * 256 + (i 2).val, by omega⟩ k).symm
  unfold chunks keysAt
  dsimp only
  rw [e]
  rfl

theorem algebraic : Cert.algebraic_RetProjIdeal_RetProjRefIdeal := fun m g m' g' _ hagree => by
  refine ⟨fun c => rows m c, fun c => chunks m c, ?_, ?_⟩
  · exact (θ_run defs _ _).mono (fun r h c => ⟨(h c).1.trans (rows_array m c), (h c).2.1.trans (chunks_array m c), (h c).2.2⟩) (run_blocks m g)
  · refine (θ_run Cert.RetProjRefIdeal.defs _ _).mono (fun r h c => ?_) (Cert.RetProjRefIdeal.Value.run m' g')
    obtain ⟨a0, a1, a2, a3⟩ := hagree c
    refine ⟨(h c).1.trans ?_, (h c).2.1.trans ?_, (h c).2.2⟩
    · rw [rows_result, a0, a1, a2, a3]
      exact (rows_eq m c).symm
    · rw [keys_result, a0, a1, a2, a3]
      exact (chunks_eq m c).symm

end Cert.RetProjIdeal.Value

end
-- ==== Proof.QueryRow.lean ====
/- One row of the attention's queries, as sums and products of extended reals. -/
module

public import proofs.«01_k».proof.Proof.Half

@[expose] public section

noncomputable section

namespace Cert.QueryRow

open Idealize.ShloMosaic

/-- A row over the root of its sum of squares over `d`, times its gains. -/
def rmsBy {n : ℕ} (d : EReal) (x g : Fin n → EReal) (j : Fin n) : EReal :=
  x j * Ideal.rsqrt (Ideal.div (∑ k, x k * x k) d + Ideal.ofBits .f32 0x358637BD#32) * g j

/-- The queries' scale. -/
def scale : EReal := Ideal.ofBits .f32 0x3DD53B95#32

/-- The place of a coordinate among the 32 angles. -/
def angleOf {n : ℕ} (v : Fin n) : Fin 32 := ⟨v.val % 32, by omega⟩

/-- The other coordinate of the same angle. -/
def across (v : Fin 64) : Fin 64 := ⟨(v.val + 32) % 64, by omega⟩

/-- 64 coordinates turned by their angles, coordinates 32 apart forming the pairs. -/
def turn (z : Fin 64 → EReal) (co si : Fin 32 → EReal) (v : Fin 64) : EReal :=
  if v.val < 32 then z v * co (angleOf v) - z (across v) * si (angleOf v) else z v * co (angleOf v) + z (across v) * si (angleOf v)

/-- The negated sines, on the first coordinates. -/
def foreSines (si : Fin 32 → EReal) (v : Fin 128) : EReal := if v.val % 64 < 32 then -si (angleOf v) else 0
/-- The sines, on the second coordinates. -/
def aftSines (si : Fin 32 → EReal) (v : Fin 128) : EReal := if v.val % 64 < 32 then 0 else si (angleOf v)

/-- A head's coordinates that are not turned, from the row of all heads' projections. -/
def plain (Q : Fin 1536 → EReal) (g : Fin 128 → EReal) (h : Fin 8) (u : Fin 128) : EReal :=
  rmsBy (Ideal.ofBits .f32 0x43000000#32) (fun u => Q ⟨128 * h.val + u.val, by omega⟩) g u * scale

/-- A head's turned coordinates, from the row of all heads' projections. -/
def turned (Q : Fin 1536 → EReal) (g : Fin 64 → EReal) (co si : Fin 32 → EReal) (h : Fin 8) (v : Fin 64) : EReal :=
  turn (rmsBy (Ideal.ofBits .f32 0x42800000#32) (fun u => Q ⟨1024 + 64 * h.val + u.val, by omega⟩) g) co si v * scale

/-- The row of queries as it is stored: 256 columns to a head, 64 of them zero. -/
def stored (Q : Fin 1536 → EReal) (gn : Fin 128 → EReal) (gr : Fin 64 → EReal) (co si : Fin 32 → EReal) (j : Fin 2048) : EReal :=
  if e : j.val % 256 < 128 then plain Q gn ⟨j.val / 256, by omega⟩ ⟨j.val % 256, e⟩
  else if e : (j.val % 256 < 192 ↔ j.val / 256 % 2 = 0) then turned Q gr co si ⟨j.val / 256, by omega⟩ ⟨(j.val % 256 - 128) % 64, by omega⟩
  else 0

/-- The normed projection of a row onto 384 coordinates. -/
def latent (x g : Fin 1024 → EReal) (w : Fin 1024 → Fin 384 → EReal) (gl : Fin 384 → EReal) : Fin 384 → EReal :=
  rmsBy (Ideal.ofBits .f32 0x43C00000#32) (fun j => ∑ k, Half.rms x g k * w k j) gl

theorem scale_real : ∃ c : ℝ, 0 ≤ c ∧ scale = (c : EReal) := by
  refine ⟨(13974421 : ℝ) * (1 / 2 ^ 27 : ℝ), by positivity, ?_⟩
  rw [EReal.coe_mul]
  simp [scale, Ideal.ofBits, Ideal.ieee]

theorem scale_add (a b : EReal) : (a + b) * scale = a * scale + b * scale := by
  obtain ⟨c, h, e⟩ := scale_real
  rw [e]
  exact EReal.right_distrib_of_nonneg_of_ne_top (EReal.coe_nonneg.mpr h) (EReal.coe_ne_top c) a b

/-- Turning scaled coordinates scales the turned ones. -/
theorem turn_scale (z : Fin 64 → EReal) (co si : Fin 32 → EReal) (v : Fin 64) : turn (fun u => z u * scale) co si v = turn z co si v * scale := by
  unfold turn
  split_ifs
  · rw [sub_eq_add_neg, sub_eq_add_neg, scale_add, neg_mul, mul_right_comm, mul_right_comm (z (across v))]
  · rw [scale_add, mul_right_comm, mul_right_comm (z (across v))]

/-- Gains that carry the scale. -/
theorem rms_scale {n : ℕ} (d : EReal) (x g : Fin n → EReal) (j : Fin n) : rmsBy d x (fun k => g k * scale) j = rmsBy d x g j * scale := by
  unfold rmsBy
  rw [mul_assoc _ (g j)]

/-- The sum over the columns of the same group, with a factor. -/
theorem group_sum (f : Fin 256 → EReal) (d : ℕ) (t : ℕ) (h : t * d + d ≤ 256) (c : ℝ) (hc : 0 ≤ c) (hd : 0 < d) :
    (∑ k : Fin 256, f k * (if k.val / d = t then (c : EReal) else 0)) = (∑ u : Fin d, f ⟨t * d + u.val, by omega⟩) * (c : EReal) := by
  have e : (∑ u : Fin d, f ⟨t * d + u.val, by omega⟩) * (c : EReal) = ∑ u : Fin d, f ⟨t * d + u.val, by omega⟩ * (c : EReal) := by
    induction (Finset.univ : Finset (Fin d)) using Finset.induction_on with
    | empty => rw [Finset.sum_empty, Finset.sum_empty, zero_mul]
    | insert a s ha ih =>
      rw [Finset.sum_insert ha, Finset.sum_insert ha, EReal.right_distrib_of_nonneg_of_ne_top (EReal.coe_nonneg.mpr hc) (EReal.coe_ne_top c), ih]
  rw [e]
  simp only [mul_ite, mul_zero]
  rw [← Finset.sum_filter]
  refine (Finset.sum_bij (fun (u : Fin d) _ => (⟨t * d + u.val, by omega⟩ : Fin 256)) ?_ ?_ ?_ ?_).symm
  · intro u _
    rw [Finset.mem_filter]
    refine ⟨Finset.mem_univ _, ?_⟩
    show (t * d + u.val) / d = t
    rw [mul_comm, Nat.mul_add_div hd, Nat.div_eq_of_lt u.isLt, add_zero]
  · intro a _ b _ e
    have := congrArg Fin.val e
    exact Fin.ext (by dsimp only at this; omega)
  · intro k hk
    have hk := (Finset.mem_filter.mp hk).2
    have := Nat.div_add_mod k.val d
    rw [hk, mul_comm] at this
    exact ⟨⟨k.val % d, Nat.mod_lt _ hd⟩, Finset.mem_univ _, Fin.ext this⟩
  · intro u _
    rfl

theorem lit128 : Ideal.ofBits .f32 0x43000000#32 = ((128 : ℝ) : EReal) :=
  (show Ideal.ofBits .f32 0x43000000#32 = ((8388608 * (2 ^ 16)⁻¹ : ℝ) : EReal) by simp [Ideal.ofBits, Ideal.ieee]).trans (congrArg _ (by norm_num))
theorem lit64 : Ideal.ofBits .f32 0x42800000#32 = ((64 : ℝ) : EReal) :=
  (show Ideal.ofBits .f32 0x42800000#32 = ((8388608 * (2 ^ 17)⁻¹ : ℝ) : EReal) by simp [Ideal.ofBits, Ideal.ieee]).trans (congrArg _ (by norm_num))
theorem lit384 : Ideal.ofBits .f32 0x43C00000#32 = ((384 : ℝ) : EReal) :=
  (show Ideal.ofBits .f32 0x43C00000#32 = ((12582912 * (2 ^ 15)⁻¹ : ℝ) : EReal) by simp [Ideal.ofBits, Ideal.ieee]).trans (congrArg _ (by norm_num))
theorem part128 : Ideal.ofBits .f32 0x3C000000#32 = ((1 / 128 : ℝ) : EReal) :=
  (show Ideal.ofBits .f32 0x3C000000#32 = ((8388608 * (2 ^ 30)⁻¹ : ℝ) : EReal) by simp [Ideal.ofBits, Ideal.ieee]).trans (congrArg _ (by norm_num))
theorem part64 : Ideal.ofBits .f32 0x3C800000#32 = ((1 / 64 : ℝ) : EReal) :=
  (show Ideal.ofBits .f32 0x3C800000#32 = ((8388608 * (2 ^ 29)⁻¹ : ℝ) : EReal) by simp [Ideal.ofBits, Ideal.ieee]).trans (congrArg _ (by norm_num))

/-- Times the exact `1/384` is over `384`. -/
theorem mean384 (s : EReal) : s * (((384 : ℝ)⁻¹ : ℝ) : EReal) = Ideal.div s (Ideal.ofBits .f32 0x43C00000#32) := by
  rw [lit384, Ideal.div_coe (by norm_num), one_div]

/-- The three products of the kernel's rotation, on one row of 128 columns: two heads' coordinates, turned. -/
theorem turn_eq (x : Fin 128 → EReal) (co si : Fin 32 → EReal) (v : Fin 128) :
    x v * co (angleOf v) + x ⟨(v.val + 32) % 128, by omega⟩ * foreSines si v + x ⟨(v.val + 96) % 128, by omega⟩ * aftSines si v
      = turn (fun u => x ⟨v.val / 64 * 64 + u.val, by omega⟩) co si ⟨v.val % 64, by omega⟩ := by
  unfold turn foreSines aftSines
  have a : angleOf (⟨v.val % 64, by omega⟩ : Fin 64) = angleOf v := Fin.ext (by show v.val % 64 % 32 = v.val % 32; omega)
  have b : (⟨v.val / 64 * 64 + v.val % 64, by omega⟩ : Fin 128) = v := Fin.ext (by show v.val / 64 * 64 + v.val % 64 = v.val; omega)
  dsimp only
  rw [a, b]
  by_cases h : v.val % 64 < 32
  · rw [if_pos h, if_pos h, if_pos h, mul_zero, add_zero, mul_neg, ← sub_eq_add_neg]
    rw [show (⟨v.val / 64 * 64 + (across ⟨v.val % 64, by omega⟩).val, by omega⟩ : Fin 128) = ⟨(v.val + 32) % 128, by omega⟩ from
      Fin.ext (by show v.val / 64 * 64 + (v.val % 64 + 32) % 64 = (v.val + 32) % 128; omega)]
  · rw [if_neg h, if_neg h, if_neg h, mul_zero, add_zero]
    rw [show (⟨v.val / 64 * 64 + (across ⟨v.val % 64, by omega⟩).val, by omega⟩ : Fin 128) = ⟨(v.val + 96) % 128, by omega⟩ from
      Fin.ext (by show v.val / 64 * 64 + (v.val % 64 + 32) % 64 = (v.val + 96) % 128; omega)]

end Cert.QueryRow

end
-- ==== Proof.QueryPieces.lean ====
/- The queries' call on one tile of 1024 rows: the kernel's vectors, read at an element. -/
module

public import proofs.«01_k».proof.Proof.Gen.MlaQIdeal.Frame
public import proofs.«01_k».proof.Proof.QueryRow
public import Idealize.ShloMosaic.Lib.Pointwise
public import Idealize.ShloMosaic.Lib.Pipeline.ValueKit

@[expose] public section

set_option maxRecDepth 16384

noncomputable section

namespace Cert.MlaQIdeal.Value

open Cert.MlaQIdeal Cert.MlaQIdeal.Gen
open Idealize.ShloMosaic
open Cert.QueryRow

variable (q : FVec Ideal S1024x1536 .f32) (z : FVec Ideal S1024x256 .f32) (M : FVec Ideal S256x256 .bf16) (g : FVec Ideal S1x256 .f32)
  (co fo af : FVec Ideal S1024x128 .f32) (r : FVec Ideal S1024x128 .bf16)

/-- 256 columns over the roots of their groups' mean squares, times the gains. -/
def grouped : FVec Ideal S1024x256 .f32 :=
  mulf (mulf z (rsqrt (addf (matmul (F := Ideal) dot_S1024x256_S256x256_S1024x256_1_0_0_1_n_n none (truncf (F := Ideal) .bf16 (mulf z z) bitsLt_bf16_f32) M (constant S1024x256 .f32 0x00000000#32))
    (broadcast S1024x256 (Scalar.ofBits (F := Ideal) .f32 0x358637BD#32))))) (broadcastTo S1024x256 g broadcasts_S1x256_S1024x256)

/-- 128 columns of a head's coordinates that are not turned. -/
def plainPart (o : ℕ) (s : S1024x1536.Slices ![0, o] S1024x256) (a : ℕ) (s' : S1024x256.Slices ![0, a] S1024x128) : FVec Ideal S1024x128 .bf16 :=
  extractStridedSlice S1024x128 ![0, a] (truncf (F := Ideal) .bf16 (grouped (extractStridedSlice S1024x256 ![0, o] q s) M g) bitsLt_bf16_f32) s'

/-- 128 columns, two heads' coordinates, turned. -/
def turnedPart (a : ℕ) (s' : S1024x256.Slices ![0, a] S1024x128) : FVec Ideal S1024x128 .bf16 :=
  truncf (F := Ideal) .bf16 (addf (addf (mulf (extractStridedSlice S1024x128 ![0, a] z s') co)
      (mulf (dynamicRotate 1 96#32 none (extractStridedSlice S1024x128 ![0, a] z s') rotates_S1024x128_d1) fo))
    (mulf (dynamicRotate 1 32#32 none (extractStridedSlice S1024x128 ![0, a] z s') rotates_S1024x128_d1) af)) bitsLt_bf16_f32

/-- The first 64 columns, zeros after. -/
def first : FVec Ideal S1024x128 .bf16 :=
  select (cmpi .slt (iota .tc S1024x128 32 [1] iota_S1024x128_d1_w32) (broadcast S1024x128 64#32)) r (broadcast S1024x128 (Scalar.ofBits (F := Ideal) .bf16 0x0000#16))
/-- The last 64 columns, zeros before. -/
def last : FVec Ideal S1024x128 .bf16 :=
  select (cmpi .sge (iota .tc S1024x128 32 [1] iota_S1024x128_d1_w32) (broadcast S1024x128 64#32)) r (broadcast S1024x128 (Scalar.ofBits (F := Ideal) .bf16 0x0000#16))

/-- The means within groups of 128 columns, as a matrix. -/
def means128 : FVec Ideal S256x256 .bf16 := k0_pay3 (F := Ideal) (iota .tc S256x256 32 [0] iota_S256x256_d0_w32) k0_pay2
/-- The means within groups of 64 columns, as a matrix. -/
def means64 : FVec Ideal S256x256 .bf16 := k0_pay4 (F := Ideal)

theorem grouped_at (p : Fin 1024) (j : Fin 256) : grouped z M g (ix2 p j)
    = (z (ix2 p j) * Ideal.rsqrt ((∑ k : Fin 256, z (ix2 p k) * z (ix2 p k) * M (ix2 k j)) + Ideal.ofBits .f32 0x358637BD#32) * g (ix2 0 j) : EReal) := by
  pointwise [grouped]

theorem shift7 : ∀ k : Fin 256, IntOp.shrsi .vector (BitVec.ofNat 32 k.val) 7#32 = BitVec.ofNat 32 (k.val / 128) := by decide +kernel
theorem shift6 : ∀ k : Fin 256, IntOp.shrsi .vector (BitVec.ofNat 32 k.val) 6#32 = BitVec.ofNat 32 (k.val / 64) := by decide +kernel
theorem same_select : ∀ a b : Fin 4, IntOp.cmpi CmpIPredicate.eq (BitVec.ofNat 32 a.val) (BitVec.ofNat 32 b.val) = if a = b then 1#1 else 0#1 := by decide +kernel

theorem select_same (a b : ℕ) (ha : a < 4) (hb : b < 4) (x y : EReal) :
    Scalar.select (IntOp.cmpi CmpIPredicate.eq (BitVec.ofNat 32 a) (BitVec.ofNat 32 b)) x y = if a = b then x else y := by
  rw [same_select ⟨a, ha⟩ ⟨b, hb⟩]
  by_cases h : a = b
  · rw [if_pos h, if_pos (Fin.ext h)]; rfl
  · rw [if_neg h, if_neg (fun e => h (congrArg Fin.val e))]; rfl

theorem means128_at (k j : Fin 256) : means128 (ix2 k j) = if k.val / 128 = j.val / 128 then ((1 / 128 : ℝ) : EReal) else 0 := by
  pointwise [means128, k0_pay3, k0_pay2]
  rw [shift7, shift7, select_same _ _ (by omega) (by omega), part128]

theorem means64_at (k j : Fin 256) : means64 (ix2 k j) = if k.val / 64 = j.val / 64 then ((1 / 64 : ℝ) : EReal) else 0 := by
  pointwise [means64, k0_pay4]
  rw [shift6, shift6, select_same _ _ (by omega) (by omega), part64]

theorem first_at (p : Fin 1024) (v : Fin 128) : first r (ix2 p v) = if v.val < 64 then r (ix2 p v) else 0 := by
  have e : ∀ (v : Fin 128) (x y : EReal), Scalar.select (IntOp.cmpi CmpIPredicate.slt (BitVec.ofNat 32 v.val) 64#32) x y = if v.val < 64 then x else y := by
    intro v x y
    have d : ∀ v : Fin 128, IntOp.cmpi CmpIPredicate.slt (BitVec.ofNat 32 v.val) 64#32 = if v.val < 64 then 1#1 else 0#1 := by decide +kernel
    rw [d]
    split_ifs <;> rfl
  pointwise [first]
  exact e v _ _

theorem last_at (p : Fin 1024) (v : Fin 128) : last r (ix2 p v) = if v.val < 64 then 0 else r (ix2 p v) := by
  have e : ∀ (v : Fin 128) (x y : EReal), Scalar.select (IntOp.cmpi CmpIPredicate.sge (BitVec.ofNat 32 v.val) 64#32) x y = if v.val < 64 then y else x := by
    intro v x y
    have d : ∀ v : Fin 128, IntOp.cmpi CmpIPredicate.sge (BitVec.ofNat 32 v.val) 64#32 = if v.val < 64 then 0#1 else 1#1 := by decide +kernel
    rw [d]
    split_ifs <;> rfl
  pointwise [last]
  exact e v _ _

/-- The mean within a group, over its length. -/
theorem grouped128 (p : Fin 1024) (j : Fin 256) : grouped z means128 g (ix2 p j)
    = rmsBy (Ideal.ofBits .f32 0x43000000#32) (fun u : Fin 128 => z (ix2 p ⟨j.val / 128 * 128 + u.val, by omega⟩)) (fun u => g (ix2 0 ⟨j.val / 128 * 128 + u.val, by omega⟩)) ⟨j.val % 128, by omega⟩ := by
  rw [grouped_at]
  simp only [means128_at]
  rw [group_sum (fun k => z (ix2 p k) * z (ix2 p k)) 128 (j.val / 128) (by omega) _ (by norm_num) (by norm_num)]
  unfold rmsBy
  rw [lit128, Ideal.div_coe (by norm_num)]
  have e : (⟨j.val / 128 * 128 + j.val % 128, by omega⟩ : Fin 256) = j := Fin.ext (by show j.val / 128 * 128 + j.val % 128 = j.val; omega)
  dsimp only
  rw [e]

theorem grouped64 (p : Fin 1024) (j : Fin 256) : grouped z means64 g (ix2 p j)
    = rmsBy (Ideal.ofBits .f32 0x42800000#32) (fun u : Fin 64 => z (ix2 p ⟨j.val / 64 * 64 + u.val, by omega⟩)) (fun u => g (ix2 0 ⟨j.val / 64 * 64 + u.val, by omega⟩)) ⟨j.val % 64, by omega⟩ := by
  rw [grouped_at]
  simp only [means64_at]
  rw [group_sum (fun k => z (ix2 p k) * z (ix2 p k)) 64 (j.val / 64) (by omega) _ (by norm_num) (by norm_num)]
  unfold rmsBy
  rw [lit64, Ideal.div_coe (by norm_num)]
  have e : (⟨j.val / 64 * 64 + j.val % 64, by omega⟩ : Fin 256) = j := Fin.ext (by show j.val / 64 * 64 + j.val % 64 = j.val; omega)
  dsimp only
  rw [e]

/-- Two heads' gains side by side, scaled. -/
def Scaled128 (G : Fin 128 → EReal) : Prop := ∀ j : Fin 256, g (ix2 0 j) = G ⟨j.val % 128, by omega⟩ * scale
/-- Four heads' gains side by side, scaled. -/
def Scaled64 (G : Fin 64 → EReal) : Prop := ∀ j : Fin 256, g (ix2 0 j) = G ⟨j.val % 64, by omega⟩ * scale

theorem plainPart_at (G : Fin 128 → EReal) (hg : Scaled128 g G) (o : ℕ) (s) (a : ℕ) (s') (h : Fin 8) (ho : o + a = 128 * h.val) (ha : a % 128 = 0) (hl : a + 128 ≤ 256) (p : Fin 1024) (v : Fin 128) :
    plainPart q means128 g o s a s' (ix2 p v) = plain (fun c => q (ix2 p c)) G h v := by
  have e : plainPart q means128 g o s a s' (ix2 p v) = grouped (extractStridedSlice S1024x256 ![0, o] q s) means128 g (ix2 p ⟨a + v.val, by omega⟩) := by
    pointwise [plainPart]
  rw [e, grouped128]
  unfold plain
  rw [← rms_scale]
  have ev : (⟨(a + v.val) % 128, by omega⟩ : Fin 128) = v := Fin.ext (by show (a + v.val) % 128 = v.val; omega)
  dsimp only
  rw [ev]
  refine congrArg₂ (fun x g => rmsBy _ x g v) (funext fun u => ?_) (funext fun u => ?_)
  · pointwise []
    refine congrArg (fun c => q (ix2 p c)) (Fin.ext ?_)
    dsimp only
    omega
  · rw [hg]
    refine congrArg (fun c => G c * scale) (Fin.ext ?_)
    dsimp only
    omega

theorem turnedPart_at (G : Fin 64 → EReal) (hg : Scaled64 g G) (o : ℕ) (s) (a : ℕ) (s') (c i : Fin 32 → EReal) (p : Fin 1024) (v : Fin 128)
    (hc : ∀ v : Fin 128, co (ix2 p v) = c (angleOf v)) (hf : ∀ v : Fin 128, fo (ix2 p v) = foreSines i v) (hs : ∀ v : Fin 128, af (ix2 p v) = aftSines i v)
    (h : Fin 8) (ho : o + a + v.val / 64 * 64 = 1024 + 64 * h.val) (ha : a % 64 = 0) (hl : a + 128 ≤ 256) :
    turnedPart (grouped (extractStridedSlice S1024x256 ![0, o] q s) means64 g) co fo af a s' (ix2 p v) = turned (fun c => q (ix2 p c)) G c i h ⟨v.val % 64, by omega⟩ := by
  obtain ⟨y, hy⟩ : ∃ y, y = grouped (extractStridedSlice S1024x256 ![0, o] q s) means64 g := ⟨_, rfl⟩
  have e : turnedPart y co fo af a s' (ix2 p v) = turn (fun u => y (ix2 p ⟨a + (v.val / 64 * 64 + u.val), by omega⟩)) c i ⟨v.val % 64, by omega⟩ := by
    refine .trans ?_ (turn_eq (fun v => y (ix2 p ⟨a + v.val, by omega⟩)) c i v)
    rw [← hc, ← hf, ← hs]
    pointwise [turnedPart]
    simp only [show v.val + 128 - 96 = v.val + 32 by omega, show v.val + 128 - 32 = v.val + 96 by omega]
  rw [← hy, e]
  unfold turned
  rw [← turn_scale]
  refine congrArg (fun x => turn x c i _) (funext fun u => ?_)
  rw [hy, grouped64, ← rms_scale]
  have ev : (⟨(a + (v.val / 64 * 64 + u.val)) % 64, by omega⟩ : Fin 64) = u := Fin.ext (by show (a + (v.val / 64 * 64 + u.val)) % 64 = u.val; omega)
  dsimp only
  rw [ev]
  refine congrArg₂ (fun x g => rmsBy _ x g u) (funext fun w => ?_) (funext fun w => ?_)
  · pointwise []
    refine congrArg (fun c => q (ix2 p c)) (Fin.ext ?_)
    dsimp only
    omega
  · rw [hg]
    refine congrArg (fun c => G c * scale) (Fin.ext ?_)
    dsimp only
    omega

end Cert.MlaQIdeal.Value

end
-- ==== Proof.QueryTiles.lean ====
/- The pieces one step of the queries' call stores. -/
module

public import proofs.«01_k».proof.Proof.QueryPieces
public import proofs.«01_k».proof.Proof.TileWide

@[expose] public section

set_option maxRecDepth 16384

noncomputable section

namespace Cert.MlaQIdeal.Value

open Cert.MlaQIdeal Cert.MlaQIdeal.Gen
open Idealize.ShloMosaic
open Idealize.ShloMosaic.TcCoe
open Cert.QueryRow

variable (q : FVec Ideal S1024x1536 .f32) (g : FVec Ideal S1x256 .f32) (co fo af : FVec Ideal S1024x128 .f32)

/-- 256 columns of turned coordinates before they are turned, from column `o`. -/
def quad (o : ℕ) (s : S1024x1536.Slices ![0, o] S1024x256) : FVec Ideal S1024x256 .f32 := grouped (extractStridedSlice S1024x256 ![0, o] q s) means64 g

theorem pay16_eq : k0_pay16 q (k0_pay3 (F := Ideal) (iota .tc S256x256 32 [0] iota_S256x256_d0_w32) k0_pay2) g = plainPart q means128 g 0 slices_S1024x1536_o0_0_S1024x256 0 slices_S1024x256_o0_0_S1024x128 := rfl
theorem pay18_eq : k0_pay18 q (k0_pay3 (F := Ideal) (iota .tc S256x256 32 [0] iota_S256x256_d0_w32) k0_pay2) g = plainPart q means128 g 0 slices_S1024x1536_o0_0_S1024x256 128 slices_S1024x256_o0_128_S1024x128 := rfl
theorem pay22_eq : k0_pay22 q (k0_pay3 (F := Ideal) (iota .tc S256x256 32 [0] iota_S256x256_d0_w32) k0_pay2) g = plainPart q means128 g 256 slices_S1024x1536_o0_256_S1024x256 0 slices_S1024x256_o0_0_S1024x128 := rfl
theorem pay24_eq : k0_pay24 q (k0_pay3 (F := Ideal) (iota .tc S256x256 32 [0] iota_S256x256_d0_w32) k0_pay2) g = plainPart q means128 g 256 slices_S1024x1536_o0_256_S1024x256 128 slices_S1024x256_o0_128_S1024x128 := rfl
theorem pay31_eq : k0_pay31 q (k0_pay3 (F := Ideal) (iota .tc S256x256 32 [0] iota_S256x256_d0_w32) k0_pay2) g = plainPart q means128 g 512 slices_S1024x1536_o0_512_S1024x256 0 slices_S1024x256_o0_0_S1024x128 := rfl
theorem pay33_eq : k0_pay33 q (k0_pay3 (F := Ideal) (iota .tc S256x256 32 [0] iota_S256x256_d0_w32) k0_pay2) g = plainPart q means128 g 512 slices_S1024x1536_o0_512_S1024x256 128 slices_S1024x256_o0_128_S1024x128 := rfl
theorem pay39_eq : k0_pay39 q (k0_pay3 (F := Ideal) (iota .tc S256x256 32 [0] iota_S256x256_d0_w32) k0_pay2) g = plainPart q means128 g 768 slices_S1024x1536_o0_768_S1024x256 0 slices_S1024x256_o0_0_S1024x128 := rfl
theorem pay41_eq : k0_pay41 q (k0_pay3 (F := Ideal) (iota .tc S256x256 32 [0] iota_S256x256_d0_w32) k0_pay2) g = plainPart q means128 g 768 slices_S1024x1536_o0_768_S1024x256 128 slices_S1024x256_o0_128_S1024x128 := rfl
theorem pay17_eq : k0_pay17 g co fo af (k0_pay10 q) (k0_pay11 q) k0_pay12 = first (turnedPart (quad q g 1024 slices_S1024x1536_o0_1024_S1024x256) co fo af 0 slices_S1024x256_o0_0_S1024x128) := rfl
theorem pay19_eq : k0_pay19 g co fo af (k0_pay10 q) (k0_pay11 q) k0_pay12 = last (turnedPart (quad q g 1024 slices_S1024x1536_o0_1024_S1024x256) co fo af 0 slices_S1024x256_o0_0_S1024x128) := rfl
theorem pay23_eq : k0_pay23 co fo af (k0_pay13 g (k0_pay10 q) (k0_pay11 q) k0_pay12) = first (turnedPart (quad q g 1024 slices_S1024x1536_o0_1024_S1024x256) co fo af 128 slices_S1024x256_o0_128_S1024x128) := rfl
theorem pay25_eq : k0_pay25 co fo af (k0_pay13 g (k0_pay10 q) (k0_pay11 q) k0_pay12) = last (turnedPart (quad q g 1024 slices_S1024x1536_o0_1024_S1024x256) co fo af 128 slices_S1024x256_o0_128_S1024x128) := rfl
theorem pay32_eq : k0_pay32 k0_pay4 g co fo af (k0_pay26 q) (k0_pay27 q) = first (turnedPart (quad q g 1280 slices_S1024x1536_o0_1280_S1024x256) co fo af 0 slices_S1024x256_o0_0_S1024x128) := rfl
theorem pay36_eq : k0_pay36 (k0_pay30 k0_pay4 g co fo af (k0_pay26 q) (k0_pay27 q)) k0_pay34 (k0_pay35 (F := Ideal)) = last (turnedPart (quad q g 1280 slices_S1024x1536_o0_1280_S1024x256) co fo af 0 slices_S1024x256_o0_0_S1024x128) := rfl
theorem pay40_eq : k0_pay40 co fo af (k0_pay28 k0_pay4 g (k0_pay26 q) (k0_pay27 q)) = first (turnedPart (quad q g 1280 slices_S1024x1536_o0_1280_S1024x256) co fo af 128 slices_S1024x256_o0_128_S1024x128) := rfl
theorem pay42_eq : k0_pay42 co fo af (k0_pay28 k0_pay4 g (k0_pay26 q) (k0_pay27 q)) = last (turnedPart (quad q g 1280 slices_S1024x1536_o0_1280_S1024x256) co fo af 128 slices_S1024x256_o0_128_S1024x128) := rfl

theorem plain_stored (G : Fin 128 → EReal) (hg : Scaled128 g G) (R : Fin 64 → EReal) (c i : Fin 32 → EReal) (h : Fin 8) (o a : ℕ) (ho : o + a = 128 * h.val) (ha : a % 128 = 0) (hl : a + 128 ≤ 256) (s) (s') (p : Fin 1024) (v : Fin 128)
    (j : Fin 2048) (hj : j.val = 256 * h.val + v.val) : plainPart q means128 g o s a s' (ix2 p v) = stored (fun k => q (ix2 p k)) G R c i j := by
  rw [plainPart_at q g G hg o s a s' h ho ha hl]
  unfold stored
  refine .trans ?_ (dif_pos (by omega)).symm
  refine congrArg₂ (plain _ G) (Fin.ext ?_) (Fin.ext ?_)
  · show h.val = j.val / 256
    omega
  · show v.val = j.val % 256
    omega

theorem first_stored (G : Fin 128 → EReal) (R : Fin 64 → EReal) (hr : Scaled64 g R) (c i : Fin 32 → EReal) (p : Fin 1024)
    (hc : ∀ v : Fin 128, co (ix2 p v) = c (angleOf v)) (hf : ∀ v : Fin 128, fo (ix2 p v) = foreSines i v) (hs : ∀ v : Fin 128, af (ix2 p v) = aftSines i v)
    (h : Fin 8) (he : h.val % 2 = 0) (o a : ℕ) (ho : o + a = 1024 + 64 * h.val) (ha : a % 64 = 0) (hl : a + 128 ≤ 256) (s) (s') (v : Fin 128)
    (j : Fin 2048) (hj : j.val = 256 * h.val + 128 + v.val) : first (turnedPart (quad q g o s) co fo af a s') (ix2 p v) = stored (fun k => q (ix2 p k)) G R c i j := by
  rw [first_at]
  unfold stored
  refine .trans ?_ (dif_neg (by omega)).symm
  by_cases hv : v.val < 64
  · rw [if_pos hv]
    refine .trans ?_ (dif_pos ⟨fun _ => by omega, fun _ => by omega⟩).symm
    refine (turnedPart_at q g co fo af R hr o s a s' c i p v hc hf hs h (by omega) ha hl).trans ?_
    refine congrArg₂ (turned _ R c i) (Fin.ext ?_) (Fin.ext ?_)
    · show h.val = j.val / 256
      omega
    · show v.val % 64 = (j.val % 256 - 128) % 64
      omega
  · rw [if_neg hv]
    rw [dif_neg (fun e : (j.val % 256 < 192 ↔ j.val / 256 % 2 = 0) => by have := e.mpr (by omega); omega)]

theorem last_stored (G : Fin 128 → EReal) (R : Fin 64 → EReal) (hr : Scaled64 g R) (c i : Fin 32 → EReal) (p : Fin 1024)
    (hc : ∀ v : Fin 128, co (ix2 p v) = c (angleOf v)) (hf : ∀ v : Fin 128, fo (ix2 p v) = foreSines i v) (hs : ∀ v : Fin 128, af (ix2 p v) = aftSines i v)
    (h : Fin 8) (he : h.val % 2 = 1) (o a : ℕ) (ho : o + a + 64 = 1024 + 64 * h.val) (ha : a % 64 = 0) (hl : a + 128 ≤ 256) (s) (s') (v : Fin 128)
    (j : Fin 2048) (hj : j.val = 256 * h.val + 128 + v.val) : last (turnedPart (quad q g o s) co fo af a s') (ix2 p v) = stored (fun k => q (ix2 p k)) G R c i j := by
  rw [last_at]
  unfold stored
  refine .trans ?_ (dif_neg (by omega)).symm
  by_cases hv : v.val < 64
  · rw [if_pos hv]
    rw [dif_neg (fun e : (j.val % 256 < 192 ↔ j.val / 256 % 2 = 0) => by have := e.mp (by omega); omega)]
  · rw [if_neg hv]
    refine .trans ?_ (dif_pos ⟨fun _ => by omega, fun _ => by omega⟩).symm
    refine (turnedPart_at q g co fo af R hr o s a s' c i p v hc hf hs h (by omega) ha hl).trans ?_
    refine congrArg₂ (turned _ R c i) (Fin.ext ?_) (Fin.ext ?_)
    · show h.val = j.val / 256
      omega
    · show v.val % 64 = (j.val % 256 - 128) % 64
      omega

theorem rows_of_block (g : FVec Ideal S1x256 .f32) (G : Fin 128 → EReal) (h : ∀ j : Fin 256, g (ix2 0 j) = G ⟨j.val % 128, by omega⟩) : Scaled128 (k0_pay5 g) G := by
  intro j
  rw [← h]
  pointwise [k0_pay5]
  rfl

theorem rows_of_block' (g : FVec Ideal S1x256 .f32) (G : Fin 64 → EReal) (h : ∀ j : Fin 256, g (ix2 0 j) = G ⟨j.val % 64, by omega⟩) : Scaled64 (k0_pay6 g) G := by
  intro j
  rw [← h]
  pointwise [k0_pay6]
  rfl

theorem table_at (t : FVec Ideal S1024x128 .f32) (i : S1024x128.Idx) : k0_pay7 t i = t i := by
  obtain ⟨p, v, rfl⟩ : ∃ (p : Fin 1024) (v : Fin 128), i = ix2 p v := ⟨i 0, i 1, eq_ix2 i⟩
  pointwise [k0_pay7]
theorem table_at' (t : FVec Ideal S1024x128 .f32) (i : S1024x128.Idx) : k0_pay8 t i = t i := by
  obtain ⟨p, v, rfl⟩ : ∃ (p : Fin 1024) (v : Fin 128), i = ix2 p v := ⟨i 0, i 1, eq_ix2 i⟩
  pointwise [k0_pay8]
theorem table_at'' (t : FVec Ideal S1024x128 .f32) (i : S1024x128.Idx) : k0_pay9 t i = t i := by
  obtain ⟨p, v, rfl⟩ : ∃ (p : Fin 1024) (v : Fin 128), i = ix2 p v := ⟨i 0, i 1, eq_ix2 i⟩
  pointwise [k0_pay9]

/-- 384 coordinates over the root of their mean square, times the gains and the columns of a matrix. -/
def lifted (z : FVec Ideal S1024x384 .f32) (l : FVec Ideal S1x384 .f32) (u : FVec Ideal S384x1536 .bf16) : FVec Ideal S1024x1536 .f32 :=
  matmul (F := Ideal) dot_S1024x384_S384x1536_S1024x1536_1_0_0_1_n_n none (truncf (F := Ideal) .bf16 (mulf (mulf z (broadcastTo S1024x384 (rsqrt (addf (mulf (shapeCast S1024x1
      (multiReduction (F := Ideal) .add [1] S1024 (mulf z z) 0x00000000#32 reduces_S1024x384_S1024 (.inl rfl) rfl) shapeCasts_S1024_S1024x1)
    (broadcast S1024x1 (Named.named (F := Ideal) κ "mean384" 0x3B2AAAAB#32))) (broadcast S1024x1 (Scalar.ofBits (F := Ideal) .f32 0x358637BD#32)))) broadcasts_S1024x1_S1024x384))
    (broadcastTo S1024x384 (shapeCast S1x384 l shapeCasts_S1x384_S1x384) broadcasts_S1x384_S1024x384)) bitsLt_bf16_f32)
    (shapeCast S384x1536 u shapeCasts_S384x1536_S384x1536) (constant S1024x1536 .f32 0x00000000#32)

theorem named384 : Named.named (F := Ideal) κ (φ := .f32) "mean384" 0x3B2AAAAB#32 = (((384 : ℝ)⁻¹ : ℝ) : EReal) := rfl

theorem lifted_at (z : FVec Ideal S1024x384 .f32) (l : FVec Ideal S1x384 .f32) (u : FVec Ideal S384x1536 .bf16) (p : Fin 1024) (j : Fin 1536) :
    lifted z l u (ix2 p j) = (∑ k : Fin 384, rmsBy (Ideal.ofBits .f32 0x43C00000#32) (fun k => z (ix2 p k)) (fun k => l (ix2 0 k)) k * u (ix2 k j) : EReal) := by
  unfold rmsBy
  rw [← mean384]
  pointwise [lifted]
  simp only [named384]

theorem same_tile (x : FVec Ideal S1024x1024 .f32) : shapeCast S1024x1024 x shapeCasts_S1024x1024_S1024x1024 = x := by
  funext i
  obtain ⟨p, v, rfl⟩ : ∃ (p : Fin 1024) (v : Fin 1024), i = ix2 p v := ⟨i 0, i 1, eq_ix2 i⟩
  pointwise []

/-- The rows of the tile, projected. -/
theorem spread_at (x : FVec Ideal S1024x1024 .f32) (g : FVec Ideal S1x1024 .f32) (w : FVec Ideal S1024x384 .bf16) (l : FVec Ideal S1x384 .f32) (u : FVec Ideal S384x1536 .bf16) (p : Fin 1024) (j : Fin 1536) :
    (k0_pay1 x g w l u : FVec Ideal S1024x1536 .f32) (ix2 p j) = (∑ k : Fin 384, latent (fun k => x (ix2 p k)) (fun k => g (ix2 0 k)) (fun k j => w (ix2 k j)) (fun k => l (ix2 0 k)) k * u (ix2 k j) : EReal) := by
  have a : ∀ k : Fin 384, (matmul (F := Ideal) dot_S1024x1024_S1024x384_S1024x384_1_0_0_1_n_n none (Cert.TileWide.normed x g) (shapeCast S1024x384 w shapeCasts_S1024x384_S1024x384) (constant S1024x384 .f32 0x00000000#32) : FVec Ideal S1024x384 .f32) (ix2 p k)
      = (∑ i : Fin 1024, Half.rms (fun k => x (ix2 p k)) (fun k => g (ix2 0 k)) i * w (ix2 i k) : EReal) := by
    intro k
    simp only [← Cert.TileWide.normed_at]
    pointwise []
  have e : (k0_pay1 x g w l u : FVec Ideal S1024x1536 .f32) = lifted (matmul (F := Ideal) dot_S1024x1024_S1024x384_S1024x384_1_0_0_1_n_n none (Cert.TileWide.normed (shapeCast S1024x1024 x shapeCasts_S1024x1024_S1024x1024) g) (shapeCast S1024x384 w shapeCasts_S1024x384_S1024x384) (constant S1024x384 .f32 0x00000000#32)) l u := rfl
  rw [e, same_tile, lifted_at]
  refine Finset.sum_congr rfl fun k _ => ?_
  refine congrArg (fun z => rmsBy _ z _ k * u (ix2 k j)) (funext fun i => a i)

end Cert.MlaQIdeal.Value

end
-- ==== Proof.QueryStep.lean ====
/- What one step of the queries' call leaves in its result's block. -/
module

public import proofs.«01_k».proof.Proof.QueryTiles
public import proofs.«01_k».proof.Proof.Gen.MlaQIdeal.Value

@[expose] public section

set_option maxRecDepth 16384

noncomputable section

namespace Cert.MlaQIdeal.Value

open Cert.MlaQIdeal Cert.MlaQIdeal.Gen
open Idealize.ShloMosaic
open Idealize.ShloMosaic.TcCoe
open Cert.QueryRow

variable (m : (ℓ : Loc nD τ sig) → Buf (Elt Ideal) ℓ)

set_option maxHeartbeats 4000000 in
theorem step_eq (x0 : FVec Ideal S1024x1024 .f32) (x1 : FVec Ideal S1x1024 .f32) (x2 : FVec Ideal S1024x384 .bf16) (x3 : FVec Ideal S1x384 .f32) (x4 : FVec Ideal S384x1536 .bf16) (x5 x6 : FVec Ideal S1x256 .f32) (x7 x8 x9 : FVec Ideal S1024x128 .f32)
    (G : Fin 128 → EReal) (R : Fin 64 → EReal) (C S : Fin 1024 → Fin 32 → EReal)
    (hg : ∀ j : Fin 256, x5 (ix2 0 j) = G ⟨j.val % 128, by omega⟩)
    (hr : ∀ j : Fin 256, x6 (ix2 0 j) = R ⟨j.val % 64, by omega⟩)
    (hc : ∀ (p : Fin 1024) (v : Fin 128), x7 (ix2 p v) = C p (angleOf v))
    (hf : ∀ (p : Fin 1024) (v : Fin 128), x8 (ix2 p v) = foreSines (S p) v)
    (hs : ∀ (p : Fin 1024) (v : Fin 128), x9 (ix2 p v) = aftSines (S p) v) :
    (out0_10 (F := Ideal) x0 x1 x2 x3 x4 x5 x6 x7 x8 x9 : FVec Ideal S1024x2048 .bf16) = fun y => stored (fun k => (k0_pay1 x0 x1 x2 x3 x4 : FVec Ideal S1024x1536 .f32) (ix2 (y 0) k)) G R (C (y 0)) (S (y 0)) (y 1) := by
  have hg := rows_of_block _ G hg
  have hr := rows_of_block' _ R hr
  have hc := fun p v => (table_at _ _).trans (hc p v)
  have hf := fun p v => (table_at' _ _).trans (hf p v)
  have hs := fun p v => (table_at'' _ _).trans (hs p v)
  unfold_out out0_10
  frame_out
  generalize k0_pay1 (F := Ideal) x0 x1 x2 x3 x4 = q
  generalize k0_pay5 (F := Ideal) x5 = g5 at *
  generalize k0_pay6 (F := Ideal) x6 = g6 at *
  generalize k0_pay7 (F := Ideal) x7 = t7 at *
  generalize k0_pay8 (F := Ideal) x8 = t8 at *
  generalize k0_pay9 (F := Ideal) x9 = t9 at *
  funext y
  canon_tiles x h using View.cover_of_tiledBy _ ![1024, 128] (by sl_kernel_rfl) y
  · rw [pay42_eq]
    obtain ⟨p, v, rfl⟩ : ∃ (p : Fin 1024) (v : Fin 128), x = ix2 p v := ⟨x 0, x 1, eq_ix2 x⟩
    obtain rfl : y 0 = p := Fin.ext h0
    exact last_stored _ _ _ _ _ G R hr _ _ _ (hc _) (hf _) (hs _) 7 rfl 1280 128 rfl rfl (by norm_num) _ _ v (y 1) (by have h1 : (y 1).val = 1920 + v.val := h1; show (y 1).val = 256 * 7 + 128 + v.val; omega)
  · rw [pay41_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 7 768 128 rfl rfl (by norm_num) _ _ _ v (y 1) (by have h1 : (y 1).val = 1792 + v.val := h1; show (y 1).val = 256 * 7 + v.val; omega)
  · rw [pay40_eq]
    obtain ⟨p, v, rfl⟩ : ∃ (p : Fin 1024) (v : Fin 128), x = ix2 p v := ⟨x 0, x 1, eq_ix2 x⟩
    obtain rfl : y 0 = p := Fin.ext h0
    exact first_stored _ _ _ _ _ G R hr _ _ _ (hc _) (hf _) (hs _) 6 rfl 1280 128 rfl rfl (by norm_num) _ _ v (y 1) (by have h1 : (y 1).val = 1664 + v.val := h1; show (y 1).val = 256 * 6 + 128 + v.val; omega)
  · rw [pay39_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 6 768 0 rfl rfl (by norm_num) _ _ _ v (y 1) (by have h1 : (y 1).val = 1536 + v.val := h1; show (y 1).val = 256 * 6 + v.val; omega)
  · rw [pay36_eq]
    obtain ⟨p, v, rfl⟩ : ∃ (p : Fin 1024) (v : Fin 128), x = ix2 p v := ⟨x 0, x 1, eq_ix2 x⟩
    obtain rfl : y 0 = p := Fin.ext h0
    exact last_stored _ _ _ _ _ G R hr _ _ _ (hc _) (hf _) (hs _) 5 rfl 1280 0 rfl rfl (by norm_num) _ _ v (y 1) (by have h1 : (y 1).val = 1408 + v.val := h1; show (y 1).val = 256 * 5 + 128 + v.val; omega)
  · rw [pay33_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 5 512 128 rfl rfl (by norm_num) _ _ _ v (y 1) (by have h1 : (y 1).val = 1280 + v.val := h1; show (y 1).val = 256 * 5 + v.val; omega)
  · rw [pay32_eq]
    obtain ⟨p, v, rfl⟩ : ∃ (p : Fin 1024) (v : Fin 128), x = ix2 p v := ⟨x 0, x 1, eq_ix2 x⟩
    obtain rfl : y 0 = p := Fin.ext h0
    exact first_stored _ _ _ _ _ G R hr _ _ _ (hc _) (hf _) (hs _) 4 rfl 1280 0 rfl rfl (by norm_num) _ _ v (y 1) (by have h1 : (y 1).val = 1152 + v.val := h1; show (y 1).val = 256 * 4 + 128 + v.val; omega)
  · rw [pay31_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 4 512 0 rfl rfl (by norm_num) _ _ _ v (y 1) (by have h1 : (y 1).val = 1024 + v.val := h1; show (y 1).val = 256 * 4 + v.val; omega)
  · rw [pay25_eq]
    obtain ⟨p, v, rfl⟩ : ∃ (p : Fin 1024) (v : Fin 128), x = ix2 p v := ⟨x 0, x 1, eq_ix2 x⟩
    obtain rfl : y 0 = p := Fin.ext h0
    exact last_stored _ _ _ _ _ G R hr _ _ _ (hc _) (hf _) (hs _) 3 rfl 1024 128 rfl rfl (by norm_num) _ _ v (y 1) (by have h1 : (y 1).val = 896 + v.val := h1; show (y 1).val = 256 * 3 + 128 + v.val; omega)
  · rw [pay24_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 3 256 128 rfl rfl (by norm_num) _ _ _ v (y 1) (by have h1 : (y 1).val = 768 + v.val := h1; show (y 1).val = 256 * 3 + v.val; omega)
  · rw [pay23_eq]
    obtain ⟨p, v, rfl⟩ : ∃ (p : Fin 1024) (v : Fin 128), x = ix2 p v := ⟨x 0, x 1, eq_ix2 x⟩
    obtain rfl : y 0 = p := Fin.ext h0
    exact first_stored _ _ _ _ _ G R hr _ _ _ (hc _) (hf _) (hs _) 2 rfl 1024 128 rfl rfl (by norm_num) _ _ v (y 1) (by have h1 : (y 1).val = 640 + v.val := h1; show (y 1).val = 256 * 2 + 128 + v.val; omega)
  · rw [pay22_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 2 256 0 rfl rfl (by norm_num) _ _ _ v (y 1) (by have h1 : (y 1).val = 512 + v.val := h1; show (y 1).val = 256 * 2 + v.val; omega)
  · rw [pay19_eq]
    obtain ⟨p, v, rfl⟩ : ∃ (p : Fin 1024) (v : Fin 128), x = ix2 p v := ⟨x 0, x 1, eq_ix2 x⟩
    obtain rfl : y 0 = p := Fin.ext h0
    exact last_stored _ _ _ _ _ G R hr _ _ _ (hc _) (hf _) (hs _) 1 rfl 1024 0 rfl rfl (by norm_num) _ _ v (y 1) (by have h1 : (y 1).val = 384 + v.val := h1; show (y 1).val = 256 * 1 + 128 + v.val; omega)
  · rw [pay18_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 1 0 128 rfl rfl (by norm_num) _ _ _ v (y 1) (by have h1 : (y 1).val = 256 + v.val := h1; show (y 1).val = 256 * 1 + v.val; omega)
  · rw [pay17_eq]
    obtain ⟨p, v, rfl⟩ : ∃ (p : Fin 1024) (v : Fin 128), x = ix2 p v := ⟨x 0, x 1, eq_ix2 x⟩
    obtain rfl : y 0 = p := Fin.ext h0
    exact first_stored _ _ _ _ _ G R hr _ _ _ (hc _) (hf _) (hs _) 0 rfl 1024 0 rfl rfl (by norm_num) _ _ v (y 1) (by have h1 : (y 1).val = 128 + v.val := h1; show (y 1).val = 256 * 0 + 128 + v.val; omega)
  · rw [pay16_eq]
    obtain ⟨p, v, rfl⟩ : ∃ (p : Fin 1024) (v : Fin 128), x = ix2 p v := ⟨x 0, x 1, eq_ix2 x⟩
    obtain rfl : y 0 = p := Fin.ext h0
    exact plain_stored _ _ G hg R _ _ 0 0 0 rfl rfl (by norm_num) _ _ _ v (y 1) (by have h1 : (y 1).val = v.val := h1; show (y 1).val = 256 * 0 + v.val; omega)

theorem out10 (c : Dev nD) (t : Fin cfg0.N) (G : Fin 128 → EReal) (R : Fin 64 → EReal) (C S : Fin 1024 → Fin 32 → EReal)
    (hg : ∀ j : Fin 256, (iblk m c 5 t : FVec Ideal S1x256 .f32) (ix2 0 j) = G ⟨j.val % 128, by omega⟩)
    (hr : ∀ j : Fin 256, (iblk m c 6 t : FVec Ideal S1x256 .f32) (ix2 0 j) = R ⟨j.val % 64, by omega⟩)
    (hc : ∀ (p : Fin 1024) (v : Fin 128), (iblk m c 7 t : FVec Ideal S1024x128 .f32) (ix2 p v) = C p (angleOf v))
    (hf : ∀ (p : Fin 1024) (v : Fin 128), (iblk m c 8 t : FVec Ideal S1024x128 .f32) (ix2 p v) = foreSines (S p) v)
    (hs : ∀ (p : Fin 1024) (v : Fin 128), (iblk m c 9 t : FVec Ideal S1024x128 .f32) (ix2 p v) = aftSines (S p) v) :
    ((dats m 0 c).after 10 t : FVec Ideal S1024x2048 .bf16) = fun y => stored (fun k => (k0_pay1 (iblk m c 0 t) (iblk m c 1 t) (iblk m c 2 t) (iblk m c 3 t) (iblk m c 4 t) : FVec Ideal S1024x1536 .f32) (ix2 (y 0) k)) G R (C (y 0)) (S (y 0)) (y 1) := by
  rw [after0_10]
  exact step_eq _ _ _ _ _ _ _ _ _ _ G R C S hg hr hc hf hs

end Cert.MlaQIdeal.Value

end
-- ==== Proof.QueryHost.lean ====
/- The arrays the host prepares for the queries' call, read at an element. -/
module

public import proofs.«01_k».proof.Proof.QueryStep

@[expose] public section

set_option maxRecDepth 2048

noncomputable section

namespace Cert.MlaQIdeal.Value

open Cert.MlaQIdeal Cert.MlaQIdeal.Gen
open Idealize.ShloMosaic
open Idealize.ShloMosaic.TcCoe
open Cert.QueryRow

/-- The layer's gains. -/
def gain (G : FVec Ideal S4x3x1024 .f32) : FVec Ideal S1024 .f32 :=
  shapeCast S1024 (extractStridedSlice S1x1x1024 ![2, 1, 0] G slices_S4x3x1024_S1x1x1024_2_1_0) shapeCasts_S1x1x1024_S1024
/-- The layer's gains of the 384 coordinates. -/
def innerGain (L : FVec Ideal S2x384 .f32) : FVec Ideal S384 .f32 := shapeCast S384 (extractStridedSlice S1x384 ![0, 0] L slices_S2x384_S1x384_0_0) shapeCasts_S1x384_S384
/-- The layer's gains of the coordinates that are not turned. -/
def plainGain (N : FVec Ideal S2x128 .f32) : FVec Ideal S128 .f32 := shapeCast S128 (extractStridedSlice S1x128 ![0, 0] N slices_S2x128_S1x128_0_0) shapeCasts_S1x128_S128
/-- The layer's gains of the turned coordinates. -/
def turnedGain (R : FVec Ideal S2x64 .f32) : FVec Ideal S64 .f32 := shapeCast S64 (extractStridedSlice S1x64 ![0, 0] R slices_S2x64_S1x64_0_0) shapeCasts_S1x64_S64
/-- The layer's weights onto 384 coordinates. -/
def down (W : FVec Ideal S2x1024x384 .f32) : FVec Ideal S1024x384 .f32 :=
  shapeCast S1024x384 (extractStridedSlice S1x1024x384 ![0, 0, 0] W slices_S2x1024x384_S1x1024x384_0_0_0) shapeCasts_S1x1024x384_S1024x384
/-- The layer's weights onto the heads. -/
def up (W : FVec Ideal S2x384x1536 .f32) : FVec Ideal S384x1536 .f32 :=
  shapeCast S384x1536 (extractStridedSlice S1x384x1536 ![0, 0, 0] W slices_S2x384x1536_S1x384x1536_0_0_0) shapeCasts_S1x384x1536_S384x1536
/-- Their columns, those of the turned coordinates last. -/
def apart (W : FVec Ideal S384x1536 .f32) : FVec Ideal S384x1536 .f32 :=
  concatenate S384x1536 1 [⟨S384x1024, shapeCast S384x1024 (extractStridedSlice S384x8x128 ![0, 0, 0] (shapeCast S384x8x192 W shapeCasts_S384x1536_S384x8x192) slices_S384x8x192_S384x8x128_0_0_0) shapeCasts_S384x8x128_S384x1024⟩,
    ⟨S384x512, shapeCast S384x512 (extractStridedSlice S384x8x64 ![0, 0, 128] (shapeCast S384x8x192 W shapeCasts_S384x1536_S384x8x192) slices_S384x8x192_S384x8x64_0_0_128) shapeCasts_S384x8x64_S384x512⟩] concatenates_S384x1024_S384x512_S384x1536_d1

/-- Every position's angles. -/
def angles (P : Vec Ideal S8x4096 .i32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp (F := Ideal) .f32 P)))
    (broadcastInDim S8x4096x32 ![0, 1, 2] bcast_S1x1x32_S8x4096x32_0_1_2 (broadcastInDim S1x1x32 ![2] bcast_S32_S1x1x32_2
      (Host.powf (broadcastInDim S32 ![] bcast_S_S32 (constant (F := Ideal) S_ .f32 0x461C4000#32))
        (Host.divf (Host.negf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0)))))
          (broadcastInDim S32 ![] bcast_S_S32 (constant (F := Ideal) S_ .f32 0x42800000#32))))))

/-- Two arrays of 32 coordinates, side by side twice, a position to a row. -/
def twice (a b : FVec Ideal S8x4096x32 .f32) : FVec Ideal S32768x128 .f32 :=
  shapeCast S32768x128 (concatenate S8x4096x128 2 [⟨S8x4096x32, a⟩, ⟨S8x4096x32, b⟩, ⟨S8x4096x32, a⟩, ⟨S8x4096x32, b⟩] concatenates_S8x4096x32_S8x4096x32_S8x4096x32_S8x4096x32_S8x4096x128_d2) shapeCasts_S8x4096x128_S32768x128

/-- Zeros. -/
def none32 : FVec Ideal S8x4096x32 .f32 := broadcastInDim S8x4096x32 ![] bcast_S_S8x4096x32 (constant (F := Ideal) S_ .f32 0x00000000#32)

theorem rows_at {e : EltTy} (X : Vec Ideal S8x4096x1024 e) (b : Fin 8) (q : Fin 4096) (k : Fin 1024) :
    shapeCast S32768x1024 X shapeCasts_S8x4096x1024_S32768x1024 (ix2 ⟨4096 * b.val + q.val, by omega⟩ k) = X (ix3 b q k) := by
  pointwise []

theorem row_gain (X : FVec Ideal S1024 .f32) (k : Fin 1024) : shapeCast S1x1024 (broadcastInDim S1x1x1x1024 ![0, 1, 2, 3] bcast_S1x1x1x1024_S1x1x1x1024_0_1_2_3 (shapeCast S1x1x1x1024
        (shapeCast S1x1024 X shapeCasts_S1024_S1x1024) shapeCasts_S1x1024_S1x1x1x1024)) shapeCasts_S1x1x1x1024_S1x1024 (ix2 0 k) = X (ix1 k) := by
  pointwise []

theorem row_inner (X : FVec Ideal S384 .f32) (k : Fin 384) : shapeCast S1x384 (broadcastInDim S1x1x1x384 ![0, 1, 2, 3] bcast_S1x1x1x384_S1x1x1x384_0_1_2_3 (shapeCast S1x1x1x384
        (shapeCast S1x384 X shapeCasts_S384_S1x384) shapeCasts_S1x384_S1x1x1x384)) shapeCasts_S1x1x1x384_S1x384 (ix2 0 k) = X (ix1 k) := by
  pointwise []

theorem row_plain (X : FVec Ideal S128 .f32) (k : Fin 256) : shapeCast S1x256 (broadcastInDim S1x1x2x128 ![0, 1, 2, 3] bcast_S1x1x1x128_S1x1x2x128_0_1_2_3 (shapeCast S1x1x1x128
        (shapeCast S1x128 X shapeCasts_S128_S1x128) shapeCasts_S1x128_S1x1x1x128)) shapeCasts_S1x1x2x128_S1x256 (ix2 0 k) = X (ix1 ⟨k.val % 128, by omega⟩) := by
  pointwise []

theorem row_turned (X : FVec Ideal S64 .f32) (k : Fin 256) : shapeCast S1x256 (broadcastInDim S1x1x4x64 ![0, 1, 2, 3] bcast_S1x1x1x64_S1x1x4x64_0_1_2_3 (shapeCast S1x1x1x64
        (shapeCast S1x64 X shapeCasts_S64_S1x64) shapeCasts_S1x64_S1x1x1x64)) shapeCasts_S1x1x4x64_S1x256 (ix2 0 k) = X (ix1 ⟨k.val % 64, by omega⟩) := by
  pointwise []

/-- Where a column came from. -/
def source (c : Fin 1536) : Fin 1536 :=
  if h : c.val < 1024 then ⟨c.val / 128 * 192 + c.val % 128, by omega⟩ else ⟨(c.val - 1024) / 64 * 192 + (128 + (c.val - 1024) % 64), by omega⟩

theorem apart_fore (W : FVec Ideal S384x1536 .f32) (k : Fin 384) (c : Fin 1024) :
    shapeCast S384x1024 (extractStridedSlice S384x8x128 ![0, 0, 0] (shapeCast S384x8x192 W shapeCasts_S384x1536_S384x8x192) slices_S384x8x192_S384x8x128_0_0_0) shapeCasts_S384x8x128_S384x1024 (ix2 k c)
      = W (ix2 k ⟨c.val / 128 * 192 + c.val % 128, by omega⟩) := by
  pointwise []

theorem apart_aft (W : FVec Ideal S384x1536 .f32) (k : Fin 384) (c : Fin 512) :
    shapeCast S384x512 (extractStridedSlice S384x8x64 ![0, 0, 128] (shapeCast S384x8x192 W shapeCasts_S384x1536_S384x8x192) slices_S384x8x192_S384x8x64_0_0_128) shapeCasts_S384x8x64_S384x512 (ix2 k c)
      = W (ix2 k ⟨c.val / 64 * 192 + (128 + c.val % 64), by omega⟩) := by
  pointwise []

theorem beside_at (A : FVec Ideal S384x1024 .f32) (B : FVec Ideal S384x512 .f32) (k : Fin 384) (c : Fin 1536) :
    concatenate S384x1536 1 [⟨S384x1024, A⟩, ⟨S384x512, B⟩] concatenates_S384x1024_S384x512_S384x1536_d1 (ix2 k c)
      = if h : c.val < 1024 then A (ix2 k ⟨c.val, h⟩) else B (ix2 k ⟨c.val - 1024, by omega⟩) := by
  pointwise []

theorem apart_at (W : FVec Ideal S384x1536 .f32) (k : Fin 384) (c : Fin 1536) : apart W (ix2 k c) = W (ix2 k (source c)) := by
  refine (beside_at _ _ k c).trans ?_
  unfold source
  by_cases h : c.val < 1024
  · rw [dif_pos h, dif_pos h]
    exact apart_fore W k _
  · rw [dif_neg h, dif_neg h]
    exact apart_aft W k _

theorem none_at (b : Fin 8) (q : Fin 4096) (i : Fin 32) : none32 (ix3 b q i) = 0 := by
  pointwise [none32]

theorem twice_at (a r : FVec Ideal S8x4096x32 .f32) (b : Fin 8) (q : Fin 4096) (v : Fin 128) :
    twice a r (ix2 ⟨4096 * b.val + q.val, by omega⟩ v) = if v.val % 64 < 32 then a (ix3 b q (angleOf v)) else r (ix3 b q (angleOf v)) := by
  have place : ∀ (z : FVec Ideal S8x4096x32 .f32) (n : ℕ) (hn : n < 32), n = v.val % 32 → z (ix3 b q ⟨n, hn⟩) = z (ix3 b q (angleOf v)) :=
    fun z n hn e => congrArg (fun i => z (ix3 b q i)) (Fin.ext e)
  pointwise [twice]
  by_cases h1 : v.val < 32
  · rw [dif_pos h1, if_pos (show v.val % 64 < 32 by omega)]
    exact place a _ _ (by omega)
  · rw [dif_neg h1]
    by_cases h2 : v.val - 32 < 32
    · rw [dif_pos h2, if_neg (show ¬v.val % 64 < 32 by omega)]
      exact place r _ _ (by omega)
    · rw [dif_neg h2]
      by_cases h3 : v.val - 32 - 32 < 32
      · rw [dif_pos h3, if_pos (show v.val % 64 < 32 by omega)]
        exact place a _ _ (by omega)
      · rw [dif_neg h3, if_neg (show ¬v.val % 64 < 32 by omega)]
        exact place r _ _ (by omega)

end Cert.MlaQIdeal.Value

end
-- ==== Proof.QueryArrays.lean ====
/- The arrays the queries' call is given. -/
module

public import proofs.«01_k».proof.Proof.QueryHost

@[expose] public section

set_option maxRecDepth 16384

noncomputable section

namespace Cert.MlaQIdeal.Value

open Cert.MlaQIdeal Cert.MlaQIdeal.Gen
open Idealize.ShloMosaic
open Idealize.ShloMosaic.TcCoe
open Cert.QueryRow

variable (m : (ℓ : Loc nD τ sig) → Buf (Elt Ideal) ℓ)

set_option maxHeartbeats 16000000 in
theorem arrays (c : Dev nD) :
    V m c main_v0 = shapeCast S32768x1024 (m ((c : Thread nD τ).loc main_arg0)) shapeCasts_S8x4096x1024_S32768x1024
    ∧ V m c main_v41 = shapeCast S1x1024 (broadcastInDim S1x1x1x1024 ![0, 1, 2, 3] bcast_S1x1x1x1024_S1x1x1x1024_0_1_2_3 (shapeCast S1x1x1x1024
        (shapeCast S1x1024 (gain (m ((c : Thread nD τ).loc main_arg2))) shapeCasts_S1024_S1x1024) shapeCasts_S1x1024_S1x1x1x1024)) shapeCasts_S1x1x1x1024_S1x1024
    ∧ V m c main_v44 = truncf (F := Ideal) .bf16 (down (m ((c : Thread nD τ).loc main_arg3))) bitsLt_bf16_f32
    ∧ V m c main_v50 = shapeCast S1x384 (broadcastInDim S1x1x1x384 ![0, 1, 2, 3] bcast_S1x1x1x384_S1x1x1x384_0_1_2_3 (shapeCast S1x1x1x384
        (shapeCast S1x384 (innerGain (m ((c : Thread nD τ).loc main_arg4))) shapeCasts_S384_S1x384) shapeCasts_S1x384_S1x1x1x384)) shapeCasts_S1x1x1x384_S1x384
    ∧ V m c main_v51 = truncf (F := Ideal) .bf16 (apart (up (m ((c : Thread nD τ).loc main_arg5)))) bitsLt_bf16_f32
    ∧ V m c main_v57 = shapeCast S1x256 (broadcastInDim S1x1x2x128 ![0, 1, 2, 3] bcast_S1x1x1x128_S1x1x2x128_0_1_2_3 (shapeCast S1x1x1x128
        (shapeCast S1x128 (plainGain (m ((c : Thread nD τ).loc main_arg6))) shapeCasts_S128_S1x128) shapeCasts_S1x128_S1x1x1x128)) shapeCasts_S1x1x2x128_S1x256
    ∧ V m c main_v63 = shapeCast S1x256 (broadcastInDim S1x1x4x64 ![0, 1, 2, 3] bcast_S1x1x1x64_S1x1x4x64_0_1_2_3 (shapeCast S1x1x1x64
        (shapeCast S1x64 (turnedGain (m ((c : Thread nD τ).loc main_arg7))) shapeCasts_S64_S1x64) shapeCasts_S1x64_S1x1x1x64)) shapeCasts_S1x1x4x64_S1x256
    ∧ V m c main_v23 = twice (Host.cos (angles (m ((c : Thread nD τ).loc main_arg1)))) (Host.cos (angles (m ((c : Thread nD τ).loc main_arg1))))
    ∧ V m c main_v25 = twice (Host.negf (Host.sin (angles (m ((c : Thread nD τ).loc main_arg1))))) none32
    ∧ V m c main_v27 = twice none32 (Host.sin (angles (m ((c : Thread nD τ).loc main_arg1)))) := by
  simp only [V, hostOps0, List.flatten_cons, List.flatten_nil, List.cons_append, List.nil_append, cast_eq]
  refine ⟨?_, ?_, ?_, ?_, ?_, ?_, ?_, ?_, ?_, ?_⟩ <;> (after_results_simp <;> rfl)

end Cert.MlaQIdeal.Value

end
-- ==== Proof.QueryValue.lean ====
/- What the queries' call leaves in its result array. -/
module

public import proofs.«01_k».proof.Proof.QueryArrays

@[expose] public section

set_option maxRecDepth 16384

noncomputable section

namespace Cert.MlaQIdeal.Value

open Cert.MlaQIdeal Cert.MlaQIdeal.Gen
open Idealize.ShloMosaic
open Idealize.ShloMosaic.TcCoe
open Cert.QueryRow

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

theorem lt32 (t : Fin cfg0.N) : t.val < 32 := t.isLt

/-- An element of the stream's block at a point. -/
theorem block0 (c : Dev nD) (t : Fin cfg0.N) (p : Fin 1024) (k : Fin 1024) : (iblk m c 0 t : FVec Ideal S1024x1024 .f32) (ix2 p k)
      = (m ((c : Thread nD τ).loc main_arg0) : FVec Ideal S8x4096x1024 .f32)
          (ix3 ⟨t.val / 4, by have := lt32 t; omega⟩ ⟨t.val % 4 * 1024 + p.val, by omega⟩ k) := by
  have ht := lt32 t
  refine .trans ?_ (rows_at (e := .f32) _ _ _ _)
  rw [← (arrays m c).1]
  refine congrArg (V m c main_v0) ?_
  blk_ext [index0 t]
theorem block1 (c : Dev nD) (t : Fin cfg0.N) (k : Fin 1024) : (iblk m c 1 t : FVec Ideal S1x1024 .f32) (ix2 0 k) = gain (m ((c : Thread nD τ).loc main_arg2)) (ix1 k) := by
  refine (congrArg (V m c main_v41) (?_ : _ = ix2 0 k)).trans ?_
  · blk_ext [index1 t]
  · rw [(arrays m c).2.1, row_gain]
theorem block2 (c : Dev nD) (t : Fin cfg0.N) (p : Fin 1024) (k : Fin 384) : (iblk m c 2 t : FVec Ideal S1024x384 .bf16) (ix2 p k) = (down (m ((c : Thread nD τ).loc main_arg3)) (ix2 p k) : EReal) := by
  refine (congrArg (V m c main_v44) (?_ : _ = ix2 p k)).trans ?_
  · blk_ext [index2 t]
  · rw [(arrays m c).2.2.1]; rfl
theorem block3 (c : Dev nD) (t : Fin cfg0.N) (k : Fin 384) : (iblk m c 3 t : FVec Ideal S1x384 .f32) (ix2 0 k) = innerGain (m ((c : Thread nD τ).loc main_arg4)) (ix1 k) := by
  refine (congrArg (V m c main_v50) (?_ : _ = ix2 0 k)).trans ?_
  · blk_ext [index3 t]
  · rw [(arrays m c).2.2.2.1, row_inner]
theorem block4 (c : Dev nD) (t : Fin cfg0.N) (p : Fin 384) (k : Fin 1536) : (iblk m c 4 t : FVec Ideal S384x1536 .bf16) (ix2 p k) = (up (m ((c : Thread nD τ).loc main_arg5)) (ix2 p (source k)) : EReal) := by
  refine (congrArg (V m c main_v51) (?_ : _ = ix2 p k)).trans ?_
  · blk_ext [index4 t]
  · rw [(arrays m c).2.2.2.2.1]; exact apart_at _ p k
theorem block5 (c : Dev nD) (t : Fin cfg0.N) (k : Fin 256) : (iblk m c 5 t : FVec Ideal S1x256 .f32) (ix2 0 k) = plainGain (m ((c : Thread nD τ).loc main_arg6)) (ix1 ⟨k.val % 128, by omega⟩) := by
  refine (congrArg (V m c main_v57) (?_ : _ = ix2 0 k)).trans ?_
  · blk_ext [index5 t]
  · rw [(arrays m c).2.2.2.2.2.1, row_plain]
theorem block6 (c : Dev nD) (t : Fin cfg0.N) (k : Fin 256) : (iblk m c 6 t : FVec Ideal S1x256 .f32) (ix2 0 k) = turnedGain (m ((c : Thread nD τ).loc main_arg7)) (ix1 ⟨k.val % 64, by omega⟩) := by
  refine (congrArg (V m c main_v63) (?_ : _ = ix2 0 k)).trans ?_
  · blk_ext [index6 t]
  · rw [(arrays m c).2.2.2.2.2.2.1, row_turned]

/-- A position's cosines. -/
def cosines (P : Vec Ideal S8x4096 .i32) (b : Fin 8) (q : Fin 4096) (i : Fin 32) : EReal := Host.cos (angles P) (ix3 b q i)
/-- A position's sines. -/
def sines (P : Vec Ideal S8x4096 .i32) (b : Fin 8) (q : Fin 4096) (i : Fin 32) : EReal := Host.sin (angles P) (ix3 b q i)

theorem block7 (c : Dev nD) (t : Fin cfg0.N) (p : Fin 1024) (v : Fin 128) : (iblk m c 7 t : FVec Ideal S1024x128 .f32) (ix2 p v)
      = cosines (m ((c : Thread nD τ).loc main_arg1)) ⟨t.val / 4, by have := lt32 t; omega⟩ ⟨t.val % 4 * 1024 + p.val, by omega⟩ (angleOf v) := by
  have ht := lt32 t
  have e := twice_at (Host.cos (angles (m ((c : Thread nD τ).loc main_arg1)))) (Host.cos (angles (m ((c : Thread nD τ).loc main_arg1)))) ⟨t.val / 4, by omega⟩ ⟨t.val % 4 * 1024 + p.val, by omega⟩ v
  rw [ite_self] at e
  refine .trans ?_ e
  rw [← (arrays m c).2.2.2.2.2.2.2.1]
  refine congrArg (V m c main_v23) ?_
  blk_ext [index7 t]
theorem block8 (c : Dev nD) (t : Fin cfg0.N) (p : Fin 1024) (v : Fin 128) : (iblk m c 8 t : FVec Ideal S1024x128 .f32) (ix2 p v)
      = foreSines (sines (m ((c : Thread nD τ).loc main_arg1)) ⟨t.val / 4, by have := lt32 t; omega⟩ ⟨t.val % 4 * 1024 + p.val, by omega⟩) v := by
  have ht := lt32 t
  have e := twice_at (Host.negf (Host.sin (angles (m ((c : Thread nD τ).loc main_arg1))))) none32 ⟨t.val / 4, by omega⟩ ⟨t.val % 4 * 1024 + p.val, by omega⟩ v
  rw [none_at] at e
  refine .trans ?_ e
  rw [← (arrays m c).2.2.2.2.2.2.2.2.1]
  refine congrArg (V m c main_v25) ?_
  blk_ext [index8 t]
theorem block9 (c : Dev nD) (t : Fin cfg0.N) (p : Fin 1024) (v : Fin 128) : (iblk m c 9 t : FVec Ideal S1024x128 .f32) (ix2 p v)
      = aftSines (sines (m ((c : Thread nD τ).loc main_arg1)) ⟨t.val / 4, by have := lt32 t; omega⟩ ⟨t.val % 4 * 1024 + p.val, by omega⟩) v := by
  have ht := lt32 t
  have e := twice_at none32 (Host.sin (angles (m ((c : Thread nD τ).loc main_arg1)))) ⟨t.val / 4, by omega⟩ ⟨t.val % 4 * 1024 + p.val, by omega⟩ v
  rw [none_at] at e
  refine .trans ?_ e
  rw [← (arrays m c).2.2.2.2.2.2.2.2.2]
  refine congrArg (V m c main_v27) ?_
  blk_ext [index9 t]

/-- A row's 384 coordinates. -/
def innerRow (x : FVec Ideal S8x4096x1024 .f32) (g : FVec Ideal S1024 .f32) (D : FVec Ideal S1024x384 .f32) (L : FVec Ideal S384 .f32) (b : Fin 8) (q : Fin 4096) : Fin 384 → EReal :=
  latent (fun k => x (ix3 b q k)) (fun k => g (ix1 k)) (fun k j => D (ix2 k j)) (fun k => L (ix1 k))

/-- The queries of a row. -/
def queryAt (x : FVec Ideal S8x4096x1024 .f32) (P : Vec Ideal S8x4096 .i32) (g : FVec Ideal S1024 .f32) (D : FVec Ideal S1024x384 .f32) (L : FVec Ideal S384 .f32) (U : FVec Ideal S384x1536 .f32)
    (N : FVec Ideal S128 .f32) (R : FVec Ideal S64 .f32) (b : Fin 8) (q : Fin 4096) (j : Fin 2048) : EReal :=
  stored (fun c => ∑ k : Fin 384, innerRow x g D L b q k * U (ix2 k (source c))) (fun u => N (ix1 u)) (fun u => R (ix1 u)) (cosines P b q) (sines P b q) j

/-- What a run leaves in the queries' array. -/
def queries (c : Dev nD) : FVec Ideal S32768x2048 .bf16 := fun i =>
  queryAt (m ((c : Thread nD τ).loc main_arg0)) (m ((c : Thread nD τ).loc main_arg1)) (gain (m ((c : Thread nD τ).loc main_arg2))) (down (m ((c : Thread nD τ).loc main_arg3)))
    (innerGain (m ((c : Thread nD τ).loc main_arg4))) (up (m ((c : Thread nD τ).loc main_arg5))) (plainGain (m ((c : Thread nD τ).loc main_arg6))) (turnedGain (m ((c : Thread nD τ).loc main_arg7)))
    ⟨(i 0).val / 4096, by have : (i 0).val < 32768 := (i 0).isLt; omega⟩ ⟨(i 0).val % 4096, by omega⟩ (i 1)

theorem spread_block (c : Dev nD) (t : Fin cfg0.N) (p : Fin 1024) : (fun k => (k0_pay1 (iblk m c 0 t) (iblk m c 1 t) (iblk m c 2 t) (iblk m c 3 t) (iblk m c 4 t) : FVec Ideal S1024x1536 .f32) (ix2 p k))
    = fun j => ∑ k : Fin 384, innerRow (m ((c : Thread nD τ).loc main_arg0)) (gain (m ((c : Thread nD τ).loc main_arg2))) (down (m ((c : Thread nD τ).loc main_arg3))) (innerGain (m ((c : Thread nD τ).loc main_arg4)))
        ⟨t.val / 4, by have := lt32 t; omega⟩ ⟨t.val % 4 * 1024 + p.val, by omega⟩ k * up (m ((c : Thread nD τ).loc main_arg5)) (ix2 k (source j)) := by
  have e : latent (fun k => (iblk m c 0 t : FVec Ideal S1024x1024 .f32) (ix2 p k)) (fun k => (iblk m c 1 t : FVec Ideal S1x1024 .f32) (ix2 0 k)) (fun k j => (iblk m c 2 t : FVec Ideal S1024x384 .bf16) (ix2 k j)) (fun k => (iblk m c 3 t : FVec Ideal S1x384 .f32) (ix2 0 k))
      = innerRow (m ((c : Thread nD τ).loc main_arg0)) (gain (m ((c : Thread nD τ).loc main_arg2))) (down (m ((c : Thread nD τ).loc main_arg3))) (innerGain (m ((c : Thread nD τ).loc main_arg4)))
        ⟨t.val / 4, by have := lt32 t; omega⟩ ⟨t.val % 4 * 1024 + p.val, by omega⟩ := by
    unfold innerRow
    rw [funext fun k => block0 m c t p k, funext fun k => block1 m c t k, funext fun k => funext fun j => block2 m c t k j, funext fun k => block3 m c t k]
  funext j
  refine (spread_at _ _ _ _ _ p j).trans ?_
  rw [e]
  exact Finset.sum_congr rfl fun k _ => congrArg (fun z : EReal => innerRow _ _ _ _ _ _ k * z) (block4 m c t k j)

theorem tile_at (c : Dev nD) (t : Fin cfg0.N) (p : Fin 1024) (j : Fin 2048) : ((dats m 0 c).after 10 t : FVec Ideal S1024x2048 .bf16) (ix2 p j)
      = queryAt (m ((c : Thread nD τ).loc main_arg0)) (m ((c : Thread nD τ).loc main_arg1)) (gain (m ((c : Thread nD τ).loc main_arg2))) (down (m ((c : Thread nD τ).loc main_arg3)))
          (innerGain (m ((c : Thread nD τ).loc main_arg4))) (up (m ((c : Thread nD τ).loc main_arg5))) (plainGain (m ((c : Thread nD τ).loc main_arg6))) (turnedGain (m ((c : Thread nD τ).loc main_arg7)))
          ⟨t.val / 4, by have := lt32 t; omega⟩ ⟨t.val % 4 * 1024 + p.val, by omega⟩ j := by
  rw [out10 m c t (fun u => plainGain (m ((c : Thread nD τ).loc main_arg6)) (ix1 u)) (fun u => turnedGain (m ((c : Thread nD τ).loc main_arg7)) (ix1 u)) _ _ (block5 m c t) (block6 m c t) (block7 m c t) (block8 m c t) (block9 m c t)]
  exact congrArg (fun r => stored r _ _ _ _ j) (spread_block m c t p)

theorem queries_array (c : Dev nD) : (dats m 0 c).arrAt 10 cfg0.N = queries m c := by
  refine (dats m 0 c).arrAt_eq_of_covers 10 _ (by decide +kernel) fun t hf y => ?_
  blk_simp
  have ht := lt32 t
  obtain ⟨p, j, rfl⟩ : ∃ (p : Fin 1024) (j : Fin 2048), y = ix2 p j := ⟨y 0, y 1, eq_ix2 y⟩
  refine (tile_at m c t p j).trans ?_
  obtain ⟨i, hi⟩ : ∃ i, i = (win0_10.blk t).view.emb (ix2 p j) := ⟨_, rfl⟩
  rw [← hi]
  have e : i = ix2 ⟨t.val * 1024 + p.val, by omega⟩ j := by
    rw [hi]
    blk_ext [index10 t]
  rw [e]
  unfold queries
  congr 1
  · exact Fin.ext (by show t.val / 4 = (t.val * 1024 + p.val) / 4096; omega)
  · exact Fin.ext (by show t.val % 4 * 1024 + p.val = (t.val * 1024 + p.val) % 4096; omega)

end Cert.MlaQIdeal.Value

end
-- ==== Proof.RefQuery.lean ====
/- The reference's queries, read at an element. -/
module

public import proofs.«01_k».proof.Proof.Gen.MlaQRefIdeal.Run
public import proofs.«01_k».proof.Proof.QueryRow
public import proofs.«01_k».proof.Proof.RefHalf
public import Idealize.ShloMosaic.Lib.Pointwise

@[expose] public section

set_option maxRecDepth 4096

noncomputable section

namespace Cert.RefQuery

open Cert.MlaQRefIdeal Cert.MlaQRefIdeal.Gen
open Idealize.ShloMosaic
open Cert.QueryRow

variable (X : FVec Ideal S8x4096x1024 .f32) (D : FVec Ideal S1024x384 .f32) (Y : FVec Ideal S8x4096x384 .f32) (L : FVec Ideal S384 .f32) (U : FVec Ideal S384x1536 .f32)
  (H : FVec Ideal S8x4096x8x192 .f32) (N : FVec Ideal S128 .f32) (R : FVec Ideal S64 .f32) (A T : FVec Ideal S8x4096x32 .f32)

/-- Every row times the columns of the first weights. -/
def narrow : FVec Ideal S8x4096x384 .f32 := Host.dotGeneral dot_S8x4096x1024_S1024x384_S8x4096x384_2_0_01_1_n_n none X D

/-- Every row of 384 coordinates over the root of its mean square, times the gains. -/
def inner : FVec Ideal S8x4096x384 .f32 :=
  mulf (mulf Y (broadcastInDim S8x4096x384 ![0, 1, 2] bcast_S8x4096x1_S8x4096x384_0_1_2 (Host.rsqrt (addf (Host.divf (broadcastInDim S8x4096x1 ![0, 1] bcast_S8x4096_S8x4096x1_0_1
    (Host.reduceAdd (mulf Y Y) (constant (F := Ideal) S_ .f32 0x00000000#32) reducesTo_S8x4096x384_S8x4096_d2 h_S_)) (broadcastInDim S8x4096x1 ![] bcast_S_S8x4096x1 (constant (F := Ideal) S_ .f32 0x43C00000#32)))
    (broadcastInDim S8x4096x1 ![] bcast_S_S8x4096x1 (constant (F := Ideal) S_ .f32 0x358637BD#32))))))
    (broadcastInDim S8x4096x384 ![0, 1, 2] bcast_S1x1x384_S8x4096x384_0_1_2 (broadcastInDim S1x1x384 ![2] bcast_S384_S1x1x384_2 L))

/-- The heads, 192 columns to each. -/
def heads : FVec Ideal S8x4096x8x192 .f32 :=
  shapeCast S8x4096x8x192 (Host.dotGeneral dot_S8x4096x384_S384x1536_S8x4096x1536_2_0_01_1_n_n none Y U) shapeCasts_S8x4096x1536_S8x4096x8x192

/-- A head's first 128 coordinates. -/
def lower : FVec Ideal S8x4096x8x128 .f32 := extractStridedSlice S8x4096x8x128 ![0, 0, 0, 0] H slices_S8x4096x8x192_S8x4096x8x128_0_0_0_0
/-- A head's last 64 coordinates. -/
def upper : FVec Ideal S8x4096x8x64 .f32 := extractStridedSlice S8x4096x8x64 ![0, 0, 0, 128] H slices_S8x4096x8x192_S8x4096x8x64_0_0_0_128

/-- Every head's 128 coordinates over the root of their mean square, times the gains. -/
def normed128 (Z : FVec Ideal S8x4096x8x128 .f32) : FVec Ideal S8x4096x8x128 .f32 :=
  mulf (mulf Z (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2
    (Host.reduceAdd (mulf Z Z) (constant (F := Ideal) S_ .f32 0x00000000#32) reducesTo_S8x4096x8x128_S8x4096x8_d3 h_S_)) (broadcastInDim S8x4096x8x1 ![] bcast_S_S8x4096x8x1 (constant (F := Ideal) S_ .f32 0x43000000#32)))
    (broadcastInDim S8x4096x8x1 ![] bcast_S_S8x4096x8x1 (constant (F := Ideal) S_ .f32 0x358637BD#32))))))
    (broadcastInDim S8x4096x8x128 ![0, 1, 2, 3] bcast_S1x1x1x128_S8x4096x8x128_0_1_2_3 (broadcastInDim S1x1x1x128 ![3] bcast_S128_S1x1x1x128_3 N))

/-- Every head's 64 coordinates over the root of their mean square, times the gains. -/
def normed64 (Z : FVec Ideal S8x4096x8x64 .f32) : FVec Ideal S8x4096x8x64 .f32 :=
  mulf (mulf Z (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2
    (Host.reduceAdd (mulf Z Z) (constant (F := Ideal) S_ .f32 0x00000000#32) reducesTo_S8x4096x8x64_S8x4096x8_d3 h_S_)) (broadcastInDim S8x4096x8x1 ![] bcast_S_S8x4096x8x1 (constant (F := Ideal) S_ .f32 0x42800000#32)))
    (broadcastInDim S8x4096x8x1 ![] bcast_S_S8x4096x8x1 (constant (F := Ideal) S_ .f32 0x358637BD#32))))))
    (broadcastInDim S8x4096x8x64 ![0, 1, 2, 3] bcast_S1x1x1x64_S8x4096x8x64_0_1_2_3 (broadcastInDim S1x1x1x64 ![3] bcast_S64_S1x1x1x64_3 R))

/-- A table repeated for every head. -/
def wide : FVec Ideal S8x4096x8x32 .f32 :=
  broadcastInDim S8x4096x8x32 ![0, 1, 2, 3] bcast_S8x4096x1x32_S8x4096x8x32_0_1_2_3 (broadcastInDim S8x4096x1x32 ![0, 1, 3] bcast_S8x4096x32_S8x4096x1x32_0_1_3 T)

/-- The first coordinates of every head. -/
def fore (Z : FVec Ideal S8x4096x8x64 .f32) : FVec Ideal S8x4096x8x32 .f32 := extractStridedSlice S8x4096x8x32 ![0, 0, 0, 0] Z slices_S8x4096x8x64_S8x4096x8x32_0_0_0_0
/-- The second coordinates of every head. -/
def aft (Z : FVec Ideal S8x4096x8x64 .f32) : FVec Ideal S8x4096x8x32 .f32 := extractStridedSlice S8x4096x8x32 ![0, 0, 0, 32] Z slices_S8x4096x8x64_S8x4096x8x32_0_0_0_32

/-- Every head turned by its position's angles. -/
def roped (Z : FVec Ideal S8x4096x8x64 .f32) : FVec Ideal S8x4096x8x64 .f32 :=
  concatenate S8x4096x8x64 3 [⟨S8x4096x8x32, subf (mulf (fore Z) (wide (Host.cos A))) (mulf (aft Z) (wide (Host.sin A)))⟩,
    ⟨S8x4096x8x32, addf (mulf (aft Z) (wide (Host.cos A))) (mulf (fore Z) (wide (Host.sin A)))⟩] concatenates_S8x4096x8x32_S8x4096x8x32_S8x4096x8x64_d3

/-- The coordinates that are not turned, scaled, two heads side by side. -/
def still : FVec Ideal S8x4096x4x256 .f32 :=
  shapeCast S8x4096x4x256 (mulf (normed128 N (lower H)) (broadcastInDim S8x4096x8x128 ![] bcast_S_S8x4096x8x128 (constant (F := Ideal) S_ .f32 0x3DD53B95#32))) shapeCasts_S8x4096x8x128_S8x4096x4x256

/-- The turned coordinates, scaled, two heads side by side. -/
def moved : FVec Ideal S8x4096x4x128 .f32 :=
  shapeCast S8x4096x4x128 (mulf (roped A (normed64 R (upper H))) (broadcastInDim S8x4096x8x64 ![] bcast_S_S8x4096x8x64 (constant (F := Ideal) S_ .f32 0x3DD53B95#32))) shapeCasts_S8x4096x8x64_S8x4096x4x128

/-- Zeros. -/
def blank : FVec Ideal S8x4096x4x64 .f32 := broadcastInDim S8x4096x4x64 ![] bcast_S_S8x4096x4x64 (constant (F := Ideal) S_ .f32 0x00000000#32)

/-- The heads as they are stored, 256 columns to each. -/
def stacked (P : FVec Ideal S8x4096x4x256 .f32) (Q : FVec Ideal S8x4096x4x128 .f32) : FVec Ideal S32768x2048 .bf16 :=
  truncf (F := Ideal) .bf16 (shapeCast S32768x2048 (concatenate S8x4096x4x512 3 [⟨S8x4096x4x128, extractStridedSlice S8x4096x4x128 ![0, 0, 0, 0] P slices_S8x4096x4x256_S8x4096x4x128_0_0_0_0⟩,
    ⟨S8x4096x4x64, extractStridedSlice S8x4096x4x64 ![0, 0, 0, 0] Q slices_S8x4096x4x128_S8x4096x4x64_0_0_0_0⟩, ⟨S8x4096x4x64, blank⟩,
    ⟨S8x4096x4x128, extractStridedSlice S8x4096x4x128 ![0, 0, 0, 128] P slices_S8x4096x4x256_S8x4096x4x128_0_0_0_128⟩, ⟨S8x4096x4x64, blank⟩,
    ⟨S8x4096x4x64, extractStridedSlice S8x4096x4x64 ![0, 0, 0, 64] Q slices_S8x4096x4x128_S8x4096x4x64_0_0_0_64⟩]
    concatenates_S8x4096x4x128_S8x4096x4x64_S8x4096x4x64_S8x4096x4x128_S8x4096x4x64_S8x4096x4x64_S8x4096x4x512_d3 : FVec Ideal S8x4096x4x512 .f32) shapeCasts_S8x4096x4x512_S32768x2048) bitsLt_bf16_f32

variable (b : Fin 8) (q : Fin 4096) (h : Fin 8)

theorem narrow_at (j : Fin 384) : narrow X D (ix3 b q j) = (∑ k : Fin 1024, X (ix3 b q k) * D (ix2 k j) : EReal) := by
  pointwise [narrow]

theorem inner_at (j : Fin 384) : inner Y L (ix3 b q j) = rmsBy (Ideal.ofBits .f32 0x43C00000#32) (fun k => Y (ix3 b q k)) (fun k => L (ix1 k)) j := by
  pointwise [inner]
  rfl

theorem heads_at (v : Fin 192) : heads Y U (ix4 b q h v) = (∑ k : Fin 384, Y (ix3 b q k) * U (ix2 k ⟨h.val * 192 + v.val, by omega⟩) : EReal) := by
  pointwise [heads]

theorem lower_at (u : Fin 128) : lower H (ix4 b q h u) = H (ix4 b q h ⟨u.val, by omega⟩) := by
  pointwise [lower]

theorem upper_at (u : Fin 64) : upper H (ix4 b q h u) = H (ix4 b q h ⟨128 + u.val, by omega⟩) := by
  pointwise [upper]

theorem normed128_at (Z : FVec Ideal S8x4096x8x128 .f32) (u : Fin 128) : normed128 N Z (ix4 b q h u) = rmsBy (Ideal.ofBits .f32 0x43000000#32) (fun k => Z (ix4 b q h k)) (fun k => N (ix1 k)) u := by
  pointwise [normed128]
  rfl

theorem normed64_at (Z : FVec Ideal S8x4096x8x64 .f32) (u : Fin 64) : normed64 R Z (ix4 b q h u) = rmsBy (Ideal.ofBits .f32 0x42800000#32) (fun k => Z (ix4 b q h k)) (fun k => R (ix1 k)) u := by
  pointwise [normed64]
  rfl

theorem wide_at (i : Fin 32) : wide T (ix4 b q h i) = T (ix3 b q i) := by
  pointwise [wide]

theorem fore_at (Z : FVec Ideal S8x4096x8x64 .f32) (i : Fin 32) : fore Z (ix4 b q h i) = Z (ix4 b q h ⟨i.val, by omega⟩) := by
  pointwise [fore]

theorem aft_at (Z : FVec Ideal S8x4096x8x64 .f32) (i : Fin 32) : aft Z (ix4 b q h i) = Z (ix4 b q h ⟨32 + i.val, by omega⟩) := by
  pointwise [aft]

theorem roped_at (Z : FVec Ideal S8x4096x8x64 .f32) (v : Fin 64) : roped A Z (ix4 b q h v) = turn (fun u => Z (ix4 b q h u)) (fun i => Host.cos A (ix3 b q i)) (fun i => Host.sin A (ix3 b q i)) v := by
  unfold turn
  by_cases hv : v.val < 32
  · rw [if_pos hv]
    have e : angleOf v = ⟨v.val, hv⟩ := Fin.ext (by show v.val % 32 = v.val; omega)
    have e' : across v = ⟨32 + v.val, by omega⟩ := Fin.ext (by show (v.val + 32) % 64 = 32 + v.val; omega)
    rw [e, e']
    pointwise [roped]
    refine (dif_pos hv).trans ?_
    rw [fore_at, aft_at, wide_at, wide_at]
    rfl
  · rw [if_neg hv]
    have e : angleOf v = ⟨v.val - 32, by omega⟩ := Fin.ext (by show v.val % 32 = v.val - 32; omega)
    have e' : across v = ⟨v.val - 32, by omega⟩ := Fin.ext (by show (v.val + 32) % 64 = v.val - 32; omega)
    have e'' : v = ⟨32 + (v.val - 32), by omega⟩ := Fin.ext (by show v.val = 32 + (v.val - 32); omega)
    rw [e, e']
    pointwise [roped]
    refine (dif_neg hv).trans ?_
    rw [fore_at, aft_at, wide_at, wide_at, ← e'']
    rfl

theorem pair128 (Z : FVec Ideal S8x4096x8x128 .f32) (p : Fin 4) (s : Fin 2) (u : Fin 128) :
    shapeCast S8x4096x4x256 Z shapeCasts_S8x4096x8x128_S8x4096x4x256 (ix4 b q p ⟨s.val * 128 + u.val, by omega⟩) = Z (ix4 b q ⟨2 * p.val + s.val, by omega⟩ u) := by
  pointwise []
  exact congrArg (fun i => Z (ix4 b q i u)) (Fin.ext (by show p.val * 2 + (s.val * 128 + u.val) / 128 = 2 * p.val + s.val; omega))

theorem pair64 (Z : FVec Ideal S8x4096x8x64 .f32) (p : Fin 4) (s : Fin 2) (u : Fin 64) :
    shapeCast S8x4096x4x128 Z shapeCasts_S8x4096x8x64_S8x4096x4x128 (ix4 b q p ⟨s.val * 64 + u.val, by omega⟩) = Z (ix4 b q ⟨2 * p.val + s.val, by omega⟩ u) := by
  pointwise []
  exact congrArg (fun i => Z (ix4 b q i u)) (Fin.ext (by show p.val * 2 + (s.val * 64 + u.val) / 64 = 2 * p.val + s.val; omega))

theorem still_at (j : Fin 2048) (e : j.val % 256 < 128) : still H N (ix4 b q ⟨j.val / 512, by omega⟩ ⟨j.val / 256 % 2 * 128 + j.val % 256, by omega⟩)
    = rmsBy (Ideal.ofBits .f32 0x43000000#32) (fun k => H (ix4 b q ⟨j.val / 256, by omega⟩ ⟨k.val, by omega⟩)) (fun k => N (ix1 k)) ⟨j.val % 256, e⟩ * scale := by
  refine (pair128 b q _ ⟨j.val / 512, by omega⟩ ⟨j.val / 256 % 2, by omega⟩ ⟨j.val % 256, e⟩).trans ?_
  refine (congrArg (fun z : EReal => z * scale) (normed128_at N b q _ (lower H) _)).trans ?_
  have o : (⟨2 * (j.val / 512) + j.val / 256 % 2, by omega⟩ : Fin 8) = ⟨j.val / 256, by omega⟩ := Fin.ext (by show 2 * (j.val / 512) + j.val / 256 % 2 = j.val / 256; omega)
  simp only [lower_at]
  rw [o]

theorem moved_at (j : Fin 2048) : moved H R A (ix4 b q ⟨j.val / 512, by omega⟩ ⟨j.val / 256 % 2 * 64 + (j.val % 256 - 128) % 64, by omega⟩)
    = turn (rmsBy (Ideal.ofBits .f32 0x42800000#32) (fun k => H (ix4 b q ⟨j.val / 256, by omega⟩ ⟨128 + k.val, by omega⟩)) (fun k => R (ix1 k))) (fun i => Host.cos A (ix3 b q i)) (fun i => Host.sin A (ix3 b q i))
        ⟨(j.val % 256 - 128) % 64, by omega⟩ * scale := by
  refine (pair64 b q _ ⟨j.val / 512, by omega⟩ ⟨j.val / 256 % 2, by omega⟩ ⟨(j.val % 256 - 128) % 64, by omega⟩).trans ?_
  refine (congrArg (fun z : EReal => z * scale) (roped_at A b q _ (normed64 R (upper H)) _)).trans ?_
  have o : (⟨2 * (j.val / 512) + j.val / 256 % 2, by omega⟩ : Fin 8) = ⟨j.val / 256, by omega⟩ := Fin.ext (by show 2 * (j.val / 512) + j.val / 256 % 2 = j.val / 256; omega)
  refine congrArg (fun z => turn z _ _ _ * scale) (funext fun u => ?_)
  rw [normed64_at]
  simp only [upper_at]
  rw [o]

theorem stacked_at (P : FVec Ideal S8x4096x4x256 .f32) (Q : FVec Ideal S8x4096x4x128 .f32) (j : Fin 2048) : stacked P Q (ix2 ⟨4096 * b.val + q.val, by omega⟩ j)
    = if e : j.val % 256 < 128 then P (ix4 b q ⟨j.val / 512, by omega⟩ ⟨j.val / 256 % 2 * 128 + j.val % 256, by omega⟩)
      else if (j.val % 256 < 192 ↔ j.val / 256 % 2 = 0) then Q (ix4 b q ⟨j.val / 512, by omega⟩ ⟨j.val / 256 % 2 * 64 + (j.val % 256 - 128) % 64, by omega⟩) else (0 : EReal) := by
  have atP : ∀ (he : j.val % 256 < 128) (n : ℕ) (hn : n < 256), n = j.val / 256 % 2 * 128 + j.val % 256 → P (ix4 b q ⟨j.val / 512, by omega⟩ ⟨n, hn⟩) = P (ix4 b q ⟨j.val / 512, by omega⟩ ⟨j.val / 256 % 2 * 128 + j.val % 256, by omega⟩) :=
    fun he n hn e => congrArg (fun i => P (ix4 b q ⟨j.val / 512, by omega⟩ i)) (Fin.ext e)
  have atQ : ∀ (n : ℕ) (hn : n < 128), n = j.val / 256 % 2 * 64 + (j.val % 256 - 128) % 64 → Q (ix4 b q ⟨j.val / 512, by omega⟩ ⟨n, hn⟩) = Q (ix4 b q ⟨j.val / 512, by omega⟩ ⟨j.val / 256 % 2 * 64 + (j.val % 256 - 128) % 64, by omega⟩) :=
    fun n hn e => congrArg (fun i => Q (ix4 b q ⟨j.val / 512, by omega⟩ i)) (Fin.ext e)
  pointwise [stacked, blank]
  by_cases h1 : j.val % 512 < 128
  · rw [dif_pos h1, dif_pos (show j.val % 256 < 128 by omega)]
    exact atP (by omega) _ _ (by omega)
  · rw [dif_neg h1]
    by_cases h2 : j.val % 512 - 128 < 64
    · rw [dif_pos h2, dif_neg (show ¬j.val % 256 < 128 by omega), if_pos (show (j.val % 256 < 192 ↔ j.val / 256 % 2 = 0) by omega)]
      exact atQ _ _ (by omega)
    · rw [dif_neg h2]
      by_cases h3 : j.val % 512 - 128 - 64 < 64
      · rw [dif_pos h3, dif_neg (show ¬j.val % 256 < 128 by omega), if_neg (show ¬(j.val % 256 < 192 ↔ j.val / 256 % 2 = 0) by omega)]
      · rw [dif_neg h3]
        by_cases h4 : j.val % 512 - 128 - 64 - 64 < 128
        · rw [dif_pos h4, dif_pos (show j.val % 256 < 128 by omega)]
          exact atP (by omega) _ _ (by omega)
        · rw [dif_neg h4]
          by_cases h5 : j.val % 512 - 128 - 64 - 64 - 128 < 64
          · rw [dif_pos h5, dif_neg (show ¬j.val % 256 < 128 by omega), if_neg (show ¬(j.val % 256 < 192 ↔ j.val / 256 % 2 = 0) by omega)]
          · rw [dif_neg h5, dif_neg (show ¬j.val % 256 < 128 by omega), if_pos (show (j.val % 256 < 192 ↔ j.val / 256 % 2 = 0) by omega)]
            exact atQ _ _ (by omega)

end Cert.RefQuery

end
-- ==== Proof.QueryValues.lean ====
/- The queries' call computes its reference. -/
module

public import proofs.«01_k».proof.Proof.QueryValue
public import proofs.«01_k».proof.Proof.RefQuery
public import proofs.«01_k».proof.Defs

@[expose] public section

set_option maxRecDepth 16384

noncomputable section

namespace Cert.MlaQIdeal.Value

open Cert.MlaQIdeal Cert.MlaQIdeal.Gen
open Idealize.ShloMosaic
open Idealize.ShloMosaic.TcCoe
open Cert.QueryRow

/-- The reference's heads, from its arrays. -/
def headsOf (x : FVec Ideal S8x4096x1024 .f32) (G : FVec Ideal S4x3x1024 .f32) (D : FVec Ideal S2x1024x384 .f32) (L : FVec Ideal S2x384 .f32) (U : FVec Ideal S2x384x1536 .f32) : FVec Ideal Cert.MlaQRefIdeal.S8x4096x8x192 .f32 :=
  Cert.RefQuery.heads (Cert.RefQuery.inner (Cert.RefQuery.narrow (Cert.RefHalf.normed x (gain G)) (down D)) (innerGain L)) (up U)

/-- The reference's queries, from its arrays. -/
def queriesOf (x : FVec Ideal S8x4096x1024 .f32) (P : Vec Ideal S8x4096 .i32) (G : FVec Ideal S4x3x1024 .f32) (D : FVec Ideal S2x1024x384 .f32) (L : FVec Ideal S2x384 .f32) (U : FVec Ideal S2x384x1536 .f32)
    (N : FVec Ideal S2x128 .f32) (R : FVec Ideal S2x64 .f32) : FVec Ideal S32768x2048 .bf16 :=
  Cert.RefQuery.stacked (Cert.RefQuery.still (headsOf x G D L U) (plainGain N)) (Cert.RefQuery.moved (headsOf x G D L U) (turnedGain R) (angles P))

theorem heads_row (x : FVec Ideal S8x4096x1024 .f32) (G : FVec Ideal S4x3x1024 .f32) (D : FVec Ideal S2x1024x384 .f32) (L : FVec Ideal S2x384 .f32) (U : FVec Ideal S2x384x1536 .f32) (b : Fin 8) (q : Fin 4096) (h : Fin 8) (v : Fin 192) :
    headsOf x G D L U (ix4 b q h v) = ∑ k : Fin 384, innerRow x (gain G) (down D) (innerGain L) b q k * up U (ix2 k ⟨h.val * 192 + v.val, by omega⟩) := by
  unfold headsOf
  rw [Cert.RefQuery.heads_at]
  refine Finset.sum_congr rfl fun k _ => congrArg (fun z : EReal => z * up U (ix2 k ⟨h.val * 192 + v.val, by omega⟩)) ?_
  rw [Cert.RefQuery.inner_at]
  unfold innerRow latent
  refine congrArg (fun z => rmsBy _ z _ k) (funext fun j => ?_)
  rw [Cert.RefQuery.narrow_at]
  exact Finset.sum_congr rfl fun i _ => congrArg (fun z : EReal => z * down D (ix2 i j)) (Cert.RefHalf.normed_at x (gain G) b q i)

theorem source_plain (h : Fin 8) (u : Fin 128) : source ⟨128 * h.val + u.val, by omega⟩ = ⟨h.val * 192 + u.val, by omega⟩ := by
  unfold source
  rw [dif_pos (show 128 * h.val + u.val < 1024 by omega)]
  exact Fin.ext (by show (128 * h.val + u.val) / 128 * 192 + (128 * h.val + u.val) % 128 = h.val * 192 + u.val; omega)

theorem source_turned (h : Fin 8) (u : Fin 64) : source ⟨1024 + 64 * h.val + u.val, by omega⟩ = ⟨h.val * 192 + (128 + u.val), by omega⟩ := by
  unfold source
  rw [dif_neg (show ¬1024 + 64 * h.val + u.val < 1024 by omega)]
  exact Fin.ext (by show (1024 + 64 * h.val + u.val - 1024) / 64 * 192 + (128 + (1024 + 64 * h.val + u.val - 1024) % 64) = h.val * 192 + (128 + u.val); omega)

theorem queriesOf_at (x : FVec Ideal S8x4096x1024 .f32) (P : Vec Ideal S8x4096 .i32) (G : FVec Ideal S4x3x1024 .f32) (D : FVec Ideal S2x1024x384 .f32) (L : FVec Ideal S2x384 .f32) (U : FVec Ideal S2x384x1536 .f32)
    (N : FVec Ideal S2x128 .f32) (R : FVec Ideal S2x64 .f32) (b : Fin 8) (q : Fin 4096) (j : Fin 2048) :
    queriesOf x P G D L U N R (ix2 ⟨4096 * b.val + q.val, by omega⟩ j) = queryAt x P (gain G) (down D) (innerGain L) (up U) (plainGain N) (turnedGain R) b q j := by
  unfold queriesOf queryAt stored
  rw [Cert.RefQuery.stacked_at]
  by_cases h1 : j.val % 256 < 128
  · rw [dif_pos h1, dif_pos h1, Cert.RefQuery.still_at]
    unfold plain
    refine congrArg (fun z => rmsBy _ z _ _ * scale) (funext fun u => ?_)
    exact (heads_row x G D L U b q ⟨j.val / 256, by omega⟩ ⟨u.val, by omega⟩).trans (Finset.sum_congr rfl fun k _ =>
      congrArg (fun z => innerRow x (gain G) (down D) (innerGain L) b q k * up U (ix2 k z)) (source_plain ⟨j.val / 256, by omega⟩ u).symm)
  · rw [dif_neg h1, dif_neg h1]
    by_cases h2 : (j.val % 256 < 192 ↔ j.val / 256 % 2 = 0)
    · rw [if_pos h2, dif_pos h2, Cert.RefQuery.moved_at]
      unfold turned
      refine congrArg (fun z => turn (rmsBy _ z _) _ _ _ * scale) (funext fun u => ?_)
      exact (heads_row x G D L U b q ⟨j.val / 256, by omega⟩ ⟨128 + u.val, by omega⟩).trans (Finset.sum_congr rfl fun k _ =>
        congrArg (fun z => innerRow x (gain G) (down D) (innerGain L) b q k * up U (ix2 k z)) (source_turned ⟨j.val / 256, by omega⟩ u).symm)
    · rw [if_neg h2, dif_neg h2]

/-- The reference's queries, from its arguments. -/
def fromArrays (m : (ℓ : Loc Cert.MlaQRefIdeal.nD Cert.MlaQRefIdeal.τ Cert.MlaQRefIdeal.sig) → Buf (Elt Ideal) ℓ) (c : Dev Cert.MlaQRefIdeal.nD) : FVec Ideal S32768x2048 .bf16 :=
  queriesOf (m ((c.tc : Thread Cert.MlaQRefIdeal.nD Cert.MlaQRefIdeal.τ).loc Cert.MlaQRefIdeal.main_arg0)) (m ((c.tc : Thread Cert.MlaQRefIdeal.nD Cert.MlaQRefIdeal.τ).loc Cert.MlaQRefIdeal.main_arg1)) (m ((c.tc : Thread Cert.MlaQRefIdeal.nD Cert.MlaQRefIdeal.τ).loc Cert.MlaQRefIdeal.main_arg2))
        (m ((c.tc : Thread Cert.MlaQRefIdeal.nD Cert.MlaQRefIdeal.τ).loc Cert.MlaQRefIdeal.main_arg3)) (m ((c.tc : Thread Cert.MlaQRefIdeal.nD Cert.MlaQRefIdeal.τ).loc Cert.MlaQRefIdeal.main_arg4)) (m ((c.tc : Thread Cert.MlaQRefIdeal.nD Cert.MlaQRefIdeal.τ).loc Cert.MlaQRefIdeal.main_arg5))
        (m ((c.tc : Thread Cert.MlaQRefIdeal.nD Cert.MlaQRefIdeal.τ).loc Cert.MlaQRefIdeal.main_arg6)) (m ((c.tc : Thread Cert.MlaQRefIdeal.nD Cert.MlaQRefIdeal.τ).loc Cert.MlaQRefIdeal.main_arg7))

theorem queries_eq (m : (ℓ : Loc nD τ sig) → Buf (Elt Ideal) ℓ) (c : Dev nD) :
    queries m c = queriesOf (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  funext i
  have h0 : (i 0).val < 32768 := (i 0).isLt
  have e : i = ix2 ⟨4096 * ((i 0).val / 4096) + (i 0).val % 4096, by omega⟩ (i 1) := by
    refine (eq_ix2 i).trans ?_
    congr 1
    exact Fin.ext (by show (i 0).val = 4096 * ((i 0).val / 4096) + (i 0).val % 4096; omega)
  refine .trans ?_ (congrArg _ e.symm)
  exact (queriesOf_at _ _ _ _ _ _ _ _ ⟨(i 0).val / 4096, by omega⟩ ⟨(i 0).val % 4096, by omega⟩ (i 1)).symm

theorem algebraic : Cert.algebraic_MlaQIdeal_MlaQRefIdeal := fun m g m' g' _ hagree => by
  refine ⟨fun c => queries m c, ?_, ?_⟩
  · exact (θ_run defs _ _).mono (fun r h c => ⟨(h c).1.trans (queries_array m c), (h c).2⟩) (run_blocks m g)
  · refine (θ_run Cert.MlaQRefIdeal.defs _ _).mono (fun r h c => ?_) (Cert.MlaQRefIdeal.Value.run m' g')
    obtain ⟨a0, a1, a2, a3, a4, a5, a6, a7⟩ := hagree c
    refine ⟨(h c).1.trans (.trans (b := fromArrays m' c) rfl ?_), (h c).2⟩
    unfold fromArrays
    rw [a0, a1, a2, a3, a4, a5, a6, a7]
    exact (queries_eq m c).symm

end Cert.MlaQIdeal.Value

end
-- ==== Proof.lean ====
module

public import proofs.«01_k».proof.Defs
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Frame
public import proofs.«01_k».proof.Proof.Gen.AttentionIdeal
public import proofs.«01_k».proof.Proof.Gen.AttentionIdeal.Run
public import proofs.«01_k».proof.Proof.Gen.Pre_finite
public import proofs.«01_k».proof.Proof.FrameFlash
public import proofs.«01_k».proof.Proof.Gen.MixFfn.Value
public import proofs.«01_k».proof.Proof.Gen.MixFfnIdeal.Value
public import proofs.«01_k».proof.Proof.Gen.MixFfnRefIdeal.Run
public import proofs.«01_k».proof.Proof.Gen.Ffn.Value
public import proofs.«01_k».proof.Proof.Gen.FfnIdeal.Value
public import proofs.«01_k».proof.Proof.Gen.FfnRefIdeal.Run
public import proofs.«01_k».proof.Proof.Gen.RetMixFfn.Value
public import proofs.«01_k».proof.Proof.Gen.RetMixFfnIdeal.Value
public import proofs.«01_k».proof.Proof.Gen.RetMixFfnRefIdeal.Run
public import proofs.«01_k».proof.Proof.Gen.RetProj.Value
public import proofs.«01_k».proof.Proof.Gen.RetProjIdeal.Value
public import proofs.«01_k».proof.Proof.Gen.RetProjRefIdeal.Run
public import proofs.«01_k».proof.Proof.Gen.MlaQ.Value
public import proofs.«01_k».proof.Proof.Gen.MlaQIdeal.Value
public import proofs.«01_k».proof.Proof.Gen.MlaQRefIdeal.Run
public import proofs.«01_k».proof.Proof.Run
public import proofs.«01_k».proof.Proof.Values
public import proofs.«01_k».proof.Proof.MixValues
public import proofs.«01_k».proof.Proof.FfnValues
public import proofs.«01_k».proof.Proof.RetValues
public import proofs.«01_k».proof.Proof.RetProjValues
public import proofs.«01_k».proof.Proof.QueryValues
public import Idealize.ShloMosaic.Adequacy
public import Idealize.ShloMosaic.Init

@[expose] public section

noncomputable section

namespace Cert.Proof

open Idealize.ShloMosaic Idealize.SL.Sem

/-- The reference's frame: it declares no semaphore. -/
theorem attention_frame (m : (ℓ : Loc Cert.AttentionIdeal.nD Cert.AttentionIdeal.τ Cert.AttentionIdeal.sig) → Buf (Elt Ideal) ℓ)
    (g : Dev Cert.AttentionIdeal.nD → PrngReg) :
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0) :=
  (θ_run Cert.AttentionIdeal.defs _ _).mono (fun r h => ⟨fun c => (h c).2, sem_eq_zero_of_no_sems (by decide) r.2⟩)
    (Cert.AttentionIdeal.Value.run m g)

/-- The reference's frame: it declares no semaphore. -/
theorem mixFfn_frame : Cert.quiescent_MixFfnRefIdeal := fun m g _ =>
  (θ_run Cert.MixFfnRefIdeal.defs _ _).mono (fun r h => ⟨fun c => (h c).2, sem_eq_zero_of_no_sems (by decide) r.2⟩) (Cert.MixFfnRefIdeal.Value.run m g)

/-- The reference's frame: it declares no semaphore. -/
theorem ffn_frame : Cert.quiescent_FfnRefIdeal := fun m g _ =>
  (θ_run Cert.FfnRefIdeal.defs _ _).mono (fun r h => ⟨fun c => (h c).2.2.2.2, sem_eq_zero_of_no_sems (by decide) r.2⟩) (Cert.FfnRefIdeal.Value.run m g)

/-- The reference's frame: it declares no semaphore. -/
theorem retMixFfn_frame : Cert.quiescent_RetMixFfnRefIdeal := fun m g _ =>
  (θ_run Cert.RetMixFfnRefIdeal.defs _ _).mono (fun r h => ⟨fun c => (h c).2.2.2.2.2.2, sem_eq_zero_of_no_sems (by decide) r.2⟩) (Cert.RetMixFfnRefIdeal.Value.run m g)

/-- The reference's frame: it declares no semaphore. -/
theorem retProj_frame : Cert.quiescent_RetProjRefIdeal := fun m g _ =>
  (θ_run Cert.RetProjRefIdeal.defs _ _).mono (fun r h => ⟨fun c => (h c).2.2, sem_eq_zero_of_no_sems (by decide) r.2⟩) (Cert.RetProjRefIdeal.Value.run m g)

/-- The reference's frame: it declares no semaphore. -/
theorem mlaQ_frame : Cert.quiescent_MlaQRefIdeal := fun m g _ =>
  (θ_run Cert.MlaQRefIdeal.defs _ _).mono (fun r h => ⟨fun c => (h c).2, sem_eq_zero_of_no_sems (by decide) r.2⟩) (Cert.MlaQRefIdeal.Value.run m g)

theorem claim : Cert.Claim :=
  ⟨Cert.Flash.Gen.facts, Cert.FlashIdeal.Gen.facts, Cert.AttentionIdeal.Gen.facts, Cert.MixFfn.Gen.facts, Cert.MixFfnIdeal.Gen.facts, Cert.MixFfnRefIdeal.Gen.facts, Cert.Ffn.Gen.facts, Cert.FfnIdeal.Gen.facts, Cert.FfnRefIdeal.Gen.facts, Cert.RetMixFfn.Gen.facts, Cert.RetMixFfnIdeal.Gen.facts, Cert.RetMixFfnRefIdeal.Gen.facts, Cert.RetProj.Gen.facts, Cert.RetProjIdeal.Gen.facts, Cert.RetProjRefIdeal.Gen.facts, Cert.MlaQ.Gen.facts, Cert.MlaQIdeal.Gen.facts, Cert.MlaQRefIdeal.Gen.facts, Cert.Pre_finite.Gen.facts,
    fun m g _ => Cert.Flash.Frame.frame_run m g,
    fun m g _ => Cert.FlashIdeal.Body.frame_run m g,
    fun m g _ => Cert.FlashIdeal.Body.frame_run m g,
    fun m g _ => attention_frame m g,
    fun m g _ => attention_frame m g,
    fun m g _ => Cert.MixFfn.Gen.frame m g,
    fun m g _ => Cert.MixFfnIdeal.Gen.frame m g,
    mixFfn_frame,
    fun m g _ => Cert.Ffn.Gen.frame m g,
    fun m g _ => Cert.FfnIdeal.Gen.frame m g,
    ffn_frame,
    fun m g _ => Cert.RetMixFfn.Gen.frame m g,
    fun m g _ => Cert.RetMixFfnIdeal.Gen.frame m g,
    retMixFfn_frame,
    fun m g _ => Cert.RetProj.Gen.frame m g,
    fun m g _ => Cert.RetProjIdeal.Gen.frame m g,
    retProj_frame,
    fun m g _ => Cert.MlaQ.Gen.frame m g,
    fun m g _ => Cert.MlaQIdeal.Gen.frame m g,
    mlaQ_frame,
    IdealRules.named_const.statement Cert.FlashIdeal.κ "mask" .f32 0xF149F2CA#32 ⊥ rfl,
    Cert.FlashIdeal.Value.algebraic,
    IdealRules.named_const.statement Cert.MixFfnIdeal.κ "log2e" .f32 0xBFB8AA3B#32 ((-((Real.log 2)⁻¹) : ℝ) : EReal) rfl,
    Cert.MixFfnIdeal.Value.algebraic,
    IdealRules.named_const.statement Cert.FfnIdeal.κ "log2e" .f32 0xBFB8AA3B#32 ((-((Real.log 2)⁻¹) : ℝ) : EReal) rfl,
    Cert.FfnIdeal.Value.algebraic,
    IdealRules.named_const.statement Cert.RetMixFfnIdeal.κ "log2e" .f32 0xBFB8AA3B#32 ((-((Real.log 2)⁻¹) : ℝ) : EReal) rfl,
    Cert.RetMixFfnIdeal.Value.algebraic,
    trivial,
    Cert.RetProjIdeal.Value.algebraic,
    IdealRules.named_const.statement Cert.MlaQIdeal.κ "mean384" .f32 0x3B2AAAAB#32 ((384⁻¹ : ℝ) : EReal) rfl,
    Cert.MlaQIdeal.Value.algebraic⟩

end Cert.Proof

end
